-- ==== Defs.lean ====
def Pre_Kernel (m : (ℓ : Loc Cert.Kernel.nD Cert.Kernel.τ Cert.Kernel.sig) → Buf (Elt Bits) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v36) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v56_5)) (v1 : (c : Dev Cert.InprojIdeal.nD) → Buf (Elt Ideal) ((c.tc : Thread Cert.InprojIdeal.nD Cert.InprojIdeal.τ).loc Cert.InprojIdeal.main_v56_7)) (v2 : (c : Dev Cert.InprojIdeal.nD) → Buf (Elt Ideal) ((c.tc : Thread Cert.InprojIdeal.nD Cert.InprojIdeal.τ).loc Cert.InprojIdeal.main_v56_10)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v56_5) = v0 c
          ∧ r.2.mem ((c.tc : Thread Cert.InprojIdeal.nD Cert.InprojIdeal.τ).loc Cert.InprojIdeal.main_v56_7) = v1 c
          ∧ r.2.mem ((c.tc : Thread Cert.InprojIdeal.nD Cert.InprojIdeal.τ).loc Cert.InprojIdeal.main_v56_10) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v110) = v0 c
          ∧ r.2.mem ((c.tc : Thread Cert.InprojReferenceIdeal.nD Cert.InprojReferenceIdeal.τ).loc Cert.InprojReferenceIdeal.main_v111) = v1 c
          ∧ r.2.mem ((c.tc : Thread Cert.InprojReferenceIdeal.nD Cert.InprojReferenceIdeal.τ).loc Cert.InprojReferenceIdeal.main_v112) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v68_5)) (v1 : (c : Dev Cert.ProjectIdeal.nD) → Buf (Elt Ideal) ((c.tc : Thread Cert.ProjectIdeal.nD Cert.ProjectIdeal.τ).loc Cert.ProjectIdeal.main_v68_7)) (v2 : (c : Dev Cert.ProjectIdeal.nD) → Buf (Elt Ideal) ((c.tc : Thread Cert.ProjectIdeal.nD Cert.ProjectIdeal.τ).loc Cert.ProjectIdeal.main_v68_10)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v68_5) = v0 c
          ∧ r.2.mem ((c.tc : Thread Cert.ProjectIdeal.nD Cert.ProjectIdeal.τ).loc Cert.ProjectIdeal.main_v68_7) = v1 c
          ∧ r.2.mem ((c.tc : Thread Cert.ProjectIdeal.nD Cert.ProjectIdeal.τ).loc Cert.ProjectIdeal.main_v68_10) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v110) = v0 c
          ∧ r.2.mem ((c.tc : Thread Cert.ProjectReferenceIdeal.nD Cert.ProjectReferenceIdeal.τ).loc Cert.ProjectReferenceIdeal.main_v111) = v1 c
          ∧ r.2.mem ((c.tc : Thread Cert.ProjectReferenceIdeal.nD Cert.ProjectReferenceIdeal.τ).loc Cert.ProjectReferenceIdeal.main_v112) = v2 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def Claim : Prop :=
  ∃ (hKernel : Cert.Kernel.Facts) (hExperts : Cert.Experts.Facts) (hExpertsIdeal : Cert.ExpertsIdeal.Facts) (hExpertsReferenceIdeal : Cert.ExpertsReferenceIdeal.Facts) (hInproj : Cert.Inproj.Facts) (hInprojIdeal : Cert.InprojIdeal.Facts) (hInprojReferenceIdeal : Cert.InprojReferenceIdeal.Facts) (hProject : Cert.Project.Facts) (hProjectIdeal : Cert.ProjectIdeal.Facts) (hProjectReferenceIdeal : Cert.ProjectReferenceIdeal.Facts) (hPre_experts_in_range : Cert.Pre_experts_in_range.Facts),
    quiescent_Kernel (hKernel := hKernel)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
    ∧ preserves_Inproj_InprojIdeal
    ∧ algebraic_InprojIdeal_InprojReferenceIdeal (hInprojIdeal := hInprojIdeal) (hInprojReferenceIdeal := hInprojReferenceIdeal)
    ∧ preserves_Project_ProjectIdeal
    ∧ algebraic_ProjectIdeal_ProjectReferenceIdeal (hProjectIdeal := hProjectIdeal) (hProjectReferenceIdeal := hProjectReferenceIdeal)
-- ==== Pre_experts_in_range.lean ====
abbrev S320 : Shape := ⟨1, ![320]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S320 : S_.BroadcastsInDim S320 (![] : Fin 0 → Fin S320.rank)

variable [Facts]

def fn {F : FTy → Type} [FloatOps F] (main_arg0 : IVec S320 32) (main_arg1 : IVec S1 32) (main_arg2 : FVec F S81920x1024 .f32) (main_arg3 : FVec F S32x1024x2048 .f32) (main_arg4 : FVec F S32x2048 .f32) (main_arg5 : FVec F S32x1024x1024 .f32) (main_arg6 : FVec F S32x1024 .f32) : IVec S320 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 32#32
  let main_v2 : IVec S320 32 := broadcastInDim S320 ![] bcast_S_S320 main_c_0
  let main_v3 : IVec S320 1 := cmpi .slt main_arg0 main_v2
  let main_v4 : IVec S320 1 := andi main_v1 main_v3
  main_v4
-- ==== Kernel.lean ====
abbrev S2048x1024 : Shape := ⟨2, ![2048, 1024]⟩
abbrev S2048x128 : Shape := ⟨2, ![2048, 128]⟩
abbrev S2048x512 : Shape := ⟨2, ![2048, 512]⟩
abbrev S131072x128 : Shape := ⟨2, ![131072, 128]⟩
abbrev S524288x128 : Shape := ⟨2, ![524288, 128]⟩
abbrev S64x1024 : Shape := ⟨2, ![64, 1024]⟩
abbrev S64x128 : Shape := ⟨2, ![64, 128]⟩
abbrev S64x512 : Shape := ⟨2, ![64, 512]⟩
abbrev S4096x128 : Shape := ⟨2, ![4096, 128]⟩
abbrev S9x512x64 : Shape := ⟨3, ![9, 512, 64]⟩
abbrev S32x144x64 : Shape := ⟨3, ![32, 144, 64]⟩
abbrev S1x64 : Shape := ⟨2, ![1, 64]⟩
abbrev S8x64 : Shape := ⟨2, ![8, 64]⟩
abbrev S4x1x128 : Shape := ⟨3, ![4, 1, 128]⟩
abbrev S4x128x128 : Shape := ⟨3, ![4, 128, 128]⟩
abbrev S448x128 : Shape := ⟨2, ![448, 128]⟩
abbrev S128x128 : Shape := ⟨2, ![128, 128]⟩
abbrev S512x128 : Shape := ⟨2, ![512, 128]⟩
abbrev S512x64 : Shape := ⟨2, ![512, 64]⟩
abbrev S1x512x64 : Shape := ⟨3, ![1, 512, 64]⟩
abbrev S1x8x64 : Shape := ⟨3, ![1, 8, 64]⟩
abbrev S144x64 : Shape := ⟨2, ![144, 64]⟩
abbrev S1x144x64 : Shape := ⟨3, ![1, 144, 64]⟩
abbrev S18x8x64 : Shape := ⟨3, ![18, 8, 64]⟩
abbrev S64 : Shape := ⟨1, ![64]⟩
abbrev S1x1x64 : Shape := ⟨3, ![1, 1, 64]⟩
abbrev S1 : Shape := ⟨1, ![1]⟩
abbrev S1x1x1 : Shape := ⟨3, ![1, 1, 1]⟩
abbrev S1x1x128 : Shape := ⟨3, ![1, 1, 128]⟩
abbrev S1x128 : Shape := ⟨2, ![1, 128]⟩
abbrev S128 : Shape := ⟨1, ![128]⟩
abbrev S1x128x128 : Shape := ⟨3, ![1, 128, 128]⟩

abbrev nBuf : Space → Nat
  | .hbm => 10
  | .vmem => 28
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x128, .f32⟩
  | .hbm, ⟨3, _⟩ => ⟨S2048x512, .bf16⟩
  | .hbm, ⟨4, _⟩ => ⟨S2048x512, .bf16⟩
  | .hbm, ⟨5, _⟩ => ⟨S2048x128, .bf16⟩
  | .hbm, ⟨6, _⟩ => ⟨S131072x128, .bf16⟩
  | .hbm, ⟨7, _⟩ => ⟨S524288x128, .f32⟩
  | .hbm, ⟨8, _⟩ => ⟨S524288x128, .f32⟩
  | .hbm, ⟨9, _⟩ => ⟨S2048x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x128, .f32⟩
  | .local _ .vmem, ⟨5, _⟩ => ⟨S64x128, .f32⟩
  | .local _ .vmem, ⟨6, _⟩ => ⟨S64x512, .bf16⟩
  | .local _ .vmem, ⟨7, _⟩ => ⟨S64x512, .bf16⟩
  | .local _ .vmem, ⟨8, _⟩ => ⟨S64x512, .bf16⟩
  | .local _ .vmem, ⟨9, _⟩ => ⟨S64x512, .bf16⟩
  | .local _ .vmem, ⟨10, _⟩ => ⟨S64x128, .bf16⟩
  | .local _ .vmem, ⟨11, _⟩ => ⟨S64x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S64x1024, .bf16⟩
  | .local _ .vmem, ⟨19, _⟩ => ⟨S64x1024, .bf16⟩
  | .local _ .vmem, ⟨20, _⟩ => ⟨S9x512x64, .f32⟩
  | .local _ .vmem, ⟨21, _⟩ => ⟨S32x144x64, .i32⟩
  | .local _ .vmem, ⟨22, _⟩ => ⟨S9x512x64, .f32⟩
  | .local _ .vmem, ⟨23, _⟩ => ⟨S1x64, .i32⟩
  | .local _ .vmem, ⟨24, _⟩ => ⟨S8x64, .f32⟩
  | .local _ .vmem, ⟨25, _⟩ => ⟨S4x1x128, .f32⟩
  | .local _ .vmem, ⟨26, _⟩ => ⟨S4x1x128, .f32⟩
  | .local _ .vmem, ⟨27, _⟩ => ⟨S4x128x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_260 : BitVec 32 := 0#32
  let c8_i32 : BitVec 32 := 8#32
  let v374 : BitVec 32 := Scalar.addi c0_i32_260 c8_i32
  let c1_i32_261 : BitVec 32 := 1#32
  ⟨c0_i32_260, v374, c1_i32_261⟩
def k0_mult1 (k0_t1 : Fin k0_t1_loop.trips) : BitVec 32 :=
  let c0_i32_260 : BitVec 32 := 0#32
  let c1_i32_261 : BitVec 32 := 1#32
  let arg20 : BitVec 32 := Scf.iv c0_i32_260 c1_i32_261 k0_t1
  let c512_i32 : BitVec 32 := 512#32
  let v2340 : BitVec 32 := Scalar.muli arg20 c512_i32
  v2340
def k0_off1 (k0_t1 : Fin k0_t1_loop.trips) : Fin 2 → Nat :=
  let c0_i32_260 : BitVec 32 := 0#32
  let c1_i32_261 : BitVec 32 := 1#32
  let arg20 : BitVec 32 := Scf.iv c0_i32_260 c1_i32_261 k0_t1
  let c512_i32 : BitVec 32 := 512#32
  let v2340 : BitVec 32 := Scalar.muli arg20 c512_i32
  let v2341 : BitVec 32 := v2340
  let v2342 : Index := Scalar.indexCast v2341
  let c0_949 : Index := 0#32
  ![v2342.toNat, 0]
def k0_off2 (k0_t1 : Fin k0_t1_loop.trips) : Fin 3 → Nat :=
  let c0_i32_260 : BitVec 32 := 0#32
  let c1_i32_261 : BitVec 32 := 1#32
  let arg20 : BitVec 32 := Scf.iv c0_i32_260 c1_i32_261 k0_t1
  let v2411 : Index := Scalar.indexCast arg20
  let c0_984 : Index := 0#32
  let c0_985 : Index := 0#32
  ![v2411.toNat, 0, 0]
def k0_mult2 (k0_t1 : Fin k0_t1_loop.trips) : BitVec 32 :=
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let c0_i32_1230 : BitVec 32 := 0#32
  let v3176 : BitVec 32 := Scalar.addi v2421 c0_i32_1230
  let c8_i32_1231 : BitVec 32 := 8#32
  let v3177 : BitVec 32 := Scalar.muli v3176 c8_i32_1231
  v3177
def k0_off3 (k0_t1 : Fin k0_t1_loop.trips) (c0_i32_1230 : BitVec 32) : Fin 3 → Nat :=
  let c0_1232 : Index := 0#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3179 : Index := Scalar.indexCast v3178
  let c0_1233 : Index := 0#32
  ![0, v3179.toNat, 0]
def k0_off4 (k0_t1 : Fin k0_t1_loop.trips) (c0_i32_1230 : BitVec 32) : Fin 3 → Nat :=
  let c1_1234 : Index := 1#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3183 : Index := Scalar.indexCast v3178
  let c0_1235 : Index := 0#32
  ![1, v3183.toNat, 0]
def k0_off5 (k0_t1 : Fin k0_t1_loop.trips) (c0_i32_1230 : BitVec 32) : Fin 3 → Nat :=
  let c2_1236 : Index := 2#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3187 : Index := Scalar.indexCast v3178
  let c0_1237 : Index := 0#32
  ![2, v3187.toNat, 0]
def k0_off6 (k0_t1 : Fin k0_t1_loop.trips) (c0_i32_1230 : BitVec 32) : Fin 3 → Nat :=
  let c3_1238 : Index := 3#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3191 : Index := Scalar.indexCast v3178
  let c0_1239 : Index := 0#32
  ![3, v3191.toNat, 0]
def k0_off7 (k0_t1 : Fin k0_t1_loop.trips) (c0_i32_1230 : BitVec 32) : Fin 3 → Nat :=
  let c4_1240 : Index := 4#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3195 : Index := Scalar.indexCast v3178
  let c0_1241 : Index := 0#32
  ![4, v3195.toNat, 0]
def k0_off8 (k0_t1 : Fin k0_t1_loop.trips) (c0_i32_1230 : BitVec 32) : Fin 3 → Nat :=
  let c5_1242 : Index := 5#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3199 : Index := Scalar.indexCast v3178
  let c0_1243 : Index := 0#32
  ![5, v3199.toNat, 0]
def k0_off9 (k0_t1 : Fin k0_t1_loop.trips) (c0_i32_1230 : BitVec 32) : Fin 3 → Nat :=
  let c6_1244 : Index := 6#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3203 : Index := Scalar.indexCast v3178
  let c0_1245 : Index := 0#32
  ![6, v3203.toNat, 0]
def k0_off10 (k0_t1 : Fin k0_t1_loop.trips) (c0_i32_1230 : BitVec 32) : Fin 3 → Nat :=
  let c7_1246 : Index := 7#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3207 : Index := Scalar.indexCast v3178
  let c0_1247 : Index := 0#32
  ![7, v3207.toNat, 0]
def k0_off11 (k0_t1 : Fin k0_t1_loop.trips) (c0_i32_1230 : BitVec 32) : Fin 3 → Nat :=
  let c8_1248 : Index := 8#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3211 : Index := Scalar.indexCast v3178
  let c0_1249 : Index := 0#32
  ![8, v3211.toNat, 0]
def k0_off12 (k0_t1 : Fin k0_t1_loop.trips) (c0_i32_1230 : BitVec 32) : Fin 3 → Nat :=
  let c9_1250 : Index := 9#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3215 : Index := Scalar.indexCast v3178
  let c0_1251 : Index := 0#32
  ![9, v3215.toNat, 0]
def k0_off13 (k0_t1 : Fin k0_t1_loop.trips) (c0_i32_1230 : BitVec 32) : Fin 3 → Nat :=
  let c10_1252 : Index := 10#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3219 : Index := Scalar.indexCast v3178
  let c0_1253 : Index := 0#32
  ![10, v3219.toNat, 0]
def k0_off14 (k0_t1 : Fin k0_t1_loop.trips) (c0_i32_1230 : BitVec 32) : Fin 3 → Nat :=
  let c11_1254 : Index := 11#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3223 : Index := Scalar.indexCast v3178
  let c0_1255 : Index := 0#32
  ![11, v3223.toNat, 0]
def k0_off15 (k0_t1 : Fin k0_t1_loop.trips) (c0_i32_1230 : BitVec 32) : Fin 3 → Nat :=
  let c12_1256 : Index := 12#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3227 : Index := Scalar.indexCast v3178
  let c0_1257 : Index := 0#32
  ![12, v3227.toNat, 0]
def k0_off16 (k0_t1 : Fin k0_t1_loop.trips) (c0_i32_1230 : BitVec 32) : Fin 3 → Nat :=
  let c13_1258 : Index := 13#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3231 : Index := Scalar.indexCast v3178
  let c0_1259 : Index := 0#32
  ![13, v3231.toNat, 0]
def k0_off17 (k0_t1 : Fin k0_t1_loop.trips) (c0_i32_1230 : BitVec 32) : Fin 3 → Nat :=
  let c14_1260 : Index := 14#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3235 : Index := Scalar.indexCast v3178
  let c0_1261 : Index := 0#32
  ![14, v3235.toNat, 0]
def k0_off18 (k0_t1 : Fin k0_t1_loop.trips) (c0_i32_1230 : BitVec 32) : Fin 3 → Nat :=
  let c15_1262 : Index := 15#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3239 : Index := Scalar.indexCast v3178
  let c0_1263 : Index := 0#32
  ![15, v3239.toNat, 0]
def k0_off19 (k0_t1 : Fin k0_t1_loop.trips) (c0_i32_1230 : BitVec 32) : Fin 3 → Nat :=
  let c16_1264 : Index := 16#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3243 : Index := Scalar.indexCast v3178
  let c0_1265 : Index := 0#32
  ![16, v3243.toNat, 0]
def k0_off20 (k0_t1 : Fin k0_t1_loop.trips) (c0_i32_1230 : BitVec 32) : Fin 3 → Nat :=
  let c17_1266 : Index := 17#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3247 : Index := Scalar.indexCast v3178
  let c0_1267 : Index := 0#32
  ![17, v3247.toNat, 0]
def k0_off21 (k0_t1 : Fin k0_t1_loop.trips) (c0_i32_1230 : BitVec 32) : Fin 3 → Nat :=
  let c18_1268 : Index := 18#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3251 : Index := Scalar.indexCast v3178
  let c0_1269 : Index := 0#32
  ![18, v3251.toNat, 0]
def k0_off22 (k0_t1 : Fin k0_t1_loop.trips) (c0_i32_1230 : BitVec 32) : Fin 3 → Nat :=
  let c19_1270 : Index := 19#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3255 : Index := Scalar.indexCast v3178
  let c0_1271 : Index := 0#32
  ![19, v3255.toNat, 0]
def k0_off23 (k0_t1 : Fin k0_t1_loop.trips) (c0_i32_1230 : BitVec 32) : Fin 3 → Nat :=
  let c20_1272 : Index := 20#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3259 : Index := Scalar.indexCast v3178
  let c0_1273 : Index := 0#32
  ![20, v3259.toNat, 0]
def k0_off24 (k0_t1 : Fin k0_t1_loop.trips) (c0_i32_1230 : BitVec 32) : Fin 3 → Nat :=
  let c21_1274 : Index := 21#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3263 : Index := Scalar.indexCast v3178
  let c0_1275 : Index := 0#32
  ![21, v3263.toNat, 0]
def k0_off25 (k0_t1 : Fin k0_t1_loop.trips) (c0_i32_1230 : BitVec 32) : Fin 3 → Nat :=
  let c22_1276 : Index := 22#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3267 : Index := Scalar.indexCast v3178
  let c0_1277 : Index := 0#32
  ![22, v3267.toNat, 0]
def k0_off26 (k0_t1 : Fin k0_t1_loop.trips) (c0_i32_1230 : BitVec 32) : Fin 3 → Nat :=
  let c23_1278 : Index := 23#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3271 : Index := Scalar.indexCast v3178
  let c0_1279 : Index := 0#32
  ![23, v3271.toNat, 0]
def k0_off27 (k0_t1 : Fin k0_t1_loop.trips) (c0_i32_1230 : BitVec 32) : Fin 3 → Nat :=
  let c24_1280 : Index := 24#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3275 : Index := Scalar.indexCast v3178
  let c0_1281 : Index := 0#32
  ![24, v3275.toNat, 0]
def k0_off28 (k0_t1 : Fin k0_t1_loop.trips) (c0_i32_1230 : BitVec 32) : Fin 3 → Nat :=
  let c25_1282 : Index := 25#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3279 : Index := Scalar.indexCast v3178
  let c0_1283 : Index := 0#32
  ![25, v3279.toNat, 0]
def k0_off29 (k0_t1 : Fin k0_t1_loop.trips) (c0_i32_1230 : BitVec 32) : Fin 3 → Nat :=
  let c26_1284 : Index := 26#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3283 : Index := Scalar.indexCast v3178
  let c0_1285 : Index := 0#32
  ![26, v3283.toNat, 0]
def k0_off30 (k0_t1 : Fin k0_t1_loop.trips) (c0_i32_1230 : BitVec 32) : Fin 3 → Nat :=
  let c27_1286 : Index := 27#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3287 : Index := Scalar.indexCast v3178
  let c0_1287 : Index := 0#32
  ![27, v3287.toNat, 0]
def k0_off31 (k0_t1 : Fin k0_t1_loop.trips) (c0_i32_1230 : BitVec 32) : Fin 3 → Nat :=
  let c28_1288 : Index := 28#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3291 : Index := Scalar.indexCast v3178
  let c0_1289 : Index := 0#32
  ![28, v3291.toNat, 0]
def k0_off32 (k0_t1 : Fin k0_t1_loop.trips) (c0_i32_1230 : BitVec 32) : Fin 3 → Nat :=
  let c29_1290 : Index := 29#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3295 : Index := Scalar.indexCast v3178
  let c0_1291 : Index := 0#32
  ![29, v3295.toNat, 0]
def k0_off33 (k0_t1 : Fin k0_t1_loop.trips) (c0_i32_1230 : BitVec 32) : Fin 3 → Nat :=
  let c30_1292 : Index := 30#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3299 : Index := Scalar.indexCast v3178
  let c0_1293 : Index := 0#32
  ![30, v3299.toNat, 0]
def k0_off34 (k0_t1 : Fin k0_t1_loop.trips) (c0_i32_1230 : BitVec 32) : Fin 3 → Nat :=
  let c31_1294 : Index := 31#32
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let v3176 : BitVec 32 := Scalar.addi v2421 c0_i32_1230
  let c8_i32_1231 : BitVec 32 := 8#32
  let v3177 : BitVec 32 := Scalar.muli v3176 c8_i32_1231
  let v3178 : BitVec 32 := v3177
  let v3303 : Index := Scalar.indexCast v3178
  let c0_1295 : Index := 0#32
  ![31, v3303.toNat, 0]
def k0_mult3 (k0_t1 : Fin k0_t1_loop.trips) : BitVec 32 :=
  let c0_i32_260 : BitVec 32 := 0#32
  let c1_i32_261 : BitVec 32 := 1#32
  let arg20 : BitVec 32 := Scf.iv c0_i32_260 c1_i32_261 k0_t1
  let c2_i32_988 : BitVec 32 := 2#32
  let v2421 : BitVec 32 := Scalar.muli arg20 c2_i32_988
  let c1_i32_1536 : BitVec 32 := 1#32
  let v4059 : BitVec 32 := Scalar.addi v2421 c1_i32_1536
  let c8_i32_1537 : BitVec 32 := 8#32
  let v4060 : BitVec 32 := Scalar.muli v4059 c8_i32_1537
  v4060
def k0_mult4 : BitVec 32 :=
  let c128_i32 : BitVec 32 := 128#32
  c128_i32
def k0_mult5 : BitVec 32 :=
  let c136_i32 : BitVec 32 := 136#32
  c136_i32
@[reducible] def k0_t2_loop : Scf.Loop 32 :=
  let c0_i32_885 : BitVec 32 := 0#32
  let c32_i32 : BitVec 32 := 32#32
  let v2252 : BitVec 32 := Scalar.addi c0_i32_885 c32_i32
  let c1_i32_886 : BitVec 32 := 1#32
  ⟨c0_i32_885, v2252, c1_i32_886⟩
def k0_off35 (k0_t2 : Fin k0_t2_loop.trips) : Fin 3 → Nat :=
  let c0_i32_885 : BitVec 32 := 0#32
  let c1_i32_886 : BitVec 32 := 1#32
  let arg20 : BitVec 32 := Scf.iv c0_i32_885 c1_i32_886 k0_t2
  let v2340 : Index := Scalar.indexCast arg20
  let c0_949 : Index := 0#32
  let c0_950 : Index := 0#32
  ![v2340.toNat, 0, 0]
@[reducible] def k0_t3_loop : Scf.Loop 32 :=
  let c0_i32_894 : BitVec 32 := 0#32
  let c9_i32 : BitVec 32 := 9#32
  let v2269 : BitVec 32 := Scalar.addi c0_i32_894 c9_i32
  let c1_i32_895 : BitVec 32 := 1#32
  ⟨c0_i32_894, v2269, c1_i32_895⟩
def k0_off36 (k0_t3 : Fin k0_t3_loop.trips) : Fin 3 → Nat :=
  let c0_i32_894 : BitVec 32 := 0#32
  let c1_i32_895 : BitVec 32 := 1#32
  let arg20 : BitVec 32 := Scf.iv c0_i32_894 c1_i32_895 k0_t3
  let v2340 : Index := Scalar.indexCast arg20
  let c0_949 : Index := 0#32
  let c0_950 : Index := 0#32
  ![v2340.toNat, 0, 0]
@[reducible] def k0_t4_loop : Scf.Loop 32 :=
  let c0_i32_901 : BitVec 32 := 0#32
  let c9_i32_902 : BitVec 32 := 9#32
  let v2282 : BitVec 32 := Scalar.addi c0_i32_901 c9_i32_902
  let c1_i32_903 : BitVec 32 := 1#32
  ⟨c0_i32_901, v2282, c1_i32_903⟩
def k0_off37 (k0_t4 : Fin k0_t4_loop.trips) : Fin 3 → Nat :=
  let c0_i32_901 : BitVec 32 := 0#32
  let c1_i32_903 : BitVec 32 := 1#32
  let arg20 : BitVec 32 := Scf.iv c0_i32_901 c1_i32_903 k0_t4
  let v2340 : Index := Scalar.indexCast arg20
  let c0_949 : Index := 0#32
  let c0_950 : Index := 0#32
  ![v2340.toNat, 0, 0]
@[reducible] def k0_t5_loop : Scf.Loop 32 :=
  let c0_i32_950 : BitVec 32 := 0#32
  let c32_i32_951 : BitVec 32 := 32#32
  let v2341 : BitVec 32 := Scalar.addi c0_i32_950 c32_i32_951
  let c1_i32_952 : BitVec 32 := 1#32
  ⟨c0_i32_950, v2341, c1_i32_952⟩
@[reducible] def k0_t6_loop : Scf.Loop 32 :=
  let c0_i32_980 : BitVec 32 := 0#32
  let c9_i32_981 : BitVec 32 := 9#32
  let v2395 : BitVec 32 := Scalar.addi c0_i32_980 c9_i32_981
  let c1_i32_982 : BitVec 32 := 1#32
  ⟨c0_i32_980, v2395, c1_i32_982⟩
def k0_off38 (k0_t6 : Fin k0_t6_loop.trips) : Fin 3 → Nat :=
  let c0_i32_980 : BitVec 32 := 0#32
  let c1_i32_982 : BitVec 32 := 1#32
  let arg22 : BitVec 32 := Scf.iv c0_i32_980 c1_i32_982 k0_t6
  let v2404 : Index := Scalar.indexCast arg22
  let c0_985 : Index := 0#32
  let c0_986 : Index := 0#32
  ![v2404.toNat, 0, 0]
@[reducible] def k0_t7_loop : Scf.Loop 32 :=
  let c0_i32_960 : BitVec 32 := 0#32
  let c9_i32_961 : BitVec 32 := 9#32
  let v2357 : BitVec 32 := Scalar.addi c0_i32_960 c9_i32_961
  let c1_i32_962 : BitVec 32 := 1#32
  ⟨c0_i32_960, v2357, c1_i32_962⟩
def k0_off39 (k0_t7 : Fin k0_t7_loop.trips) : Fin 3 → Nat :=
  let c0_i32_960 : BitVec 32 := 0#32
  let c1_i32_962 : BitVec 32 := 1#32
  let arg20 : BitVec 32 := Scf.iv c0_i32_960 c1_i32_962 k0_t7
  let v2380 : Index := Scalar.indexCast arg20
  let c0_975 : Index := 0#32
  let c0_976 : Index := 0#32
  ![v2380.toNat, 0, 0]
@[reducible] def k0_t8_loop : Scf.Loop 32 :=
  let c0_i32_968 : BitVec 32 := 0#32
  let c9_i32_969 : BitVec 32 := 9#32
  let v2370 : BitVec 32 := Scalar.addi c0_i32_968 c9_i32_969
  let c1_i32_970 : BitVec 32 := 1#32
  ⟨c0_i32_968, v2370, c1_i32_970⟩
def k0_off40 (k0_t8 : Fin k0_t8_loop.trips) : Fin 3 → Nat :=
  let c0_i32_968 : BitVec 32 := 0#32
  let c1_i32_970 : BitVec 32 := 1#32
  let arg20 : BitVec 32 := Scf.iv c0_i32_968 c1_i32_970 k0_t8
  let v2380 : Index := Scalar.indexCast arg20
  let c0_975 : Index := 0#32
  let c0_976 : Index := 0#32
  ![v2380.toNat, 0, 0]
@[reducible] def k0_t9_loop : Scf.Loop 32 :=
  let c0_i32_950 : BitVec 32 := 0#32
  let c13_i32 : BitVec 32 := 13#32
  let v2343 : BitVec 32 := Scalar.addi c0_i32_950 c13_i32
  let c1_i32_951 : BitVec 32 := 1#32
  ⟨c0_i32_950, v2343, c1_i32_951⟩
@[reducible] def k0_t10_loop : Scf.Loop 32 :=
  let c0_i32_957 : BitVec 32 := 0#32
  let c9_i32_958 : BitVec 32 := 9#32
  let v2355 : BitVec 32 := Scalar.addi c0_i32_957 c9_i32_958
  let c1_i32_959 : BitVec 32 := 1#32
  ⟨c0_i32_957, v2355, c1_i32_959⟩
def k0_off41 (k0_t10 : Fin k0_t10_loop.trips) : Fin 3 → Nat :=
  let c0_i32_957 : BitVec 32 := 0#32
  let c1_i32_959 : BitVec 32 := 1#32
  let arg22 : BitVec 32 := Scf.iv c0_i32_957 c1_i32_959 k0_t10
  let v2364 : Index := Scalar.indexCast arg22
  let c0_962 : Index := 0#32
  let c0_963 : Index := 0#32
  ![v2364.toNat, 0, 0]
@[reducible] def k0_t11_loop : Scf.Loop 32 :=
  let c0_i32_933 : BitVec 32 := 0#32
  let c9_i32_934 : BitVec 32 := 9#32
  let v2327 : BitVec 32 := Scalar.addi c0_i32_933 c9_i32_934
  let c1_i32_935 : BitVec 32 := 1#32
  ⟨c0_i32_933, v2327, c1_i32_935⟩
def k0_off42 (k0_t11 : Fin k0_t11_loop.trips) : Fin 3 → Nat :=
  let c0_i32_933 : BitVec 32 := 0#32
  let c1_i32_935 : BitVec 32 := 1#32
  let arg20 : BitVec 32 := Scf.iv c0_i32_933 c1_i32_935 k0_t11
  let v2340 : Index := Scalar.indexCast arg20
  let c0_949 : Index := 0#32
  let c0_950 : Index := 0#32
  ![v2340.toNat, 0, 0]
def k0_off43 (i : grid0.Coords) (c0_i32_1 : BitVec 32) : Fin 3 → Nat :=
  let arg1 : BitVec 32 := BitVec.ofNat 32 (i 1).val
  let c2_i32 : BitVec 32 := 2#32
  let v4 : BitVec 32 := Scalar.muli arg1 c2_i32
  let v5 : BitVec 32 := Scalar.addi v4 c0_i32_1
  let v6 : Index := Scalar.indexCast v5
  let c0 : Index := 0#32
  let c0_2 : Index := 0#32
  ![v6.toNat, 0, 0]
def k0_cond4 (i : grid0.Coords) : BitVec 1 :=
  let arg1 : BitVec 32 := BitVec.ofNat 32 (i 1).val
  let c3_i32 : BitVec 32 := 3#32
  let v366 : BitVec 1 := Scalar.cmpi .eq arg1 c3_i32
  let v367 : BitVec 32 := Scalar.extui v366
  let c0_i32_256 : BitVec 32 := 0#32
  let v368 : BitVec 1 := Scalar.cmpi .ne v367 c0_i32_256
  v368

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.muli v0 c4_i32
  let v2 : BitVec 32 := Scalar.addi v1 arg1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.muli v0 c4_i32
  let v2 : BitVec 32 := Scalar.addi v1 arg1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Experts.lean ====
abbrev S320 : Shape := ⟨1, ![320]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S81920x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S81920x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S320, .i32⟩
  | .local _ .smem, ⟨1, _⟩ => ⟨S1, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S320 : Shape := ⟨1, ![320]⟩
abbrev S1 : Shape := ⟨1, ![1]⟩
abbrev S81920x1024 : Shape := ⟨2, ![81920, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S320x256x1024 : Shape := ⟨3, ![320, 256, 1024]⟩
abbrev S320x1 : Shape := ⟨2, ![320, 1]⟩
abbrev S320x1024x2048 : Shape := ⟨3, ![320, 1024, 2048]⟩
abbrev S320x256x2048 : Shape := ⟨3, ![320, 256, 2048]⟩
abbrev S320x2048 : Shape := ⟨2, ![320, 2048]⟩
abbrev S320x1x2048 : Shape := ⟨3, ![320, 1, 2048]⟩
abbrev S_ : Shape := ⟨0, ![]⟩
abbrev S320x1024x1024 : Shape := ⟨3, ![320, 1024, 1024]⟩
abbrev S320x1024 : Shape := ⟨2, ![320, 1024]⟩
abbrev S320x1x1024 : Shape := ⟨3, ![320, 1, 1024]⟩
abbrev S320x1x1 : Shape := ⟨3, ![320, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S320, .i32⟩
  | .hbm, ⟨1, _⟩ => ⟨S1, .i32⟩
  | .hbm, ⟨2, _⟩ => ⟨S81920x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S320x256x1024, .f32⟩
  | .hbm, ⟨8, _⟩ => ⟨S320x1, .i32⟩
  | .hbm, ⟨9, _⟩ => ⟨S320x1024x2048, .f32⟩
  | .hbm, ⟨10, _⟩ => ⟨S320x256x2048, .f32⟩
  | .hbm, ⟨11, _⟩ => ⟨S320x1, .i32⟩
  | .hbm, ⟨12, _⟩ => ⟨S320x2048, .f32⟩
  | .hbm, ⟨13, _⟩ => ⟨S320x1x2048, .f32⟩
  | .hbm, ⟨14, _⟩ => ⟨S320x256x2048, .f32⟩
  | .hbm, ⟨15, _⟩ => ⟨S320x256x2048, .f32⟩
  | .hbm, ⟨16, _⟩ => ⟨S320x256x1024, .f32⟩
  | .hbm, ⟨17, _⟩ => ⟨S320x256x1024, .f32⟩
  | .hbm, ⟨18, _⟩ => ⟨S_, .f32⟩
  | .hbm, ⟨19, _⟩ => ⟨S320x256x1024, .f32⟩
  | .hbm, ⟨20, _⟩ => ⟨S320x256x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S320x256x1024, .f32⟩
  | .hbm, ⟨25, _⟩ => ⟨S320x256x1024, .f32⟩
  | .hbm, ⟨26, _⟩ => ⟨S_, .f32⟩
  | .hbm, ⟨27, _⟩ => ⟨S320x256x1024, .f32⟩
  | .hbm, ⟨28, _⟩ => ⟨S320x256x1024, .f32⟩
  | .hbm, ⟨29, _⟩ => ⟨S_, .f32⟩
  | .hbm, ⟨30, _⟩ => ⟨S320x256x1024, .f32⟩
  | .hbm, ⟨31, _⟩ => ⟨S320x256x1024, .f32⟩
  | .hbm, ⟨32, _⟩ => ⟨S320x256x1024, .f32⟩
  | .hbm, ⟨33, _⟩ => ⟨S_, .f32⟩
  | .hbm, ⟨34, _⟩ => ⟨S320x256x1024, .f32⟩
  | .hbm, ⟨35, _⟩ => ⟨S320x256x1024, .f32⟩
  | .hbm, ⟨36, _⟩ => ⟨S320x256x1024, .f32⟩
  | .hbm, ⟨37, _⟩ => ⟨S320x256x1024, .f32⟩
  | .hbm, ⟨38, _⟩ => ⟨S_, .f32⟩
  | .hbm, ⟨39, _⟩ => ⟨S320x256x1024, .f32⟩
  | .hbm, ⟨40, _⟩ => ⟨S320x256x1024, .f32⟩
  | .hbm, ⟨41, _⟩ => ⟨S_, .f32⟩
  | .hbm, ⟨42, _⟩ => ⟨S320x256x1024, .f32⟩
  | .hbm, ⟨43, _⟩ => ⟨S320x256x1024, .f32⟩
  | .hbm, ⟨44, _⟩ => ⟨S320x256x1024, .f32⟩
  | .hbm, ⟨45, _⟩ => ⟨S320x1, .i32⟩
  | .hbm, ⟨46, _⟩ => ⟨S320x1024x1024, .f32⟩
  | .hbm, ⟨47, _⟩ => ⟨S320x256x1024, .f32⟩
  | .hbm, ⟨48, _⟩ => ⟨S320x1, .i32⟩
  | .hbm, ⟨49, _⟩ => ⟨S320x1024, .f32⟩
  | .hbm, ⟨50, _⟩ => ⟨S320x1x1024, .f32⟩
  | .hbm, ⟨51, _⟩ => ⟨S320x256x1024, .f32⟩
  | .hbm, ⟨52, _⟩ => ⟨S320x256x1024, .f32⟩
  | .hbm, ⟨53, _⟩ => ⟨S320, .i32⟩
  | .hbm, ⟨54, _⟩ => ⟨S_, .i32⟩
  | .hbm, ⟨55, _⟩ => ⟨S320, .i32⟩
  | .hbm, ⟨56, _⟩ => ⟨S320, .i1⟩
  | .hbm, ⟨57, _⟩ => ⟨S320x1x1, .i1⟩
  | .hbm, ⟨58, _⟩ => ⟨S_, .f32⟩
  | .hbm, ⟨59, _⟩ => ⟨S_, .f32⟩
  | .hbm, ⟨60, _⟩ => ⟨S320x256x1024, .i1⟩
  | .hbm, ⟨61, _⟩ => ⟨S320x256x1024, .f32⟩
  | .hbm, ⟨62, _⟩ => ⟨S320x256x1024, .f32⟩
  | .hbm, ⟨63, _⟩ => ⟨S81920x1024, .f32⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_cst_1 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call3_v0 : Ref sig .tc := ⟨.hbm, 45, rfl⟩
abbrev main_v24 : Ref sig .tc := ⟨.hbm, 46, rfl⟩
abbrev main_v25 : Ref sig .tc := ⟨.hbm, 47, rfl⟩
abbrev main_call4_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_call5_v0 : Ref sig .tc := ⟨.hbm, 59, rfl⟩
abbrev main_call5_v1 : Ref sig .tc := ⟨.hbm, 60, rfl⟩
abbrev main_call5_v2 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x8776 : Shape := ⟨2, ![1024, 8776]⟩
abbrev S128 : Shape := ⟨1, ![128]⟩
abbrev S4096 : Shape := ⟨1, ![4096]⟩
abbrev S1024x6656 : Shape := ⟨2, ![1024, 6656]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x256 : Shape := ⟨2, ![1024, 256]⟩
abbrev S1024x2048 : Shape := ⟨2, ![1024, 2048]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S32 : Shape := ⟨1, ![32]⟩
abbrev S1x32 : Shape := ⟨2, ![1, 32]⟩
abbrev S4096x32 : Shape := ⟨2, ![4096, 32]⟩
abbrev S1x1024 : Shape := ⟨2, ![1, 1024]⟩
abbrev S1x128 : Shape := ⟨2, ![1, 128]⟩
abbrev S65536x128 : Shape := ⟨2, ![65536, 128]⟩
abbrev S16384x512 : Shape := ⟨2, ![16384, 512]⟩
abbrev S16384x64 : Shape := ⟨2, ![16384, 64]⟩
abbrev S16384x128 : Shape := ⟨2, ![16384, 128]⟩
abbrev S64x512x256 : Shape := ⟨3, ![64, 512, 256]⟩
abbrev S256x1024 : Shape := ⟨2, ![256, 1024]⟩
abbrev S256x128 : Shape := ⟨2, ![256, 128]⟩
abbrev S1024x128 : Shape := ⟨2, ![1024, 128]⟩
abbrev S256x512 : Shape := ⟨2, ![256, 512]⟩
abbrev S256x64 : Shape := ⟨2, ![256, 64]⟩
abbrev S1x512x256 : Shape := ⟨3, ![1, 512, 256]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩
abbrev S512x256 : Shape := ⟨2, ![512, 256]⟩
abbrev S256x256 : Shape := ⟨2, ![256, 256]⟩
abbrev S256x2048 : Shape := ⟨2, ![256, 2048]⟩

abbrev nBuf : Space → Nat
  | .hbm => 89
  | .vmem => 48
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8776, .f32⟩
  | .hbm, ⟨3, _⟩ => ⟨S128, .f32⟩
  | .hbm, ⟨4, _⟩ => ⟨S128, .f32⟩
  | .hbm, ⟨5, _⟩ => ⟨S4096, .i32⟩
  | .hbm, ⟨6, _⟩ => ⟨S1024x6656, .f32⟩
  | .hbm, ⟨7, _⟩ => ⟨S1024x6656, .bf16⟩
  | .hbm, ⟨8, _⟩ => ⟨S1024x64, .f32⟩
  | .hbm, ⟨9, _⟩ => ⟨S1024x8, .f32⟩
  | .hbm, ⟨10, _⟩ => ⟨S_, .f32⟩
  | .hbm, ⟨11, _⟩ => ⟨S1024x120, .f32⟩
  | .hbm, ⟨12, _⟩ => ⟨S1024x256, .f32⟩
  | .hbm, ⟨13, _⟩ => ⟨S1024x256, .bf16⟩
  | .hbm, ⟨14, _⟩ => ⟨S1024x2048, .f32⟩
  | .hbm, ⟨15, _⟩ => ⟨S1024x2048, .bf16⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S4096, .f32⟩
  | .hbm, ⟨33, _⟩ => ⟨S4096x1, .f32⟩
  | .hbm, ⟨34, _⟩ => ⟨S1x64, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S4096x128, .f32⟩
  | .hbm, ⟨41, _⟩ => ⟨S4096x64, .f32⟩
  | .hbm, ⟨42, _⟩ => ⟨S4096x128, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S4096, .f32⟩
  | .hbm, ⟨60, _⟩ => ⟨S4096x1, .f32⟩
  | .hbm, ⟨61, _⟩ => ⟨S1x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x128, .f32⟩
  | .hbm, ⟨68, _⟩ => ⟨S4096x32, .f32⟩
  | .hbm, ⟨69, _⟩ => ⟨S4096x128, .f32⟩
  | .hbm, ⟨70, _⟩ => ⟨S1x1024, .f32⟩
  | .hbm, ⟨71, _⟩ => ⟨S1x128, .f32⟩
  | .hbm, ⟨72, _⟩ => ⟨S1x128, .f32⟩
  | .hbm, ⟨73, _⟩ => ⟨S16384x1024, .bf16⟩
  | .hbm, ⟨74, _⟩ => ⟨S16384x1024, .f32⟩
  | .hbm, ⟨75, _⟩ => ⟨S16384x1024, .bf16⟩
  | .hbm, ⟨76, _⟩ => ⟨S16384x1024, .bf16⟩
  | .hbm, ⟨77, _⟩ => ⟨S16384x1024, .bf16⟩
  | .hbm, ⟨78, _⟩ => ⟨S65536x128, .f32⟩
  | .hbm, ⟨79, _⟩ => ⟨S16384x512, .bf16⟩
  | .hbm, ⟨80, _⟩ => ⟨S65536x128, .f32⟩
  | .hbm, ⟨81, _⟩ => ⟨S16384x512, .bf16⟩
  | .hbm, ⟨82, _⟩ => ⟨S16384x1024, .bf16⟩
  | .hbm, ⟨83, _⟩ => ⟨S16384x64, .f32⟩
  | .hbm, ⟨84, _⟩ => ⟨S16384x128, .bf16⟩
  | .hbm, ⟨85, _⟩ => ⟨S16384x128, .f32⟩
  | .hbm, ⟨86, _⟩ => ⟨S16384x1024, .bf16⟩
  | .hbm, ⟨87, _⟩ => ⟨S16384x1024, .bf16⟩
  | .hbm, ⟨88, _⟩ => ⟨S64x512x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6656, .bf16⟩
  | .local _ .vmem, ⟨4, _⟩ => ⟨S1024x256, .bf16⟩
  | .local _ .vmem, ⟨5, _⟩ => ⟨S1024x2048, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S1024x128, .f32⟩
  | .local _ .vmem, ⟨27, _⟩ => ⟨S1024x128, .f32⟩
  | .local _ .vmem, ⟨28, _⟩ => ⟨S256x512, .bf16⟩
  | .local _ .vmem, ⟨29, _⟩ => ⟨S256x512, .bf16⟩
  | .local _ .vmem, ⟨30, _⟩ => ⟨S1024x128, .f32⟩
  | .local _ .vmem, ⟨31, _⟩ => ⟨S1024x128, .f32⟩
  | .local _ .vmem, ⟨32, _⟩ => ⟨S256x512, .bf16⟩
  | .local _ .vmem, ⟨33, _⟩ => ⟨S256x512, .bf16⟩
  | .local _ .vmem, ⟨34, _⟩ => ⟨S256x1024, .bf16⟩
  | .local _ .vmem, ⟨35, _⟩ => ⟨S256x1024, .bf16⟩
  | .local _ .vmem, ⟨36, _⟩ => ⟨S256x64, .f32⟩
  | .local _ .vmem, ⟨37, _⟩ => ⟨S256x64, .f32⟩
  | .local _ .vmem, ⟨38, _⟩ => ⟨S256x128, .bf16⟩
  | .local _ .vmem, ⟨39, _⟩ => ⟨S256x128, .bf16⟩
  | .local _ .vmem, ⟨40, _⟩ => ⟨S256x128, .f32⟩
  | .local _ .vmem, ⟨41, _⟩ => ⟨S256x128, .f32⟩
  | .local _ .vmem, ⟨42, _⟩ => ⟨S256x1024, .bf16⟩
  | .local _ .vmem, ⟨43, _⟩ => ⟨S256x1024, .bf16⟩
  | .local _ .vmem, ⟨44, _⟩ => ⟨S256x1024, .bf16⟩
  | .local _ .vmem, ⟨45, _⟩ => ⟨S256x1024, .bf16⟩
  | .local _ .vmem, ⟨46, _⟩ => ⟨S1x512x256, .bf16⟩
  | .local _ .vmem, ⟨47, _⟩ => ⟨S1x512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56_0 : Ref sig .tc := ⟨.hbm, 73, rfl⟩
abbrev main_v56_1 : Ref sig .tc := ⟨.hbm, 74, rfl⟩
abbrev main_v56_2 : Ref sig .tc := ⟨.hbm, 75, rfl⟩
abbrev main_v56_3 : Ref sig .tc := ⟨.hbm, 76, rfl⟩
abbrev main_v56_4 : Ref sig .tc := ⟨.hbm, 77, rfl⟩
abbrev main_v56_5 : Ref sig .tc := ⟨.hbm, 78, rfl⟩
abbrev main_v56_6 : Ref sig .tc := ⟨.hbm, 79, rfl⟩
abbrev main_v56_7 : Ref sig .tc := ⟨.hbm, 80, rfl⟩
abbrev main_v56_8 : Ref sig .tc := ⟨.hbm, 81, rfl⟩
abbrev main_v56_9 : Ref sig .tc := ⟨.hbm, 82, rfl⟩
abbrev main_v56_10 : Ref sig .tc := ⟨.hbm, 83, rfl⟩
abbrev main_v56_11 : Ref sig .tc := ⟨.hbm, 84, rfl⟩
abbrev main_v56_12 : Ref sig .tc := ⟨.hbm, 85, rfl⟩
abbrev main_v56_13 : Ref sig .tc := ⟨.hbm, 86, rfl⟩
abbrev main_v56_14 : Ref sig .tc := ⟨.hbm, 87, rfl⟩
abbrev main_v56_15 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg26_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46
abbrev cc0_sem26_1 : DmaSem sig := 47

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== InprojIdeal.lean ====
abbrev S16384x1024 : Shape := ⟨2, ![16384, 1024]⟩
abbrev S1024 : Shape := ⟨1, ![1024]⟩
abbrev S1024x8776 : Shape := ⟨2, ![1024, 8776]⟩
abbrev S128 : Shape := ⟨1, ![128]⟩
abbrev S4096 : Shape := ⟨1, ![4096]⟩
abbrev S1024x6656 : Shape := ⟨2, ![1024, 6656]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x256 : Shape := ⟨2, ![1024, 256]⟩
abbrev S1024x2048 : Shape := ⟨2, ![1024, 2048]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S32 : Shape := ⟨1, ![32]⟩
abbrev S1x32 : Shape := ⟨2, ![1, 32]⟩
abbrev S4096x32 : Shape := ⟨2, ![4096, 32]⟩
abbrev S1x1024 : Shape := ⟨2, ![1, 1024]⟩
abbrev S1x128 : Shape := ⟨2, ![1, 128]⟩
abbrev S65536x128 : Shape := ⟨2, ![65536, 128]⟩
abbrev S16384x512 : Shape := ⟨2, ![16384, 512]⟩
abbrev S16384x64 : Shape := ⟨2, ![16384, 64]⟩
abbrev S16384x128 : Shape := ⟨2, ![16384, 128]⟩
abbrev S64x512x256 : Shape := ⟨3, ![64, 512, 256]⟩
abbrev S256x1024 : Shape := ⟨2, ![256, 1024]⟩
abbrev S256x128 : Shape := ⟨2, ![256, 128]⟩
abbrev S1024x128 : Shape := ⟨2, ![1024, 128]⟩
abbrev S256x512 : Shape := ⟨2, ![256, 512]⟩
abbrev S256x64 : Shape := ⟨2, ![256, 64]⟩
abbrev S1x512x256 : Shape := ⟨3, ![1, 512, 256]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩
abbrev S512x256 : Shape := ⟨2, ![512, 256]⟩
abbrev S256x256 : Shape := ⟨2, ![256, 256]⟩
abbrev S256x2048 : Shape := ⟨2, ![256, 2048]⟩

abbrev nBuf : Space → Nat
  | .hbm => 89
  | .vmem => 48
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8776, .f32⟩
  | .hbm, ⟨3, _⟩ => ⟨S128, .f32⟩
  | .hbm, ⟨4, _⟩ => ⟨S128, .f32⟩
  | .hbm, ⟨5, _⟩ => ⟨S4096, .i32⟩
  | .hbm, ⟨6, _⟩ => ⟨S1024x6656, .f32⟩
  | .hbm, ⟨7, _⟩ => ⟨S1024x6656, .bf16⟩
  | .hbm, ⟨8, _⟩ => ⟨S1024x64, .f32⟩
  | .hbm, ⟨9, _⟩ => ⟨S1024x8, .f32⟩
  | .hbm, ⟨10, _⟩ => ⟨S_, .f32⟩
  | .hbm, ⟨11, _⟩ => ⟨S1024x120, .f32⟩
  | .hbm, ⟨12, _⟩ => ⟨S1024x256, .f32⟩
  | .hbm, ⟨13, _⟩ => ⟨S1024x256, .bf16⟩
  | .hbm, ⟨14, _⟩ => ⟨S1024x2048, .f32⟩
  | .hbm, ⟨15, _⟩ => ⟨S1024x2048, .bf16⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S4096, .f32⟩
  | .hbm, ⟨33, _⟩ => ⟨S4096x1, .f32⟩
  | .hbm, ⟨34, _⟩ => ⟨S1x64, .f32⟩
  | .hbm, ⟨35, _⟩ => ⟨S4096x64, .f32⟩
  | .hbm, ⟨36, _⟩ => ⟨S4096x64, .f32⟩
  | .hbm, ⟨37, _⟩ => ⟨S4096x64, .f32⟩
  | .hbm, ⟨38, _⟩ => ⟨S4096x64, .f32⟩
  | .hbm, ⟨39, _⟩ => ⟨S4096x64, .f32⟩
  | .hbm, ⟨40, _⟩ => ⟨S4096x128, .f32⟩
  | .hbm, ⟨41, _⟩ => ⟨S4096x64, .f32⟩
  | .hbm, ⟨42, _⟩ => ⟨S4096x128, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S4096, .f32⟩
  | .hbm, ⟨60, _⟩ => ⟨S4096x1, .f32⟩
  | .hbm, ⟨61, _⟩ => ⟨S1x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x128, .f32⟩
  | .hbm, ⟨68, _⟩ => ⟨S4096x32, .f32⟩
  | .hbm, ⟨69, _⟩ => ⟨S4096x128, .f32⟩
  | .hbm, ⟨70, _⟩ => ⟨S1x1024, .f32⟩
  | .hbm, ⟨71, _⟩ => ⟨S1x128, .f32⟩
  | .hbm, ⟨72, _⟩ => ⟨S1x128, .f32⟩
  | .hbm, ⟨73, _⟩ => ⟨S16384x1024, .bf16⟩
  | .hbm, ⟨74, _⟩ => ⟨S16384x1024, .f32⟩
  | .hbm, ⟨75, _⟩ => ⟨S16384x1024, .bf16⟩
  | .hbm, ⟨76, _⟩ => ⟨S16384x1024, .bf16⟩
  | .hbm, ⟨77, _⟩ => ⟨S16384x1024, .bf16⟩
  | .hbm, ⟨78, _⟩ => ⟨S65536x128, .f32⟩
  | .hbm, ⟨79, _⟩ => ⟨S16384x512, .bf16⟩
  | .hbm, ⟨80, _⟩ => ⟨S65536x128, .f32⟩
  | .hbm, ⟨81, _⟩ => ⟨S16384x512, .bf16⟩
  | .hbm, ⟨82, _⟩ => ⟨S16384x1024, .bf16⟩
  | .hbm, ⟨83, _⟩ => ⟨S16384x64, .f32⟩
  | .hbm, ⟨84, _⟩ => ⟨S16384x128, .bf16⟩
  | .hbm, ⟨85, _⟩ => ⟨S16384x128, .f32⟩
  | .hbm, ⟨86, _⟩ => ⟨S16384x1024, .bf16⟩
  | .hbm, ⟨87, _⟩ => ⟨S16384x1024, .bf16⟩
  | .hbm, ⟨88, _⟩ => ⟨S64x512x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6656, .bf16⟩
  | .local _ .vmem, ⟨4, _⟩ => ⟨S1024x256, .bf16⟩
  | .local _ .vmem, ⟨5, _⟩ => ⟨S1024x2048, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S1024x128, .f32⟩
  | .local _ .vmem, ⟨27, _⟩ => ⟨S1024x128, .f32⟩
  | .local _ .vmem, ⟨28, _⟩ => ⟨S256x512, .bf16⟩
  | .local _ .vmem, ⟨29, _⟩ => ⟨S256x512, .bf16⟩
  | .local _ .vmem, ⟨30, _⟩ => ⟨S1024x128, .f32⟩
  | .local _ .vmem, ⟨31, _⟩ => ⟨S1024x128, .f32⟩
  | .local _ .vmem, ⟨32, _⟩ => ⟨S256x512, .bf16⟩
  | .local _ .vmem, ⟨33, _⟩ => ⟨S256x512, .bf16⟩
  | .local _ .vmem, ⟨34, _⟩ => ⟨S256x1024, .bf16⟩
  | .local _ .vmem, ⟨35, _⟩ => ⟨S256x1024, .bf16⟩
  | .local _ .vmem, ⟨36, _⟩ => ⟨S256x64, .f32⟩
  | .local _ .vmem, ⟨37, _⟩ => ⟨S256x64, .f32⟩
  | .local _ .vmem, ⟨38, _⟩ => ⟨S256x128, .bf16⟩
  | .local _ .vmem, ⟨39, _⟩ => ⟨S256x128, .bf16⟩
  | .local _ .vmem, ⟨40, _⟩ => ⟨S256x128, .f32⟩
  | .local _ .vmem, ⟨41, _⟩ => ⟨S256x128, .f32⟩
  | .local _ .vmem, ⟨42, _⟩ => ⟨S256x1024, .bf16⟩
  | .local _ .vmem, ⟨43, _⟩ => ⟨S256x1024, .bf16⟩
  | .local _ .vmem, ⟨44, _⟩ => ⟨S256x1024, .bf16⟩
  | .local _ .vmem, ⟨45, _⟩ => ⟨S256x1024, .bf16⟩
  | .local _ .vmem, ⟨46, _⟩ => ⟨S1x512x256, .bf16⟩
  | .local _ .vmem, ⟨47, _⟩ => ⟨S1x512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56_0 : Ref sig .tc := ⟨.hbm, 73, rfl⟩
abbrev main_v56_1 : Ref sig .tc := ⟨.hbm, 74, rfl⟩
abbrev main_v56_2 : Ref sig .tc := ⟨.hbm, 75, rfl⟩
abbrev main_v56_3 : Ref sig .tc := ⟨.hbm, 76, rfl⟩
abbrev main_v56_4 : Ref sig .tc := ⟨.hbm, 77, rfl⟩
abbrev main_v56_5 : Ref sig .tc := ⟨.hbm, 78, rfl⟩
abbrev main_v56_6 : Ref sig .tc := ⟨.hbm, 79, rfl⟩
abbrev main_v56_7 : Ref sig .tc := ⟨.hbm, 80, rfl⟩
abbrev main_v56_8 : Ref sig .tc := ⟨.hbm, 81, rfl⟩
abbrev main_v56_9 : Ref sig .tc := ⟨.hbm, 82, rfl⟩
abbrev main_v56_10 : Ref sig .tc := ⟨.hbm, 83, rfl⟩
abbrev main_v56_11 : Ref sig .tc := ⟨.hbm, 84, rfl⟩
abbrev main_v56_12 : Ref sig .tc := ⟨.hbm, 85, rfl⟩
abbrev main_v56_13 : Ref sig .tc := ⟨.hbm, 86, rfl⟩
abbrev main_v56_14 : Ref sig .tc := ⟨.hbm, 87, rfl⟩
abbrev main_v56_15 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg26_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46
abbrev cc0_sem26_1 : DmaSem sig := 47

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== InprojReferenceIdeal.lean ====
abbrev S16384x1024 : Shape := ⟨2, ![16384, 1024]⟩
abbrev S1024 : Shape := ⟨1, ![1024]⟩
abbrev S1024x8776 : Shape := ⟨2, ![1024, 8776]⟩
abbrev S128 : Shape := ⟨1, ![128]⟩
abbrev S4096 : Shape := ⟨1, ![4096]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8776 : Shape := ⟨3, ![4, 4096, 8776]⟩
abbrev S4x4096x512 : Shape := ⟨3, ![4, 4096, 512]⟩
abbrev S4x4096x64 : Shape := ⟨3, ![4, 4096, 64]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S4x4096x4x64 : Shape := ⟨4, ![4, 4096, 4, 64]⟩
abbrev S1x4096x1x64 : Shape := ⟨4, ![1, 4096, 1, 64]⟩
abbrev S4x4096x1x64 : Shape := ⟨4, ![4, 4096, 1, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4x4096x1x32 : Shape := ⟨4, ![4, 4096, 1, 32]⟩
abbrev S1x4096x1x32 : Shape := ⟨4, ![1, 4096, 1, 32]⟩
abbrev S65536x128 : Shape := ⟨2, ![65536, 128]⟩
abbrev S16384x64 : Shape := ⟨2, ![16384, 64]⟩

abbrev nBuf : Space → Nat
  | .hbm => 135
  | .vmem => 0
  | .smem => 0
  | _ => 0

abbrev hbmTy0_0 (i : Nat) : BufTy := match i % 128 with
  | 0 => ⟨S16384x1024, .f32⟩
  | 1 => ⟨S1024, .f32⟩
  | 2 => ⟨S1024x8776, .f32⟩
  | 3 => ⟨S128, .f32⟩
  | 4 => ⟨S128, .f32⟩
  | 5 => ⟨S4096, .i32⟩
  | 6 => ⟨S4x4096x1024, .f32⟩
  | 7 => ⟨S4x4096x1024, .f32⟩
  | 8 => ⟨S_, .f32⟩
  | 9 => ⟨S4x4096, .f32⟩
  | 10 => ⟨S4x4096x1, .f32⟩
  | 11 => ⟨S_, .f32⟩
  | 12 => ⟨S4x4096x1, .f32⟩
  | 13 => ⟨S4x4096x1, .f32⟩
  | 14 => ⟨S_, .f32⟩
  | 15 => ⟨S4x4096x1, .f32⟩
  | 16 => ⟨S4x4096x1, .f32⟩
  | 17 => ⟨S4x4096x1, .f32⟩
  | 18 => ⟨S4x4096x1024, .f32⟩
  | 19 => ⟨S4x4096x1024, .f32⟩
  | 20 => ⟨S1x1x1024, .f32⟩
  | 21 => ⟨S4x4096x1024, .f32⟩
  | 22 => ⟨S4x4096x1024, .f32⟩
  | 23 => ⟨S4x4096x8776, .f32⟩
  | 24 => ⟨S4x4096x512, .f32⟩
  | 25 => ⟨S4x4096x512, .f32⟩
  | 26 => ⟨S4x4096x64, .f32⟩
  | 27 => ⟨S4x4096x4x128, .f32⟩
  | 28 => ⟨S4x4096x4x128, .f32⟩
  | 29 => ⟨S_, .f32⟩
  | 30 => ⟨S4x4096x4, .f32⟩
  | 31 => ⟨S4x4096x4x1, .f32⟩
  | 32 => ⟨S_, .f32⟩
  | 33 => ⟨S4x4096x4x1, .f32⟩
  | 34 => ⟨S4x4096x4x1, .f32⟩
  | 35 => ⟨S_, .f32⟩
  | 36 => ⟨S4x4096x4x1, .f32⟩
  | 37 => ⟨S4x4096x4x1, .f32⟩
  | 38 => ⟨S4x4096x4x1, .f32⟩
  | 39 => ⟨S4x4096x4x128, .f32⟩
  | 40 => ⟨S4x4096x4x128, .f32⟩
  | 41 => ⟨S1x1x1x128, .f32⟩
  | 42 => ⟨S4x4096x4x128, .f32⟩
  | 43 => ⟨S4x4096x4x128, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S4096, .f32⟩
  | 61 => ⟨S4096x1, .f32⟩
  | 62 => ⟨S1x64, .f32⟩
  | 63 => ⟨S4096x64, .f32⟩
  | 64 => ⟨S4096x64, .f32⟩
  | 65 => ⟨S4096x64, .f32⟩
  | 66 => ⟨S4096x64, .f32⟩
  | 67 => ⟨S4096x1x64, .f32⟩
  | 68 => ⟨S4096x64, .f32⟩
  | 69 => ⟨S4096x1x64, .f32⟩
  | 70 => ⟨S4x4096x4x64, .f32⟩
  | 71 => ⟨S4x4096x4x64, .f32⟩
  | 72 => ⟨S1x4096x1x64, .f32⟩
  | 73 => ⟨S4x4096x4x64, .f32⟩
  | 74 => ⟨S4x4096x4x64, .f32⟩
  | 75 => ⟨S1x4096x1x64, .f32⟩
  | 76 => ⟨S4x4096x4x64, .f32⟩
  | 77 => ⟨S4x4096x4x64, .f32⟩
  | 78 => ⟨S4x4096x4x64, .f32⟩
  | 79 => ⟨S1x4096x1x64, .f32⟩
  | 80 => ⟨S4x4096x4x64, .f32⟩
  | 81 => ⟨S4x4096x4x64, .f32⟩
  | 82 => ⟨S1x4096x1x64, .f32⟩
  | 83 => ⟨S4x4096x4x64, .f32⟩
  | 84 => ⟨S4x4096x4x64, .f32⟩
  | 85 => ⟨S4x4096x4x64, .f32⟩
  | 86 => ⟨S4x4096x4x128, .f32⟩
  | 87 => ⟨S4x4096x1x64, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S4096, .f32⟩
  | 105 => ⟨S4096x1, .f32⟩
  | 106 => ⟨S1x32, .f32⟩
  | 107 => ⟨S4096x32, .f32⟩
  | 108 => ⟨S4096x32, .f32⟩
  | 109 => ⟨S4096x32, .f32⟩
  | 110 => ⟨S4096x32, .f32⟩
  | 111 => ⟨S4096x1x32, .f32⟩
  | 112 => ⟨S4096x32, .f32⟩
  | 113 => ⟨S4096x1x32, .f32⟩
  | 114 => ⟨S4x4096x1x32, .f32⟩
  | 115 => ⟨S4x4096x1x32, .f32⟩
  | 116 => ⟨S1x4096x1x32, .f32⟩
  | 117 => ⟨S4x4096x1x32, .f32⟩
  | 118 => ⟨S4x4096x1x32, .f32⟩
  | 119 => ⟨S1x4096x1x32, .f32⟩
  | 120 => ⟨S4x4096x1x32, .f32⟩
  | 121 => ⟨S4x4096x1x32, .f32⟩
  | 122 => ⟨S4x4096x1x32, .f32⟩
  | 123 => ⟨S1x4096x1x32, .f32⟩
  | 124 => ⟨S4x4096x1x32, .f32⟩
  | 125 => ⟨S4x4096x1x32, .f32⟩
  | 126 => ⟨S1x4096x1x32, .f32⟩
  | 127 => ⟨S4x4096x1x32, .f32⟩
  | _ => ⟨S16384x1024, .f32⟩

abbrev hbmTy0_1 (i : Nat) : BufTy := match i % 128 with
  | 0 => ⟨S4x4096x1x32, .f32⟩
  | 1 => ⟨S4x4096x1x32, .f32⟩
  | 2 => ⟨S4x4096x1x64, .f32⟩
  | 3 => ⟨S4x4096x64, .f32⟩
  | 4 => ⟨S65536x128, .f32⟩
  | 5 => ⟨S65536x128, .f32⟩
  | 6 => ⟨S16384x64, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_cst_12 : Ref sig .tc := ⟨.hbm, 95, rfl⟩
abbrev main_v76 : Ref sig .tc := ⟨.hbm, 96, rfl⟩
abbrev main_v77 : Ref sig .tc := ⟨.hbm, 97, rfl⟩
abbrev main_cst_13 : Ref sig .tc := ⟨.hbm, 98, rfl⟩
abbrev main_v78 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩

abbrev nD : Nat := 1
abbrev τ : Topo := Topo.v7x

variable {F : FTy → Type} [FloatOps F]
-- ==== Project.lean ====
abbrev S2048x1024 : Shape := ⟨2, ![2048, 1024]⟩
abbrev S1024 : Shape := ⟨1, ![1024]⟩
abbrev S1024x8776 : Shape := ⟨2, ![1024, 8776]⟩
abbrev S128 : Shape := ⟨1, ![128]⟩
abbrev S64 : Shape := ⟨1, ![64]⟩
abbrev S1024x6656 : Shape := ⟨2, ![1024, 6656]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x256 : Shape := ⟨2, ![1024, 256]⟩
abbrev S1024x2048 : Shape := ⟨2, ![1024, 2048]⟩
abbrev S64x1 : Shape := ⟨2, ![64, 1]⟩
abbrev S1x64 : Shape := ⟨2, ![1, 64]⟩
abbrev S64x64 : Shape := ⟨2, ![64, 64]⟩
abbrev S64x128 : Shape := ⟨2, ![64, 128]⟩
abbrev S32 : Shape := ⟨1, ![32]⟩
abbrev S1x32 : Shape := ⟨2, ![1, 32]⟩
abbrev S64x32 : Shape := ⟨2, ![64, 32]⟩
abbrev S1x64x1x128 : Shape := ⟨4, ![1, 64, 1, 128]⟩
abbrev S4x64x1x128 : Shape := ⟨4, ![4, 64, 1, 128]⟩
abbrev S256x128 : Shape := ⟨2, ![256, 128]⟩
abbrev S1x1024 : Shape := ⟨2, ![1, 1024]⟩
abbrev S1x128 : Shape := ⟨2, ![1, 128]⟩
abbrev S8192x128 : Shape := ⟨2, ![8192, 128]⟩
abbrev S2048x512 : Shape := ⟨2, ![2048, 512]⟩
abbrev S2048x64 : Shape := ⟨2, ![2048, 64]⟩
abbrev S2048x128 : Shape := ⟨2, ![2048, 128]⟩
abbrev S8x512x256 : Shape := ⟨3, ![8, 512, 256]⟩
abbrev S256x1024 : Shape := ⟨2, ![256, 1024]⟩
abbrev S1024x128 : Shape := ⟨2, ![1024, 128]⟩
abbrev S256x512 : Shape := ⟨2, ![256, 512]⟩
abbrev S256x64 : Shape := ⟨2, ![256, 64]⟩
abbrev S1x512x256 : Shape := ⟨3, ![1, 512, 256]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩
abbrev S512x256 : Shape := ⟨2, ![512, 256]⟩
abbrev S256x256 : Shape := ⟨2, ![256, 256]⟩
abbrev S256x2048 : Shape := ⟨2, ![256, 2048]⟩

abbrev nBuf : Space → Nat
  | .hbm => 101
  | .vmem => 44
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x8776, .f32⟩
  | .hbm, ⟨3, _⟩ => ⟨S128, .f32⟩
  | .hbm, ⟨4, _⟩ => ⟨S128, .f32⟩
  | .hbm, ⟨5, _⟩ => ⟨S64, .i32⟩
  | .hbm, ⟨6, _⟩ => ⟨S1024x6656, .f32⟩
  | .hbm, ⟨7, _⟩ => ⟨S1024x6656, .bf16⟩
  | .hbm, ⟨8, _⟩ => ⟨S1024x64, .f32⟩
  | .hbm, ⟨9, _⟩ => ⟨S1024x8, .f32⟩
  | .hbm, ⟨10, _⟩ => ⟨S_, .f32⟩
  | .hbm, ⟨11, _⟩ => ⟨S1024x120, .f32⟩
  | .hbm, ⟨12, _⟩ => ⟨S1024x256, .f32⟩
  | .hbm, ⟨13, _⟩ => ⟨S1024x256, .bf16⟩
  | .hbm, ⟨14, _⟩ => ⟨S1024x2048, .f32⟩
  | .hbm, ⟨15, _⟩ => ⟨S1024x2048, .bf16⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S64x1, .f32⟩
  | .hbm, ⟨34, _⟩ => ⟨S1x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x128, .f32⟩
  | .hbm, ⟨41, _⟩ => ⟨S64x64, .f32⟩
  | .hbm, ⟨42, _⟩ => ⟨S64x128, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S64, .f32⟩
  | .hbm, ⟨60, _⟩ => ⟨S64x1, .f32⟩
  | .hbm, ⟨61, _⟩ => ⟨S1x32, .f32⟩
  | .hbm, ⟨62, _⟩ => ⟨S64x32, .f32⟩
  | .hbm, ⟨63, _⟩ => ⟨S64x32, .f32⟩
  | .hbm, ⟨64, _⟩ => ⟨S64x32, .f32⟩
  | .hbm, ⟨65, _⟩ => ⟨S64x32, .f32⟩
  | .hbm, ⟨66, _⟩ => ⟨S64x32, .f32⟩
  | .hbm, ⟨67, _⟩ => ⟨S64x128, .f32⟩
  | .hbm, ⟨68, _⟩ => ⟨S64x32, .f32⟩
  | .hbm, ⟨69, _⟩ => ⟨S64x128, .f32⟩
  | .hbm, ⟨70, _⟩ => ⟨S1x64x1x128, .f32⟩
  | .hbm, ⟨71, _⟩ => ⟨S4x64x1x128, .f32⟩
  | .hbm, ⟨72, _⟩ => ⟨S256x128, .f32⟩
  | .hbm, ⟨73, _⟩ => ⟨S1x64x1x128, .f32⟩
  | .hbm, ⟨74, _⟩ => ⟨S4x64x1x128, .f32⟩
  | .hbm, ⟨75, _⟩ => ⟨S256x128, .f32⟩
  | .hbm, ⟨76, _⟩ => ⟨S1x64x1x128, .f32⟩
  | .hbm, ⟨77, _⟩ => ⟨S4x64x1x128, .f32⟩
  | .hbm, ⟨78, _⟩ => ⟨S256x128, .f32⟩
  | .hbm, ⟨79, _⟩ => ⟨S1x64x1x128, .f32⟩
  | .hbm, ⟨80, _⟩ => ⟨S4x64x1x128, .f32⟩
  | .hbm, ⟨81, _⟩ => ⟨S256x128, .f32⟩
  | .hbm, ⟨82, _⟩ => ⟨S1x1024, .f32⟩
  | .hbm, ⟨83, _⟩ => ⟨S1x128, .f32⟩
  | .hbm, ⟨84, _⟩ => ⟨S1x128, .f32⟩
  | .hbm, ⟨85, _⟩ => ⟨S2048x1024, .bf16⟩
  | .hbm, ⟨86, _⟩ => ⟨S2048x1024, .f32⟩
  | .hbm, ⟨87, _⟩ => ⟨S2048x1024, .bf16⟩
  | .hbm, ⟨88, _⟩ => ⟨S2048x1024, .bf16⟩
  | .hbm, ⟨89, _⟩ => ⟨S2048x1024, .bf16⟩
  | .hbm, ⟨90, _⟩ => ⟨S8192x128, .f32⟩
  | .hbm, ⟨91, _⟩ => ⟨S2048x512, .bf16⟩
  | .hbm, ⟨92, _⟩ => ⟨S8192x128, .f32⟩
  | .hbm, ⟨93, _⟩ => ⟨S2048x512, .bf16⟩
  | .hbm, ⟨94, _⟩ => ⟨S2048x1024, .bf16⟩
  | .hbm, ⟨95, _⟩ => ⟨S2048x64, .f32⟩
  | .hbm, ⟨96, _⟩ => ⟨S2048x128, .bf16⟩
  | .hbm, ⟨97, _⟩ => ⟨S2048x128, .f32⟩
  | .hbm, ⟨98, _⟩ => ⟨S2048x1024, .bf16⟩
  | .hbm, ⟨99, _⟩ => ⟨S2048x1024, .bf16⟩
  | .hbm, ⟨100, _⟩ => ⟨S8x512x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6656, .bf16⟩
  | .local _ .vmem, ⟨4, _⟩ => ⟨S1024x256, .bf16⟩
  | .local _ .vmem, ⟨5, _⟩ => ⟨S1024x2048, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x128, .f32⟩
  | .local _ .vmem, ⟨23, _⟩ => ⟨S1024x128, .f32⟩
  | .local _ .vmem, ⟨24, _⟩ => ⟨S256x512, .bf16⟩
  | .local _ .vmem, ⟨25, _⟩ => ⟨S256x512, .bf16⟩
  | .local _ .vmem, ⟨26, _⟩ => ⟨S1024x128, .f32⟩
  | .local _ .vmem, ⟨27, _⟩ => ⟨S1024x128, .f32⟩
  | .local _ .vmem, ⟨28, _⟩ => ⟨S256x512, .bf16⟩
  | .local _ .vmem, ⟨29, _⟩ => ⟨S256x512, .bf16⟩
  | .local _ .vmem, ⟨30, _⟩ => ⟨S256x1024, .bf16⟩
  | .local _ .vmem, ⟨31, _⟩ => ⟨S256x1024, .bf16⟩
  | .local _ .vmem, ⟨32, _⟩ => ⟨S256x64, .f32⟩
  | .local _ .vmem, ⟨33, _⟩ => ⟨S256x64, .f32⟩
  | .local _ .vmem, ⟨34, _⟩ => ⟨S256x128, .bf16⟩
  | .local _ .vmem, ⟨35, _⟩ => ⟨S256x128, .bf16⟩
  | .local _ .vmem, ⟨36, _⟩ => ⟨S256x128, .f32⟩
  | .local _ .vmem, ⟨37, _⟩ => ⟨S256x128, .f32⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S1x512x256, .bf16⟩
  | .local _ .vmem, ⟨43, _⟩ => ⟨S1x512x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68_0 : Ref sig .tc := ⟨.hbm, 85, rfl⟩
abbrev main_v68_1 : Ref sig .tc := ⟨.hbm, 86, rfl⟩
abbrev main_v68_2 : Ref sig .tc := ⟨.hbm, 87, rfl⟩
abbrev main_v68_3 : Ref sig .tc := ⟨.hbm, 88, rfl⟩
abbrev main_v68_4 : Ref sig .tc := ⟨.hbm, 89, rfl⟩
abbrev main_v68_5 : Ref sig .tc := ⟨.hbm, 90, rfl⟩
abbrev main_v68_6 : Ref sig .tc := ⟨.hbm, 91, rfl⟩
abbrev main_v68_7 : Ref sig .tc := ⟨.hbm, 92, rfl⟩
abbrev main_v68_8 : Ref sig .tc := ⟨.hbm, 93, rfl⟩
abbrev main_v68_9 : Ref sig .tc := ⟨.hbm, 94, rfl⟩
abbrev main_v68_10 : Ref sig .tc := ⟨.hbm, 95, rfl⟩
abbrev main_v68_11 : Ref sig .tc := ⟨.hbm, 96, rfl⟩
abbrev main_v68_12 : Ref sig .tc := ⟨.hbm, 97, rfl⟩
abbrev main_v68_13 : Ref sig .tc := ⟨.hbm, 98, rfl⟩
abbrev main_v68_14 : Ref sig .tc := ⟨.hbm, 99, rfl⟩
abbrev main_v68_15 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x512x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== ProjectReferenceIdeal.lean ====
abbrev S2048x1024 : Shape := ⟨2, ![2048, 1024]⟩
abbrev S1024 : Shape := ⟨1, ![1024]⟩
abbrev S1024x8776 : Shape := ⟨2, ![1024, 8776]⟩
abbrev S128 : Shape := ⟨1, ![128]⟩
abbrev S64 : Shape := ⟨1, ![64]⟩
abbrev S32x64x1024 : Shape := ⟨3, ![32, 64, 1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S32x64x8776 : Shape := ⟨3, ![32, 64, 8776]⟩
abbrev S32x64x512 : Shape := ⟨3, ![32, 64, 512]⟩
abbrev S32x64x64 : Shape := ⟨3, ![32, 64, 64]⟩
abbrev S32x64x4x128 : Shape := ⟨4, ![32, 64, 4, 128]⟩
abbrev S32x64x4 : Shape := ⟨3, ![32, 64, 4]⟩
abbrev S32x64x4x1 : Shape := ⟨4, ![32, 64, 4, 1]⟩
abbrev S1x1x1x128 : Shape := ⟨4, ![1, 1, 1, 128]⟩
abbrev S64x1 : Shape := ⟨2, ![64, 1]⟩
abbrev S1x64 : Shape := ⟨2, ![1, 64]⟩
abbrev S64x64 : Shape := ⟨2, ![64, 64]⟩
abbrev S64x1x64 : Shape := ⟨3, ![64, 1, 64]⟩
abbrev S32x64x4x64 : Shape := ⟨4, ![32, 64, 4, 64]⟩
abbrev S1x64x1x64 : Shape := ⟨4, ![1, 64, 1, 64]⟩
abbrev S32x64x1x64 : Shape := ⟨4, ![32, 64, 1, 64]⟩
abbrev S32 : Shape := ⟨1, ![32]⟩
abbrev S1x32 : Shape := ⟨2, ![1, 32]⟩
abbrev S64x32 : Shape := ⟨2, ![64, 32]⟩
abbrev S64x1x32 : Shape := ⟨3, ![64, 1, 32]⟩
abbrev S32x64x1x32 : Shape := ⟨4, ![32, 64, 1, 32]⟩
abbrev S1x64x1x32 : Shape := ⟨4, ![1, 64, 1, 32]⟩
abbrev S8192x128 : Shape := ⟨2, ![8192, 128]⟩
abbrev S2048x64 : Shape := ⟨2, ![2048, 64]⟩

abbrev nBuf : Space → Nat
  | .hbm => 135
  | .vmem => 0
  | .smem => 0
  | _ => 0

abbrev hbmTy0_0 (i : Nat) : BufTy := match i % 128 with
  | 0 => ⟨S2048x1024, .f32⟩
  | 1 => ⟨S1024, .f32⟩
  | 2 => ⟨S1024x8776, .f32⟩
  | 3 => ⟨S128, .f32⟩
  | 4 => ⟨S128, .f32⟩
  | 5 => ⟨S64, .i32⟩
  | 6 => ⟨S32x64x1024, .f32⟩
  | 7 => ⟨S32x64x1024, .f32⟩
  | 8 => ⟨S_, .f32⟩
  | 9 => ⟨S32x64, .f32⟩
  | 10 => ⟨S32x64x1, .f32⟩
  | 11 => ⟨S_, .f32⟩
  | 12 => ⟨S32x64x1, .f32⟩
  | 13 => ⟨S32x64x1, .f32⟩
  | 14 => ⟨S_, .f32⟩
  | 15 => ⟨S32x64x1, .f32⟩
  | 16 => ⟨S32x64x1, .f32⟩
  | 17 => ⟨S32x64x1, .f32⟩
  | 18 => ⟨S32x64x1024, .f32⟩
  | 19 => ⟨S32x64x1024, .f32⟩
  | 20 => ⟨S1x1x1024, .f32⟩
  | 21 => ⟨S32x64x1024, .f32⟩
  | 22 => ⟨S32x64x1024, .f32⟩
  | 23 => ⟨S32x64x8776, .f32⟩
  | 24 => ⟨S32x64x512, .f32⟩
  | 25 => ⟨S32x64x512, .f32⟩
  | 26 => ⟨S32x64x64, .f32⟩
  | 27 => ⟨S32x64x4x128, .f32⟩
  | 28 => ⟨S32x64x4x128, .f32⟩
  | 29 => ⟨S_, .f32⟩
  | 30 => ⟨S32x64x4, .f32⟩
  | 31 => ⟨S32x64x4x1, .f32⟩
  | 32 => ⟨S_, .f32⟩
  | 33 => ⟨S32x64x4x1, .f32⟩
  | 34 => ⟨S32x64x4x1, .f32⟩
  | 35 => ⟨S_, .f32⟩
  | 36 => ⟨S32x64x4x1, .f32⟩
  | 37 => ⟨S32x64x4x1, .f32⟩
  | 38 => ⟨S32x64x4x1, .f32⟩
  | 39 => ⟨S32x64x4x128, .f32⟩
  | 40 => ⟨S32x64x4x128, .f32⟩
  | 41 => ⟨S1x1x1x128, .f32⟩
  | 42 => ⟨S32x64x4x128, .f32⟩
  | 43 => ⟨S32x64x4x128, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S64, .f32⟩
  | 61 => ⟨S64x1, .f32⟩
  | 62 => ⟨S1x64, .f32⟩
  | 63 => ⟨S64x64, .f32⟩
  | 64 => ⟨S64x64, .f32⟩
  | 65 => ⟨S64x64, .f32⟩
  | 66 => ⟨S64x64, .f32⟩
  | 67 => ⟨S64x1x64, .f32⟩
  | 68 => ⟨S64x64, .f32⟩
  | 69 => ⟨S64x1x64, .f32⟩
  | 70 => ⟨S32x64x4x64, .f32⟩
  | 71 => ⟨S32x64x4x64, .f32⟩
  | 72 => ⟨S1x64x1x64, .f32⟩
  | 73 => ⟨S32x64x4x64, .f32⟩
  | 74 => ⟨S32x64x4x64, .f32⟩
  | 75 => ⟨S1x64x1x64, .f32⟩
  | 76 => ⟨S32x64x4x64, .f32⟩
  | 77 => ⟨S32x64x4x64, .f32⟩
  | 78 => ⟨S32x64x4x64, .f32⟩
  | 79 => ⟨S1x64x1x64, .f32⟩
  | 80 => ⟨S32x64x4x64, .f32⟩
  | 81 => ⟨S32x64x4x64, .f32⟩
  | 82 => ⟨S1x64x1x64, .f32⟩
  | 83 => ⟨S32x64x4x64, .f32⟩
  | 84 => ⟨S32x64x4x64, .f32⟩
  | 85 => ⟨S32x64x4x64, .f32⟩
  | 86 => ⟨S32x64x4x128, .f32⟩
  | 87 => ⟨S32x64x1x64, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S64, .f32⟩
  | 105 => ⟨S64x1, .f32⟩
  | 106 => ⟨S1x32, .f32⟩
  | 107 => ⟨S64x32, .f32⟩
  | 108 => ⟨S64x32, .f32⟩
  | 109 => ⟨S64x32, .f32⟩
  | 110 => ⟨S64x32, .f32⟩
  | 111 => ⟨S64x1x32, .f32⟩
  | 112 => ⟨S64x32, .f32⟩
  | 113 => ⟨S64x1x32, .f32⟩
  | 114 => ⟨S32x64x1x32, .f32⟩
  | 115 => ⟨S32x64x1x32, .f32⟩
  | 116 => ⟨S1x64x1x32, .f32⟩
  | 117 => ⟨S32x64x1x32, .f32⟩
  | 118 => ⟨S32x64x1x32, .f32⟩
  | 119 => ⟨S1x64x1x32, .f32⟩
  | 120 => ⟨S32x64x1x32, .f32⟩
  | 121 => ⟨S32x64x1x32, .f32⟩
  | 122 => ⟨S32x64x1x32, .f32⟩
  | 123 => ⟨S1x64x1x32, .f32⟩
  | 124 => ⟨S32x64x1x32, .f32⟩
  | 125 => ⟨S32x64x1x32, .f32⟩
  | 126 => ⟨S1x64x1x32, .f32⟩
  | 127 => ⟨S32x64x1x32, .f32⟩
  | _ => ⟨S2048x1024, .f32⟩

abbrev hbmTy0_1 (i : Nat) : BufTy := match i % 128 with
  | 0 => ⟨S32x64x1x32, .f32⟩
  | 1 => ⟨S32x64x1x32, .f32⟩
  | 2 => ⟨S32x64x1x64, .f32⟩
  | 3 => ⟨S32x64x64, .f32⟩
  | 4 => ⟨S8192x128, .f32⟩
  | 5 => ⟨S8192x128, .f32⟩
  | 6 => ⟨S2048x64, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_cst_12 : Ref sig .tc := ⟨.hbm, 95, rfl⟩
abbrev main_v76 : Ref sig .tc := ⟨.hbm, 96, rfl⟩
abbrev main_v77 : Ref sig .tc := ⟨.hbm, 97, rfl⟩
abbrev main_cst_13 : Ref sig .tc := ⟨.hbm, 98, rfl⟩
abbrev main_v78 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩

abbrev nD : Nat := 1
abbrev τ : Topo := Topo.v7x

variable {F : FTy → Type} [FloatOps F]
-- ==== Proof.Keeps.lean ====
/- Programs that keep a resource: every effect they make is a load of a memref the resource lends or a store to one it
   lends for writing, so that the resource is there again at the end. -/
module

public import proofs.«01_k».proof.Proof.Gen.Kernel.Launch
public import proofs.«01_k».proof.Proof.Gen.Kernel.Skeleton
public import Idealize.ShloMosaic.Lib.Pipeline.FrameBody
public import Idealize.ShloMosaic.Lib.Tactic

@[expose] public section

set_option maxRecDepth 16384

noncomputable section

namespace Cert.Sample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ
/-- A program of the TensorCore that makes no call. -/
abbrev Pr (F : FTy → Type) (α : Type) := Prog (TpuEff nD τ sig (Elt F) Λ₀ .tc) α

/-- From `R` the program runs without a fault and ends with `R` again, whatever value it returns. -/
def Keeps (c : Dev nD) (R : sProp 𝕄) {α : Type} (p : Pr F α) : Prop :=
  R ⊢ wp frame (wpE (defs₀ (F := F)) Variants.none (c : Thread nD τ) none) Set.univ p (fun _ => R)

/-- `R` lends the memref's elements, at some share and contents, against their return unchanged. -/
def Reads (c : Dev nD) (R : sProp 𝕄) {sp : Space} {s : Shape} {e : EltTy} (m : Memref sig .tc sp s e) : Prop :=
  ∃ q : PosShare TreeShare, R ⊢ iprop(∃ f, (m.view.loc (c : Thread nD τ) ↦[m.view.set]{q} f) ∗ ((m.view.loc (c : Thread nD τ) ↦[m.view.set]{q} f) -∗ R))

/-- `R` lends the memref's elements whole, and takes them back at any contents. -/
def Writes (c : Dev nD) (R : sProp 𝕄) {sp : Space} {s : Shape} {e : EltTy} (m : Memref sig .tc sp s e) : Prop :=
  R ⊢ iprop(∃ f, (m.view.loc (c : Thread nD τ) ↦[m.view.set]{fullShare} f) ∗ (∀ f', (m.view.loc (c : Thread nD τ) ↦[m.view.set]{fullShare} f') -∗ R))

variable {c : Dev nD}

theorem Writes.reads {R : sProp 𝕄} {sp : Space} {s : Shape} {e : EltTy} {m : Memref sig .tc sp s e} (h : Writes c R m) : Reads c R m := by
  refine ⟨fullShare, h.trans ?_⟩
  iintro ⟨%f, H, K⟩
  iexists f
  isplitl [H]; · iexact H
  iapply K

/-- A slice of a memref that `R` lends is lent. -/
theorem Reads.load {R : sProp 𝕄} {cs : CoreSpace} {s : Shape} {e : EltTy} {m : Memref sig .tc cs s e} (h : Reads c R m) {r : LoadRect s} {hl : m.view.LoadsAt r} :
    Keeps c R (Prog.lift (TpuEff.load m r hl)) := by
  obtain ⟨q, h⟩ := h
  unfold Keeps
  refine h.trans ?_
  iintro ⟨%f, H, K⟩
  iapply (wp_load (q := q) (f := f) Variants.none (c : Thread nD τ) none Set.univ (hl := hl) (k := fun x => Prog.ret x) (m.view.setOn_subset_set r.set)) $$ H
  iintro H
  rw [wp_ret]
  imodintro
  iapply K; iexact H

theorem Writes.store {R : sProp 𝕄} {cs : CoreSpace} {s : Shape} {e : EltTy} {m : Memref sig .tc cs s e} (h : Writes c R m) {r : Rect s}
    {w : r.shape.Idx → Elt F e} {Mk : Finset r.shape.Idx} {hx : (m.access r).Stores Mk} {hm : Mk = Finset.univ ∨ ∀ a, r.stride a = 1} :
    Keeps c R (Prog.lift (TpuEff.store m r w Mk hx hm)) := by
  unfold Keeps
  refine h.trans ?_
  iintro ⟨%f, H, K⟩
  iapply (wp_store (f := f) Variants.none (c : Thread nD τ) none Set.univ (hx := hx) (hm := hm) (k := fun x => Prog.ret x)
    (((m.access r).setOn_subset_set Mk).trans (m.view.set_slice_subset r))) $$ H
  iintro H
  rw [wp_ret]
  imodintro
  iapply K; iexact H

theorem Reads.slice {R : sProp 𝕄} {cs : CoreSpace} {s : Shape} {e : EltTy} {m : Memref sig .tc cs s e} (h : Reads c R m) (r : Rect s) (hr : ∀ a, r.stride a = 1)
    {r' : LoadRect r.shape} {hl : (m.slice r hr).view.LoadsAt r'} : Keeps c R (Prog.lift (TpuEff.load (m.slice r hr) r' hl)) := by
  obtain ⟨q, h⟩ := h
  unfold Keeps
  refine h.trans ?_
  iintro ⟨%f, H, K⟩
  iapply (wp_load (q := q) (f := f) (S := m.view.set) Variants.none (c : Thread nD τ) none Set.univ (m := m.slice r hr) (hl := hl) (k := fun x => Prog.ret x)
    (((m.slice r hr).view.setOn_subset_set r'.set).trans (m.view.set_slice_subset r))) $$ H
  iintro H
  rw [wp_ret]
  imodintro
  iapply K; iexact H

/-- A store to a slice of a memref that `R` lends for writing. -/
theorem Writes.slice {R : sProp 𝕄} {cs : CoreSpace} {s : Shape} {e : EltTy} {m : Memref sig .tc cs s e} (h : Writes c R m) (r₀ : Rect s) (hr : ∀ a, r₀.stride a = 1) {r : Rect r₀.shape}
    {w : r.shape.Idx → Elt F e} {Mk : Finset r.shape.Idx} {hx : ((m.slice r₀ hr).access r).Stores Mk} {hm : Mk = Finset.univ ∨ ∀ a, r.stride a = 1} :
    Keeps c R (Prog.lift (TpuEff.store (m.slice r₀ hr) r w Mk hx hm)) := by
  unfold Keeps
  refine h.trans ?_
  iintro ⟨%f, H, K⟩
  iapply (wp_store (f := f) (S := m.view.set) Variants.none (c : Thread nD τ) none Set.univ (m := m.slice r₀ hr) (hx := hx) (hm := hm) (k := fun x => Prog.ret x)
    ((((m.slice r₀ hr).access r).setOn_subset_set Mk).trans (((m.slice r₀ hr).view.set_slice_subset r).trans (m.view.set_slice_subset r₀)))) $$ H
  iintro H
  rw [wp_ret]
  imodintro
  iapply K; iexact H

/-- Returning a value keeps anything. -/
theorem Keeps.pure {R : sProp 𝕄} {α : Type} (a : α) : Keeps c R (Pure.pure a : Pr F α) := by
  unfold Keeps
  rw [wp_pure]
  iintro H
  imodintro
  iexact H

/-- One program after another. -/
theorem Keeps.bind {R : sProp 𝕄} {α β : Type} {p : Pr F α} {k : α → Pr F β} (hp : Keeps c R p) (hk : ∀ a, Keeps c R (k a)) : Keeps c R (p >>= k) := by
  unfold Keeps at hp hk ⊢
  rw [wp_bind]
  iintro H
  iapply (wp_wand_r frame (wpE (defs₀ (F := F)) Variants.none (c : Thread nD τ) none) Set.univ)
  isplitl [H]
  · iapply hp; iexact H
  · iintro %a H
    iapply (hk a); iexact H

/-- Either arm of a decided branch. -/
theorem Keeps.dite {R : sProp 𝕄} {α : Type} {P : Prop} [Decidable P] {p : P → Pr F α} {q : ¬ P → Pr F α} (hp : ∀ h, Keeps c R (p h)) (hq : ∀ h, Keeps c R (q h)) :
    Keeps c R (if h : P then p h else q h) := by
  split
  · exact hp _
  · exact hq _

theorem Keeps.ite {R : sProp 𝕄} {α : Type} {P : Prop} [Decidable P] {p q : Pr F α} (hp : Keeps c R p) (hq : Keeps c R q) :
    Keeps c R (if P then p else q) := by
  split
  · exact hp
  · exact hq

/-- A counted loop whose region keeps `R` at every trip. -/
theorem Keeps.for {R : sProp 𝕄} {σ : Type} {w : ℕ} (l : Scf.Loop w) (hok : l.OK) (init : σ) (body : Fin l.trips → σ → Pr F σ)
    (h : ∀ k s, Keeps c R (body k s)) : Keeps c R (Scf.Loop.for l hok init body) := by
  unfold Keeps at h ⊢
  iintro H
  iapply (Scf.wp_for frame (wpE (defs₀ (F := F)) Variants.none (c : Thread nD τ) none) Set.univ l.lb l.ub l.st hok init body (fun _ _ => R) (fun k s => h k s))
  isplitl [H]
  · iexact H
  · iintro %a H; iexact H

end Cert.Sample
-- ==== Proof.SampleAcc.lean ====
/- What a resource lends to the attention call of the decoded tokens. -/
module

public import proofs.«01_k».proof.Proof.Keeps

@[expose] public section

set_option maxRecDepth 65536

noncomputable section

namespace Cert.Sample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- `R` lends every input block of the call for reading, and its output block and scratch buffers for writing. -/
structure Acc (c : Dev nD) (R : sProp 𝕄) (arg2 : Memref sig .tc .vmem S64x1024 .bf16) (arg3 : Memref sig .tc .vmem S64x1024 .bf16) (arg4 : Memref sig .tc .vmem S64x128 .f32) (arg5 : Memref sig .tc .vmem S64x512 .bf16) (arg6 : Memref sig .tc .vmem S64x512 .bf16) (arg7 : Memref sig .tc .vmem S64x128 .bf16) (arg8 : Memref sig .tc .vmem S4096x128 .bf16) (arg9 : Memref sig .tc .vmem S4096x128 .f32) (arg10 : Memref sig .tc .vmem S4096x128 .f32) (arg11 : Memref sig .tc .vmem S64x1024 .bf16) (arg12 : Memref sig .tc .vmem S9x512x64 .f32) (arg13 : Memref sig .tc .vmem S32x144x64 .i32) (arg14 : Memref sig .tc .vmem S9x512x64 .f32) (arg15 : Memref sig .tc .vmem S1x64 .i32) (arg16 : Memref sig .tc .vmem S8x64 .f32) (arg17 : Memref sig .tc .vmem S4x1x128 .f32) (arg18 : Memref sig .tc .vmem S4x1x128 .f32) (arg19 : Memref sig .tc .vmem S4x128x128 .f32) : Prop where
  r2 : Reads c R arg2
  r3 : Reads c R arg3
  r4 : Reads c R arg4
  r5 : Reads c R arg5
  r6 : Reads c R arg6
  r7 : Reads c R arg7
  r8 : Reads c R arg8
  r9 : Reads c R arg9
  r10 : Reads c R arg10
  r11 : Reads c R arg11
  r12 : Reads c R arg12
  r13 : Reads c R arg13
  r14 : Reads c R arg14
  r15 : Reads c R arg15
  r16 : Reads c R arg16
  r17 : Reads c R arg17
  r18 : Reads c R arg18
  r19 : Reads c R arg19
  w11 : Writes c R arg11
  w12 : Writes c R arg12
  w13 : Writes c R arg13
  w14 : Writes c R arg14
  w15 : Writes c R arg15
  w16 : Writes c R arg16
  w17 : Writes c R arg17
  w18 : Writes c R arg18
  w19 : Writes c R arg19

end Cert.Sample
-- ==== Proof.SampleParts1.lean ====
/- Pieces of the attention call of the decoded tokens: each keeps every resource that lends its blocks and scratch
   buffers (group 1: the pieces that call no other). -/
module

public import proofs.«01_k».proof.Proof.SampleAcc

@[expose] public section

set_option maxRecDepth 65536

noncomputable section

namespace Cert.Sample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {i : grid0.Coords} {arg2 : Memref sig .tc .vmem S64x1024 .bf16} {harg2 : arg2.IsWhole} {arg3 : Memref sig .tc .vmem S64x1024 .bf16} {harg3 : arg3.IsWhole} {arg4 : Memref sig .tc .vmem S64x128 .f32} {harg4 : arg4.IsWhole} {arg5 : Memref sig .tc .vmem S64x512 .bf16} {harg5 : arg5.IsWhole} {arg6 : Memref sig .tc .vmem S64x512 .bf16} {harg6 : arg6.IsWhole} {arg7 : Memref sig .tc .vmem S64x128 .bf16} {harg7 : arg7.IsWhole} {arg8 : Memref sig .tc .vmem S4096x128 .bf16} {harg8 : arg8.IsWhole} {arg9 : Memref sig .tc .vmem S4096x128 .f32} {harg9 : arg9.IsWhole} {arg10 : Memref sig .tc .vmem S4096x128 .f32} {harg10 : arg10.IsWhole} {arg11 : Memref sig .tc .vmem S64x1024 .bf16} {harg11 : arg11.IsWhole} {arg12 : Memref sig .tc .vmem S9x512x64 .f32} {harg12 : arg12.IsWhole} {arg13 : Memref sig .tc .vmem S32x144x64 .i32} {harg13 : arg13.IsWhole} {arg14 : Memref sig .tc .vmem S9x512x64 .f32} {harg14 : arg14.IsWhole} {arg15 : Memref sig .tc .vmem S1x64 .i32} {harg15 : arg15.IsWhole} {arg16 : Memref sig .tc .vmem S8x64 .f32} {harg16 : arg16.IsWhole} {arg17 : Memref sig .tc .vmem S4x1x128 .f32} {harg17 : arg17.IsWhole} {arg18 : Memref sig .tc .vmem S4x1x128 .f32} {harg18 : arg18.IsWhole} {arg19 : Memref sig .tc .vmem S4x128x128 .f32} {harg19 : arg19.IsWhole}

theorem keeps_p137 {R : sProp 𝕄} (H : Acc c R arg2 arg3 arg4 arg5 arg6 arg7 arg8 arg9 arg10 arg11 arg12 arg13 arg14 arg15 arg16 arg17 arg18 arg19) {v0 : FVec F S448x128 .bf16} :
    Keeps c R (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0) := by
  rw [k0_part137_eq_skeleton]
  unfold k0_part137_skel
  repeat'
    with_reducible first
      | exact Keeps.pure _
      | exact H.r14.load
      | exact H.r17.load
      | exact H.r18.load
      | exact H.r2.load
      | exact H.r5.load
      | exact H.r6.load
      | exact H.w18.store
      | refine Keeps.bind ?_ fun _ => ?_

theorem keeps_p141 {R : sProp 𝕄} (H : Acc c R arg2 arg3 arg4 arg5 arg6 arg7 arg8 arg9 arg10 arg11 arg12 arg13 arg14 arg15 arg16 arg17 arg18 arg19) {v488 : FVec F S512x128 .bf16} {v494 : FVec F S512x128 .f32} {v496 : FVec F S1x128 .f32} :
    Keeps c R (k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v488 v494 v496) := by
  rw [k0_part141_eq_skeleton]
  unfold k0_part141_skel
  repeat'
    with_reducible first
      | exact Keeps.pure _
      | exact H.r17.load
      | exact H.r18.load
      | exact H.r19.load
      | exact H.w17.store
      | exact H.w18.store
      | exact H.w19.store
      | refine Keeps.bind ?_ fun _ => ?_

theorem keeps_p101 {R : sProp 𝕄} (H : Acc c R arg2 arg3 arg4 arg5 arg6 arg7 arg8 arg9 arg10 arg11 arg12 arg13 arg14 arg15 arg16 arg17 arg18 arg19) {v684 : IVec S8x64 32} {v711 : IVec S8x64 32} {v720 : IVec S8x64 32} {v726 : IVec S8x64 32} {v735 : IVec S8x64 32} {v744 : IVec S8x64 32} {v753 : IVec S8x64 32} {v762 : IVec S8x64 32} {v771 : IVec S8x64 32} {v780 : IVec S8x64 32} {v789 : IVec S8x64 32} {v851 : IVec S8x64 32} {v853 : IVec S8x64 32} :
    Keeps c R (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v684 v711 v720 v726 v735 v744 v753 v762 v771 v780 v789 v851 v853) := by
  rw [k0_part101_eq_skeleton]
  unfold k0_part101_skel
  exact Keeps.pure _

theorem keeps_p105 {R : sProp 𝕄} (H : Acc c R arg2 arg3 arg4 arg5 arg6 arg7 arg8 arg9 arg10 arg11 arg12 arg13 arg14 arg15 arg16 arg17 arg18 arg19) {v882 : IVec S8x64 32} {v891 : IVec S8x64 32} {v900 : IVec S8x64 32} {v906 : IVec S8x64 32} {v909 : IVec S8x64 32} {v915 : IVec S8x64 32} {v918 : IVec S8x64 32} {v924 : IVec S8x64 32} {v927 : IVec S8x64 32} {v933 : IVec S8x64 32} {v936 : IVec S8x64 32} {v1031 : IVec S8x64 32} {v1033 : IVec S8x64 32} :
    Keeps c R (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v882 v891 v900 v906 v909 v915 v918 v924 v927 v933 v936 v1031 v1033) := by
  rw [k0_part105_eq_skeleton]
  unfold k0_part105_skel
  exact Keeps.pure _

theorem keeps_p109 {R : sProp 𝕄} (H : Acc c R arg2 arg3 arg4 arg5 arg6 arg7 arg8 arg9 arg10 arg11 arg12 arg13 arg14 arg15 arg16 arg17 arg18 arg19) {v1071 : IVec S8x64 32} {v1077 : IVec S8x64 32} {v1080 : IVec S8x64 32} {v1086 : IVec S8x64 32} {v1089 : IVec S8x64 32} {v1095 : IVec S8x64 32} {v1098 : IVec S8x64 32} {v1104 : IVec S8x64 32} {v1107 : IVec S8x64 32} {v1211 : IVec S8x64 32} {v1213 : IVec S8x64 32} :
    Keeps c R (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1071 v1077 v1080 v1086 v1089 v1095 v1098 v1104 v1107 v1211 v1213) := by
  rw [k0_part109_eq_skeleton]
  unfold k0_part109_skel
  repeat'
    with_reducible first
      | exact Keeps.pure _
      | exact H.r13.load
      | exact H.w13.store
      | refine Keeps.bind ?_ fun _ => ?_

theorem keeps_p113 {R : sProp 𝕄} (H : Acc c R arg2 arg3 arg4 arg5 arg6 arg7 arg8 arg9 arg10 arg11 arg12 arg13 arg14 arg15 arg16 arg17 arg18 arg19) {v472 : IVec S512x64 32} :
    Keeps c R (k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v472) := by
  rw [k0_part113_eq_skeleton]
  unfold k0_part113_skel
  exact Keeps.pure _

theorem keeps_p117 {R : sProp 𝕄} (H : Acc c R arg2 arg3 arg4 arg5 arg6 arg7 arg8 arg9 arg10 arg11 arg12 arg13 arg14 arg15 arg16 arg17 arg18 arg19) {v1400 : IVec S8x64 32} {v1409 : IVec S8x64 32} {v1418 : IVec S8x64 32} {v1427 : IVec S8x64 32} {v1436 : IVec S8x64 32} {v1445 : IVec S8x64 32} {v1472 : IVec S8x64 32} {v1481 : IVec S8x64 32} {v1490 : IVec S8x64 32} {v1499 : IVec S8x64 32} {v1508 : IVec S8x64 32} {v1517 : IVec S8x64 32} {v1541 : IVec S8x64 32} :
    Keeps c R (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1400 v1409 v1418 v1427 v1436 v1445 v1472 v1481 v1490 v1499 v1508 v1517 v1541) := by
  rw [k0_part117_eq_skeleton]
  unfold k0_part117_skel
  exact Keeps.pure _

theorem keeps_p121 {R : sProp 𝕄} (H : Acc c R arg2 arg3 arg4 arg5 arg6 arg7 arg8 arg9 arg10 arg11 arg12 arg13 arg14 arg15 arg16 arg17 arg18 arg19) {v1547 : IVec S8x64 32} {v1556 : IVec S8x64 32} {v1565 : IVec S8x64 32} {v1583 : IVec S8x64 32} {v1592 : IVec S8x64 32} {v1601 : IVec S8x64 32} {v1607 : IVec S8x64 32} {v1616 : IVec S8x64 32} {v1625 : IVec S8x64 32} {v1643 : IVec S8x64 32} {v1652 : IVec S8x64 32} {v1661 : IVec S8x64 32} {v1721 : IVec S8x64 32} :
    Keeps c R (k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1556 v1565 v1583 v1592 v1601 v1607 v1616 v1625 v1643 v1652 v1661 v1721) := by
  rw [k0_part121_eq_skeleton]
  unfold k0_part121_skel
  exact Keeps.pure _

theorem keeps_p125 {R : sProp 𝕄} (H : Acc c R arg2 arg3 arg4 arg5 arg6 arg7 arg8 arg9 arg10 arg11 arg12 arg13 arg14 arg15 arg16 arg17 arg18 arg19) {v1754 : IVec S8x64 32} {v1760 : IVec S8x64 32} {v1763 : IVec S8x64 32} {v1772 : IVec S8x64 32} {v1778 : IVec S8x64 32} {v1781 : IVec S8x64 32} {v1787 : IVec S8x64 32} {v1790 : IVec S8x64 32} {v1796 : IVec S8x64 32} {v1805 : IVec S8x64 32} {v1808 : IVec S8x64 32} {v1814 : IVec S8x64 32} {v1901 : IVec S8x64 32} :
    Keeps c R (k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1754 v1760 v1763 v1772 v1778 v1781 v1787 v1790 v1796 v1805 v1808 v1814 v1901) := by
  rw [k0_part125_eq_skeleton]
  unfold k0_part125_skel
  exact Keeps.pure _

theorem keeps_p129 {R : sProp 𝕄} (H : Acc c R arg2 arg3 arg4 arg5 arg6 arg7 arg8 arg9 arg10 arg11 arg12 arg13 arg14 arg15 arg16 arg17 arg18 arg19) {v1934 : IVec S8x64 32} {v1943 : IVec S8x64 32} {v1949 : IVec S8x64 32} {v1952 : IVec S8x64 32} {v1958 : IVec S8x64 32} {v1961 : IVec S8x64 32} {v1967 : IVec S8x64 32} {v1970 : IVec S8x64 32} {v1976 : IVec S8x64 32} {v2081 : IVec S8x64 32} :
    Keeps c R (k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1934 v1943 v1949 v1952 v1958 v1961 v1967 v1970 v1976 v2081) := by
  rw [k0_part129_eq_skeleton]
  unfold k0_part129_skel
  repeat'
    with_reducible first
      | exact Keeps.pure _
      | exact H.r13.load
      | exact H.w13.store
      | refine Keeps.bind ?_ fun _ => ?_

theorem keeps_p44 {R : sProp 𝕄} (H : Acc c R arg2 arg3 arg4 arg5 arg6 arg7 arg8 arg9 arg10 arg11 arg12 arg13 arg14 arg15 arg16 arg17 arg18 arg19) {k0_h1 : k0_cond1 i = 1#1} {v2267 : FVec F S8x64 .f32} {c0_i32_894 : BitVec 32} {c1_i32_895 : BitVec 32} {k0_t3 : Fin k0_t3_loop.trips} {arg21 : FVec F S8x64 .f32} {arg22 : FVec F S8x64 .f32} {arg23 : FVec F S8x64 .f32} {arg24 : FVec F S8x64 .f32} :
    Keeps c R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2267 c0_i32_894 c1_i32_895 k0_t3 arg21 arg22 arg23 arg24) := by
  rw [k0_part44_eq_skeleton]
  unfold k0_part44_skel
  repeat'
    with_reducible first
      | exact Keeps.pure _
      | exact H.r12.load
      | refine Keeps.bind ?_ fun _ => ?_

theorem keeps_p48 {R : sProp 𝕄} (H : Acc c R arg2 arg3 arg4 arg5 arg6 arg7 arg8 arg9 arg10 arg11 arg12 arg13 arg14 arg15 arg16 arg17 arg18 arg19) {v2267 : FVec F S8x64 .f32} {v2342 : FVec F S512x64 .f32} {v2522 : FVec F S8x64 .f32} {v2527 : FVec F S8x64 .f32} {v2532 : FVec F S8x64 .f32} {v2537 : FVec F S8x64 .f32} :
    Keeps c R (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2267 v2342 v2522 v2527 v2532 v2537) := by
  rw [k0_part48_eq_skeleton]
  unfold k0_part48_skel
  exact Keeps.pure _

theorem keeps_p52 {R : sProp 𝕄} (H : Acc c R arg2 arg3 arg4 arg5 arg6 arg7 arg8 arg9 arg10 arg11 arg12 arg13 arg14 arg15 arg16 arg17 arg18 arg19) {v2280 : FVec F S8x64 .f32} {v2342 : FVec F S512x64 .f32} {v2422 : FVec F S8x64 .f32} {v2427 : FVec F S8x64 .f32} {v2432 : FVec F S8x64 .f32} {v2437 : FVec F S8x64 .f32} :
    Keeps c R (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2280 v2342 v2422 v2427 v2432 v2437) := by
  rw [k0_part52_eq_skeleton]
  unfold k0_part52_skel
  exact Keeps.pure _

theorem keeps_p56 {R : sProp 𝕄} (H : Acc c R arg2 arg3 arg4 arg5 arg6 arg7 arg8 arg9 arg10 arg11 arg12 arg13 arg14 arg15 arg16 arg17 arg18 arg19) {k0_h1 : k0_cond1 i = 1#1} {v2393 : FVec F S8x64 .f32} {c0_i32_980 : BitVec 32} {c1_i32_982 : BitVec 32} {k0_t6 : Fin k0_t6_loop.trips} {arg23 : FVec F S8x64 .f32} {arg24 : FVec F S8x64 .f32} {arg25 : FVec F S8x64 .f32} {arg26 : FVec F S8x64 .f32} :
    Keeps c R (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2393 c0_i32_980 c1_i32_982 k0_t6 arg23 arg24 arg25 arg26) := by
  rw [k0_part56_eq_skeleton]
  unfold k0_part56_skel
  repeat'
    with_reducible first
      | exact Keeps.pure _
      | exact H.r12.load
      | refine Keeps.bind ?_ fun _ => ?_

theorem keeps_p60 {R : sProp 𝕄} (H : Acc c R arg2 arg3 arg4 arg5 arg6 arg7 arg8 arg9 arg10 arg11 arg12 arg13 arg14 arg15 arg16 arg17 arg18 arg19) {v2393 : FVec F S8x64 .f32} {v2406 : FVec F S512x64 .f32} {v2586 : FVec F S8x64 .f32} {v2591 : FVec F S8x64 .f32} {v2596 : FVec F S8x64 .f32} {v2601 : FVec F S8x64 .f32} :
    Keeps c R (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2393 v2406 v2586 v2591 v2596 v2601) := by
  rw [k0_part60_eq_skeleton]
  unfold k0_part60_skel
  exact Keeps.pure _

theorem keeps_p64 {R : sProp 𝕄} (H : Acc c R arg2 arg3 arg4 arg5 arg6 arg7 arg8 arg9 arg10 arg11 arg12 arg13 arg14 arg15 arg16 arg17 arg18 arg19) {v2355 : FVec F S8x64 .f32} {v2382 : FVec F S512x64 .f32} {v2462 : FVec F S8x64 .f32} {v2467 : FVec F S8x64 .f32} {v2472 : FVec F S8x64 .f32} {v2477 : FVec F S8x64 .f32} :
    Keeps c R (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2355 v2382 v2462 v2467 v2472 v2477) := by
  rw [k0_part64_eq_skeleton]
  unfold k0_part64_skel
  exact Keeps.pure _

theorem keeps_p68 {R : sProp 𝕄} (H : Acc c R arg2 arg3 arg4 arg5 arg6 arg7 arg8 arg9 arg10 arg11 arg12 arg13 arg14 arg15 arg16 arg17 arg18 arg19) {k0_h1 : k0_cond1 i = 1#1} {v2368 : FVec F S8x64 .f32} {c0_i32_968 : BitVec 32} {c1_i32_970 : BitVec 32} {k0_t8 : Fin k0_t8_loop.trips} {arg21 : FVec F S8x64 .f32} {arg22 : FVec F S8x64 .f32} {arg23 : FVec F S8x64 .f32} {arg24 : FVec F S8x64 .f32} :
    Keeps c R (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2368 c0_i32_968 c1_i32_970 k0_t8 arg21 arg22 arg23 arg24) := by
  rw [k0_part68_eq_skeleton]
  unfold k0_part68_skel
  repeat'
    with_reducible first
      | exact Keeps.pure _
      | exact H.r12.load
      | refine Keeps.bind ?_ fun _ => ?_

theorem keeps_p72 {R : sProp 𝕄} (H : Acc c R arg2 arg3 arg4 arg5 arg6 arg7 arg8 arg9 arg10 arg11 arg12 arg13 arg14 arg15 arg16 arg17 arg18 arg19) {v2368 : FVec F S8x64 .f32} {v2382 : FVec F S512x64 .f32} {v2562 : FVec F S8x64 .f32} {v2567 : FVec F S8x64 .f32} {v2572 : FVec F S8x64 .f32} {v2577 : FVec F S8x64 .f32} :
    Keeps c R (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2368 v2382 v2562 v2567 v2572 v2577) := by
  rw [k0_part72_eq_skeleton]
  unfold k0_part72_skel
  exact Keeps.pure _

theorem keeps_p77 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2421 : FVec F S8x64 .f32} {v2432 : FVec F S8x64 .f32} {v2443 : FVec F S8x64 .f32} {v2454 : FVec F S8x64 .f32} {v2456 : IVec S8x64 1} :
    Keeps c R (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2421 v2432 v2443 v2454 v2456) := by
  rw [k0_part77_eq_skeleton]
  unfold k0_part77_skel
  exact Keeps.pure _

theorem keeps_p81 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2608 : FVec F S8x64 .f32} {v2619 : FVec F S8x64 .f32} {v2630 : FVec F S8x64 .f32} {v2641 : FVec F S8x64 .f32} {v2643 : IVec S8x64 1} {v2644 : BitVec 32} :
    Keeps c R (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2608 v2619 v2630 v2641 v2643 v2644) := by
  rw [k0_part81_eq_skeleton]
  unfold k0_part81_skel
  exact Keeps.pure _

theorem keeps_p85 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2795 : FVec F S8x64 .f32} {v2806 : FVec F S8x64 .f32} {v2817 : FVec F S8x64 .f32} {v2828 : FVec F S8x64 .f32} {v2830 : IVec S8x64 1} {v2832 : BitVec 32} :
    Keeps c R (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2795 v2806 v2817 v2828 v2830 v2832) := by
  rw [k0_part85_eq_skeleton]
  unfold k0_part85_skel
  exact Keeps.pure _

theorem keeps_p89 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2982 : FVec F S8x64 .f32} {v2993 : FVec F S8x64 .f32} {v3004 : FVec F S8x64 .f32} {v3015 : FVec F S8x64 .f32} {v3017 : IVec S8x64 1} {v3021 : IVec S8x64 32} :
    Keeps c R (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2982 v2993 v3004 v3015 v3017 v3021) := by
  rw [k0_part89_eq_skeleton]
  unfold k0_part89_skel
  exact Keeps.pure _

theorem keeps_p12 {R : sProp 𝕄} (H : Acc c R arg2 arg3 arg4 arg5 arg6 arg7 arg8 arg9 arg10 arg11 arg12 arg13 arg14 arg15 arg16 arg17 arg18 arg19) {v2680 : IVec S8x64 32} {v2689 : IVec S8x64 32} {v2695 : IVec S8x64 32} {v2698 : IVec S8x64 32} {v2704 : IVec S8x64 32} {v2716 : IVec S8x64 32} {v2722 : IVec S8x64 32} {v2725 : IVec S8x64 32} {v2731 : IVec S8x64 32} {v2734 : IVec S8x64 32} {v2740 : IVec S8x64 32} {v2829 : IVec S8x64 32} :
    Keeps c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2680 v2689 v2695 v2698 v2704 v2716 v2722 v2725 v2731 v2734 v2740 v2829) := by
  rw [k0_part12_eq_skeleton]
  unfold k0_part12_skel
  exact Keeps.pure _

theorem keeps_p16 {R : sProp 𝕄} (H : Acc c R arg2 arg3 arg4 arg5 arg6 arg7 arg8 arg9 arg10 arg11 arg12 arg13 arg14 arg15 arg16 arg17 arg18 arg19) {v2860 : IVec S8x64 32} {v2869 : IVec S8x64 32} {v2878 : IVec S8x64 32} {v2884 : IVec S8x64 32} {v2887 : IVec S8x64 32} {v2893 : IVec S8x64 32} {v2896 : IVec S8x64 32} {v2902 : IVec S8x64 32} {v2905 : IVec S8x64 32} {v2911 : IVec S8x64 32} {v2920 : IVec S8x64 32} {v3009 : IVec S8x64 32} :
    Keeps c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2860 v2869 v2878 v2884 v2887 v2893 v2896 v2902 v2905 v2911 v2920 v3009) := by
  rw [k0_part16_eq_skeleton]
  unfold k0_part16_skel
  exact Keeps.pure _

theorem keeps_p2 {R : sProp 𝕄} (H : Acc c R arg2 arg3 arg4 arg5 arg6 arg7 arg8 arg9 arg10 arg11 arg12 arg13 arg14 arg15 arg16 arg17 arg18 arg19) {k0_h1 : k0_cond1 i = 1#1} {v373 : FVec F S8x64 .f32} {k0_t1 : Fin k0_t1_loop.trips} {arg20 : BitVec 32} {v2343 : Vec F S512x128 .bf16} {v2374 : FVec F S512x64 .f32} {v2376 : FVec F S512x64 .f32} {cst_969 : F .f32} :
    Keeps c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v373 k0_t1 arg20 v2343 v2374 v2376 cst_969) := by
  rw [k0_part2_eq_skeleton]
  unfold k0_part2_skel
  repeat'
    with_reducible first
      | exact Keeps.pure _
      | exact H.r12.load
      | exact H.r3.load
      | exact H.w12.store
      | refine Keeps.bind ?_ fun _ => ?_

theorem keeps_p23 {R : sProp 𝕄} (H : Acc c R arg2 arg3 arg4 arg5 arg6 arg7 arg8 arg9 arg10 arg11 arg12 arg13 arg14 arg15 arg16 arg17 arg18 arg19) {k0_h1 : k0_cond1 i = 1#1} {k0_t1 : Fin k0_t1_loop.trips} {v2423 : IVec S512x64 32} {v3163 : IVec S8x64 32} {v3166 : IVec S8x64 32} {v3172 : IVec S8x64 32} {v3175 : IVec S8x64 32} {v3178 : BitVec 32} {v3290 : IVec S1x8x64 32} :
    Keeps c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k0_t1 v2423 v3163 v3166 v3172 v3175 v3178 v3290) := by
  rw [k0_part23_eq_skeleton]
  unfold k0_part23_skel
  repeat'
    with_reducible first
      | exact Keeps.pure _
      | exact H.r13.load
      | exact H.w13.store
      | refine Keeps.bind ?_ fun _ => ?_

theorem keeps_p27 {R : sProp 𝕄} (H : Acc c R arg2 arg3 arg4 arg5 arg6 arg7 arg8 arg9 arg10 arg11 arg12 arg13 arg14 arg15 arg16 arg17 arg18 arg19) {v3322 : IVec S8x64 32} {v3337 : IVec S8x64 32} {v3338 : IVec S8x64 32} {v3344 : IVec S8x64 32} {v3353 : IVec S8x64 32} {v3362 : IVec S8x64 32} {v3371 : IVec S8x64 32} {v3416 : IVec S8x64 32} {v3425 : IVec S8x64 32} {v3434 : IVec S8x64 32} {v3443 : IVec S8x64 32} {v3472 : IVec S8x64 32} :
    Keeps c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3322 v3337 v3338 v3344 v3353 v3362 v3371 v3416 v3425 v3434 v3443 v3472) := by
  rw [k0_part27_eq_skeleton]
  unfold k0_part27_skel
  exact Keeps.pure _

theorem keeps_p30 {R : sProp 𝕄} (H : Acc c R arg2 arg3 arg4 arg5 arg6 arg7 arg8 arg9 arg10 arg11 arg12 arg13 arg14 arg15 arg16 arg17 arg18 arg19) {v3401 : IVec S8x64 32} {v3410 : IVec S8x64 32} {v3464 : IVec S8x64 32} {v3473 : IVec S8x64 32} {v3482 : IVec S8x64 32} {v3488 : IVec S8x64 32} {v3497 : IVec S8x64 32} {v3506 : IVec S8x64 32} {v3524 : IVec S8x64 32} {v3533 : IVec S8x64 32} {v3542 : IVec S8x64 32} {v3607 : IVec S8x64 32} :
    Keeps c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3401 v3410 v3464 v3473 v3482 v3488 v3497 v3506 v3524 v3533 v3542 v3607) := by
  rw [k0_part30_eq_skeleton]
  unfold k0_part30_skel
  exact Keeps.pure _

theorem keeps_p34 {R : sProp 𝕄} (H : Acc c R arg2 arg3 arg4 arg5 arg6 arg7 arg8 arg9 arg10 arg11 arg12 arg13 arg14 arg15 arg16 arg17 arg18 arg19) {v3635 : IVec S8x64 32} {v3644 : IVec S8x64 32} {v3653 : IVec S8x64 32} {v3659 : IVec S8x64 32} {v3662 : IVec S8x64 32} {v3668 : IVec S8x64 32} {v3671 : IVec S8x64 32} {v3677 : IVec S8x64 32} {v3686 : IVec S8x64 32} {v3689 : IVec S8x64 32} {v3695 : IVec S8x64 32} {v3787 : IVec S8x64 32} :
    Keeps c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3635 v3644 v3653 v3659 v3662 v3668 v3671 v3677 v3686 v3689 v3695 v3787) := by
  rw [k0_part34_eq_skeleton]
  unfold k0_part34_skel
  exact Keeps.pure _

theorem keeps_p38 {R : sProp 𝕄} (H : Acc c R arg2 arg3 arg4 arg5 arg6 arg7 arg8 arg9 arg10 arg11 arg12 arg13 arg14 arg15 arg16 arg17 arg18 arg19) {v3824 : IVec S8x64 32} {v3830 : IVec S8x64 32} {v3833 : IVec S8x64 32} {v3839 : IVec S8x64 32} {v3842 : IVec S8x64 32} {v3848 : IVec S8x64 32} {v3851 : IVec S8x64 32} {v3857 : IVec S8x64 32} {v3860 : IVec S8x64 32} {v3866 : IVec S8x64 32} {v3875 : IVec S8x64 32} {v3967 : IVec S8x64 32} :
    Keeps c R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3824 v3830 v3833 v3839 v3842 v3848 v3851 v3857 v3860 v3866 v3875 v3967) := by
  rw [k0_part38_eq_skeleton]
  unfold k0_part38_skel
  exact Keeps.pure _

theorem keeps_p41 {R : sProp 𝕄} (H : Acc c R arg2 arg3 arg4 arg5 arg6 arg7 arg8 arg9 arg10 arg11 arg12 arg13 arg14 arg15 arg16 arg17 arg18 arg19) {k0_h1 : k0_cond1 i = 1#1} {k0_t1 : Fin k0_t1_loop.trips} {v3950 : IVec S8x64 32} {v3956 : IVec S8x64 32} {v3959 : IVec S8x64 32} {v3965 : IVec S8x64 32} {v3968 : IVec S8x64 32} {v3974 : IVec S8x64 32} {v3977 : IVec S8x64 32} {v3983 : IVec S8x64 32} {v3986 : IVec S8x64 32} {v4061 : BitVec 32} :
    Keeps c R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k0_t1 v3950 v3956 v3959 v3965 v3968 v3974 v3977 v3983 v3986 v4061) := by
  rw [k0_part41_eq_skeleton]
  unfold k0_part41_skel
  repeat'
    with_reducible first
      | exact Keeps.pure _
      | exact H.r13.load
      | exact H.w13.store
      | refine Keeps.bind ?_ fun _ => ?_

theorem keeps_p7 {R : sProp 𝕄} (H : Acc c R arg2 arg3 arg4 arg5 arg6 arg7 arg8 arg9 arg10 arg11 arg12 arg13 arg14 arg15 arg16 arg17 arg18 arg19) {v2470 : IVec S8x64 32} {v2479 : IVec S8x64 32} {v2488 : IVec S8x64 32} {v2497 : IVec S8x64 32} {v2506 : IVec S8x64 32} {v2533 : IVec S8x64 32} {v2542 : IVec S8x64 32} {v2551 : IVec S8x64 32} {v2560 : IVec S8x64 32} {v2569 : IVec S8x64 32} {v2578 : IVec S8x64 32} {v2604 : IVec S8x64 32} :
    Keeps c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2470 v2479 v2488 v2497 v2506 v2533 v2542 v2551 v2560 v2569 v2578 v2604) := by
  rw [k0_part7_eq_skeleton]
  unfold k0_part7_skel
  exact Keeps.pure _

theorem keeps_p92 {R : sProp 𝕄} (H : Acc c R arg2 arg3 arg4 arg5 arg6 arg7 arg8 arg9 arg10 arg11 arg12 arg13 arg14 arg15 arg16 arg17 arg18 arg19) {v373 : FVec F S8x64 .f32} {v376 : FVec F S512x128 .bf16} {v392 : IVec S512x64 1} {v439 : FVec F S512x64 .f32} {v443 : FVec F S512x64 .f32} {v444 : FVec F S1x64 .f32} :
    Keeps c R (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v373 v376 v392 v439 v443 v444) := by
  rw [k0_part92_eq_skeleton]
  unfold k0_part92_skel
  repeat'
    with_reducible first
      | exact Keeps.pure _
      | exact H.r12.load
      | exact H.r3.load
      | exact H.w12.store
      | refine Keeps.bind ?_ fun _ => ?_

theorem keeps_p96 {R : sProp 𝕄} (H : Acc c R arg2 arg3 arg4 arg5 arg6 arg7 arg8 arg9 arg10 arg11 arg12 arg13 arg14 arg15 arg16 arg17 arg18 arg19) {v487 : IVec S8x64 32} {v488 : IVec S8x64 32} {v502 : IVec S8x64 32} {v503 : IVec S8x64 32} {v504 : IVec S8x64 32} {v510 : IVec S8x64 32} {v519 : IVec S8x64 32} {v528 : IVec S8x64 32} {v582 : IVec S8x64 32} {v591 : IVec S8x64 32} {v600 : IVec S8x64 32} {v626 : IVec S8x64 32} {v628 : IVec S8x64 32} :
    Keeps c R (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v487 v488 v502 v503 v504 v510 v519 v528 v582 v591 v600 v626 v628) := by
  rw [k0_part96_eq_skeleton]
  unfold k0_part96_skel
  exact Keeps.pure _

theorem keeps_p145 {R : sProp 𝕄} (H : Acc c R arg2 arg3 arg4 arg5 arg6 arg7 arg8 arg9 arg10 arg11 arg12 arg13 arg14 arg15 arg16 arg17 arg18 arg19) {v8 : FVec F S512x64 .f32} {v29 : FVec F S512x128 .f32} :
    Keeps c R (k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8 v29) := by
  rw [k0_part145_eq_skeleton]
  unfold k0_part145_skel
  repeat'
    with_reducible first
      | exact Keeps.pure _
      | exact H.r10.load
      | exact H.r17.load
      | exact H.r2.load
      | exact H.r9.load
      | refine Keeps.bind ?_ fun _ => ?_

theorem keeps_p149 {R : sProp 𝕄} (H : Acc c R arg2 arg3 arg4 arg5 arg6 arg7 arg8 arg9 arg10 arg11 arg12 arg13 arg14 arg15 arg16 arg17 arg18 arg19) {arg1 : BitVec 32} {v60 : FVec F S1x128 .f32} {v155 : FVec F S512x128 .bf16} {v159 : FVec F S1x128 .f32} {v162 : FVec F S512x128 .f32} :
    Keeps c R (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v60 v155 v159 v162) := by
  rw [k0_part149_eq_skeleton]
  unfold k0_part149_skel
  repeat'
    with_reducible first
      | exact Keeps.pure _
      | exact H.r14.load
      | exact H.r17.load
      | exact H.r18.load
      | exact H.r19.load
      | exact H.r2.load
      | exact H.r9.load
      | exact H.w17.store
      | exact H.w18.store
      | exact H.w19.store
      | refine Keeps.bind ?_ fun _ => ?_

theorem keeps_p153 {R : sProp 𝕄} (H : Acc c R arg2 arg3 arg4 arg5 arg6 arg7 arg8 arg9 arg10 arg11 arg12 arg13 arg14 arg15 arg16 arg17 arg18 arg19) {v215 : FVec F S1x128 .f32} {v223 : FVec F S512x128 .f32} {v228 : FVec F S1x128 .f32} {v274 : FVec F S512x128 .bf16} {v294 : FVec F S128x128 .f32} {v295 : FVec F S512x128 .bf16} {cst_205 : FVec F S128x128 .f32} :
    Keeps c R (k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v215 v223 v228 v274 v294 v295 cst_205) := by
  rw [k0_part153_eq_skeleton]
  unfold k0_part153_skel
  repeat'
    with_reducible first
      | exact Keeps.pure _
      | exact H.r10.load
      | exact H.r17.load
      | exact H.r18.load
      | exact H.r19.load
      | exact H.w17.store
      | exact H.w18.store
      | exact H.w19.store
      | refine Keeps.bind ?_ fun _ => ?_

end Cert.Sample
-- ==== Proof.SampleParts2.lean ====
/- Pieces of the attention call of the decoded tokens: each keeps every resource that lends its blocks and scratch
   buffers (group 2: the pieces that call no other). -/
module

public import proofs.«01_k».proof.Proof.SampleAcc

@[expose] public section

set_option maxRecDepth 65536

noncomputable section

namespace Cert.Sample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {i : grid0.Coords} {arg2 : Memref sig .tc .vmem S64x1024 .bf16} {harg2 : arg2.IsWhole} {arg3 : Memref sig .tc .vmem S64x1024 .bf16} {harg3 : arg3.IsWhole} {arg4 : Memref sig .tc .vmem S64x128 .f32} {harg4 : arg4.IsWhole} {arg5 : Memref sig .tc .vmem S64x512 .bf16} {harg5 : arg5.IsWhole} {arg6 : Memref sig .tc .vmem S64x512 .bf16} {harg6 : arg6.IsWhole} {arg7 : Memref sig .tc .vmem S64x128 .bf16} {harg7 : arg7.IsWhole} {arg8 : Memref sig .tc .vmem S4096x128 .bf16} {harg8 : arg8.IsWhole} {arg9 : Memref sig .tc .vmem S4096x128 .f32} {harg9 : arg9.IsWhole} {arg10 : Memref sig .tc .vmem S4096x128 .f32} {harg10 : arg10.IsWhole} {arg11 : Memref sig .tc .vmem S64x1024 .bf16} {harg11 : arg11.IsWhole} {arg12 : Memref sig .tc .vmem S9x512x64 .f32} {harg12 : arg12.IsWhole} {arg13 : Memref sig .tc .vmem S32x144x64 .i32} {harg13 : arg13.IsWhole} {arg14 : Memref sig .tc .vmem S9x512x64 .f32} {harg14 : arg14.IsWhole} {arg15 : Memref sig .tc .vmem S1x64 .i32} {harg15 : arg15.IsWhole} {arg16 : Memref sig .tc .vmem S8x64 .f32} {harg16 : arg16.IsWhole} {arg17 : Memref sig .tc .vmem S4x1x128 .f32} {harg17 : arg17.IsWhole} {arg18 : Memref sig .tc .vmem S4x1x128 .f32} {harg18 : arg18.IsWhole} {arg19 : Memref sig .tc .vmem S4x128x128 .f32} {harg19 : arg19.IsWhole}

theorem keeps_p138 {R : sProp 𝕄} (H : Acc c R arg2 arg3 arg4 arg5 arg6 arg7 arg8 arg9 arg10 arg11 arg12 arg13 arg14 arg15 arg16 arg17 arg18 arg19) {v0 : FVec F S448x128 .bf16} {v374 : FVec F S512x128 .bf16} {v385 : FVec F S1x128 .f32} {v389 : FVec F S1x128 .f32} {v392 : FVec F S512x128 .f32} :
    Keeps c R (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v374 v385 v389 v392) := by
  rw [k0_part138_eq_skeleton]
  unfold k0_part138_skel
  repeat'
    with_reducible first
      | exact Keeps.pure _
      | exact H.r11.load
      | exact H.r17.load
      | exact H.r18.load
      | exact H.r19.load
      | exact H.r5.load
      | exact H.r6.load
      | exact H.w11.store
      | exact H.w17.store
      | exact H.w19.store
      | refine Keeps.bind ?_ fun _ => ?_

theorem keeps_p142 {R : sProp 𝕄} (H : Acc c R arg2 arg3 arg4 arg5 arg6 arg7 arg8 arg9 arg10 arg11 arg12 arg13 arg14 arg15 arg16 arg17 arg18 arg19) {v0 : FVec F S448x128 .bf16} {v370 : FVec F S512x64 .f32} {v530 : FVec F S128x128 .f32} :
    Keeps c R (k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v370 v530) := by
  rw [k0_part142_eq_skeleton]
  unfold k0_part142_skel
  repeat'
    with_reducible first
      | exact Keeps.pure _
      | exact H.r11.load
      | exact H.r17.load
      | exact H.r18.load
      | exact H.r2.load
      | exact H.r5.load
      | exact H.r6.load
      | exact H.w11.store
      | refine Keeps.bind ?_ fun _ => ?_

theorem keeps_p102 {R : sProp 𝕄} (H : Acc c R arg2 arg3 arg4 arg5 arg6 arg7 arg8 arg9 arg10 arg11 arg12 arg13 arg14 arg15 arg16 arg17 arg18 arg19) {v729 : IVec S8x64 32} {v738 : IVec S8x64 32} {v747 : IVec S8x64 32} {v756 : IVec S8x64 32} {v765 : IVec S8x64 32} {v774 : IVec S8x64 32} {v783 : IVec S8x64 32} {v789 : IVec S8x64 32} {v792 : IVec S8x64 32} {v798 : IVec S8x64 32} {v816 : IVec S8x64 32} {v896 : IVec S8x64 32} {v898 : IVec S8x64 32} :
    Keeps c R (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v729 v738 v747 v756 v765 v774 v783 v789 v792 v798 v816 v896 v898) := by
  rw [k0_part102_eq_skeleton]
  unfold k0_part102_skel
  exact Keeps.pure _

theorem keeps_p106 {R : sProp 𝕄} (H : Acc c R arg2 arg3 arg4 arg5 arg6 arg7 arg8 arg9 arg10 arg11 arg12 arg13 arg14 arg15 arg16 arg17 arg18 arg19) {v936 : IVec S8x64 32} {v942 : IVec S8x64 32} {v945 : IVec S8x64 32} {v951 : IVec S8x64 32} {v954 : IVec S8x64 32} {v960 : IVec S8x64 32} {v963 : IVec S8x64 32} {v969 : IVec S8x64 32} {v972 : IVec S8x64 32} {v978 : IVec S8x64 32} {v987 : IVec S8x64 32} {v1076 : IVec S8x64 32} {v1078 : IVec S8x64 32} :
    Keeps c R (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v936 v942 v945 v951 v954 v960 v963 v969 v972 v978 v987 v1076 v1078) := by
  rw [k0_part106_eq_skeleton]
  unfold k0_part106_skel
  exact Keeps.pure _

theorem keeps_p110 {R : sProp 𝕄} (H : Acc c R arg2 arg3 arg4 arg5 arg6 arg7 arg8 arg9 arg10 arg11 arg12 arg13 arg14 arg15 arg16 arg17 arg18 arg19) {v1113 : IVec S8x64 32} {v1116 : IVec S8x64 32} {v1122 : IVec S8x64 32} {v1125 : IVec S8x64 32} {v1131 : IVec S8x64 32} {v1134 : IVec S8x64 32} {v1140 : IVec S8x64 32} {v1143 : IVec S8x64 32} {v1149 : IVec S8x64 32} {v1225 : BitVec 32} :
    Keeps c R (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1113 v1116 v1122 v1125 v1131 v1134 v1140 v1143 v1149 v1225) := by
  rw [k0_part110_eq_skeleton]
  unfold k0_part110_skel
  repeat'
    with_reducible first
      | exact Keeps.pure _
      | exact H.r13.load
      | exact H.w13.store
      | refine Keeps.bind ?_ fun _ => ?_

theorem keeps_p114 {R : sProp 𝕄} (H : Acc c R arg2 arg3 arg4 arg5 arg6 arg7 arg8 arg9 arg10 arg11 arg12 arg13 arg14 arg15 arg16 arg17 arg18 arg19) {v1356 : IVec S8x64 32} {v1357 : IVec S8x64 32} {v1358 : IVec S8x64 32} {v1359 : IVec S8x64 32} {v1360 : IVec S8x64 32} {v1361 : IVec S8x64 32} {v1372 : IVec S8x64 32} {v1373 : IVec S8x64 32} {v1374 : IVec S8x64 32} {v1375 : IVec S8x64 32} {v1376 : IVec S8x64 32} {v1377 : IVec S8x64 32} {v1406 : IVec S8x64 32} :
    Keeps c R (k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1356 v1357 v1358 v1359 v1360 v1361 v1372 v1373 v1374 v1375 v1376 v1377 v1406) := by
  rw [k0_part114_eq_skeleton]
  unfold k0_part114_skel
  exact Keeps.pure _

theorem keeps_p118 {R : sProp 𝕄} (H : Acc c R arg2 arg3 arg4 arg5 arg6 arg7 arg8 arg9 arg10 arg11 arg12 arg13 arg14 arg15 arg16 arg17 arg18 arg19) {v1394 : IVec S8x64 32} {v1403 : IVec S8x64 32} {v1412 : IVec S8x64 32} {v1421 : IVec S8x64 32} {v1445 : IVec S8x64 32} {v1454 : IVec S8x64 32} {v1466 : IVec S8x64 32} {v1475 : IVec S8x64 32} {v1484 : IVec S8x64 32} {v1493 : IVec S8x64 32} {v1517 : IVec S8x64 32} {v1526 : IVec S8x64 32} {v1586 : IVec S8x64 32} :
    Keeps c R (k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1394 v1403 v1412 v1421 v1445 v1454 v1466 v1475 v1484 v1493 v1517 v1526 v1586) := by
  rw [k0_part118_eq_skeleton]
  unfold k0_part118_skel
  exact Keeps.pure _

theorem keeps_p122 {R : sProp 𝕄} (H : Acc c R arg2 arg3 arg4 arg5 arg6 arg7 arg8 arg9 arg10 arg11 arg12 arg13 arg14 arg15 arg16 arg17 arg18 arg19) {v1610 : IVec S8x64 32} {v1619 : IVec S8x64 32} {v1625 : IVec S8x64 32} {v1628 : IVec S8x64 32} {v1634 : IVec S8x64 32} {v1637 : IVec S8x64 32} {v1646 : IVec S8x64 32} {v1655 : IVec S8x64 32} {v1661 : IVec S8x64 32} {v1664 : IVec S8x64 32} {v1670 : IVec S8x64 32} {v1673 : IVec S8x64 32} {v1766 : IVec S8x64 32} :
    Keeps c R (k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1610 v1619 v1625 v1628 v1634 v1637 v1646 v1655 v1661 v1664 v1670 v1673 v1766) := by
  rw [k0_part122_eq_skeleton]
  unfold k0_part122_skel
  exact Keeps.pure _

theorem keeps_p126 {R : sProp 𝕄} (H : Acc c R arg2 arg3 arg4 arg5 arg6 arg7 arg8 arg9 arg10 arg11 arg12 arg13 arg14 arg15 arg16 arg17 arg18 arg19) {v1790 : IVec S8x64 32} {v1799 : IVec S8x64 32} {v1808 : IVec S8x64 32} {v1817 : IVec S8x64 32} {v1823 : IVec S8x64 32} {v1826 : IVec S8x64 32} {v1832 : IVec S8x64 32} {v1835 : IVec S8x64 32} {v1841 : IVec S8x64 32} {v1844 : IVec S8x64 32} {v1850 : IVec S8x64 32} {v1853 : IVec S8x64 32} {v1946 : IVec S8x64 32} :
    Keeps c R (k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1790 v1799 v1808 v1817 v1823 v1826 v1832 v1835 v1841 v1844 v1850 v1853 v1946) := by
  rw [k0_part126_eq_skeleton]
  unfold k0_part126_skel
  exact Keeps.pure _

theorem keeps_p130 {R : sProp 𝕄} (H : Acc c R arg2 arg3 arg4 arg5 arg6 arg7 arg8 arg9 arg10 arg11 arg12 arg13 arg14 arg15 arg16 arg17 arg18 arg19) {v1979 : IVec S8x64 32} {v1985 : IVec S8x64 32} {v1988 : IVec S8x64 32} {v1994 : IVec S8x64 32} {v1997 : IVec S8x64 32} {v2003 : IVec S8x64 32} {v2006 : IVec S8x64 32} {v2012 : IVec S8x64 32} {v2015 : IVec S8x64 32} {v2106 : BitVec 32} :
    Keeps c R (k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1979 v1985 v1988 v1994 v1997 v2003 v2006 v2012 v2015 v2106) := by
  rw [k0_part130_eq_skeleton]
  unfold k0_part130_skel
  repeat'
    with_reducible first
      | exact Keeps.pure _
      | exact H.r13.load
      | exact H.w13.store
      | refine Keeps.bind ?_ fun _ => ?_

theorem keeps_p45 {R : sProp 𝕄} (H : Acc c R arg2 arg3 arg4 arg5 arg6 arg7 arg8 arg9 arg10 arg11 arg12 arg13 arg14 arg15 arg16 arg17 arg18 arg19) {v2267 : FVec F S8x64 .f32} {v2342 : FVec F S512x64 .f32} {v2372 : FVec F S8x64 .f32} {v2377 : FVec F S8x64 .f32} {v2382 : FVec F S8x64 .f32} {v2387 : FVec F S8x64 .f32} :
    Keeps c R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2267 v2342 v2372 v2377 v2382 v2387) := by
  rw [k0_part45_eq_skeleton]
  unfold k0_part45_skel
  exact Keeps.pure _

theorem keeps_p49 {R : sProp 𝕄} (H : Acc c R arg2 arg3 arg4 arg5 arg6 arg7 arg8 arg9 arg10 arg11 arg12 arg13 arg14 arg15 arg16 arg17 arg18 arg19) {v2267 : FVec F S8x64 .f32} {v2342 : FVec F S512x64 .f32} {v2572 : FVec F S8x64 .f32} {v2577 : FVec F S8x64 .f32} {v2582 : FVec F S8x64 .f32} {v2587 : FVec F S8x64 .f32} :
    Keeps c R (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2267 v2342 v2572 v2577 v2582 v2587) := by
  rw [k0_part49_eq_skeleton]
  unfold k0_part49_skel
  exact Keeps.pure _

theorem keeps_p53 {R : sProp 𝕄} (H : Acc c R arg2 arg3 arg4 arg5 arg6 arg7 arg8 arg9 arg10 arg11 arg12 arg13 arg14 arg15 arg16 arg17 arg18 arg19) {v2280 : FVec F S8x64 .f32} {v2342 : FVec F S512x64 .f32} {v2472 : FVec F S8x64 .f32} {v2477 : FVec F S8x64 .f32} {v2482 : FVec F S8x64 .f32} {v2487 : FVec F S8x64 .f32} :
    Keeps c R (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2280 v2342 v2472 v2477 v2482 v2487) := by
  rw [k0_part53_eq_skeleton]
  unfold k0_part53_skel
  exact Keeps.pure _

theorem keeps_p57 {R : sProp 𝕄} (H : Acc c R arg2 arg3 arg4 arg5 arg6 arg7 arg8 arg9 arg10 arg11 arg12 arg13 arg14 arg15 arg16 arg17 arg18 arg19) {v2393 : FVec F S8x64 .f32} {v2406 : FVec F S512x64 .f32} {v2436 : FVec F S8x64 .f32} {v2441 : FVec F S8x64 .f32} {v2446 : FVec F S8x64 .f32} {v2451 : FVec F S8x64 .f32} :
    Keeps c R (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2393 v2406 v2436 v2441 v2446 v2451) := by
  rw [k0_part57_eq_skeleton]
  unfold k0_part57_skel
  exact Keeps.pure _

theorem keeps_p61 {R : sProp 𝕄} (H : Acc c R arg2 arg3 arg4 arg5 arg6 arg7 arg8 arg9 arg10 arg11 arg12 arg13 arg14 arg15 arg16 arg17 arg18 arg19) {v2393 : FVec F S8x64 .f32} {v2406 : FVec F S512x64 .f32} {v2636 : FVec F S8x64 .f32} {v2641 : FVec F S8x64 .f32} {v2646 : FVec F S8x64 .f32} {v2651 : FVec F S8x64 .f32} :
    Keeps c R (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2393 v2406 v2636 v2641 v2646 v2651) := by
  rw [k0_part61_eq_skeleton]
  unfold k0_part61_skel
  exact Keeps.pure _

theorem keeps_p65 {R : sProp 𝕄} (H : Acc c R arg2 arg3 arg4 arg5 arg6 arg7 arg8 arg9 arg10 arg11 arg12 arg13 arg14 arg15 arg16 arg17 arg18 arg19) {v2355 : FVec F S8x64 .f32} {v2382 : FVec F S512x64 .f32} {v2512 : FVec F S8x64 .f32} {v2517 : FVec F S8x64 .f32} {v2522 : FVec F S8x64 .f32} {v2527 : FVec F S8x64 .f32} :
    Keeps c R (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2355 v2382 v2512 v2517 v2522 v2527) := by
  rw [k0_part65_eq_skeleton]
  unfold k0_part65_skel
  exact Keeps.pure _

theorem keeps_p69 {R : sProp 𝕄} (H : Acc c R arg2 arg3 arg4 arg5 arg6 arg7 arg8 arg9 arg10 arg11 arg12 arg13 arg14 arg15 arg16 arg17 arg18 arg19) {v2368 : FVec F S8x64 .f32} {v2382 : FVec F S512x64 .f32} {v2412 : FVec F S8x64 .f32} {v2417 : FVec F S8x64 .f32} {v2422 : FVec F S8x64 .f32} {v2427 : FVec F S8x64 .f32} :
    Keeps c R (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2368 v2382 v2412 v2417 v2422 v2427) := by
  rw [k0_part69_eq_skeleton]
  unfold k0_part69_skel
  exact Keeps.pure _

theorem keeps_p73 {R : sProp 𝕄} (H : Acc c R arg2 arg3 arg4 arg5 arg6 arg7 arg8 arg9 arg10 arg11 arg12 arg13 arg14 arg15 arg16 arg17 arg18 arg19) {v2368 : FVec F S8x64 .f32} {v2382 : FVec F S512x64 .f32} {v2612 : FVec F S8x64 .f32} {v2617 : FVec F S8x64 .f32} {v2622 : FVec F S8x64 .f32} {v2627 : FVec F S8x64 .f32} :
    Keeps c R (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2368 v2382 v2612 v2617 v2622 v2627) := by
  rw [k0_part73_eq_skeleton]
  unfold k0_part73_skel
  exact Keeps.pure _

theorem keeps_p78 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2465 : FVec F S8x64 .f32} {v2476 : FVec F S8x64 .f32} {v2487 : FVec F S8x64 .f32} {v2498 : FVec F S8x64 .f32} {v2500 : IVec S8x64 1} {v2502 : BitVec 32} :
    Keeps c R (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2465 v2476 v2487 v2498 v2500 v2502) := by
  rw [k0_part78_eq_skeleton]
  unfold k0_part78_skel
  exact Keeps.pure _

theorem keeps_p82 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2652 : FVec F S8x64 .f32} {v2663 : FVec F S8x64 .f32} {v2674 : FVec F S8x64 .f32} {v2685 : FVec F S8x64 .f32} {v2687 : IVec S8x64 1} {v2691 : IVec S8x64 32} :
    Keeps c R (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2652 v2663 v2674 v2685 v2687 v2691) := by
  rw [k0_part82_eq_skeleton]
  unfold k0_part82_skel
  exact Keeps.pure _

theorem keeps_p86 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2839 : FVec F S8x64 .f32} {v2850 : FVec F S8x64 .f32} {v2861 : FVec F S8x64 .f32} {v2872 : FVec F S8x64 .f32} {v2874 : IVec S8x64 1} {v2879 : IVec S8x64 1} {cst_1064 : F .f32} :
    Keeps c R (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2839 v2850 v2861 v2872 v2874 v2879 cst_1064) := by
  rw [k0_part86_eq_skeleton]
  unfold k0_part86_skel
  exact Keeps.pure _

theorem keeps_p1 {R : sProp 𝕄} (H : Acc c R arg2 arg3 arg4 arg5 arg6 arg7 arg8 arg9 arg10 arg11 arg12 arg13 arg14 arg15 arg16 arg17 arg18 arg19) {k0_h1 : k0_cond1 i = 1#1} {v373 : FVec F S8x64 .f32} {c0_i32_260 : BitVec 32} {c1_i32_261 : BitVec 32} {k0_t1 : Fin k0_t1_loop.trips} :
    Keeps c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v373 c0_i32_260 c1_i32_261 k0_t1) := by
  rw [k0_part1_eq_skeleton]
  unfold k0_part1_skel
  repeat'
    with_reducible first
      | exact Keeps.pure _
      | exact H.r3.load
      | exact H.r8.load
      | refine Keeps.bind ?_ fun _ => ?_

theorem keeps_p13 {R : sProp 𝕄} (H : Acc c R arg2 arg3 arg4 arg5 arg6 arg7 arg8 arg9 arg10 arg11 arg12 arg13 arg14 arg15 arg16 arg17 arg18 arg19) {v2707 : IVec S8x64 32} {v2734 : IVec S8x64 32} {v2743 : IVec S8x64 32} {v2749 : IVec S8x64 32} {v2752 : IVec S8x64 32} {v2758 : IVec S8x64 32} {v2761 : IVec S8x64 32} {v2767 : IVec S8x64 32} {v2770 : IVec S8x64 32} {v2776 : IVec S8x64 32} {v2779 : IVec S8x64 32} {v2874 : IVec S8x64 32} :
    Keeps c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2707 v2734 v2743 v2749 v2752 v2758 v2761 v2767 v2770 v2776 v2779 v2874) := by
  rw [k0_part13_eq_skeleton]
  unfold k0_part13_skel
  exact Keeps.pure _

theorem keeps_p17 {R : sProp 𝕄} (H : Acc c R arg2 arg3 arg4 arg5 arg6 arg7 arg8 arg9 arg10 arg11 arg12 arg13 arg14 arg15 arg16 arg17 arg18 arg19) {v2914 : IVec S8x64 32} {v2920 : IVec S8x64 32} {v2923 : IVec S8x64 32} {v2929 : IVec S8x64 32} {v2932 : IVec S8x64 32} {v2938 : IVec S8x64 32} {v2941 : IVec S8x64 32} {v2947 : IVec S8x64 32} {v2950 : IVec S8x64 32} {v2956 : IVec S8x64 32} {v2959 : IVec S8x64 32} {v3054 : IVec S8x64 32} :
    Keeps c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2914 v2920 v2923 v2929 v2932 v2938 v2941 v2947 v2950 v2956 v2959 v3054) := by
  rw [k0_part17_eq_skeleton]
  unfold k0_part17_skel
  exact Keeps.pure _

theorem keeps_p20 {R : sProp 𝕄} (H : Acc c R arg2 arg3 arg4 arg5 arg6 arg7 arg8 arg9 arg10 arg11 arg12 arg13 arg14 arg15 arg16 arg17 arg18 arg19) {k0_h1 : k0_cond1 i = 1#1} {k0_t1 : Fin k0_t1_loop.trips} {v3046 : IVec S8x64 32} {v3049 : IVec S8x64 32} {v3055 : IVec S8x64 32} {v3058 : IVec S8x64 32} {v3064 : IVec S8x64 32} {v3067 : IVec S8x64 32} {v3073 : IVec S8x64 32} {v3076 : IVec S8x64 32} {v3178 : BitVec 32} :
    Keeps c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k0_t1 v3046 v3049 v3055 v3058 v3064 v3067 v3073 v3076 v3178) := by
  rw [k0_part20_eq_skeleton]
  unfold k0_part20_skel
  repeat'
    with_reducible first
      | exact Keeps.pure _
      | exact H.r13.load
      | exact H.w13.store
      | refine Keeps.bind ?_ fun _ => ?_

theorem keeps_p24 {R : sProp 𝕄} (H : Acc c R arg2 arg3 arg4 arg5 arg6 arg7 arg8 arg9 arg10 arg11 arg12 arg13 arg14 arg15 arg16 arg17 arg18 arg19) {v2423 : IVec S512x64 32} {v3307 : IVec S8x64 32} {v3308 : IVec S8x64 32} {v3309 : IVec S8x64 32} {v3310 : IVec S8x64 32} {v3311 : IVec S8x64 32} {v3323 : IVec S8x64 32} {v3324 : IVec S8x64 32} {v3325 : IVec S8x64 32} {v3326 : IVec S8x64 32} {v3327 : IVec S8x64 32} :
    Keeps c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2423 v3307 v3308 v3309 v3310 v3311 v3323 v3324 v3325 v3326 v3327) := by
  rw [k0_part24_eq_skeleton]
  unfold k0_part24_skel
  exact Keeps.pure _

theorem keeps_p28 {R : sProp 𝕄} (H : Acc c R arg2 arg3 arg4 arg5 arg6 arg7 arg8 arg9 arg10 arg11 arg12 arg13 arg14 arg15 arg16 arg17 arg18 arg19) {v3347 : IVec S8x64 32} {v3380 : IVec S8x64 32} {v3389 : IVec S8x64 32} {v3398 : IVec S8x64 32} {v3407 : IVec S8x64 32} {v3419 : IVec S8x64 32} {v3443 : IVec S8x64 32} {v3452 : IVec S8x64 32} {v3461 : IVec S8x64 32} {v3470 : IVec S8x64 32} {v3479 : IVec S8x64 32} {v3517 : IVec S8x64 32} :
    Keeps c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3347 v3380 v3389 v3398 v3407 v3419 v3443 v3452 v3461 v3470 v3479 v3517) := by
  rw [k0_part28_eq_skeleton]
  unfold k0_part28_skel
  exact Keeps.pure _

theorem keeps_p31 {R : sProp 𝕄} (H : Acc c R arg2 arg3 arg4 arg5 arg6 arg7 arg8 arg9 arg10 arg11 arg12 arg13 arg14 arg15 arg16 arg17 arg18 arg19) {v3491 : IVec S8x64 32} {v3500 : IVec S8x64 32} {v3509 : IVec S8x64 32} {v3515 : IVec S8x64 32} {v3518 : IVec S8x64 32} {v3527 : IVec S8x64 32} {v3536 : IVec S8x64 32} {v3542 : IVec S8x64 32} {v3545 : IVec S8x64 32} {v3551 : IVec S8x64 32} {v3554 : IVec S8x64 32} {v3652 : IVec S8x64 32} :
    Keeps c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3491 v3500 v3509 v3515 v3518 v3527 v3536 v3542 v3545 v3551 v3554 v3652) := by
  rw [k0_part31_eq_skeleton]
  unfold k0_part31_skel
  exact Keeps.pure _

theorem keeps_p35 {R : sProp 𝕄} (H : Acc c R arg2 arg3 arg4 arg5 arg6 arg7 arg8 arg9 arg10 arg11 arg12 arg13 arg14 arg15 arg16 arg17 arg18 arg19) {v3680 : IVec S8x64 32} {v3689 : IVec S8x64 32} {v3698 : IVec S8x64 32} {v3704 : IVec S8x64 32} {v3707 : IVec S8x64 32} {v3713 : IVec S8x64 32} {v3716 : IVec S8x64 32} {v3722 : IVec S8x64 32} {v3725 : IVec S8x64 32} {v3731 : IVec S8x64 32} {v3734 : IVec S8x64 32} {v3832 : IVec S8x64 32} :
    Keeps c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3680 v3689 v3698 v3704 v3707 v3713 v3716 v3722 v3725 v3731 v3734 v3832) := by
  rw [k0_part35_eq_skeleton]
  unfold k0_part35_skel
  exact Keeps.pure _

theorem keeps_p39 {R : sProp 𝕄} (H : Acc c R arg2 arg3 arg4 arg5 arg6 arg7 arg8 arg9 arg10 arg11 arg12 arg13 arg14 arg15 arg16 arg17 arg18 arg19) {v3869 : IVec S8x64 32} {v3875 : IVec S8x64 32} {v3878 : IVec S8x64 32} {v3884 : IVec S8x64 32} {v3887 : IVec S8x64 32} {v3893 : IVec S8x64 32} {v3896 : IVec S8x64 32} {v3902 : IVec S8x64 32} {v3905 : IVec S8x64 32} {v3911 : IVec S8x64 32} {v3914 : IVec S8x64 32} {v4012 : IVec S8x64 32} :
    Keeps c R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3869 v3875 v3878 v3884 v3887 v3893 v3896 v3902 v3905 v3911 v3914 v4012) := by
  rw [k0_part39_eq_skeleton]
  unfold k0_part39_skel
  exact Keeps.pure _

theorem keeps_p42 {R : sProp 𝕄} (H : Acc c R arg2 arg3 arg4 arg5 arg6 arg7 arg8 arg9 arg10 arg11 arg12 arg13 arg14 arg15 arg16 arg17 arg18 arg19) {k0_h1 : k0_cond1 i = 1#1} {k0_t1 : Fin k0_t1_loop.trips} {v3992 : IVec S8x64 32} {v3995 : IVec S8x64 32} {v4001 : IVec S8x64 32} {v4004 : IVec S8x64 32} {v4010 : IVec S8x64 32} {v4013 : IVec S8x64 32} {v4019 : IVec S8x64 32} {v4022 : IVec S8x64 32} {v4028 : IVec S8x64 32} {v4061 : BitVec 32} :
    Keeps c R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k0_t1 v3992 v3995 v4001 v4004 v4010 v4013 v4019 v4022 v4028 v4061) := by
  rw [k0_part42_eq_skeleton]
  unfold k0_part42_skel
  repeat'
    with_reducible first
      | exact Keeps.pure _
      | exact H.r13.load
      | exact H.w13.store
      | refine Keeps.bind ?_ fun _ => ?_

theorem keeps_p8 {R : sProp 𝕄} (H : Acc c R arg2 arg3 arg4 arg5 arg6 arg7 arg8 arg9 arg10 arg11 arg12 arg13 arg14 arg15 arg16 arg17 arg18 arg19) {v2464 : IVec S8x64 32} {v2473 : IVec S8x64 32} {v2482 : IVec S8x64 32} {v2515 : IVec S8x64 32} {v2524 : IVec S8x64 32} {v2536 : IVec S8x64 32} {v2545 : IVec S8x64 32} {v2554 : IVec S8x64 32} {v2578 : IVec S8x64 32} {v2587 : IVec S8x64 32} {v2596 : IVec S8x64 32} {v2649 : IVec S8x64 32} :
    Keeps c R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2464 v2473 v2482 v2515 v2524 v2536 v2545 v2554 v2578 v2587 v2596 v2649) := by
  rw [k0_part8_eq_skeleton]
  unfold k0_part8_skel
  exact Keeps.pure _

theorem keeps_p93 {R : sProp 𝕄} (H : Acc c R arg2 arg3 arg4 arg5 arg6 arg7 arg8 arg9 arg10 arg11 arg12 arg13 arg14 arg15 arg16 arg17 arg18 arg19) {v472 : IVec S512x64 32} {v473 : IVec S8x64 32} {v474 : IVec S8x64 32} {v475 : IVec S8x64 32} {v476 : IVec S8x64 32} {v489 : IVec S8x64 32} {v490 : IVec S8x64 32} :
    Keeps c R (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v472 v473 v474 v475 v476 v489 v490) := by
  rw [k0_part93_eq_skeleton]
  unfold k0_part93_skel
  exact Keeps.pure _

theorem keeps_p97 {R : sProp 𝕄} (H : Acc c R arg2 arg3 arg4 arg5 arg6 arg7 arg8 arg9 arg10 arg11 arg12 arg13 arg14 arg15 arg16 arg17 arg18 arg19) {v537 : IVec S8x64 32} {v546 : IVec S8x64 32} {v555 : IVec S8x64 32} {v564 : IVec S8x64 32} {v573 : IVec S8x64 32} {v600 : IVec S8x64 32} {v609 : IVec S8x64 32} {v618 : IVec S8x64 32} {v627 : IVec S8x64 32} {v636 : IVec S8x64 32} {v645 : IVec S8x64 32} {v671 : IVec S8x64 32} {v673 : IVec S8x64 32} :
    Keeps c R (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v537 v546 v555 v564 v573 v600 v609 v618 v627 v636 v645 v671 v673) := by
  rw [k0_part97_eq_skeleton]
  unfold k0_part97_skel
  exact Keeps.pure _

theorem keeps_p146 {R : sProp 𝕄} (H : Acc c R arg2 arg3 arg4 arg5 arg6 arg7 arg8 arg9 arg10 arg11 arg12 arg13 arg14 arg15 arg16 arg17 arg18 arg19) {v16 : FVec F S512x128 .f32} {v21 : FVec F S1x128 .f32} {v62 : FVec F S512x128 .bf16} :
    Keeps c R (k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v16 v21 v62) := by
  rw [k0_part146_eq_skeleton]
  unfold k0_part146_skel
  repeat'
    with_reducible first
      | exact Keeps.pure _
      | exact H.r10.load
      | exact H.r17.load
      | exact H.r18.load
      | exact H.r19.load
      | exact H.w17.store
      | exact H.w18.store
      | exact H.w19.store
      | refine Keeps.bind ?_ fun _ => ?_

theorem keeps_p150 {R : sProp 𝕄} (H : Acc c R arg2 arg3 arg4 arg5 arg6 arg7 arg8 arg9 arg10 arg11 arg12 arg13 arg14 arg15 arg16 arg17 arg18 arg19) {v189 : FVec F S512x64 .f32} {v191 : FVec F S512x128 .bf16} {v194 : FVec F S128x128 .bf16} {cst_133 : FVec F S512x128 .f32} :
    Keeps c R (k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v189 v191 v194 cst_133) := by
  rw [k0_part150_eq_skeleton]
  unfold k0_part150_skel
  repeat'
    with_reducible first
      | exact Keeps.pure _
      | exact H.r17.load
      | exact H.r2.load
      | exact H.r9.load
      | refine Keeps.bind ?_ fun _ => ?_

theorem keeps_p154 {R : sProp 𝕄} (H : Acc c R arg2 arg3 arg4 arg5 arg6 arg7 arg8 arg9 arg10 arg11 arg12 arg13 arg14 arg15 arg16 arg17 arg18 arg19) {v228 : FVec F S1x128 .f32} {v236 : FVec F S512x128 .f32} {v241 : FVec F S1x128 .f32} {v328 : FVec F S128x128 .f32} :
    Keeps c R (k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v228 v236 v241 v328) := by
  rw [k0_part154_eq_skeleton]
  unfold k0_part154_skel
  repeat'
    with_reducible first
      | exact Keeps.pure _
      | exact H.r10.load
      | exact H.r17.load
      | exact H.r18.load
      | exact H.r19.load
      | exact H.w17.store
      | exact H.w18.store
      | exact H.w19.store
      | refine Keeps.bind ?_ fun _ => ?_

end Cert.Sample
-- ==== Proof.SampleParts3.lean ====
/- Pieces of the attention call of the decoded tokens: each keeps every resource that lends its blocks and scratch
   buffers (group 3: the pieces that call no other). -/
module

public import proofs.«01_k».proof.Proof.SampleAcc

@[expose] public section

set_option maxRecDepth 65536

noncomputable section

namespace Cert.Sample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {i : grid0.Coords} {arg2 : Memref sig .tc .vmem S64x1024 .bf16} {harg2 : arg2.IsWhole} {arg3 : Memref sig .tc .vmem S64x1024 .bf16} {harg3 : arg3.IsWhole} {arg4 : Memref sig .tc .vmem S64x128 .f32} {harg4 : arg4.IsWhole} {arg5 : Memref sig .tc .vmem S64x512 .bf16} {harg5 : arg5.IsWhole} {arg6 : Memref sig .tc .vmem S64x512 .bf16} {harg6 : arg6.IsWhole} {arg7 : Memref sig .tc .vmem S64x128 .bf16} {harg7 : arg7.IsWhole} {arg8 : Memref sig .tc .vmem S4096x128 .bf16} {harg8 : arg8.IsWhole} {arg9 : Memref sig .tc .vmem S4096x128 .f32} {harg9 : arg9.IsWhole} {arg10 : Memref sig .tc .vmem S4096x128 .f32} {harg10 : arg10.IsWhole} {arg11 : Memref sig .tc .vmem S64x1024 .bf16} {harg11 : arg11.IsWhole} {arg12 : Memref sig .tc .vmem S9x512x64 .f32} {harg12 : arg12.IsWhole} {arg13 : Memref sig .tc .vmem S32x144x64 .i32} {harg13 : arg13.IsWhole} {arg14 : Memref sig .tc .vmem S9x512x64 .f32} {harg14 : arg14.IsWhole} {arg15 : Memref sig .tc .vmem S1x64 .i32} {harg15 : arg15.IsWhole} {arg16 : Memref sig .tc .vmem S8x64 .f32} {harg16 : arg16.IsWhole} {arg17 : Memref sig .tc .vmem S4x1x128 .f32} {harg17 : arg17.IsWhole} {arg18 : Memref sig .tc .vmem S4x1x128 .f32} {harg18 : arg18.IsWhole} {arg19 : Memref sig .tc .vmem S4x128x128 .f32} {harg19 : arg19.IsWhole}

theorem keeps_p139 {R : sProp 𝕄} (H : Acc c R arg2 arg3 arg4 arg5 arg6 arg7 arg8 arg9 arg10 arg11 arg12 arg13 arg14 arg15 arg16 arg17 arg18 arg19) {v370 : FVec F S512x64 .f32} {v429 : FVec F S512x128 .bf16} {v431 : FVec F S512x128 .bf16} :
    Keeps c R (k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v370 v429 v431) := by
  rw [k0_part139_eq_skeleton]
  unfold k0_part139_skel
  repeat'
    with_reducible first
      | exact Keeps.pure _
      | exact H.r17.load
      | exact H.r18.load
      | exact H.r19.load
      | exact H.r2.load
      | exact H.w18.store
      | refine Keeps.bind ?_ fun _ => ?_

theorem keeps_p143 {R : sProp 𝕄} (H : Acc c R arg2 arg3 arg4 arg5 arg6 arg7 arg8 arg9 arg10 arg11 arg12 arg13 arg14 arg15 arg16 arg17 arg18 arg19) {v545 : FVec F S512x128 .bf16} {v556 : FVec F S1x128 .f32} {v560 : FVec F S1x128 .f32} {v563 : FVec F S512x128 .f32} :
    Keeps c R (k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v545 v556 v560 v563) := by
  rw [k0_part143_eq_skeleton]
  unfold k0_part143_skel
  repeat'
    with_reducible first
      | exact Keeps.pure _
      | exact H.r11.load
      | exact H.r17.load
      | exact H.r18.load
      | exact H.r19.load
      | exact H.w11.store
      | exact H.w17.store
      | exact H.w18.store
      | exact H.w19.store
      | refine Keeps.bind ?_ fun _ => ?_

theorem keeps_p103 {R : sProp 𝕄} (H : Acc c R arg2 arg3 arg4 arg5 arg6 arg7 arg8 arg9 arg10 arg11 arg12 arg13 arg14 arg15 arg16 arg17 arg18 arg19) {v801 : IVec S8x64 32} {v807 : IVec S8x64 32} {v810 : IVec S8x64 32} {v816 : IVec S8x64 32} {v819 : IVec S8x64 32} {v825 : IVec S8x64 32} {v828 : IVec S8x64 32} {v834 : IVec S8x64 32} {v843 : IVec S8x64 32} {v852 : IVec S8x64 32} {v861 : IVec S8x64 32} {v941 : IVec S8x64 32} {v943 : IVec S8x64 32} :
    Keeps c R (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v801 v807 v810 v816 v819 v825 v828 v834 v843 v852 v861 v941 v943) := by
  rw [k0_part103_eq_skeleton]
  unfold k0_part103_skel
  exact Keeps.pure _

theorem keeps_p107 {R : sProp 𝕄} (H : Acc c R arg2 arg3 arg4 arg5 arg6 arg7 arg8 arg9 arg10 arg11 arg12 arg13 arg14 arg15 arg16 arg17 arg18 arg19) {v981 : IVec S8x64 32} {v987 : IVec S8x64 32} {v990 : IVec S8x64 32} {v996 : IVec S8x64 32} {v999 : IVec S8x64 32} {v1005 : IVec S8x64 32} {v1008 : IVec S8x64 32} {v1014 : IVec S8x64 32} {v1017 : IVec S8x64 32} {v1023 : IVec S8x64 32} {v1026 : IVec S8x64 32} {v1121 : IVec S8x64 32} {v1123 : IVec S8x64 32} :
    Keeps c R (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v981 v987 v990 v996 v999 v1005 v1008 v1014 v1017 v1023 v1026 v1121 v1123) := by
  rw [k0_part107_eq_skeleton]
  unfold k0_part107_skel
  exact Keeps.pure _

theorem keeps_p111 {R : sProp 𝕄} (H : Acc c R arg2 arg3 arg4 arg5 arg6 arg7 arg8 arg9 arg10 arg11 arg12 arg13 arg14 arg15 arg16 arg17 arg18 arg19) {v1152 : IVec S8x64 32} {v1158 : IVec S8x64 32} {v1161 : IVec S8x64 32} {v1167 : IVec S8x64 32} {v1170 : IVec S8x64 32} {v1176 : IVec S8x64 32} {v1179 : IVec S8x64 32} {v1185 : IVec S8x64 32} {v1225 : BitVec 32} {v1285 : IVec S1x8x64 32} :
    Keeps c R (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1152 v1158 v1161 v1167 v1170 v1176 v1179 v1185 v1225 v1285) := by
  rw [k0_part111_eq_skeleton]
  unfold k0_part111_skel
  repeat'
    with_reducible first
      | exact Keeps.pure _
      | exact H.r13.load
      | exact H.w13.store
      | refine Keeps.bind ?_ fun _ => ?_

theorem keeps_p115 {R : sProp 𝕄} (H : Acc c R arg2 arg3 arg4 arg5 arg6 arg7 arg8 arg9 arg10 arg11 arg12 arg13 arg14 arg15 arg16 arg17 arg18 arg19) {v1361 : IVec S8x64 32} {v1362 : IVec S8x64 32} {v1363 : IVec S8x64 32} {v1364 : IVec S8x64 32} {v1365 : IVec S8x64 32} {v1366 : IVec S8x64 32} {v1377 : IVec S8x64 32} {v1378 : IVec S8x64 32} {v1379 : IVec S8x64 32} {v1380 : IVec S8x64 32} {v1381 : IVec S8x64 32} {v1382 : IVec S8x64 32} {v1451 : IVec S8x64 32} :
    Keeps c R (k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1361 v1362 v1363 v1364 v1365 v1366 v1377 v1378 v1379 v1380 v1381 v1382 v1451) := by
  rw [k0_part115_eq_skeleton]
  unfold k0_part115_skel
  exact Keeps.pure _

theorem keeps_p119 {R : sProp 𝕄} (H : Acc c R arg2 arg3 arg4 arg5 arg6 arg7 arg8 arg9 arg10 arg11 arg12 arg13 arg14 arg15 arg16 arg17 arg18 arg19) {v1421 : IVec S8x64 32} {v1430 : IVec S8x64 32} {v1439 : IVec S8x64 32} {v1448 : IVec S8x64 32} {v1457 : IVec S8x64 32} {v1493 : IVec S8x64 32} {v1502 : IVec S8x64 32} {v1511 : IVec S8x64 32} {v1520 : IVec S8x64 32} {v1529 : IVec S8x64 32} {v1535 : IVec S8x64 32} {v1571 : IVec S8x64 32} {v1631 : IVec S8x64 32} :
    Keeps c R (k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1421 v1430 v1439 v1448 v1457 v1493 v1502 v1511 v1520 v1529 v1535 v1571 v1631) := by
  rw [k0_part119_eq_skeleton]
  unfold k0_part119_skel
  exact Keeps.pure _

theorem keeps_p123 {R : sProp 𝕄} (H : Acc c R arg2 arg3 arg4 arg5 arg6 arg7 arg8 arg9 arg10 arg11 arg12 arg13 arg14 arg15 arg16 arg17 arg18 arg19) {v1637 : IVec S8x64 32} {v1673 : IVec S8x64 32} {v1679 : IVec S8x64 32} {v1682 : IVec S8x64 32} {v1688 : IVec S8x64 32} {v1691 : IVec S8x64 32} {v1697 : IVec S8x64 32} {v1700 : IVec S8x64 32} {v1706 : IVec S8x64 32} {v1709 : IVec S8x64 32} {v1715 : IVec S8x64 32} {v1733 : IVec S8x64 32} {v1811 : IVec S8x64 32} :
    Keeps c R (k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1637 v1673 v1679 v1682 v1688 v1691 v1697 v1700 v1706 v1709 v1715 v1733 v1811) := by
  rw [k0_part123_eq_skeleton]
  unfold k0_part123_skel
  exact Keeps.pure _

theorem keeps_p127 {R : sProp 𝕄} (H : Acc c R arg2 arg3 arg4 arg5 arg6 arg7 arg8 arg9 arg10 arg11 arg12 arg13 arg14 arg15 arg16 arg17 arg18 arg19) {v1844 : IVec S8x64 32} {v1853 : IVec S8x64 32} {v1859 : IVec S8x64 32} {v1862 : IVec S8x64 32} {v1868 : IVec S8x64 32} {v1871 : IVec S8x64 32} {v1877 : IVec S8x64 32} {v1880 : IVec S8x64 32} {v1886 : IVec S8x64 32} {v1889 : IVec S8x64 32} {v1895 : IVec S8x64 32} {v1904 : IVec S8x64 32} {v1991 : IVec S8x64 32} :
    Keeps c R (k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1844 v1853 v1859 v1862 v1868 v1871 v1877 v1880 v1886 v1889 v1895 v1904 v1991) := by
  rw [k0_part127_eq_skeleton]
  unfold k0_part127_skel
  exact Keeps.pure _

theorem keeps_p131 {R : sProp 𝕄} (H : Acc c R arg2 arg3 arg4 arg5 arg6 arg7 arg8 arg9 arg10 arg11 arg12 arg13 arg14 arg15 arg16 arg17 arg18 arg19) {v2021 : IVec S8x64 32} {v2024 : IVec S8x64 32} {v2030 : IVec S8x64 32} {v2033 : IVec S8x64 32} {v2039 : IVec S8x64 32} {v2042 : IVec S8x64 32} {v2048 : IVec S8x64 32} {v2051 : IVec S8x64 32} {v2057 : IVec S8x64 32} {v2106 : BitVec 32} :
    Keeps c R (k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2021 v2024 v2030 v2033 v2039 v2042 v2048 v2051 v2057 v2106) := by
  rw [k0_part131_eq_skeleton]
  unfold k0_part131_skel
  repeat'
    with_reducible first
      | exact Keeps.pure _
      | exact H.r13.load
      | exact H.w13.store
      | refine Keeps.bind ?_ fun _ => ?_

theorem keeps_p46 {R : sProp 𝕄} (H : Acc c R arg2 arg3 arg4 arg5 arg6 arg7 arg8 arg9 arg10 arg11 arg12 arg13 arg14 arg15 arg16 arg17 arg18 arg19) {v2267 : FVec F S8x64 .f32} {v2342 : FVec F S512x64 .f32} {v2422 : FVec F S8x64 .f32} {v2427 : FVec F S8x64 .f32} {v2432 : FVec F S8x64 .f32} {v2437 : FVec F S8x64 .f32} :
    Keeps c R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2267 v2342 v2422 v2427 v2432 v2437) := by
  rw [k0_part46_eq_skeleton]
  unfold k0_part46_skel
  exact Keeps.pure _

theorem keeps_p50 {R : sProp 𝕄} (H : Acc c R arg2 arg3 arg4 arg5 arg6 arg7 arg8 arg9 arg10 arg11 arg12 arg13 arg14 arg15 arg16 arg17 arg18 arg19) {k0_h1 : k0_cond1 i = 1#1} {v2280 : FVec F S8x64 .f32} {c0_i32_901 : BitVec 32} {c1_i32_903 : BitVec 32} {k0_t4 : Fin k0_t4_loop.trips} {arg21 : FVec F S8x64 .f32} {arg22 : FVec F S8x64 .f32} {arg23 : FVec F S8x64 .f32} {arg24 : FVec F S8x64 .f32} :
    Keeps c R (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2280 c0_i32_901 c1_i32_903 k0_t4 arg21 arg22 arg23 arg24) := by
  rw [k0_part50_eq_skeleton]
  unfold k0_part50_skel
  repeat'
    with_reducible first
      | exact Keeps.pure _
      | exact H.r12.load
      | refine Keeps.bind ?_ fun _ => ?_

theorem keeps_p54 {R : sProp 𝕄} (H : Acc c R arg2 arg3 arg4 arg5 arg6 arg7 arg8 arg9 arg10 arg11 arg12 arg13 arg14 arg15 arg16 arg17 arg18 arg19) {v2280 : FVec F S8x64 .f32} {v2342 : FVec F S512x64 .f32} {v2522 : FVec F S8x64 .f32} {v2527 : FVec F S8x64 .f32} {v2532 : FVec F S8x64 .f32} {v2537 : FVec F S8x64 .f32} :
    Keeps c R (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2280 v2342 v2522 v2527 v2532 v2537) := by
  rw [k0_part54_eq_skeleton]
  unfold k0_part54_skel
  exact Keeps.pure _

theorem keeps_p58 {R : sProp 𝕄} (H : Acc c R arg2 arg3 arg4 arg5 arg6 arg7 arg8 arg9 arg10 arg11 arg12 arg13 arg14 arg15 arg16 arg17 arg18 arg19) {v2393 : FVec F S8x64 .f32} {v2406 : FVec F S512x64 .f32} {v2486 : FVec F S8x64 .f32} {v2491 : FVec F S8x64 .f32} {v2496 : FVec F S8x64 .f32} {v2501 : FVec F S8x64 .f32} :
    Keeps c R (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2393 v2406 v2486 v2491 v2496 v2501) := by
  rw [k0_part58_eq_skeleton]
  unfold k0_part58_skel
  exact Keeps.pure _

theorem keeps_p62 {R : sProp 𝕄} (H : Acc c R arg2 arg3 arg4 arg5 arg6 arg7 arg8 arg9 arg10 arg11 arg12 arg13 arg14 arg15 arg16 arg17 arg18 arg19) {k0_h1 : k0_cond1 i = 1#1} {v2355 : FVec F S8x64 .f32} {c0_i32_960 : BitVec 32} {c1_i32_962 : BitVec 32} {k0_t7 : Fin k0_t7_loop.trips} {arg21 : FVec F S8x64 .f32} {arg22 : FVec F S8x64 .f32} {arg23 : FVec F S8x64 .f32} {arg24 : FVec F S8x64 .f32} :
    Keeps c R (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2355 c0_i32_960 c1_i32_962 k0_t7 arg21 arg22 arg23 arg24) := by
  rw [k0_part62_eq_skeleton]
  unfold k0_part62_skel
  repeat'
    with_reducible first
      | exact Keeps.pure _
      | exact H.r12.load
      | refine Keeps.bind ?_ fun _ => ?_

theorem keeps_p66 {R : sProp 𝕄} (H : Acc c R arg2 arg3 arg4 arg5 arg6 arg7 arg8 arg9 arg10 arg11 arg12 arg13 arg14 arg15 arg16 arg17 arg18 arg19) {v2355 : FVec F S8x64 .f32} {v2382 : FVec F S512x64 .f32} {v2562 : FVec F S8x64 .f32} {v2567 : FVec F S8x64 .f32} {v2572 : FVec F S8x64 .f32} {v2577 : FVec F S8x64 .f32} :
    Keeps c R (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2355 v2382 v2562 v2567 v2572 v2577) := by
  rw [k0_part66_eq_skeleton]
  unfold k0_part66_skel
  exact Keeps.pure _

theorem keeps_p70 {R : sProp 𝕄} (H : Acc c R arg2 arg3 arg4 arg5 arg6 arg7 arg8 arg9 arg10 arg11 arg12 arg13 arg14 arg15 arg16 arg17 arg18 arg19) {v2368 : FVec F S8x64 .f32} {v2382 : FVec F S512x64 .f32} {v2462 : FVec F S8x64 .f32} {v2467 : FVec F S8x64 .f32} {v2472 : FVec F S8x64 .f32} {v2477 : FVec F S8x64 .f32} :
    Keeps c R (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2368 v2382 v2462 v2467 v2472 v2477) := by
  rw [k0_part70_eq_skeleton]
  unfold k0_part70_skel
  exact Keeps.pure _

theorem keeps_p75 {R : sProp 𝕄} (H : Acc c R arg2 arg3 arg4 arg5 arg6 arg7 arg8 arg9 arg10 arg11 arg12 arg13 arg14 arg15 arg16 arg17 arg18 arg19) {k0_h1 : k0_cond1 i = 1#1} {v2254 : IVec S8x64 32} {v2341 : FVec F S8x64 .f32} {v2353 : IVec S8x64 32} {c0_i32_957 : BitVec 32} {c1_i32_959 : BitVec 32} {k0_t10 : Fin k0_t10_loop.trips} {arg23 : FVec F S8x64 .f32} {arg24 : FVec F S8x64 .f32} {arg25 : FVec F S8x64 .f32} {arg26 : FVec F S8x64 .f32} :
    Keeps c R (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2254 v2341 v2353 c0_i32_957 c1_i32_959 k0_t10 arg23 arg24 arg25 arg26) := by
  rw [k0_part75_eq_skeleton]
  unfold k0_part75_skel
  repeat'
    with_reducible first
      | exact Keeps.pure _
      | exact H.r12.load
      | refine Keeps.bind ?_ fun _ => ?_

theorem keeps_p79 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2509 : FVec F S8x64 .f32} {v2520 : FVec F S8x64 .f32} {v2531 : FVec F S8x64 .f32} {v2542 : FVec F S8x64 .f32} {v2544 : IVec S8x64 1} {v2549 : IVec S8x64 1} {cst_1002 : F .f32} :
    Keeps c R (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2509 v2520 v2531 v2542 v2544 v2549 cst_1002) := by
  rw [k0_part79_eq_skeleton]
  unfold k0_part79_skel
  exact Keeps.pure _

theorem keeps_p83 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2696 : FVec F S8x64 .f32} {v2707 : FVec F S8x64 .f32} {v2718 : FVec F S8x64 .f32} {v2729 : FVec F S8x64 .f32} {v2731 : IVec S8x64 1} {v2736 : IVec S8x64 1} {v2738 : FVec F S8x64 .f32} :
    Keeps c R (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2696 v2707 v2718 v2729 v2731 v2736 v2738) := by
  rw [k0_part83_eq_skeleton]
  unfold k0_part83_skel
  exact Keeps.pure _

theorem keeps_p87 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2894 : FVec F S8x64 .f32} {v2905 : FVec F S8x64 .f32} {v2916 : FVec F S8x64 .f32} {v2927 : FVec F S8x64 .f32} :
    Keeps c R (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2894 v2905 v2916 v2927) := by
  rw [k0_part87_eq_skeleton]
  unfold k0_part87_skel
  exact Keeps.pure _

theorem keeps_p10 {R : sProp 𝕄} (H : Acc c R arg2 arg3 arg4 arg5 arg6 arg7 arg8 arg9 arg10 arg11 arg12 arg13 arg14 arg15 arg16 arg17 arg18 arg19) {v2599 : IVec S8x64 32} {v2605 : IVec S8x64 32} {v2608 : IVec S8x64 32} {v2614 : IVec S8x64 32} {v2623 : IVec S8x64 32} {v2632 : IVec S8x64 32} {v2641 : IVec S8x64 32} {v2644 : IVec S8x64 32} {v2650 : IVec S8x64 32} {v2659 : IVec S8x64 32} {v2668 : IVec S8x64 32} {v2739 : IVec S8x64 32} :
    Keeps c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2599 v2605 v2608 v2614 v2623 v2632 v2641 v2644 v2650 v2659 v2668 v2739) := by
  rw [k0_part10_eq_skeleton]
  unfold k0_part10_skel
  exact Keeps.pure _

theorem keeps_p14 {R : sProp 𝕄} (H : Acc c R arg2 arg3 arg4 arg5 arg6 arg7 arg8 arg9 arg10 arg11 arg12 arg13 arg14 arg15 arg16 arg17 arg18 arg19) {v2779 : IVec S8x64 32} {v2785 : IVec S8x64 32} {v2788 : IVec S8x64 32} {v2794 : IVec S8x64 32} {v2797 : IVec S8x64 32} {v2803 : IVec S8x64 32} {v2806 : IVec S8x64 32} {v2812 : IVec S8x64 32} {v2815 : IVec S8x64 32} {v2821 : IVec S8x64 32} {v2839 : IVec S8x64 32} {v2919 : IVec S8x64 32} :
    Keeps c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2779 v2785 v2788 v2794 v2797 v2803 v2806 v2812 v2815 v2821 v2839 v2919) := by
  rw [k0_part14_eq_skeleton]
  unfold k0_part14_skel
  exact Keeps.pure _

theorem keeps_p18 {R : sProp 𝕄} (H : Acc c R arg2 arg3 arg4 arg5 arg6 arg7 arg8 arg9 arg10 arg11 arg12 arg13 arg14 arg15 arg16 arg17 arg18 arg19) {v2959 : IVec S8x64 32} {v2965 : IVec S8x64 32} {v2968 : IVec S8x64 32} {v2974 : IVec S8x64 32} {v2977 : IVec S8x64 32} {v2983 : IVec S8x64 32} {v2986 : IVec S8x64 32} {v2992 : IVec S8x64 32} {v2995 : IVec S8x64 32} {v3001 : IVec S8x64 32} {v3010 : IVec S8x64 32} {v3099 : IVec S8x64 32} :
    Keeps c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2959 v2965 v2968 v2974 v2977 v2983 v2986 v2992 v2995 v3001 v3010 v3099) := by
  rw [k0_part18_eq_skeleton]
  unfold k0_part18_skel
  exact Keeps.pure _

theorem keeps_p21 {R : sProp 𝕄} (H : Acc c R arg2 arg3 arg4 arg5 arg6 arg7 arg8 arg9 arg10 arg11 arg12 arg13 arg14 arg15 arg16 arg17 arg18 arg19) {k0_h1 : k0_cond1 i = 1#1} {k0_t1 : Fin k0_t1_loop.trips} {v3082 : IVec S8x64 32} {v3085 : IVec S8x64 32} {v3091 : IVec S8x64 32} {v3094 : IVec S8x64 32} {v3100 : IVec S8x64 32} {v3103 : IVec S8x64 32} {v3109 : IVec S8x64 32} {v3112 : IVec S8x64 32} {v3118 : IVec S8x64 32} {v3178 : BitVec 32} :
    Keeps c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k0_t1 v3082 v3085 v3091 v3094 v3100 v3103 v3109 v3112 v3118 v3178) := by
  rw [k0_part21_eq_skeleton]
  unfold k0_part21_skel
  repeat'
    with_reducible first
      | exact Keeps.pure _
      | exact H.r13.load
      | exact H.w13.store
      | refine Keeps.bind ?_ fun _ => ?_

theorem keeps_p25 {R : sProp 𝕄} (H : Acc c R arg2 arg3 arg4 arg5 arg6 arg7 arg8 arg9 arg10 arg11 arg12 arg13 arg14 arg15 arg16 arg17 arg18 arg19) {v3312 : IVec S8x64 32} {v3313 : IVec S8x64 32} {v3314 : IVec S8x64 32} {v3315 : IVec S8x64 32} {v3316 : IVec S8x64 32} {v3327 : IVec S8x64 32} {v3328 : IVec S8x64 32} {v3329 : IVec S8x64 32} {v3330 : IVec S8x64 32} {v3331 : IVec S8x64 32} {v3332 : IVec S8x64 32} {v3382 : IVec S8x64 32} :
    Keeps c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3312 v3313 v3314 v3315 v3316 v3327 v3328 v3329 v3330 v3331 v3332 v3382) := by
  rw [k0_part25_eq_skeleton]
  unfold k0_part25_skel
  exact Keeps.pure _

theorem keeps_p29 {R : sProp 𝕄} (H : Acc c R arg2 arg3 arg4 arg5 arg6 arg7 arg8 arg9 arg10 arg11 arg12 arg13 arg14 arg15 arg16 arg17 arg18 arg19) {v3356 : IVec S8x64 32} {v3365 : IVec S8x64 32} {v3374 : IVec S8x64 32} {v3383 : IVec S8x64 32} {v3392 : IVec S8x64 32} {v3419 : IVec S8x64 32} {v3428 : IVec S8x64 32} {v3437 : IVec S8x64 32} {v3446 : IVec S8x64 32} {v3455 : IVec S8x64 32} {v3464 : IVec S8x64 32} {v3562 : IVec S8x64 32} :
    Keeps c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3356 v3365 v3374 v3383 v3392 v3419 v3428 v3437 v3446 v3455 v3464 v3562) := by
  rw [k0_part29_eq_skeleton]
  unfold k0_part29_skel
  exact Keeps.pure _

theorem keeps_p32 {R : sProp 𝕄} (H : Acc c R arg2 arg3 arg4 arg5 arg6 arg7 arg8 arg9 arg10 arg11 arg12 arg13 arg14 arg15 arg16 arg17 arg18 arg19) {v3554 : IVec S8x64 32} {v3560 : IVec S8x64 32} {v3563 : IVec S8x64 32} {v3569 : IVec S8x64 32} {v3578 : IVec S8x64 32} {v3587 : IVec S8x64 32} {v3596 : IVec S8x64 32} {v3599 : IVec S8x64 32} {v3605 : IVec S8x64 32} {v3614 : IVec S8x64 32} {v3623 : IVec S8x64 32} {v3697 : IVec S8x64 32} :
    Keeps c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3554 v3560 v3563 v3569 v3578 v3587 v3596 v3599 v3605 v3614 v3623 v3697) := by
  rw [k0_part32_eq_skeleton]
  unfold k0_part32_skel
  exact Keeps.pure _

theorem keeps_p36 {R : sProp 𝕄} (H : Acc c R arg2 arg3 arg4 arg5 arg6 arg7 arg8 arg9 arg10 arg11 arg12 arg13 arg14 arg15 arg16 arg17 arg18 arg19) {v3734 : IVec S8x64 32} {v3740 : IVec S8x64 32} {v3743 : IVec S8x64 32} {v3749 : IVec S8x64 32} {v3752 : IVec S8x64 32} {v3758 : IVec S8x64 32} {v3761 : IVec S8x64 32} {v3767 : IVec S8x64 32} {v3770 : IVec S8x64 32} {v3776 : IVec S8x64 32} {v3785 : IVec S8x64 32} {v3877 : IVec S8x64 32} :
    Keeps c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3734 v3740 v3743 v3749 v3752 v3758 v3761 v3767 v3770 v3776 v3785 v3877) := by
  rw [k0_part36_eq_skeleton]
  unfold k0_part36_skel
  exact Keeps.pure _

theorem keeps_p4 {R : sProp 𝕄} (H : Acc c R arg2 arg3 arg4 arg5 arg6 arg7 arg8 arg9 arg10 arg11 arg12 arg13 arg14 arg15 arg16 arg17 arg18 arg19) {v2426 : IVec S8x64 32} {v2427 : IVec S8x64 32} {v2428 : IVec S8x64 32} {v2429 : IVec S8x64 32} {v2430 : IVec S8x64 32} {v2441 : IVec S8x64 32} {v2442 : IVec S8x64 32} {v2443 : IVec S8x64 32} {v2444 : IVec S8x64 32} {v2445 : IVec S8x64 32} {v2446 : IVec S8x64 32} {v2469 : IVec S8x64 32} :
    Keeps c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2426 v2427 v2428 v2429 v2430 v2441 v2442 v2443 v2444 v2445 v2446 v2469) := by
  rw [k0_part4_eq_skeleton]
  unfold k0_part4_skel
  exact Keeps.pure _

theorem keeps_p5 {R : sProp 𝕄} (H : Acc c R arg2 arg3 arg4 arg5 arg6 arg7 arg8 arg9 arg10 arg11 arg12 arg13 arg14 arg15 arg16 arg17 arg18 arg19) {v2431 : IVec S8x64 32} {v2432 : IVec S8x64 32} {v2433 : IVec S8x64 32} {v2434 : IVec S8x64 32} {v2435 : IVec S8x64 32} {v2446 : IVec S8x64 32} {v2447 : IVec S8x64 32} {v2448 : IVec S8x64 32} {v2449 : IVec S8x64 32} {v2450 : IVec S8x64 32} {v2451 : IVec S8x64 32} {v2514 : IVec S8x64 32} :
    Keeps c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2431 v2432 v2433 v2434 v2435 v2446 v2447 v2448 v2449 v2450 v2451 v2514) := by
  rw [k0_part5_eq_skeleton]
  unfold k0_part5_skel
  exact Keeps.pure _

theorem keeps_p9 {R : sProp 𝕄} (H : Acc c R arg2 arg3 arg4 arg5 arg6 arg7 arg8 arg9 arg10 arg11 arg12 arg13 arg14 arg15 arg16 arg17 arg18 arg19) {v2491 : IVec S8x64 32} {v2500 : IVec S8x64 32} {v2509 : IVec S8x64 32} {v2518 : IVec S8x64 32} {v2527 : IVec S8x64 32} {v2554 : IVec S8x64 32} {v2563 : IVec S8x64 32} {v2572 : IVec S8x64 32} {v2581 : IVec S8x64 32} {v2590 : IVec S8x64 32} {v2599 : IVec S8x64 32} {v2694 : IVec S8x64 32} :
    Keeps c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2491 v2500 v2509 v2518 v2527 v2554 v2563 v2572 v2581 v2590 v2599 v2694) := by
  rw [k0_part9_eq_skeleton]
  unfold k0_part9_skel
  exact Keeps.pure _

theorem keeps_p94 {R : sProp 𝕄} (H : Acc c R arg2 arg3 arg4 arg5 arg6 arg7 arg8 arg9 arg10 arg11 arg12 arg13 arg14 arg15 arg16 arg17 arg18 arg19) {v477 : IVec S8x64 32} {v478 : IVec S8x64 32} {v479 : IVec S8x64 32} {v480 : IVec S8x64 32} {v481 : IVec S8x64 32} {v492 : IVec S8x64 32} {v493 : IVec S8x64 32} {v494 : IVec S8x64 32} {v495 : IVec S8x64 32} {v496 : IVec S8x64 32} {v497 : IVec S8x64 32} {v536 : IVec S8x64 32} {v538 : IVec S8x64 32} :
    Keeps c R (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v477 v478 v479 v480 v481 v492 v493 v494 v495 v496 v497 v536 v538) := by
  rw [k0_part94_eq_skeleton]
  unfold k0_part94_skel
  exact Keeps.pure _

theorem keeps_p98 {R : sProp 𝕄} (H : Acc c R arg2 arg3 arg4 arg5 arg6 arg7 arg8 arg9 arg10 arg11 arg12 arg13 arg14 arg15 arg16 arg17 arg18 arg19) {v513 : IVec S8x64 32} {v522 : IVec S8x64 32} {v531 : IVec S8x64 32} {v540 : IVec S8x64 32} {v549 : IVec S8x64 32} {v585 : IVec S8x64 32} {v594 : IVec S8x64 32} {v603 : IVec S8x64 32} {v612 : IVec S8x64 32} {v621 : IVec S8x64 32} {v645 : IVec S8x64 32} {v716 : IVec S8x64 32} {v718 : IVec S8x64 32} :
    Keeps c R (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v513 v522 v531 v540 v549 v585 v594 v603 v612 v621 v645 v716 v718) := by
  rw [k0_part98_eq_skeleton]
  unfold k0_part98_skel
  exact Keeps.pure _

theorem keeps_p147 {R : sProp 𝕄} (H : Acc c R arg2 arg3 arg4 arg5 arg6 arg7 arg8 arg9 arg10 arg11 arg12 arg13 arg14 arg15 arg16 arg17 arg18 arg19) {v29 : FVec F S512x128 .f32} {v34 : FVec F S1x128 .f32} {v42 : FVec F S512x128 .f32} {v47 : FVec F S1x128 .f32} {v93 : FVec F S512x128 .bf16} {v95 : FVec F S1x128 .f32} :
    Keeps c R (k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v29 v34 v42 v47 v93 v95) := by
  rw [k0_part147_eq_skeleton]
  unfold k0_part147_skel
  repeat'
    with_reducible first
      | exact Keeps.pure _
      | exact H.r10.load
      | exact H.r17.load
      | exact H.r18.load
      | exact H.r19.load
      | exact H.w17.store
      | exact H.w18.store
      | exact H.w19.store
      | refine Keeps.bind ?_ fun _ => ?_

theorem keeps_p151 {R : sProp 𝕄} (H : Acc c R arg2 arg3 arg4 arg5 arg6 arg7 arg8 arg9 arg10 arg11 arg12 arg13 arg14 arg15 arg16 arg17 arg18 arg19) {v189 : FVec F S512x64 .f32} {v197 : FVec F S512x128 .f32} {v202 : FVec F S1x128 .f32} :
    Keeps c R (k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v189 v197 v202) := by
  rw [k0_part151_eq_skeleton]
  unfold k0_part151_skel
  repeat'
    with_reducible first
      | exact Keeps.pure _
      | exact H.r10.load
      | exact H.r17.load
      | exact H.r18.load
      | exact H.r19.load
      | exact H.r2.load
      | exact H.r9.load
      | exact H.w18.store
      | refine Keeps.bind ?_ fun _ => ?_

end Cert.Sample
-- ==== Proof.SampleParts4.lean ====
/- Pieces of the attention call of the decoded tokens: each keeps every resource that lends its blocks and scratch
   buffers (group 4: the pieces that call no other). -/
module

public import proofs.«01_k».proof.Proof.SampleAcc

@[expose] public section

set_option maxRecDepth 65536

noncomputable section

namespace Cert.Sample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {i : grid0.Coords} {arg2 : Memref sig .tc .vmem S64x1024 .bf16} {harg2 : arg2.IsWhole} {arg3 : Memref sig .tc .vmem S64x1024 .bf16} {harg3 : arg3.IsWhole} {arg4 : Memref sig .tc .vmem S64x128 .f32} {harg4 : arg4.IsWhole} {arg5 : Memref sig .tc .vmem S64x512 .bf16} {harg5 : arg5.IsWhole} {arg6 : Memref sig .tc .vmem S64x512 .bf16} {harg6 : arg6.IsWhole} {arg7 : Memref sig .tc .vmem S64x128 .bf16} {harg7 : arg7.IsWhole} {arg8 : Memref sig .tc .vmem S4096x128 .bf16} {harg8 : arg8.IsWhole} {arg9 : Memref sig .tc .vmem S4096x128 .f32} {harg9 : arg9.IsWhole} {arg10 : Memref sig .tc .vmem S4096x128 .f32} {harg10 : arg10.IsWhole} {arg11 : Memref sig .tc .vmem S64x1024 .bf16} {harg11 : arg11.IsWhole} {arg12 : Memref sig .tc .vmem S9x512x64 .f32} {harg12 : arg12.IsWhole} {arg13 : Memref sig .tc .vmem S32x144x64 .i32} {harg13 : arg13.IsWhole} {arg14 : Memref sig .tc .vmem S9x512x64 .f32} {harg14 : arg14.IsWhole} {arg15 : Memref sig .tc .vmem S1x64 .i32} {harg15 : arg15.IsWhole} {arg16 : Memref sig .tc .vmem S8x64 .f32} {harg16 : arg16.IsWhole} {arg17 : Memref sig .tc .vmem S4x1x128 .f32} {harg17 : arg17.IsWhole} {arg18 : Memref sig .tc .vmem S4x1x128 .f32} {harg18 : arg18.IsWhole} {arg19 : Memref sig .tc .vmem S4x128x128 .f32} {harg19 : arg19.IsWhole}

theorem keeps_p140 {R : sProp 𝕄} (H : Acc c R arg2 arg3 arg4 arg5 arg6 arg7 arg8 arg9 arg10 arg11 arg12 arg13 arg14 arg15 arg16 arg17 arg18 arg19) {v0 : FVec F S448x128 .bf16} {v370 : FVec F S512x64 .f32} {v442 : FVec F S1x128 .f32} {v465 : FVec F S128x128 .f32} {v466 : Vec F S1x128x128 .f32} :
    Keeps c R (k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v370 v442 v465 v466) := by
  rw [k0_part140_eq_skeleton]
  unfold k0_part140_skel
  repeat'
    with_reducible first
      | exact Keeps.pure _
      | exact H.r11.load
      | exact H.r17.load
      | exact H.r18.load
      | exact H.r19.load
      | exact H.r2.load
      | exact H.r5.load
      | exact H.r6.load
      | exact H.w11.store
      | exact H.w17.store
      | exact H.w19.store
      | refine Keeps.bind ?_ fun _ => ?_

theorem keeps_p100 {R : sProp 𝕄} (H : Acc c R arg2 arg3 arg4 arg5 arg6 arg7 arg8 arg9 arg10 arg11 arg12 arg13 arg14 arg15 arg16 arg17 arg18 arg19) {v657 : IVec S8x64 32} {v666 : IVec S8x64 32} {v672 : IVec S8x64 32} {v675 : IVec S8x64 32} {v681 : IVec S8x64 32} {v693 : IVec S8x64 32} {v699 : IVec S8x64 32} {v702 : IVec S8x64 32} {v708 : IVec S8x64 32} {v711 : IVec S8x64 32} {v717 : IVec S8x64 32} {v806 : IVec S8x64 32} {v808 : IVec S8x64 32} :
    Keeps c R (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v657 v666 v672 v675 v681 v693 v699 v702 v708 v711 v717 v806 v808) := by
  rw [k0_part100_eq_skeleton]
  unfold k0_part100_skel
  exact Keeps.pure _

theorem keeps_p104 {R : sProp 𝕄} (H : Acc c R arg2 arg3 arg4 arg5 arg6 arg7 arg8 arg9 arg10 arg11 arg12 arg13 arg14 arg15 arg16 arg17 arg18 arg19) {v837 : IVec S8x64 32} {v846 : IVec S8x64 32} {v855 : IVec S8x64 32} {v861 : IVec S8x64 32} {v864 : IVec S8x64 32} {v870 : IVec S8x64 32} {v873 : IVec S8x64 32} {v879 : IVec S8x64 32} {v888 : IVec S8x64 32} {v891 : IVec S8x64 32} {v897 : IVec S8x64 32} {v986 : IVec S8x64 32} {v988 : IVec S8x64 32} :
    Keeps c R (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v837 v846 v855 v861 v864 v870 v873 v879 v888 v891 v897 v986 v988) := by
  rw [k0_part104_eq_skeleton]
  unfold k0_part104_skel
  exact Keeps.pure _

theorem keeps_p108 {R : sProp 𝕄} (H : Acc c R arg2 arg3 arg4 arg5 arg6 arg7 arg8 arg9 arg10 arg11 arg12 arg13 arg14 arg15 arg16 arg17 arg18 arg19) {v1026 : IVec S8x64 32} {v1032 : IVec S8x64 32} {v1035 : IVec S8x64 32} {v1041 : IVec S8x64 32} {v1044 : IVec S8x64 32} {v1050 : IVec S8x64 32} {v1053 : IVec S8x64 32} {v1059 : IVec S8x64 32} {v1062 : IVec S8x64 32} {v1068 : IVec S8x64 32} {v1077 : IVec S8x64 32} {v1166 : IVec S8x64 32} {v1168 : IVec S8x64 32} :
    Keeps c R (k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1026 v1032 v1035 v1041 v1044 v1050 v1053 v1059 v1062 v1068 v1077 v1166 v1168) := by
  rw [k0_part108_eq_skeleton]
  unfold k0_part108_skel
  exact Keeps.pure _

theorem keeps_p112 {R : sProp 𝕄} (H : Acc c R arg2 arg3 arg4 arg5 arg6 arg7 arg8 arg9 arg10 arg11 arg12 arg13 arg14 arg15 arg16 arg17 arg18 arg19) {v1188 : IVec S8x64 32} {v1194 : IVec S8x64 32} {v1197 : IVec S8x64 32} {v1203 : IVec S8x64 32} {v1206 : IVec S8x64 32} {v1212 : IVec S8x64 32} {v1215 : IVec S8x64 32} {v1221 : IVec S8x64 32} {v1224 : IVec S8x64 32} {v1225 : BitVec 32} :
    Keeps c R (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1188 v1194 v1197 v1203 v1206 v1212 v1215 v1221 v1224 v1225) := by
  rw [k0_part112_eq_skeleton]
  unfold k0_part112_skel
  repeat'
    with_reducible first
      | exact Keeps.pure _
      | exact H.r13.load
      | exact H.w13.store
      | refine Keeps.bind ?_ fun _ => ?_

theorem keeps_p116 {R : sProp 𝕄} (H : Acc c R arg2 arg3 arg4 arg5 arg6 arg7 arg8 arg9 arg10 arg11 arg12 arg13 arg14 arg15 arg16 arg17 arg18 arg19) {v1366 : IVec S8x64 32} {v1367 : IVec S8x64 32} {v1368 : IVec S8x64 32} {v1369 : IVec S8x64 32} {v1382 : IVec S8x64 32} {v1383 : IVec S8x64 32} {v1384 : IVec S8x64 32} {v1385 : IVec S8x64 32} {v1391 : IVec S8x64 32} {v1400 : IVec S8x64 32} {v1463 : IVec S8x64 32} {v1472 : IVec S8x64 32} {v1496 : IVec S8x64 32} :
    Keeps c R (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1366 v1367 v1368 v1369 v1382 v1383 v1384 v1385 v1391 v1400 v1463 v1472 v1496) := by
  rw [k0_part116_eq_skeleton]
  unfold k0_part116_skel
  exact Keeps.pure _

theorem keeps_p120 {R : sProp 𝕄} (H : Acc c R arg2 arg3 arg4 arg5 arg6 arg7 arg8 arg9 arg10 arg11 arg12 arg13 arg14 arg15 arg16 arg17 arg18 arg19) {v1535 : IVec S8x64 32} {v1538 : IVec S8x64 32} {v1544 : IVec S8x64 32} {v1547 : IVec S8x64 32} {v1553 : IVec S8x64 32} {v1562 : IVec S8x64 32} {v1571 : IVec S8x64 32} {v1574 : IVec S8x64 32} {v1580 : IVec S8x64 32} {v1583 : IVec S8x64 32} {v1589 : IVec S8x64 32} {v1598 : IVec S8x64 32} {v1676 : IVec S8x64 32} :
    Keeps c R (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1535 v1538 v1544 v1547 v1553 v1562 v1571 v1574 v1580 v1583 v1589 v1598 v1676) := by
  rw [k0_part120_eq_skeleton]
  unfold k0_part120_skel
  exact Keeps.pure _

theorem keeps_p124 {R : sProp 𝕄} (H : Acc c R arg2 arg3 arg4 arg5 arg6 arg7 arg8 arg9 arg10 arg11 arg12 arg13 arg14 arg15 arg16 arg17 arg18 arg19) {v1715 : IVec S8x64 32} {v1718 : IVec S8x64 32} {v1724 : IVec S8x64 32} {v1727 : IVec S8x64 32} {v1733 : IVec S8x64 32} {v1736 : IVec S8x64 32} {v1742 : IVec S8x64 32} {v1745 : IVec S8x64 32} {v1751 : IVec S8x64 32} {v1760 : IVec S8x64 32} {v1769 : IVec S8x64 32} {v1778 : IVec S8x64 32} {v1856 : IVec S8x64 32} :
    Keeps c R (k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1715 v1718 v1724 v1727 v1733 v1736 v1742 v1745 v1751 v1760 v1769 v1778 v1856) := by
  rw [k0_part124_eq_skeleton]
  unfold k0_part124_skel
  exact Keeps.pure _

theorem keeps_p128 {R : sProp 𝕄} (H : Acc c R arg2 arg3 arg4 arg5 arg6 arg7 arg8 arg9 arg10 arg11 arg12 arg13 arg14 arg15 arg16 arg17 arg18 arg19) {v1895 : IVec S8x64 32} {v1898 : IVec S8x64 32} {v1904 : IVec S8x64 32} {v1907 : IVec S8x64 32} {v1913 : IVec S8x64 32} {v1916 : IVec S8x64 32} {v1922 : IVec S8x64 32} {v1925 : IVec S8x64 32} {v1931 : IVec S8x64 32} {v1934 : IVec S8x64 32} {v1940 : IVec S8x64 32} {v1943 : IVec S8x64 32} {v2036 : IVec S8x64 32} :
    Keeps c R (k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1895 v1898 v1904 v1907 v1913 v1916 v1922 v1925 v1931 v1934 v1940 v1943 v2036) := by
  rw [k0_part128_eq_skeleton]
  unfold k0_part128_skel
  exact Keeps.pure _

theorem keeps_p132 {R : sProp 𝕄} (H : Acc c R arg2 arg3 arg4 arg5 arg6 arg7 arg8 arg9 arg10 arg11 arg12 arg13 arg14 arg15 arg16 arg17 arg18 arg19) {v2060 : IVec S8x64 32} {v2066 : IVec S8x64 32} {v2069 : IVec S8x64 32} {v2075 : IVec S8x64 32} {v2078 : IVec S8x64 32} {v2084 : IVec S8x64 32} {v2087 : IVec S8x64 32} {v2093 : IVec S8x64 32} {v2106 : BitVec 32} {v2190 : IVec S1x8x64 32} :
    Keeps c R (k0_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2060 v2066 v2069 v2075 v2078 v2084 v2087 v2093 v2106 v2190) := by
  rw [k0_part132_eq_skeleton]
  unfold k0_part132_skel
  repeat'
    with_reducible first
      | exact Keeps.pure _
      | exact H.r13.load
      | exact H.w13.store
      | refine Keeps.bind ?_ fun _ => ?_

theorem keeps_p47 {R : sProp 𝕄} (H : Acc c R arg2 arg3 arg4 arg5 arg6 arg7 arg8 arg9 arg10 arg11 arg12 arg13 arg14 arg15 arg16 arg17 arg18 arg19) {v2267 : FVec F S8x64 .f32} {v2342 : FVec F S512x64 .f32} {v2472 : FVec F S8x64 .f32} {v2477 : FVec F S8x64 .f32} {v2482 : FVec F S8x64 .f32} {v2487 : FVec F S8x64 .f32} :
    Keeps c R (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2267 v2342 v2472 v2477 v2482 v2487) := by
  rw [k0_part47_eq_skeleton]
  unfold k0_part47_skel
  exact Keeps.pure _

theorem keeps_p51 {R : sProp 𝕄} (H : Acc c R arg2 arg3 arg4 arg5 arg6 arg7 arg8 arg9 arg10 arg11 arg12 arg13 arg14 arg15 arg16 arg17 arg18 arg19) {v2280 : FVec F S8x64 .f32} {v2342 : FVec F S512x64 .f32} {v2372 : FVec F S8x64 .f32} {v2377 : FVec F S8x64 .f32} {v2382 : FVec F S8x64 .f32} {v2387 : FVec F S8x64 .f32} :
    Keeps c R (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2280 v2342 v2372 v2377 v2382 v2387) := by
  rw [k0_part51_eq_skeleton]
  unfold k0_part51_skel
  exact Keeps.pure _

theorem keeps_p55 {R : sProp 𝕄} (H : Acc c R arg2 arg3 arg4 arg5 arg6 arg7 arg8 arg9 arg10 arg11 arg12 arg13 arg14 arg15 arg16 arg17 arg18 arg19) {v2280 : FVec F S8x64 .f32} {v2342 : FVec F S512x64 .f32} {v2572 : FVec F S8x64 .f32} {v2577 : FVec F S8x64 .f32} {v2582 : FVec F S8x64 .f32} {v2587 : FVec F S8x64 .f32} :
    Keeps c R (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2280 v2342 v2572 v2577 v2582 v2587) := by
  rw [k0_part55_eq_skeleton]
  unfold k0_part55_skel
  exact Keeps.pure _

theorem keeps_p59 {R : sProp 𝕄} (H : Acc c R arg2 arg3 arg4 arg5 arg6 arg7 arg8 arg9 arg10 arg11 arg12 arg13 arg14 arg15 arg16 arg17 arg18 arg19) {v2393 : FVec F S8x64 .f32} {v2406 : FVec F S512x64 .f32} {v2536 : FVec F S8x64 .f32} {v2541 : FVec F S8x64 .f32} {v2546 : FVec F S8x64 .f32} {v2551 : FVec F S8x64 .f32} :
    Keeps c R (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2393 v2406 v2536 v2541 v2546 v2551) := by
  rw [k0_part59_eq_skeleton]
  unfold k0_part59_skel
  exact Keeps.pure _

theorem keeps_p63 {R : sProp 𝕄} (H : Acc c R arg2 arg3 arg4 arg5 arg6 arg7 arg8 arg9 arg10 arg11 arg12 arg13 arg14 arg15 arg16 arg17 arg18 arg19) {v2355 : FVec F S8x64 .f32} {v2382 : FVec F S512x64 .f32} {v2412 : FVec F S8x64 .f32} {v2417 : FVec F S8x64 .f32} {v2422 : FVec F S8x64 .f32} {v2427 : FVec F S8x64 .f32} :
    Keeps c R (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2355 v2382 v2412 v2417 v2422 v2427) := by
  rw [k0_part63_eq_skeleton]
  unfold k0_part63_skel
  exact Keeps.pure _

theorem keeps_p67 {R : sProp 𝕄} (H : Acc c R arg2 arg3 arg4 arg5 arg6 arg7 arg8 arg9 arg10 arg11 arg12 arg13 arg14 arg15 arg16 arg17 arg18 arg19) {v2355 : FVec F S8x64 .f32} {v2382 : FVec F S512x64 .f32} {v2612 : FVec F S8x64 .f32} {v2617 : FVec F S8x64 .f32} {v2622 : FVec F S8x64 .f32} {v2627 : FVec F S8x64 .f32} :
    Keeps c R (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2355 v2382 v2612 v2617 v2622 v2627) := by
  rw [k0_part67_eq_skeleton]
  unfold k0_part67_skel
  exact Keeps.pure _

theorem keeps_p71 {R : sProp 𝕄} (H : Acc c R arg2 arg3 arg4 arg5 arg6 arg7 arg8 arg9 arg10 arg11 arg12 arg13 arg14 arg15 arg16 arg17 arg18 arg19) {v2368 : FVec F S8x64 .f32} {v2382 : FVec F S512x64 .f32} {v2512 : FVec F S8x64 .f32} {v2517 : FVec F S8x64 .f32} {v2522 : FVec F S8x64 .f32} {v2527 : FVec F S8x64 .f32} :
    Keeps c R (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2368 v2382 v2512 v2517 v2522 v2527) := by
  rw [k0_part71_eq_skeleton]
  unfold k0_part71_skel
  exact Keeps.pure _

theorem keeps_p76 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg26 : FVec F S8x64 .f32} {arg22 : BitVec 32} {v2366 : FVec F S512x64 .f32} {v2377 : FVec F S8x64 .f32} {v2388 : FVec F S8x64 .f32} {v2399 : FVec F S8x64 .f32} {v2401 : IVec S8x64 1} {v2406 : IVec S8x64 1} {v2408 : FVec F S8x64 .f32} :
    Keeps c R (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg26 arg22 v2366 v2377 v2388 v2399 v2401 v2406 v2408) := by
  rw [k0_part76_eq_skeleton]
  unfold k0_part76_skel
  exact Keeps.pure _

theorem keeps_p80 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2564 : FVec F S8x64 .f32} {v2575 : FVec F S8x64 .f32} {v2586 : FVec F S8x64 .f32} {v2597 : FVec F S8x64 .f32} :
    Keeps c R (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2564 v2575 v2586 v2597) := by
  rw [k0_part80_eq_skeleton]
  unfold k0_part80_skel
  exact Keeps.pure _

theorem keeps_p84 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2751 : FVec F S8x64 .f32} {v2762 : FVec F S8x64 .f32} {v2773 : FVec F S8x64 .f32} {v2784 : FVec F S8x64 .f32} {v2786 : IVec S8x64 1} :
    Keeps c R (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2751 v2762 v2773 v2784 v2786) := by
  rw [k0_part84_eq_skeleton]
  unfold k0_part84_skel
  exact Keeps.pure _

theorem keeps_p88 {R : sProp 𝕄} (H : Acc c R arg2 arg3 arg4 arg5 arg6 arg7 arg8 arg9 arg10 arg11 arg12 arg13 arg14 arg15 arg16 arg17 arg18 arg19) {v2254 : IVec S8x64 32} {v2341 : FVec F S8x64 .f32} {v2353 : IVec S8x64 32} {arg22 : BitVec 32} {v2366 : FVec F S512x64 .f32} {v2938 : FVec F S8x64 .f32} {v2949 : FVec F S8x64 .f32} {v2960 : FVec F S8x64 .f32} {v2971 : FVec F S8x64 .f32} {v2973 : IVec S8x64 1} {v2974 : BitVec 32} :
    Keeps c R (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2254 v2341 v2353 arg22 v2366 v2938 v2949 v2960 v2971 v2973 v2974) := by
  rw [k0_part88_eq_skeleton]
  unfold k0_part88_skel
  exact Keeps.pure _

theorem keeps_p11 {R : sProp 𝕄} (H : Acc c R arg2 arg3 arg4 arg5 arg6 arg7 arg8 arg9 arg10 arg11 arg12 arg13 arg14 arg15 arg16 arg17 arg18 arg19) {v2617 : IVec S8x64 32} {v2626 : IVec S8x64 32} {v2635 : IVec S8x64 32} {v2644 : IVec S8x64 32} {v2653 : IVec S8x64 32} {v2662 : IVec S8x64 32} {v2671 : IVec S8x64 32} {v2677 : IVec S8x64 32} {v2686 : IVec S8x64 32} {v2713 : IVec S8x64 32} {v2722 : IVec S8x64 32} {v2784 : IVec S8x64 32} :
    Keeps c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2617 v2626 v2635 v2644 v2653 v2662 v2671 v2677 v2686 v2713 v2722 v2784) := by
  rw [k0_part11_eq_skeleton]
  unfold k0_part11_skel
  exact Keeps.pure _

theorem keeps_p15 {R : sProp 𝕄} (H : Acc c R arg2 arg3 arg4 arg5 arg6 arg7 arg8 arg9 arg10 arg11 arg12 arg13 arg14 arg15 arg16 arg17 arg18 arg19) {v2824 : IVec S8x64 32} {v2830 : IVec S8x64 32} {v2833 : IVec S8x64 32} {v2839 : IVec S8x64 32} {v2842 : IVec S8x64 32} {v2848 : IVec S8x64 32} {v2851 : IVec S8x64 32} {v2857 : IVec S8x64 32} {v2866 : IVec S8x64 32} {v2875 : IVec S8x64 32} {v2884 : IVec S8x64 32} {v2964 : IVec S8x64 32} :
    Keeps c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2824 v2830 v2833 v2839 v2842 v2848 v2851 v2857 v2866 v2875 v2884 v2964) := by
  rw [k0_part15_eq_skeleton]
  unfold k0_part15_skel
  exact Keeps.pure _

theorem keeps_p19 {R : sProp 𝕄} (H : Acc c R arg2 arg3 arg4 arg5 arg6 arg7 arg8 arg9 arg10 arg11 arg12 arg13 arg14 arg15 arg16 arg17 arg18 arg19) {k0_h1 : k0_cond1 i = 1#1} {k0_t1 : Fin k0_t1_loop.trips} {v2421 : BitVec 32} {v3004 : IVec S8x64 32} {v3010 : IVec S8x64 32} {v3013 : IVec S8x64 32} {v3019 : IVec S8x64 32} {v3022 : IVec S8x64 32} {v3028 : IVec S8x64 32} {v3031 : IVec S8x64 32} {v3037 : IVec S8x64 32} {v3040 : IVec S8x64 32} {v3144 : IVec S8x64 32} :
    Keeps c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k0_t1 v2421 v3004 v3010 v3013 v3019 v3022 v3028 v3031 v3037 v3040 v3144) := by
  rw [k0_part19_eq_skeleton]
  unfold k0_part19_skel
  repeat'
    with_reducible first
      | exact Keeps.pure _
      | exact H.r13.load
      | exact H.w13.store
      | refine Keeps.bind ?_ fun _ => ?_

theorem keeps_p22 {R : sProp 𝕄} (H : Acc c R arg2 arg3 arg4 arg5 arg6 arg7 arg8 arg9 arg10 arg11 arg12 arg13 arg14 arg15 arg16 arg17 arg18 arg19) {k0_h1 : k0_cond1 i = 1#1} {k0_t1 : Fin k0_t1_loop.trips} {v3121 : IVec S8x64 32} {v3127 : IVec S8x64 32} {v3130 : IVec S8x64 32} {v3136 : IVec S8x64 32} {v3139 : IVec S8x64 32} {v3145 : IVec S8x64 32} {v3148 : IVec S8x64 32} {v3154 : IVec S8x64 32} {v3157 : IVec S8x64 32} {v3178 : BitVec 32} :
    Keeps c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k0_t1 v3121 v3127 v3130 v3136 v3139 v3145 v3148 v3154 v3157 v3178) := by
  rw [k0_part22_eq_skeleton]
  unfold k0_part22_skel
  repeat'
    with_reducible first
      | exact Keeps.pure _
      | exact H.r13.load
      | exact H.w13.store
      | refine Keeps.bind ?_ fun _ => ?_

theorem keeps_p26 {R : sProp 𝕄} (H : Acc c R arg2 arg3 arg4 arg5 arg6 arg7 arg8 arg9 arg10 arg11 arg12 arg13 arg14 arg15 arg16 arg17 arg18 arg19) {v3317 : IVec S8x64 32} {v3318 : IVec S8x64 32} {v3319 : IVec S8x64 32} {v3320 : IVec S8x64 32} {v3321 : IVec S8x64 32} {v3332 : IVec S8x64 32} {v3333 : IVec S8x64 32} {v3334 : IVec S8x64 32} {v3335 : IVec S8x64 32} {v3336 : IVec S8x64 32} {v3337 : IVec S8x64 32} {v3427 : IVec S8x64 32} :
    Keeps c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3317 v3318 v3319 v3320 v3321 v3332 v3333 v3334 v3335 v3336 v3337 v3427) := by
  rw [k0_part26_eq_skeleton]
  unfold k0_part26_skel
  exact Keeps.pure _

theorem keeps_p3 {R : sProp 𝕄} (H : Acc c R arg2 arg3 arg4 arg5 arg6 arg7 arg8 arg9 arg10 arg11 arg12 arg13 arg14 arg15 arg16 arg17 arg18 arg19) {arg20 : BitVec 32} {v2415 : IVec S512x64 32} {v2417 : IVec S512x64 1} {c2147483647_i32_987 : BitVec 32} :
    Keeps c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 v2415 v2417 c2147483647_i32_987) := by
  rw [k0_part3_eq_skeleton]
  unfold k0_part3_skel
  exact Keeps.pure _

theorem keeps_p33 {R : sProp 𝕄} (H : Acc c R arg2 arg3 arg4 arg5 arg6 arg7 arg8 arg9 arg10 arg11 arg12 arg13 arg14 arg15 arg16 arg17 arg18 arg19) {v3572 : IVec S8x64 32} {v3581 : IVec S8x64 32} {v3590 : IVec S8x64 32} {v3599 : IVec S8x64 32} {v3608 : IVec S8x64 32} {v3617 : IVec S8x64 32} {v3626 : IVec S8x64 32} {v3632 : IVec S8x64 32} {v3641 : IVec S8x64 32} {v3650 : IVec S8x64 32} {v3659 : IVec S8x64 32} {v3742 : IVec S8x64 32} :
    Keeps c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3572 v3581 v3590 v3599 v3608 v3617 v3626 v3632 v3641 v3650 v3659 v3742) := by
  rw [k0_part33_eq_skeleton]
  unfold k0_part33_skel
  exact Keeps.pure _

theorem keeps_p37 {R : sProp 𝕄} (H : Acc c R arg2 arg3 arg4 arg5 arg6 arg7 arg8 arg9 arg10 arg11 arg12 arg13 arg14 arg15 arg16 arg17 arg18 arg19) {v3779 : IVec S8x64 32} {v3785 : IVec S8x64 32} {v3788 : IVec S8x64 32} {v3794 : IVec S8x64 32} {v3797 : IVec S8x64 32} {v3803 : IVec S8x64 32} {v3806 : IVec S8x64 32} {v3812 : IVec S8x64 32} {v3815 : IVec S8x64 32} {v3821 : IVec S8x64 32} {v3824 : IVec S8x64 32} {v3922 : IVec S8x64 32} :
    Keeps c R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v3779 v3785 v3788 v3794 v3797 v3803 v3806 v3812 v3815 v3821 v3824 v3922) := by
  rw [k0_part37_eq_skeleton]
  unfold k0_part37_skel
  exact Keeps.pure _

theorem keeps_p40 {R : sProp 𝕄} (H : Acc c R arg2 arg3 arg4 arg5 arg6 arg7 arg8 arg9 arg10 arg11 arg12 arg13 arg14 arg15 arg16 arg17 arg18 arg19) {k0_h1 : k0_cond1 i = 1#1} {k0_t1 : Fin k0_t1_loop.trips} {v2421 : BitVec 32} {v3914 : IVec S8x64 32} {v3920 : IVec S8x64 32} {v3923 : IVec S8x64 32} {v3929 : IVec S8x64 32} {v3932 : IVec S8x64 32} {v3938 : IVec S8x64 32} {v3941 : IVec S8x64 32} {v3947 : IVec S8x64 32} {v4057 : IVec S8x64 32} :
    Keeps c R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 k0_t1 v2421 v3914 v3920 v3923 v3929 v3932 v3938 v3941 v3947 v4057) := by
  rw [k0_part40_eq_skeleton]
  unfold k0_part40_skel
  repeat'
    with_reducible first
      | exact Keeps.pure _
      | exact H.r13.load
      | exact H.w13.store
      | refine Keeps.bind ?_ fun _ => ?_

theorem keeps_p6 {R : sProp 𝕄} (H : Acc c R arg2 arg3 arg4 arg5 arg6 arg7 arg8 arg9 arg10 arg11 arg12 arg13 arg14 arg15 arg16 arg17 arg18 arg19) {v2436 : IVec S8x64 32} {v2437 : IVec S8x64 32} {v2438 : IVec S8x64 32} {v2439 : IVec S8x64 32} {v2451 : IVec S8x64 32} {v2452 : IVec S8x64 32} {v2453 : IVec S8x64 32} {v2454 : IVec S8x64 32} {v2455 : IVec S8x64 32} {v2461 : IVec S8x64 32} {v2533 : IVec S8x64 32} {v2559 : IVec S8x64 32} :
    Keeps c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2436 v2437 v2438 v2439 v2451 v2452 v2453 v2454 v2455 v2461 v2533 v2559) := by
  rw [k0_part6_eq_skeleton]
  unfold k0_part6_skel
  exact Keeps.pure _

theorem keeps_p91 {R : sProp 𝕄} (H : Acc c R arg2 arg3 arg4 arg5 arg6 arg7 arg8 arg9 arg10 arg11 arg12 arg13 arg14 arg15 arg16 arg17 arg18 arg19) {v373 : FVec F S8x64 .f32} {v376 : FVec F S512x128 .bf16} {v399 : FVec F S512x64 .f32} {v403 : FVec F S512x64 .f32} {v404 : FVec F S1x64 .f32} :
    Keeps c R (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v373 v376 v399 v403 v404) := by
  rw [k0_part91_eq_skeleton]
  unfold k0_part91_skel
  repeat'
    with_reducible first
      | exact Keeps.pure _
      | exact H.r3.load
      | refine Keeps.bind ?_ fun _ => ?_

theorem keeps_p95 {R : sProp 𝕄} (H : Acc c R arg2 arg3 arg4 arg5 arg6 arg7 arg8 arg9 arg10 arg11 arg12 arg13 arg14 arg15 arg16 arg17 arg18 arg19) {v482 : IVec S8x64 32} {v483 : IVec S8x64 32} {v484 : IVec S8x64 32} {v485 : IVec S8x64 32} {v486 : IVec S8x64 32} {v497 : IVec S8x64 32} {v498 : IVec S8x64 32} {v499 : IVec S8x64 32} {v500 : IVec S8x64 32} {v501 : IVec S8x64 32} {v502 : IVec S8x64 32} {v581 : IVec S8x64 32} {v583 : IVec S8x64 32} :
    Keeps c R (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v482 v483 v484 v485 v486 v497 v498 v499 v500 v501 v502 v581 v583) := by
  rw [k0_part95_eq_skeleton]
  unfold k0_part95_skel
  exact Keeps.pure _

theorem keeps_p99 {R : sProp 𝕄} (H : Acc c R arg2 arg3 arg4 arg5 arg6 arg7 arg8 arg9 arg10 arg11 arg12 arg13 arg14 arg15 arg16 arg17 arg18 arg19) {v558 : IVec S8x64 32} {v567 : IVec S8x64 32} {v576 : IVec S8x64 32} {v621 : IVec S8x64 32} {v630 : IVec S8x64 32} {v639 : IVec S8x64 32} {v648 : IVec S8x64 32} {v654 : IVec S8x64 32} {v663 : IVec S8x64 32} {v690 : IVec S8x64 32} {v699 : IVec S8x64 32} {v761 : IVec S8x64 32} {v763 : IVec S8x64 32} :
    Keeps c R (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v558 v567 v576 v621 v630 v639 v648 v654 v663 v690 v699 v761 v763) := by
  rw [k0_part99_eq_skeleton]
  unfold k0_part99_skel
  exact Keeps.pure _

theorem keeps_p148 {R : sProp 𝕄} (H : Acc c R arg2 arg3 arg4 arg5 arg6 arg7 arg8 arg9 arg10 arg11 arg12 arg13 arg14 arg15 arg16 arg17 arg18 arg19) {v47 : FVec F S1x128 .f32} {v55 : FVec F S512x128 .f32} {v60 : FVec F S1x128 .f32} {v124 : FVec F S512x128 .bf16} {v128 : FVec F S1x128 .f32} {v130 : FVec F S512x128 .f32} :
    Keeps c R (k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v47 v55 v60 v124 v128 v130) := by
  rw [k0_part148_eq_skeleton]
  unfold k0_part148_skel
  repeat'
    with_reducible first
      | exact Keeps.pure _
      | exact H.r10.load
      | exact H.r17.load
      | exact H.r18.load
      | exact H.r19.load
      | exact H.w17.store
      | exact H.w18.store
      | exact H.w19.store
      | refine Keeps.bind ?_ fun _ => ?_

theorem keeps_p152 {R : sProp 𝕄} (H : Acc c R arg2 arg3 arg4 arg5 arg6 arg7 arg8 arg9 arg10 arg11 arg12 arg13 arg14 arg15 arg16 arg17 arg18 arg19) {v202 : FVec F S1x128 .f32} {v210 : FVec F S512x128 .f32} {v215 : FVec F S1x128 .f32} {v243 : FVec F S512x128 .bf16} {v247 : FVec F S1x128 .f32} {v250 : FVec F S512x128 .f32} {v261 : FVec F S128x128 .f32} :
    Keeps c R (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v202 v210 v215 v243 v247 v250 v261) := by
  rw [k0_part152_eq_skeleton]
  unfold k0_part152_skel
  repeat'
    with_reducible first
      | exact Keeps.pure _
      | exact H.r10.load
      | exact H.r17.load
      | exact H.r18.load
      | exact H.r19.load
      | exact H.w17.store
      | exact H.w18.store
      | exact H.w19.store
      | refine Keeps.bind ?_ fun _ => ?_

end Cert.Sample
-- ==== Proof.SampleBody.lean ====
/- The pieces of the attention call of the decoded tokens that call others, and the whole body. -/
module

public import proofs.«01_k».proof.Proof.SampleParts1
public import proofs.«01_k».proof.Proof.SampleParts2
public import proofs.«01_k».proof.Proof.SampleParts3
public import proofs.«01_k».proof.Proof.SampleParts4

@[expose] public section

set_option maxRecDepth 65536

noncomputable section

namespace Cert.Sample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

variable {c : Dev nD} {i : grid0.Coords} {arg2 : Memref sig .tc .vmem S64x1024 .bf16} {harg2 : arg2.IsWhole} {arg3 : Memref sig .tc .vmem S64x1024 .bf16} {harg3 : arg3.IsWhole} {arg4 : Memref sig .tc .vmem S64x128 .f32} {harg4 : arg4.IsWhole} {arg5 : Memref sig .tc .vmem S64x512 .bf16} {harg5 : arg5.IsWhole} {arg6 : Memref sig .tc .vmem S64x512 .bf16} {harg6 : arg6.IsWhole} {arg7 : Memref sig .tc .vmem S64x128 .bf16} {harg7 : arg7.IsWhole} {arg8 : Memref sig .tc .vmem S4096x128 .bf16} {harg8 : arg8.IsWhole} {arg9 : Memref sig .tc .vmem S4096x128 .f32} {harg9 : arg9.IsWhole} {arg10 : Memref sig .tc .vmem S4096x128 .f32} {harg10 : arg10.IsWhole} {arg11 : Memref sig .tc .vmem S64x1024 .bf16} {harg11 : arg11.IsWhole} {arg12 : Memref sig .tc .vmem S9x512x64 .f32} {harg12 : arg12.IsWhole} {arg13 : Memref sig .tc .vmem S32x144x64 .i32} {harg13 : arg13.IsWhole} {arg14 : Memref sig .tc .vmem S9x512x64 .f32} {harg14 : arg14.IsWhole} {arg15 : Memref sig .tc .vmem S1x64 .i32} {harg15 : arg15.IsWhole} {arg16 : Memref sig .tc .vmem S8x64 .f32} {harg16 : arg16.IsWhole} {arg17 : Memref sig .tc .vmem S4x1x128 .f32} {harg17 : arg17.IsWhole} {arg18 : Memref sig .tc .vmem S4x1x128 .f32} {harg18 : arg18.IsWhole} {arg19 : Memref sig .tc .vmem S4x128x128 .f32} {harg19 : arg19.IsWhole}

theorem keeps_t2 {R : sProp 𝕄} (H : Acc c R arg2 arg3 arg4 arg5 arg6 arg7 arg8 arg9 arg10 arg11 arg12 arg13 arg14 arg15 arg16 arg17 arg18 arg19) {k0_h1 : k0_cond1 i = 1#1} {v382 : IVec S1x64 32} {v2096 : IVec S8x64 32} {v2102 : IVec S8x64 32} {v2105 : IVec S8x64 32} {v2106 : BitVec 32} (k : Fin k0_t2_loop.trips) (s : IVec S144x64 32 × FVec F S1x64 .f32 × IVec S1x64 32) :
    Keeps c R (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v382 v2096 v2102 v2105 v2106 k s) := by
  obtain ⟨_, _, _⟩ := s
  unfold k0_t2_body
  repeat'
    with_reducible first
      | exact Keeps.pure _
      | exact keeps_p133 H
      | exact H.r13.load
      | refine Keeps.bind ?_ fun _ => ?_

theorem keeps_p133 {R : sProp 𝕄} (H : Acc c R arg2 arg3 arg4 arg5 arg6 arg7 arg8 arg9 arg10 arg11 arg12 arg13 arg14 arg15 arg16 arg17 arg18 arg19) {k0_h1 : k0_cond1 i = 1#1} {v382 : IVec S1x64 32} {v2096 : IVec S8x64 32} {v2102 : IVec S8x64 32} {v2105 : IVec S8x64 32} {v2106 : BitVec 32} :
    Keeps c R (k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v382 v2096 v2102 v2105 v2106) := by
  rw [k0_part133_eq_skeleton]
  unfold k0_part133_skel
  repeat'
    with_reducible first
      | exact Keeps.pure _
      | exact Keeps.for _ _ _ _ fun k s => keeps_t2 H k s
      | exact H.r13.load
      | exact H.w13.store
      | refine Keeps.bind ?_ fun ⟨_, _, _⟩ => ?_
      | refine Keeps.bind ?_ fun _ => ?_

theorem keeps_t3 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2256 : IVec S1x64 32} {v2258 : IVec S1x64 1} {v2260 : IVec S1x64 32} (k : Fin k0_t3_loop.trips) (s : FVec F S8x64 .f32 × FVec F S8x64 .f32 × FVec F S8x64 .f32 × FVec F S8x64 .f32) :
    Keeps c R (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2256 v2258 v2260 k s) := by
  obtain ⟨_, _, _, _⟩ := s
  unfold k0_t3_body
  repeat'
    with_reducible first
      | exact Keeps.pure _
      | exact keeps_p134 H
      | exact keeps_p44 H
      | exact keeps_p45 H
      | exact keeps_p46 H
      | exact keeps_p47 H
      | exact keeps_p48 H
      | exact keeps_p49 H
      | refine Keeps.bind ?_ fun ⟨_, _, _, _, _⟩ => ?_
      | refine Keeps.bind ?_ fun ⟨_, _, _, _⟩ => ?_
      | refine Keeps.bind ?_ fun _ => ?_

theorem keeps_t4 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2256 : IVec S1x64 32} {v2258 : IVec S1x64 1} {v2260 : IVec S1x64 32} (k : Fin k0_t4_loop.trips) (s : FVec F S8x64 .f32 × FVec F S8x64 .f32 × FVec F S8x64 .f32 × FVec F S8x64 .f32) :
    Keeps c R (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2256 v2258 v2260 k s) := by
  obtain ⟨_, _, _, _⟩ := s
  unfold k0_t4_body
  repeat'
    with_reducible first
      | exact Keeps.pure _
      | exact keeps_p134 H
      | exact keeps_p50 H
      | exact keeps_p51 H
      | exact keeps_p52 H
      | exact keeps_p53 H
      | exact keeps_p54 H
      | exact keeps_p55 H
      | refine Keeps.bind ?_ fun ⟨_, _, _, _, _⟩ => ?_
      | refine Keeps.bind ?_ fun ⟨_, _, _, _⟩ => ?_
      | refine Keeps.bind ?_ fun _ => ?_

theorem keeps_p134 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2256 : IVec S1x64 32} {v2258 : IVec S1x64 1} {v2260 : IVec S1x64 32} :
    Keeps c R (k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2256 v2258 v2260) := by
  rw [k0_part134_eq_skeleton]
  unfold k0_part134_skel
  repeat'
    with_reducible first
      | exact Keeps.pure _
      | exact Keeps.for _ _ _ _ fun k s => keeps_t3 H k s
      | exact Keeps.for _ _ _ _ fun k s => keeps_t4 H k s
      | exact H.r16.load
      | exact H.w16.store
      | refine Keeps.bind ?_ fun ⟨_, _, _, _⟩ => ?_
      | refine Keeps.bind ?_ fun _ => ?_

theorem keeps_t6 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {k0_t5 : Fin k0_t5_loop.trips} {arg21 : IVec S1x64 32} (k : Fin k0_t6_loop.trips) (s : FVec F S8x64 .f32 × FVec F S8x64 .f32 × FVec F S8x64 .f32 × FVec F S8x64 .f32) :
    Keeps c R (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 k0_t5 arg21 k s) := by
  obtain ⟨_, _, _, _⟩ := s
  unfold k0_t6_body
  repeat'
    with_reducible first
      | exact Keeps.pure _
      | exact keeps_p56 H
      | exact keeps_p57 H
      | exact keeps_p58 H
      | exact keeps_p59 H
      | exact keeps_p60 H
      | exact keeps_p61 H
      | exact keeps_p74 H
      | refine Keeps.bind ?_ fun ⟨_, _, _, _, _⟩ => ?_
      | refine Keeps.bind ?_ fun ⟨_, _, _, _⟩ => ?_
      | refine Keeps.bind ?_ fun _ => ?_

theorem keeps_t5 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} (k : Fin k0_t5_loop.trips) (s : IVec S1x64 32) :
    Keeps c R (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 k s) := by
  unfold k0_t5_body
  repeat'
    with_reducible first
      | exact Keeps.pure _
      | exact keeps_p74 H
      | exact Keeps.for _ _ _ _ fun k s => keeps_t6 H k s
      | refine Keeps.bind ?_ fun ⟨_, _, _, _⟩ => ?_
      | refine Keeps.bind ?_ fun _ => ?_

theorem keeps_t7 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2342 : IVec S1x64 32} (k : Fin k0_t7_loop.trips) (s : FVec F S8x64 .f32 × FVec F S8x64 .f32 × FVec F S8x64 .f32 × FVec F S8x64 .f32) :
    Keeps c R (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2342 k s) := by
  obtain ⟨_, _, _, _⟩ := s
  unfold k0_t7_body
  repeat'
    with_reducible first
      | exact Keeps.pure _
      | exact keeps_p62 H
      | exact keeps_p63 H
      | exact keeps_p64 H
      | exact keeps_p65 H
      | exact keeps_p66 H
      | exact keeps_p67 H
      | exact keeps_p74 H
      | refine Keeps.bind ?_ fun ⟨_, _, _, _, _⟩ => ?_
      | refine Keeps.bind ?_ fun ⟨_, _, _, _⟩ => ?_
      | refine Keeps.bind ?_ fun _ => ?_

theorem keeps_t8 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2342 : IVec S1x64 32} (k : Fin k0_t8_loop.trips) (s : FVec F S8x64 .f32 × FVec F S8x64 .f32 × FVec F S8x64 .f32 × FVec F S8x64 .f32) :
    Keeps c R (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2342 k s) := by
  obtain ⟨_, _, _, _⟩ := s
  unfold k0_t8_body
  repeat'
    with_reducible first
      | exact Keeps.pure _
      | exact keeps_p68 H
      | exact keeps_p69 H
      | exact keeps_p70 H
      | exact keeps_p71 H
      | exact keeps_p72 H
      | exact keeps_p73 H
      | exact keeps_p74 H
      | refine Keeps.bind ?_ fun ⟨_, _, _, _, _⟩ => ?_
      | refine Keeps.bind ?_ fun ⟨_, _, _, _⟩ => ?_
      | refine Keeps.bind ?_ fun _ => ?_

theorem keeps_p74 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} :
    Keeps c R (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241) := by
  rw [k0_part74_eq_skeleton]
  unfold k0_part74_skel
  repeat'
    with_reducible first
      | exact Keeps.pure _
      | exact Keeps.for _ _ _ _ fun k s => keeps_t5 H k s
      | exact Keeps.for _ _ _ _ fun k s => keeps_t7 H k s
      | exact Keeps.for _ _ _ _ fun k s => keeps_t8 H k s
      | exact H.r16.load
      | exact H.w16.store
      | refine Keeps.bind ?_ fun ⟨_, _, _, _⟩ => ?_
      | refine Keeps.bind ?_ fun _ => ?_

theorem keeps_t11 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2254 : IVec S8x64 32} {v2293 : IVec S1x64 1} {v2295 : IVec S1x64 1} {v2307 : Vec F S1x64 .f32} {v2326 : Vec F S1x64 .i32} (k : Fin k0_t11_loop.trips) (s : Unit) :
    Keeps c R (k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2254 v2293 v2295 v2307 v2326 k s) := by
  unfold k0_t11_body
  repeat'
    with_reducible first
      | exact Keeps.pure _
      | exact keeps_p135 H
      | exact H.r12.load
      | exact H.r14.load
      | exact H.w14.store
      | refine Keeps.bind ?_ fun _ => ?_

theorem keeps_t10 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2254 : IVec S8x64 32} {v2293 : IVec S1x64 1} {v2295 : IVec S1x64 1} {v2307 : Vec F S1x64 .f32} {k0_t9 : Fin k0_t9_loop.trips} {arg21 : IVec S1x64 32} (k : Fin k0_t10_loop.trips) (s : FVec F S8x64 .f32 × FVec F S8x64 .f32 × FVec F S8x64 .f32 × FVec F S8x64 .f32) :
    Keeps c R (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2254 v2293 v2295 v2307 k0_t9 arg21 k s) := by
  obtain ⟨_, _, _, _⟩ := s
  unfold k0_t10_body
  repeat'
    with_reducible first
      | exact Keeps.pure _
      | exact keeps_p135 H
      | exact keeps_p75 H
      | exact keeps_p76 H
      | exact keeps_p77 H
      | exact keeps_p78 H
      | exact keeps_p79 H
      | exact keeps_p80 H
      | exact keeps_p81 H
      | exact keeps_p82 H
      | exact keeps_p83 H
      | exact keeps_p84 H
      | exact keeps_p85 H
      | exact keeps_p86 H
      | exact keeps_p87 H
      | exact keeps_p88 H
      | exact keeps_p89 H
      | refine Keeps.bind ?_ fun ⟨_, _, _, _, _, _, _, _⟩ => ?_
      | refine Keeps.bind ?_ fun ⟨_, _, _, _, _, _, _⟩ => ?_
      | refine Keeps.bind ?_ fun ⟨_, _, _, _, _, _⟩ => ?_
      | refine Keeps.bind ?_ fun ⟨_, _, _, _, _⟩ => ?_
      | refine Keeps.bind ?_ fun ⟨_, _, _, _⟩ => ?_
      | refine Keeps.bind ?_ fun _ => ?_

theorem keeps_t9 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2254 : IVec S8x64 32} {v2293 : IVec S1x64 1} {v2295 : IVec S1x64 1} {v2307 : Vec F S1x64 .f32} {v2309 : Vec F S1x64 .f32} (k : Fin k0_t9_loop.trips) (s : IVec S1x64 32) :
    Keeps c R (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2254 v2293 v2295 v2307 v2309 k s) := by
  unfold k0_t9_body
  repeat'
    with_reducible first
      | exact Keeps.pure _
      | exact keeps_p135 H
      | exact Keeps.for _ _ _ _ fun k s => keeps_t10 H k s
      | refine Keeps.bind ?_ fun ⟨_, _, _, _⟩ => ?_
      | refine Keeps.bind ?_ fun _ => ?_

theorem keeps_p135 {R : sProp 𝕄} (H : Acc c R arg2 arg3 arg4 arg5 arg6 arg7 arg8 arg9 arg10 arg11 arg12 arg13 arg14 arg15 arg16 arg17 arg18 arg19) {k0_h1 : k0_cond1 i = 1#1} {v2241 : FVec F S1x64 .f32} {v2254 : IVec S8x64 32} {v2293 : IVec S1x64 1} {v2295 : IVec S1x64 1} :
    Keeps c R (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v2241 v2254 v2293 v2295) := by
  rw [k0_part135_eq_skeleton]
  unfold k0_part135_skel
  repeat'
    with_reducible first
      | exact Keeps.pure _
      | exact keeps_p74 H
      | exact Keeps.for _ _ _ _ fun k s => keeps_t11 H k s
      | exact Keeps.for _ _ _ _ fun k s => keeps_t9 H k s
      | exact H.r15.load
      | exact H.r16.load
      | exact H.w15.store
      | exact H.w16.store
      | refine Keeps.bind ?_ fun _ => ?_
      | refine Keeps.ite ?_ ?_

theorem keeps_p43 {R : sProp 𝕄} (H : Acc c R arg2 arg3 arg4 arg5 arg6 arg7 arg8 arg9 arg10 arg11 arg12 arg13 arg14 arg15 arg16 arg17 arg18 arg19) {k0_h1 : k0_cond1 i = 1#1} {v373 : FVec F S8x64 .f32} {c0_i32_260 : BitVec 32} {c1_i32_261 : BitVec 32} {k0_t1 : Fin k0_t1_loop.trips} :
    Keeps c R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h1 v373 c0_i32_260 c1_i32_261 k0_t1) := by
  rw [k0_part43_eq_skeleton]
  unfold k0_part43_skel
  repeat'
    with_reducible first
      | exact Keeps.pure _
      | exact keeps_p1 H
      | exact keeps_p10 H
      | exact keeps_p11 H
      | exact keeps_p12 H
      | exact keeps_p13 H
      | exact keeps_p14 H
      | exact keeps_p15 H
      | exact keeps_p16 H
      | exact keeps_p17 H
      | exact keeps_p18 H
      | exact keeps_p19 H
      | exact keeps_p2 H
      | exact keeps_p20 H
      | exact keeps_p21 H
      | exact keeps_p22 H
      | exact keeps_p23 H
      | exact keeps_p24 H
      | exact keeps_p25 H
      | exact keeps_p26 H
      | exact keeps_p27 H
      | exact keeps_p28 H
      | exact keeps_p29 H
      | exact keeps_p3 H
      | exact keeps_p30 H
      | exact keeps_p31 H
      | exact keeps_p32 H
      | exact keeps_p33 H
      | exact keeps_p34 H
      | exact keeps_p35 H
      | exact keeps_p36 H
      | exact keeps_p37 H
      | exact keeps_p38 H
      | exact keeps_p39 H
      | exact keeps_p4 H
      | exact keeps_p40 H
      | exact keeps_p41 H
      | exact keeps_p42 H
      | exact keeps_p5 H
      | exact keeps_p6 H
      | exact keeps_p7 H
      | exact keeps_p8 H
      | exact keeps_p9 H
      | exact H.r13.load
      | exact H.w13.store
      | refine Keeps.bind ?_ fun ⟨_, _, _, _, _, _, _, _, _, _, _, _, _, _, _, _, _, _, _, _, _, _, _, _, _, _, _, _, _, _, _, _, _, _, _⟩ => ?_
      | refine Keeps.bind ?_ fun ⟨_, _, _, _, _, _, _, _, _, _, _, _, _, _, _, _, _, _, _, _, _, _, _, _, _, _, _, _, _, _, _⟩ => ?_
      | refine Keeps.bind ?_ fun ⟨_, _, _, _, _, _, _, _, _, _, _⟩ => ?_
      | refine Keeps.bind ?_ fun ⟨_, _, _, _, _, _, _, _⟩ => ?_
      | refine Keeps.bind ?_ fun ⟨_, _, _, _, _⟩ => ?_
      | refine Keeps.bind ?_ fun ⟨_, _, _⟩ => ?_
      | refine Keeps.bind ?_ fun ⟨_, _⟩ => ?_
      | refine Keeps.bind ?_ fun _ => ?_

theorem keeps_t1 {R : sProp 𝕄} (H : Acc c R arg2 arg3 arg4 arg5 arg6 arg7 arg8 arg9 arg10 arg11 arg12 arg13 arg14 arg15 arg16 arg17 arg18 arg19) {v0 : FVec F S448x128 .bf16} {k0_h1 : k0_cond1 i = 1#1} {v369 : Vec F S64x128 .f32} (k : Fin k0_t1_loop.trips) (s : Unit) :
    Keeps c R (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_h1 v369 k s) := by
  unfold k0_t1_body
  repeat'
    with_reducible first
      | exact Keeps.pure _
      | exact keeps_p43 H
      | exact keeps_p90 H
      | exact H.r13.load
      | exact H.w13.store
      | refine Keeps.bind ?_ fun ⟨_, _, _, _, _, _⟩ => ?_
      | refine Keeps.bind ?_ fun _ => ?_

theorem keeps_p90 {R : sProp 𝕄} (H : Acc c R arg2 arg3 arg4 arg5 arg6 arg7 arg8 arg9 arg10 arg11 arg12 arg13 arg14 arg15 arg16 arg17 arg18 arg19) {v0 : FVec F S448x128 .bf16} {k0_h1 : k0_cond1 i = 1#1} :
    Keeps c R (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_h1) := by
  rw [k0_part90_eq_skeleton]
  unfold k0_part90_skel
  repeat'
    with_reducible first
      | exact Keeps.pure _
      | exact Keeps.for _ _ _ _ fun k s => keeps_t1 H k s
      | exact H.r3.load
      | exact H.r4.load
      | exact H.r7.load
      | refine Keeps.bind ?_ fun _ => ?_

theorem keeps_p136 {R : sProp 𝕄} (H : Acc c R arg2 arg3 arg4 arg5 arg6 arg7 arg8 arg9 arg10 arg11 arg12 arg13 arg14 arg15 arg16 arg17 arg18 arg19) {v0 : FVec F S448x128 .bf16} {k0_h1 : k0_cond1 i = 1#1} :
    Keeps c R (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 k0_h1) := by
  rw [k0_part136_eq_skeleton]
  unfold k0_part136_skel
  repeat'
    with_reducible first
      | exact Keeps.pure _
      | exact keeps_p100 H
      | exact keeps_p101 H
      | exact keeps_p102 H
      | exact keeps_p103 H
      | exact keeps_p104 H
      | exact keeps_p105 H
      | exact keeps_p106 H
      | exact keeps_p107 H
      | exact keeps_p108 H
      | exact keeps_p109 H
      | exact keeps_p110 H
      | exact keeps_p111 H
      | exact keeps_p112 H
      | exact keeps_p113 H
      | exact keeps_p114 H
      | exact keeps_p115 H
      | exact keeps_p116 H
      | exact keeps_p117 H
      | exact keeps_p118 H
      | exact keeps_p119 H
      | exact keeps_p120 H
      | exact keeps_p121 H
      | exact keeps_p122 H
      | exact keeps_p123 H
      | exact keeps_p124 H
      | exact keeps_p125 H
      | exact keeps_p126 H
      | exact keeps_p127 H
      | exact keeps_p128 H
      | exact keeps_p129 H
      | exact keeps_p130 H
      | exact keeps_p131 H
      | exact keeps_p132 H
      | exact keeps_p133 H
      | exact keeps_p134 H
      | exact keeps_p135 H
      | exact keeps_p90 H
      | exact keeps_p91 H
      | exact keeps_p92 H
      | exact keeps_p93 H
      | exact keeps_p94 H
      | exact keeps_p95 H
      | exact keeps_p96 H
      | exact keeps_p97 H
      | exact keeps_p98 H
      | exact keeps_p99 H
      | exact H.r17.load
      | exact H.w17.store
      | refine Keeps.bind ?_ fun ⟨_, _, _, _, _, _, _, _, _, _, _, _, _, _, _, _, _, _, _, _, _, _, _, _, _, _, _, _, _, _, _, _, _⟩ => ?_
      | refine Keeps.bind ?_ fun ⟨_, _, _, _, _, _, _, _, _, _, _, _, _, _, _, _, _, _, _, _, _, _⟩ => ?_
      | refine Keeps.bind ?_ fun ⟨_, _, _, _, _, _, _, _, _, _, _, _, _, _, _, _, _, _, _⟩ => ?_
      | refine Keeps.bind ?_ fun ⟨_, _, _, _, _, _, _, _, _, _, _, _⟩ => ?_
      | refine Keeps.bind ?_ fun ⟨_, _, _, _, _, _, _, _, _, _, _⟩ => ?_
      | refine Keeps.bind ?_ fun ⟨_, _, _, _, _, _, _⟩ => ?_
      | refine Keeps.bind ?_ fun ⟨_, _, _, _, _⟩ => ?_
      | refine Keeps.bind ?_ fun ⟨_, _, _, _⟩ => ?_
      | refine Keeps.bind ?_ fun ⟨_, _, _⟩ => ?_
      | refine Keeps.bind ?_ fun ⟨_, _⟩ => ?_
      | refine Keeps.bind ?_ fun _ => ?_

theorem keeps_p144 {R : sProp 𝕄} (H : Acc c R arg2 arg3 arg4 arg5 arg6 arg7 arg8 arg9 arg10 arg11 arg12 arg13 arg14 arg15 arg16 arg17 arg18 arg19)  :
    Keeps c R (k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) := by
  rw [k0_part144_eq_skeleton]
  unfold k0_part144_skel
  repeat'
    with_reducible first
      | exact Keeps.pure _
      | exact keeps_p136 H
      | exact H.r14.load
      | exact H.r17.load
      | exact H.r18.load
      | exact H.r19.load
      | exact H.r2.load
      | exact H.r9.load
      | exact H.w18.store
      | exact H.w19.store
      | refine Keeps.bind ?_ fun _ => ?_
      | refine Keeps.dite (fun _ => ?_) (fun _ => ?_)

theorem keeps_body {R : sProp 𝕄} (H : Acc c R arg2 arg3 arg4 arg5 arg6 arg7 arg8 arg9 arg10 arg11 arg12 arg13 arg14 arg15 arg16 arg17 arg18 arg19)  :
    Keeps c R (cc0_dsa_sample i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) := by
  rw [cc0_dsa_sample_eq_skeleton]
  unfold cc0_dsa_sample_skel
  repeat'
    with_reducible first
      | exact Keeps.pure _
      | exact keeps_p137 H
      | exact keeps_p138 H
      | exact keeps_p139 H
      | exact keeps_p140 H
      | exact keeps_p141 H
      | exact keeps_p142 H
      | exact keeps_p143 H
      | exact keeps_p144 H
      | exact keeps_p145 H
      | exact keeps_p146 H
      | exact keeps_p147 H
      | exact keeps_p148 H
      | exact keeps_p149 H
      | exact keeps_p150 H
      | exact keeps_p151 H
      | exact keeps_p152 H
      | exact keeps_p153 H
      | exact keeps_p154 H
      | exact H.r11.load
      | exact H.r17.load
      | exact H.w11.store
      | exact H.w17.store
      | exact H.w19.store
      | refine Keeps.bind ?_ fun ⟨_, _, _, _, _, _⟩ => ?_
      | refine Keeps.bind ?_ fun ⟨_, _, _, _, _⟩ => ?_
      | refine Keeps.bind ?_ fun ⟨_, _, _, _⟩ => ?_
      | refine Keeps.bind ?_ fun ⟨_, _, _⟩ => ?_
      | refine Keeps.bind ?_ fun ⟨_, _⟩ => ?_
      | refine Keeps.bind ?_ fun _ => ?_
      | refine Keeps.dite (fun _ => ?_) (fun _ => ?_)

end Cert.Sample
-- ==== Proof.SampleFrame.lean ====
/- The frame of the attention call of the decoded tokens: one run of the pipeline, nothing stated of what it leaves in its
   output, every argument array unchanged and every semaphore counter at zero. -/
module

public import proofs.«01_k».proof.Proof.SampleBody
public import proofs.«01_k».proof.Proof.Gen.Kernel.Frame
public import proofs.«01_k».proof.Defs

@[expose] public section

set_option maxRecDepth 16384

noncomputable section

namespace Cert.Sample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Lending

variable {c : Dev nD}

theorem Reads.owned {sp : Space} {s : Shape} {e : EltTy} {M : Memref sig .tc sp s e} {q : PosShare TreeShare} {X : s.Idx → Elt F e} :
    Reads c (owns (c : Thread nD τ) M q X : sProp 𝕄) M := by
  refine ⟨q, ?_⟩
  unfold owns
  iintro ⟨%f, %hf, H⟩
  iexists f
  isplitl [H]; · iexact H
  iintro H
  iexists f
  isplitr; · ipureintro; exact hf
  iexact H

theorem Writes.owned {sp : Space} {s : Shape} {e : EltTy} {M : Memref sig .tc sp s e} :
    Writes c (iprop(∃ X, owns (c : Thread nD τ) M fullShare X) : sProp 𝕄) M := by
  unfold Writes owns
  iintro ⟨%X, %f, %hf, H⟩
  iexists f
  isplitl [H]; · iexact H
  iintro %g H
  iexists (M.view.read (Elt F) g)
  iexists g
  isplitr; · ipureintro; rfl
  iexact H

theorem Reads.left {A B : sProp 𝕄} {sp : Space} {s : Shape} {e : EltTy} {M : Memref sig .tc sp s e} (h : Reads c A M) : Reads c iprop(A ∗ B) M := by
  obtain ⟨q, h⟩ := h
  refine ⟨q, (sep_mono_left h).trans ?_⟩
  iintro ⟨⟨%f, H, K⟩, HB⟩
  iexists f
  isplitl [H]; · iexact H
  iintro H
  isplitr [HB]; · iapply K; iexact H
  iexact HB

theorem Reads.right {A B : sProp 𝕄} {sp : Space} {s : Shape} {e : EltTy} {M : Memref sig .tc sp s e} (h : Reads c B M) : Reads c iprop(A ∗ B) M := by
  obtain ⟨q, h⟩ := h
  refine ⟨q, (sep_mono_right h).trans ?_⟩
  iintro ⟨HA, %f, H, K⟩
  iexists f
  isplitl [H]; · iexact H
  iintro H
  isplitl [HA]; · iexact HA
  iapply K; iexact H

theorem Writes.left {A B : sProp 𝕄} {sp : Space} {s : Shape} {e : EltTy} {M : Memref sig .tc sp s e} (h : Writes c A M) : Writes c iprop(A ∗ B) M := by
  refine (sep_mono_left h).trans ?_
  iintro ⟨⟨%f, H, K⟩, HB⟩
  iexists f
  isplitl [H]; · iexact H
  iintro %g H
  isplitr [HB]; · iapply K; iexact H
  iexact HB

theorem Writes.right {A B : sProp 𝕄} {sp : Space} {s : Shape} {e : EltTy} {M : Memref sig .tc sp s e} (h : Writes c B M) : Writes c iprop(A ∗ B) M := by
  refine (sep_mono_right h).trans ?_
  iintro ⟨HA, %f, H, K⟩
  iexists f
  isplitl [H]; · iexact H
  iintro %g H
  isplitl [HA]; · iexact HA
  iapply K; iexact H

end Lending

/-- The output window, of which nothing is stated. -/
def forgets0 : Fin 10 → Bool := fun w => w.val == 9

/-- The proof data: the arrays as the region finds them, each input's buffer at its block after every point, nothing of
    the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨_ + 10, h⟩ => absurd h (Nat.not_lt.2 (Nat.le_add_left _ _))
  Φ _ := Pipeline.ΦA spec0 c
  q w := if (spec0 w).isOut then fullShare else Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Scratch buffer 0, whole. -/
abbrev sc0_0 := (Memref.whole cc0_scratch0 : Memref sig .tc _ _ _)
/-- Scratch buffer 1, whole. -/
abbrev sc0_1 := (Memref.whole cc0_scratch1 : Memref sig .tc _ _ _)
/-- Scratch buffer 2, whole. -/
abbrev sc0_2 := (Memref.whole cc0_scratch2 : Memref sig .tc _ _ _)
/-- Scratch buffer 3, whole. -/
abbrev sc0_3 := (Memref.whole cc0_scratch3 : Memref sig .tc _ _ _)
/-- Scratch buffer 4, whole. -/
abbrev sc0_4 := (Memref.whole cc0_scratch4 : Memref sig .tc _ _ _)
/-- Scratch buffer 5, whole. -/
abbrev sc0_5 := (Memref.whole cc0_scratch5 : Memref sig .tc _ _ _)
/-- Scratch buffer 6, whole. -/
abbrev sc0_6 := (Memref.whole cc0_scratch6 : Memref sig .tc _ _ _)
/-- Scratch buffer 7, whole. -/
abbrev sc0_7 := (Memref.whole cc0_scratch7 : Memref sig .tc _ _ _)

/-- The invariant between points: the scratch buffers at anything and the generator register. -/
theorem PhiA0_eq (c : Dev nD) : (Pipeline.ΦA spec0 c : sProp 𝕄)
    = iprop(((∃ d, owns (c : Thread nD τ) sc0_0 fullShare d) ∗ (∃ d, owns (c : Thread nD τ) sc0_1 fullShare d) ∗ (∃ d, owns (c : Thread nD τ) sc0_2 fullShare d) ∗ (∃ d, owns (c : Thread nD τ) sc0_3 fullShare d) ∗ (∃ d, owns (c : Thread nD τ) sc0_4 fullShare d) ∗ (∃ d, owns (c : Thread nD τ) sc0_5 fullShare d) ∗ (∃ d, owns (c : Thread nD τ) sc0_6 fullShare d) ∗ (∃ d, owns (c : Thread nD τ) sc0_7 fullShare d)) ∗ (∃ r, prngReg c r)) := by
  unfold Pipeline.ΦA; rw [scopedRest0_eq]; simp only [sc0_0, sc0_1, sc0_2, sc0_3, sc0_4, sc0_5, sc0_6, sc0_7, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d))

/-- and what it returns: the same, every input block named. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d))

theorem pre_post (c : Dev nD) (t : Fin cfg0.N) : bodyPre m c t ⊢ bodyPost m c t := by
  unfold bodyPre bodyPost
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- At every point the blocks and the scratch buffers are lent to the body. -/
theorem acc (c : Dev nD) (t : Fin cfg0.N) : Acc c (bodyPost m c t) (st0_0 t) (st0_1 t) (st0_2 t) (st0_3 t) (st0_4 t) (st0_5 t) (st0_6 t) (st0_7 t) (st0_8 t) (st0_9 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) := by
  unfold bodyPost
  rw [show (dats m 0 c).Φ t.succ = Pipeline.ΦA spec0 c from rfl, PhiA0_eq]
  constructor
  · exact .right (.right (.left .owned))
  · exact .right (.right (.right (.left .owned)))
  · exact .right (.right (.right (.right (.left .owned))))
  · exact .right (.right (.right (.right (.right (.left .owned)))))
  · exact .right (.right (.right (.right (.right (.right (.left .owned))))))
  · exact .right (.right (.right (.right (.right (.right (.right (.left .owned)))))))
  · exact .right (.right (.right (.right (.right (.right (.right (.right (.left .owned))))))))
  · exact .right (.right (.right (.right (.right (.right (.right (.right (.right (.left .owned)))))))))
  · exact .right (.right (.right (.right (.right (.right (.right (.right (.right (.right (.left .owned))))))))))
  · exact Writes.reads (.right (.right (.right (.right (.right (.right (.right (.right (.right (.right (.right (.owned))))))))))))
  · exact Writes.reads (.left (.left (.left .owned)))
  · exact Writes.reads (.left (.left (.right (.left .owned))))
  · exact Writes.reads (.left (.left (.right (.right (.left .owned)))))
  · exact Writes.reads (.left (.left (.right (.right (.right (.left .owned))))))
  · exact Writes.reads (.left (.left (.right (.right (.right (.right (.left .owned)))))))
  · exact Writes.reads (.left (.left (.right (.right (.right (.right (.right (.left .owned))))))))
  · exact Writes.reads (.left (.left (.right (.right (.right (.right (.right (.right (.left .owned)))))))))
  · exact Writes.reads (.left (.left (.right (.right (.right (.right (.right (.right (.right (.owned))))))))))
  · exact .right (.right (.right (.right (.right (.right (.right (.right (.right (.right (.right (.owned)))))))))))
  · exact .left (.left (.left .owned))
  · exact .left (.left (.right (.left .owned)))
  · exact .left (.left (.right (.right (.left .owned))))
  · exact .left (.left (.right (.right (.right (.left .owned)))))
  · exact .left (.left (.right (.right (.right (.right (.left .owned))))))
  · exact .left (.left (.right (.right (.right (.right (.right (.left .owned)))))))
  · exact .left (.left (.right (.right (.right (.right (.right (.right (.left .owned))))))))
  · exact .left (.left (.right (.right (.right (.right (.right (.right (.right (.owned)))))))))

/-- The body at any point. -/
theorem sound_body (c : Dev nD) (t : Fin cfg0.N) :
    bodyPre m c t ⊢ wp frame (wpE (defs₀ (F := F)) Variants.none c none) Set.univ (bodyAt0 t) (fun _ => bodyPost m c t) :=
  (pre_post m c t).trans (keeps_body (acc m c t))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every argument array at its entry contents, every semaphore counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch0.to₀ defs₀ Variants.none forgets0 m ρ main
    (hbody := fun c => (body_obligation m c).loose)
    (hq := fun c w h => by
      have h' : (spec0 w).isOut = false := h
      dsimp only [dats]; rw [h']; rfl)
    (howed := fun _ _ => rfl) (V := V m) (hmain := hmain m Variants.none) (hA := A_eq m) (hΦ := fun _ _ => rfl)

/-- At any values of the floats, from any memory with its counters at zero: the call terminates, its arguments are
    unchanged and the counters are at zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩, h.2⟩) (run_main m ρ)

end Cert.Sample
-- ==== Proof.ExpertsOps.lean ====
/- The loads and stores of the experts' body as steps on owned memrefs, and the cast of one slab of an expert's weights
   into the scratch that keeps them. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.ValueKit
public import Idealize.ShloMosaic.Lib.ValueLayout
public import Idealize.ShloMosaic.Lib.Tactic

@[expose] public section

set_option maxRecDepth 16384

noncomputable section

namespace Cert.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueKit

variable {F : FTy → Type} [FloatOps F]

local notation "𝕄" => MT nD τ sig Unit (Elt F) ℕ (UR sig nD τ) ℕ

/-- A program of the TensorCore that makes no call. -/
abbrev Pr (F : FTy → Type) (α : Type) := Prog (TpuEff nD τ sig (Elt F) Λ₀ .tc) α

/-- What must hold for the program to run without a fault and to end as `Q` says. -/
abbrev Wp (c : Dev nD) {α : Type} (p : Pr F α) (Q : α → sProp 𝕄) : sProp 𝕄 :=
  wp frame (wpE (defs₀ (F := F)) Variants.none (c : Thread nD τ) none) Set.univ p Q

/-- Ownership of a memref on the device's TensorCore. -/
abbrev Own (c : Dev nD) {sp : Space} {s : Shape} {e : EltTy} (m : Memref sig .tc sp s e) (q : PosShare TreeShare) (X : s.Idx → Elt F e) : sProp 𝕄 :=
  owns (c : Thread nD τ) m q X

variable {c : Dev nD} {α β : Type}

/-- A load of an owned memref returns what the memref holds at the rectangle, and leaves it owned. -/
theorem load_own {cs : CoreSpace} {s : Shape} {e : EltTy} {m : Memref sig .tc cs s e} {q : PosShare TreeShare} {X : s.Idx → Elt F e} {r : Rect s}
    {hl : m.view.LoadsAt r.toLoadRect} {k : (r.shape.Idx → Elt F e) → Pr F β} {Q : β → sProp 𝕄} :
    Own c m q X ⊢ iprop((Own c m q X -∗ Wp c (k (fun j => X (r.emb j))) Q) -∗ Wp c (Prog.lift (TpuEff.load m r.toLoadRect hl) >>= k) Q) := by
  unfold Own owns
  iintro ⟨%f, %hf, H⟩ K
  iapply (wp_load_rect (q := q) (f := f) Variants.none (c : Thread nD τ) none Set.univ (m := m) (r := r) (hl := hl) (k := k) (m.view.set_slice_subset r)) $$ H
  iintro H
  have hv : (m.access r).read (Elt F) f = fun j => X (r.emb j) := by rw [← hf]; rfl
  rw [hv]
  iapply K
  iexists f
  isplitr
  · ipureintro; exact hf
  · iexact H

/-- A store to an owned memref replaces what it holds on the rectangle. -/
theorem store_own {cs : CoreSpace} {s : Shape} {e : EltTy} {m : Memref sig .tc cs s e} {X : s.Idx → Elt F e} {r : Rect s}
    {w : r.shape.Idx → Elt F e} {hx : (m.access r).Stores Finset.univ} {hm : (Finset.univ : Finset r.shape.Idx) = Finset.univ ∨ ∀ a, r.stride a = 1}
    {k : PUnit → Pr F β} {Q : β → sProp 𝕄} :
    Own c m fullShare X ⊢ iprop((Own c m fullShare (r.overlay X w) -∗ Wp c (k ⟨⟩) Q) -∗ Wp c (Prog.lift (TpuEff.store m r w Finset.univ hx hm) >>= k) Q) := by
  unfold Own owns
  iintro ⟨%f, %hf, H⟩ K
  iapply (wp_store (f := f) Variants.none (c : Thread nD τ) none Set.univ (m := m) (r := r) (hx := hx) (hm := hm) (k := k)
    (((m.access r).setOn_subset_set Finset.univ).trans (m.view.set_slice_subset r))) $$ H
  iintro H
  iapply K
  iexists ((m.access r).write (Elt F) f w Finset.univ)
  isplitr
  · ipureintro
    funext j
    by_cases hj : j ∈ r.set
    · obtain ⟨i, rfl⟩ := r.exists_idx_of_mem hj
      change m.view.read (Elt F) _ (r.emb i) = r.overlay _ _ (r.emb i)
      rw [Rect.overlay_emb]
      exact congrFun ((m.access r).read_write_univ f w) i
    · rw [Rect.overlay_of_not_mem _ _ _ hj, ← hf]
      exact View.read_writes_cons_miss m.view f ⟨r, w⟩ [] j hj
  · iexact H

/-- A load of a word of an owned table returns the word. -/
theorem smem_own {s : Shape} {e : EltTy} {m : Memref sig .tc .smem s e} {q : PosShare TreeShare} {X : s.Idx → Elt F e} {r : Rect s}
    {h1 : r.shape.numel = 1} {hp : e.packing = 1} {k : Elt F e → Pr F β} {Q : β → sProp 𝕄} :
    Own c m q X ⊢ iprop((Own c m q X -∗ Wp c (k (X (r.emb (Shape.Idx.first (h1.symm ▸ Nat.one_pos))))) Q) -∗ Wp c (smemLoad m r h1 hp >>= k) Q) := by
  unfold Own owns
  iintro ⟨%f, %hf, H⟩ K
  iapply (wp_load_rect (q := q) (f := f) Variants.none (c : Thread nD τ) none Set.univ (m := m) (r := r) (hl := View.loadsAt_rect (View.loads_smem_one hp h1))
    (k := fun g => k (g (Shape.Idx.first (h1.symm ▸ Nat.one_pos)))) (m.view.set_slice_subset r)) $$ H
  iintro H
  have hv : (m.access r).read (Elt F) f = fun j => X (r.emb j) := by rw [← hf]; rfl
  rw [hv]
  iapply K
  iexists f
  isplitr
  · ipureintro; exact hf
  · iexact H

/-- A block of an expert's first weights in the scratch's type. -/
def T9 (X : Vec F S1x1024x2048 .f32) : Vec F S1024x2048 .bf16 :=
  truncf .bf16 (fun x : S1024x2048.Idx => X (ix3 (0 : Fin 1) (x 0) (x 1)) : FVec F S1024x2048 .f32) bitsLt_bf16_f32

/-- A block of an expert's second weights in the scratch's type. -/
def T10 (X : Vec F S1x1024x1024 .f32) : Vec F S1024x1024 .bf16 :=
  truncf .bf16 (fun x : S1024x1024.Idx => X (ix3 (0 : Fin 1) (x 0) (x 1)) : FVec F S1024x1024 .f32) bitsLt_bf16_f32

/-- The memref's first `n` rows hold what `T` has there. -/
def Rows (c : Dev nD) {m k : ℕ} (M : Memref sig .tc .vmem ⟨2, ![m, k]⟩ .bf16) (T : (⟨2, ![m, k]⟩ : Shape).Idx → Elt F .bf16) (n : ℕ) : sProp 𝕄 :=
  iprop(∃ Y, ⌜∀ x, (x 0).val < n → Y x = T x⌝ ∗ Own c M fullShare Y)

theorem pay9_apply (v : Vec F S1x128x2048 .f32) (j : S128x2048.Idx) :
    k0_pay4 v j = FloatOps.truncf .bf16 bitsLt_bf16_f32 (v (ix3 (0 : Fin 1) (j 0) (j 1))) := by
  unfold k0_pay4
  rw [shapeCast_self, truncf_apply]
  exact congrArg _ ((congrArg _ (eq_ix2 j)).trans (ValueIdx.shapeCast_1ab_ab_apply v _ (j 0) (j 1)))

theorem pay10_apply (v : Vec F S1x128x1024 .f32) (j : S128x1024.Idx) :
    k0_pay1 v j = FloatOps.truncf .bf16 bitsLt_bf16_f32 (v (ix3 (0 : Fin 1) (j 0) (j 1))) := by
  unfold k0_pay1
  rw [shapeCast_self, truncf_apply]
  exact congrArg _ ((congrArg _ (eq_ix2 j)).trans (ValueIdx.shapeCast_1ab_ab_apply v _ (j 0) (j 1)))

/-- One slab of the first weights: 128 more rows of the scratch hold the cast. -/
theorem slab9 {M4 : Memref sig .tc .vmem S1x1024x2048 .f32} {M9 : Memref sig .tc .vmem S1024x2048 .bf16} {X : Vec F S1x1024x2048 .f32} {q : PosShare TreeShare} (n : ℕ)
    {off3 : Fin 3 → ℕ} {off2 : Fin 2 → ℕ} {inb3 : ∀ a, off3 a + S1x128x2048.size a ≤ S1x1024x2048.size a} {inb2 : ∀ a, off2 a + S128x2048.size a ≤ S1024x2048.size a}
    {hl : M4.view.LoadsAt (Rect.unit (s := S1x1024x2048) off3 S1x128x2048.size inb3).toLoadRect}
    {hl' : M9.view.LoadsAt (Rect.unit (s := S1024x2048) off2 S128x2048.size inb2).toLoadRect} {pay : Vec F S1x128x2048 .f32 → FVec F S128x2048 .bf16}
    {hx : ∀ v, (M9.access (Rect.unit (s := S1024x2048) off2 S128x2048.size inb2)).Stores Finset.univ}
    {hm : (Finset.univ : Finset (Rect.unit (s := S1024x2048) off2 S128x2048.size inb2).shape.Idx) = Finset.univ ∨ ∀ a, (Rect.unit (s := S1024x2048) off2 S128x2048.size inb2).stride a = 1}
    {k : Pr F β} {Q : β → sProp 𝕄} (h3 : off3 = ![0, n, 0]) (h2 : off2 = ![n, 0]) (hp : pay = k0_pay4) {R : sProp 𝕄}
    (hk : iprop(Own c M4 q X ∗ Rows c M9 (T9 X) (n + 128) ∗ R) ⊢ Wp c k Q) :
    iprop(Own c M4 q X ∗ Rows c M9 (T9 X) n ∗ R) ⊢ Wp c (do
      let v ← Prog.lift (TpuEff.load M4 (Rect.unit (s := S1x1024x2048) off3 S1x128x2048.size inb3).toLoadRect hl)
      let _ ← Prog.lift (TpuEff.load M9 (Rect.unit (s := S1024x2048) off2 S128x2048.size inb2).toLoadRect hl')
      Prog.lift (TpuEff.store M9 (Rect.unit (s := S1024x2048) off2 S128x2048.size inb2) (pay v) Finset.univ (hx v) hm)
      k) Q := by
  subst h3; subst h2; subst hp
  unfold Rows
  iintro ⟨H4, ⟨%Y, %hY, H9⟩, HR⟩
  iapply load_own $$ H4
  iintro H4
  iapply load_own $$ H9
  iintro H9
  iapply store_own $$ H9
  iintro H9
  iapply hk
  isplitl [H4]; · iexact H4
  isplitl [H9]
  · unfold Rows
    iexists _
    isplitr
    rotate_left
    · iexact H9
    · ipureintro
      intro x hx
      by_cases hj : x ∈ (Rect.unit (s := S1024x2048) ![n, 0] S128x2048.size inb2).set
      · obtain ⟨i, rfl⟩ := (Rect.unit (s := S1024x2048) ![n, 0] S128x2048.size inb2).exists_idx_of_mem hj
        change Rect.overlay _ _ _ (Rect.emb _ i) = T9 X (Rect.emb _ i)
        rw [Rect.overlay_emb]
        refine (pay9_apply _ i).trans ?_
        unfold T9
        rw [truncf_apply]
        refine congrArg _ (congrArg X ?_)
        funext a
        apply Fin.ext
        fin_cases a <;> simp [rect_emb_unit_val]
      · rw [Rect.overlay_of_not_mem _ _ _ hj]
        apply hY
        by_contra hn
        apply hj
        rw [Rect.mem_set_unit]
        intro a
        have h1 := (x 1).isLt
        fin_cases a
        · simp; omega
        · simpa using h1
  · iexact HR

/-- One slab of the second weights: 128 more rows of the scratch hold the cast. -/
theorem slab10 {M4 : Memref sig .tc .vmem S1x1024x1024 .f32} {M9 : Memref sig .tc .vmem S1024x1024 .bf16} {X : Vec F S1x1024x1024 .f32} {q : PosShare TreeShare} (n : ℕ)
    {off3 : Fin 3 → ℕ} {off2 : Fin 2 → ℕ} {inb3 : ∀ a, off3 a + S1x128x1024.size a ≤ S1x1024x1024.size a} {inb2 : ∀ a, off2 a + S128x1024.size a ≤ S1024x1024.size a}
    {hl : M4.view.LoadsAt (Rect.unit (s := S1x1024x1024) off3 S1x128x1024.size inb3).toLoadRect}
    {hl' : M9.view.LoadsAt (Rect.unit (s := S1024x1024) off2 S128x1024.size inb2).toLoadRect} {pay : Vec F S1x128x1024 .f32 → FVec F S128x1024 .bf16}
    {hx : ∀ v, (M9.access (Rect.unit (s := S1024x1024) off2 S128x1024.size inb2)).Stores Finset.univ}
    {hm : (Finset.univ : Finset (Rect.unit (s := S1024x1024) off2 S128x1024.size inb2).shape.Idx) = Finset.univ ∨ ∀ a, (Rect.unit (s := S1024x1024) off2 S128x1024.size inb2).stride a = 1}
    {k : Pr F β} {Q : β → sProp 𝕄} (h3 : off3 = ![0, n, 0]) (h2 : off2 = ![n, 0]) (hp : pay = k0_pay1) {R : sProp 𝕄}
    (hk : iprop(Own c M4 q X ∗ Rows c M9 (T10 X) (n + 128) ∗ R) ⊢ Wp c k Q) :
    iprop(Own c M4 q X ∗ Rows c M9 (T10 X) n ∗ R) ⊢ Wp c (do
      let v ← Prog.lift (TpuEff.load M4 (Rect.unit (s := S1x1024x1024) off3 S1x128x1024.size inb3).toLoadRect hl)
      let _ ← Prog.lift (TpuEff.load M9 (Rect.unit (s := S1024x1024) off2 S128x1024.size inb2).toLoadRect hl')
      Prog.lift (TpuEff.store M9 (Rect.unit (s := S1024x1024) off2 S128x1024.size inb2) (pay v) Finset.univ (hx v) hm)
      k) Q := by
  subst h3; subst h2; subst hp
  unfold Rows
  iintro ⟨H4, ⟨%Y, %hY, H9⟩, HR⟩
  iapply load_own $$ H4
  iintro H4
  iapply load_own $$ H9
  iintro H9
  iapply store_own $$ H9
  iintro H9
  iapply hk
  isplitl [H4]; · iexact H4
  isplitl [H9]
  · unfold Rows
    iexists _
    isplitr
    rotate_left
    · iexact H9
    · ipureintro
      intro x hx
      by_cases hj : x ∈ (Rect.unit (s := S1024x1024) ![n, 0] S128x1024.size inb2).set
      · obtain ⟨i, rfl⟩ := (Rect.unit (s := S1024x1024) ![n, 0] S128x1024.size inb2).exists_idx_of_mem hj
        change Rect.overlay _ _ _ (Rect.emb _ i) = T10 X (Rect.emb _ i)
        rw [Rect.overlay_emb]
        refine (pay10_apply _ i).trans ?_
        unfold T10
        rw [truncf_apply]
        refine congrArg _ (congrArg X ?_)
        funext a
        apply Fin.ext
        fin_cases a <;> simp [rect_emb_unit_val]
      · rw [Rect.overlay_of_not_mem _ _ _ hj]
        apply hY
        by_contra hn
        apply hj
        rw [Rect.mem_set_unit]
        intro a
        have h1 := (x 1).isLt
        fin_cases a
        · simp; omega
        · simpa using h1
  · iexact HR

end Cert.Exp

end
-- ==== Proof.ExpertsBody.lean ====
/- The body of the experts' call at one point: when the expert changes it casts the expert's weights into the two
   scratch buffers, and it writes either the expert's answer on the block of rows or zeros. -/
module

public import proofs.«01_k».proof.Proof.ExpertsOps

@[expose] public section

set_option maxRecDepth 16384

noncomputable section

namespace Cert.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueKit

variable {F : FTy → Type} [FloatOps F]

local notation "𝕄" => MT nD τ sig Unit (Elt F) ℕ (UR sig nD τ) ℕ

variable {c : Dev nD} {α β : Type}

/-- One program after another. -/
theorem seq_own {P P' : sProp 𝕄} {p : Pr F α} {k : α → Pr F β} {Q : β → sProp 𝕄} (hp : P ⊢ Wp c p (fun _ => P')) (hk : ∀ a, P' ⊢ Wp c (k a) Q) :
    P ⊢ Wp c (p >>= k) Q := by
  unfold Wp at hp hk ⊢
  rw [wp_bind]
  iintro H
  iapply (wp_wand_r frame (wpE (defs₀ (F := F)) Variants.none (c : Thread nD τ) none) Set.univ)
  isplitl [H]
  · iapply hp; iexact H
  · iintro %a H
    iapply (hk a); iexact H

/-- One program after another, the second with what the first leaves alone. -/
theorem seq_own_frame {P P' R : sProp 𝕄} {p : Pr F α} {k : α → Pr F β} {Q : β → sProp 𝕄} (hp : P ⊢ Wp c p (fun _ => P')) (hk : ∀ a, iprop(P' ∗ R) ⊢ Wp c (k a) Q) :
    iprop(P ∗ R) ⊢ Wp c (p >>= k) Q := by
  unfold Wp at hp hk ⊢
  rw [wp_bind]
  iintro ⟨H, HR⟩
  iapply (wp_wand_r frame (wpE (defs₀ (F := F)) Variants.none (c : Thread nD τ) none) Set.univ)
  isplitl [H]
  · iapply hp; iexact H
  · iintro %a H
    iapply (hk a)
    isplitl [H]
    · iexact H
    · iexact HR

theorem ret_own {P : sProp 𝕄} {a : α} {Q : α → sProp 𝕄} (h : P ⊢ Q a) : P ⊢ Wp c (pure a : Pr F α) Q := by
  unfold Wp
  rw [wp_pure]
  iintro H
  imodintro
  iapply h; iexact H

/-- The two operands of weights and the two scratch buffers, with the first `a` and the first `b` rows cast. -/
abbrev St (c : Dev nD) (M4 : Memref sig .tc .vmem S1x1024x2048 .f32) (M6 : Memref sig .tc .vmem S1x1024x1024 .f32)
    (M9 : Memref sig .tc .vmem S1024x2048 .bf16) (M10 : Memref sig .tc .vmem S1024x1024 .bf16)
    (X4 : Vec F S1x1024x2048 .f32) (X6 : Vec F S1x1024x1024 .f32) (a b : ℕ) : sProp 𝕄 :=
  iprop(Own c M4 fullShare X4 ∗ Rows c M9 (T9 X4) a ∗ Own c M6 fullShare X6 ∗ Rows c M10 (T10 X6) b)

/-- The other operand's turn. -/
theorem turn {A B C D : sProp 𝕄} {p : Pr F β} {Q : β → sProp 𝕄} (h : iprop(C ∗ D ∗ A ∗ B) ⊢ Wp c p Q) : iprop(A ∗ B ∗ C ∗ D) ⊢ Wp c p Q := by
  refine BIBase.Entails.trans ?_ h
  iintro ⟨HA, HB, HC, HD⟩
  isplitl [HC]; · iexact HC
  isplitl [HD]; · iexact HD
  isplitl [HA]; · iexact HA
  iexact HB

/-- The second operand's turn, and the first's again. -/
theorem turnR {A B C D R : sProp 𝕄} {p : Pr F β} {Q : β → sProp 𝕄} (h : iprop(C ∗ D ∗ A ∗ B ∗ R) ⊢ Wp c p Q) : iprop((A ∗ B ∗ C ∗ D) ∗ R) ⊢ Wp c p Q := by
  refine BIBase.Entails.trans ?_ h
  iintro ⟨⟨HA, HB, HC, HD⟩, HR⟩
  isplitl [HC]; · iexact HC
  isplitl [HD]; · iexact HD
  isplitl [HA]; · iexact HA
  isplitl [HB]; · iexact HB
  iexact HR
theorem turnL {A B C D R : sProp 𝕄} {p : Pr F β} {Q : β → sProp 𝕄} (h : iprop((A ∗ B ∗ C ∗ D) ∗ R) ⊢ Wp c p Q) : iprop(C ∗ D ∗ A ∗ B ∗ R) ⊢ Wp c p Q := by
  refine BIBase.Entails.trans ?_ h
  iintro ⟨HC, HD, HA, HB, HR⟩
  isplitr [HR]
  · isplitl [HA]; · iexact HA
    isplitl [HB]; · iexact HB
    isplitl [HC]; · iexact HC
    iexact HD
  iexact HR

section Parts

variable (i : grid0.Coords) (M1 : Memref sig .tc .smem S320 .i32) (h1 : M1.IsWhole) (M2 : Memref sig .tc .smem S1 .i32) (h2 : M2.IsWhole)
  (M3 : Memref sig .tc .vmem S256x1024 .f32) (h3 : M3.IsWhole) (M4 : Memref sig .tc .vmem S1x1024x2048 .f32) (h4 : M4.IsWhole)
  (M5 : Memref sig .tc .vmem S1x1x2048 .f32) (h5 : M5.IsWhole) (M6 : Memref sig .tc .vmem S1x1024x1024 .f32) (h6 : M6.IsWhole)
  (M7 : Memref sig .tc .vmem S1x1x1024 .f32) (h7 : M7.IsWhole) (M8 : Memref sig .tc .vmem S256x1024 .f32) (h8 : M8.IsWhole)
  (M9 : Memref sig .tc .vmem S1024x2048 .bf16) (h9 : M9.IsWhole) (M10 : Memref sig .tc .vmem S1024x1024 .bf16) (h10 : M10.IsWhole)
  (X4 : Vec F S1x1024x2048 .f32) (X6 : Vec F S1x1024x1024 .f32)

/-- Rows 0 to 639 of the first weights. -/
theorem part1 : St c M4 M6 M9 M10 X4 X6 0 0 ⊢ Wp c (k0_part1 (F := F) i M1 h1 M2 h2 M3 h3 M4 h4 M5 h5 M6 h6 M7 h7 M8 h8 M9 h9 M10 h10) (fun _ => St c M4 M6 M9 M10 X4 X6 640 0) := by
  rw [k0_part1_eq_skeleton]
  unfold k0_part1_skel
  refine slab9 0 rfl rfl rfl ?_
  refine slab9 128 rfl rfl rfl ?_
  refine slab9 256 rfl rfl rfl ?_
  refine slab9 384 rfl rfl rfl ?_
  refine slab9 512 rfl rfl rfl ?_
  exact ret_own .rfl

/-- The other rows of the first weights and rows 0 to 255 of the second. -/
theorem part2 : St c M4 M6 M9 M10 X4 X6 640 0 ⊢ Wp c (k0_part2 (F := F) i M1 h1 M2 h2 M3 h3 M4 h4 M5 h5 M6 h6 M7 h7 M8 h8 M9 h9 M10 h10) (fun _ => St c M4 M6 M9 M10 X4 X6 1024 256) := by
  rw [k0_part2_eq_skeleton]
  unfold k0_part2_skel
  refine slab9 640 rfl rfl rfl ?_
  refine slab9 768 rfl rfl rfl ?_
  refine slab9 896 rfl rfl rfl ?_
  refine turn ?_
  refine slab10 0 rfl rfl rfl ?_
  refine slab10 128 rfl rfl rfl ?_
  refine turn ?_
  exact ret_own .rfl

/-- Rows 256 to 895 of the second weights. -/
theorem part3 : St c M4 M6 M9 M10 X4 X6 1024 256 ⊢ Wp c (k0_part3 (F := F) i M1 h1 M2 h2 M3 h3 M4 h4 M5 h5 M6 h6 M7 h7 M8 h8 M9 h9 M10 h10) (fun _ => St c M4 M6 M9 M10 X4 X6 1024 896) := by
  rw [k0_part3_eq_skeleton]
  unfold k0_part3_skel
  refine turn ?_
  refine slab10 256 rfl rfl rfl ?_
  refine slab10 384 rfl rfl rfl ?_
  refine slab10 512 rfl rfl rfl ?_
  refine slab10 640 rfl rfl rfl ?_
  refine slab10 768 rfl rfl rfl ?_
  refine turn ?_
  exact ret_own .rfl

/-- The word of the table of experts at the point, and the word before it (the first point's own at the first). -/
def wordAt (te : S320.Idx → BitVec 32) (i : grid0.Coords) : BitVec 32 :=
  te ((Rect.unit (s := S320) (k0_off1 i) S1.size (k0_off1_inb i)).emb (Shape.Idx.first (numel1_S1.symm ▸ Nat.one_pos)))
def wordBefore (te : S320.Idx → BitVec 32) (i : grid0.Coords) : BitVec 32 :=
  te ((Rect.unit (s := S320) (k0_off2 i) S1.size (k0_off2_inb i)).emb (Shape.Idx.first (numel1_S1.symm ▸ Nat.one_pos)))
/-- The number of blocks in use. -/
def wordNa (na : S1.Idx → BitVec 32) : BitVec 32 :=
  na ((Rect.unit (s := S1) ![0] S1.size inb_S1_S1_0).emb (Shape.Idx.first (numel1_S1.symm ▸ Nat.one_pos)))

/-- The body casts the weights at this point. -/
abbrev Recast (te : S320.Idx → BitVec 32) (i : grid0.Coords) : Prop :=
  Scalar.cmpi .ne (Scalar.extui (Scalar.ori (Scalar.cmpi .eq (BitVec.ofNat 32 (i 0).val) 0#32) (Scalar.cmpi .ne (wordAt te i) (wordBefore te i))) : BitVec 32) 0#32 = 1#1

/-- What the body writes on its block of rows. -/
def outv (na : S1.Idx → BitVec 32) (i : grid0.Coords) (X3 : Vec F S256x1024 .f32) (X4 : Vec F S1x1024x2048 .f32) (X5 : Vec F S1x1x2048 .f32)
    (X6 : Vec F S1x1024x1024 .f32) (X7 : Vec F S1x1x1024 .f32) : Vec F S256x1024 .f32 :=
  if k0_cond2 i (wordNa na) = 1#1 then k0_pay2 X3 (T9 X4) X5 (T10 X6) X7 else k0_pay3

/-- The word of a negated bit. -/
theorem not_bit (b : Bool) : BitVec.ofBool (!b) = if BitVec.ofBool b = 1#1 then 0#1 else 1#1 := by cases b <;> rfl

/-- The two conditions are opposite. -/
theorem cond3_iff (i : grid0.Coords) (v : BitVec 32) : k0_cond3 i v = 1#1 ↔ ¬ k0_cond2 i v = 1#1 := by
  unfold k0_cond3 k0_cond2
  dsimp only
  generalize BitVec.ofNat 32 (i 0).val = a
  simp only [Scalar.cmpi, Scalar.extui]
  have hsge : IntOp.cmpi CmpIPredicate.sge a v = if IntOp.cmpi CmpIPredicate.slt a v = 1#1 then 0#1 else 1#1 := by
    simp only [IntOp.cmpi, BitVec.sle_eq_not_slt]
    exact not_bit _
  rw [hsge]
  generalize IntOp.cmpi CmpIPredicate.slt a v = b
  revert b
  decide

variable (te : S320.Idx → BitVec 32) (na : S1.Idx → BitVec 32) (q1 q2 : PosShare TreeShare)
  (X3 : Vec F S256x1024 .f32) (X5 : Vec F S1x1x2048 .f32) (X7 : Vec F S1x1x1024 .f32)

/-- The scratch buffers hold the cast of the expert's weights, whether they are cast now or kept, when the rest of the
    body begins. -/
theorem recast_then (Y9 : Vec F S1024x2048 .bf16) (Y10 : Vec F S1024x1024 .bf16) {P : Prop} [Decidable P] (hP : ¬ P → Y9 = T9 X4 ∧ Y10 = T10 X6)
    {K p q : Pr F β} {R : sProp 𝕄} {Q : β → sProp 𝕄} (hq : q = K)
    (hp : (iprop(St c M4 M6 M9 M10 X4 X6 1024 1024 ∗ R) ⊢ Wp c K Q) → iprop(St c M4 M6 M9 M10 X4 X6 0 0 ∗ R) ⊢ Wp c p Q)
    (hK : iprop((Own c M4 fullShare X4 ∗ Own c M6 fullShare X6 ∗ Own c M9 fullShare (T9 X4) ∗ Own c M10 fullShare (T10 X6)) ∗ R) ⊢ Wp c K Q) :
    iprop((Own c M4 fullShare X4 ∗ Own c M6 fullShare X6 ∗ Own c M9 fullShare Y9 ∗ Own c M10 fullShare Y10) ∗ R) ⊢ Wp c (if P then p else q) Q := by
  split
  · rename_i h
    have hst : iprop(Own c M4 fullShare X4 ∗ Own c M6 fullShare X6 ∗ Own c M9 fullShare Y9 ∗ Own c M10 fullShare Y10) ⊢ (St c M4 M6 M9 M10 X4 X6 0 0 : sProp 𝕄) := by
      unfold St Rows
      iintro ⟨H4, H6, H9, H10⟩
      isplitl [H4]; · iexact H4
      isplitl [H9]
      · iexists Y9; isplitr
        · ipureintro; exact fun x hx => absurd hx (Nat.not_lt_zero _)
        · iexact H9
      isplitl [H6]; · iexact H6
      iexists Y10; isplitr
      · ipureintro; exact fun x hx => absurd hx (Nat.not_lt_zero _)
      · iexact H10
    have hen : (St c M4 M6 M9 M10 X4 X6 1024 1024 : sProp 𝕄) ⊢ iprop(Own c M4 fullShare X4 ∗ Own c M6 fullShare X6 ∗ Own c M9 fullShare (T9 X4) ∗ Own c M10 fullShare (T10 X6)) := by
      unfold St Rows
      iintro ⟨H4, ⟨%Z9, %hZ9, H9⟩, H6, ⟨%Z10, %hZ10, H10⟩⟩
      obtain rfl : Z9 = T9 X4 := funext fun x => hZ9 x (x 0).isLt
      obtain rfl : Z10 = T10 X6 := funext fun x => hZ10 x (x 0).isLt
      isplitl [H4]; · iexact H4
      isplitl [H6]; · iexact H6
      isplitl [H9]; · iexact H9
      iexact H10
    refine BIBase.Entails.trans ?_ (hp (BIBase.Entails.trans ?_ hK))
    · iintro ⟨H, HR⟩
      isplitl [H]
      · iapply hst; iexact H
      · iexact HR
    · iintro ⟨H, HR⟩
      isplitl [H]
      · iapply hen; iexact H
      · iexact HR
  · rename_i h
    obtain ⟨rfl, rfl⟩ := hP h
    subst hq
    exact hK

theorem overlay_full2 {s : Shape} {e : EltTy} (off : Fin s.rank → ℕ) (h : ∀ a, off a = 0) (inb : ∀ a, off a + s.size a ≤ s.size a) (X : s.Idx → Elt F e)
    (w : s.Idx → Elt F e) : (Rect.unit (s := s) off s.size inb).overlay X w = w := by
  funext j
  have hj : (Rect.unit (s := s) off s.size inb).emb j = j := by
    funext a; apply Fin.ext; rw [rect_emb_unit_val, h a, Nat.zero_add]
  have := Rect.overlay_emb (Rect.unit (s := s) off s.size inb) X w j
  rwa [hj] at this

theorem emb_full {s : Shape} {e : EltTy} (off : Fin s.rank → ℕ) (h : ∀ a, off a = 0) (inb : ∀ a, off a + s.size a ≤ s.size a) (X : s.Idx → Elt F e) :
    (fun j => X ((Rect.unit (s := s) off s.size inb).emb j)) = X := by
  funext j
  refine congrArg X ?_
  funext a; apply Fin.ext; rw [rect_emb_unit_val, h a, Nat.zero_add]

/-- The body at one point. -/
theorem body_run (Y9 : Vec F S1024x2048 .bf16) (Y10 : Vec F S1024x1024 .bf16) (hP : ¬ Recast te i → Y9 = T9 X4 ∧ Y10 = T10 X6) :
    iprop(Own c M1 q1 te ∗ Own c M2 q2 na ∗ Own c M3 fullShare X3 ∗ Own c M5 fullShare X5 ∗ Own c M7 fullShare X7 ∗ (∃ d, Own c M8 fullShare d)
        ∗ (Own c M4 fullShare X4 ∗ Own c M6 fullShare X6 ∗ Own c M9 fullShare Y9 ∗ Own c M10 fullShare Y10))
      ⊢ Wp c (cc0_moe_experts (F := F) i M1 h1 M2 h2 M3 h3 M4 h4 M5 h5 M6 h6 M7 h7 M8 h8 M9 h9 M10 h10)
        (fun _ => iprop(Own c M1 q1 te ∗ Own c M2 q2 na ∗ Own c M3 fullShare X3 ∗ Own c M5 fullShare X5 ∗ Own c M7 fullShare X7 ∗ Own c M8 fullShare (outv na i X3 X4 X5 X6 X7)
        ∗ (Own c M4 fullShare X4 ∗ Own c M6 fullShare X6 ∗ Own c M9 fullShare (T9 X4) ∗ Own c M10 fullShare (T10 X6)))) := by
  rw [cc0_moe_experts_eq_skeleton]
  unfold cc0_moe_experts_skel
  iintro ⟨H1, H2, H3, H5, H7, ⟨%d8, H8⟩, HW⟩
  iapply smem_own $$ H1
  iintro H1
  iapply smem_own $$ H1
  iintro H1
  dsimp only
  iapply (recast_then M4 M6 M9 M10 X4 X6 Y9 Y10 hP (hq := rfl)
    (R := iprop(Own c M1 q1 te ∗ Own c M2 q2 na ∗ Own c M3 fullShare X3 ∗ Own c M5 fullShare X5 ∗ Own c M7 fullShare X7 ∗ Own c M8 fullShare d8)) ?hp ?hK)
  case hp =>
    intro hK
    refine seq_own_frame (part1 (c := c) i M1 h1 M2 h2 M3 h3 M4 h4 M5 h5 M6 h6 M7 h7 M8 h8 M9 h9 M10 h10 X4 X6) fun _ => ?_
    refine seq_own_frame (part2 (c := c) i M1 h1 M2 h2 M3 h3 M4 h4 M5 h5 M6 h6 M7 h7 M8 h8 M9 h9 M10 h10 X4 X6) fun _ => ?_
    refine seq_own_frame (part3 (c := c) i M1 h1 M2 h2 M3 h3 M4 h4 M5 h5 M6 h6 M7 h7 M8 h8 M9 h9 M10 h10 X4 X6) fun _ => ?_
    refine turnR ?_
    refine slab10 896 rfl rfl rfl ?_
    refine turnL ?_
    exact hK
  case hK =>
    iintro ⟨⟨H4, H6, H9, H10⟩, H1, H2, H3, H5, H7, H8⟩
    iapply smem_own $$ H2
    iintro H2
    by_cases hc : k0_cond2 i (wordNa na) = 1#1
    · have hc3 : ¬ k0_cond3 i (wordNa na) = 1#1 := fun h => (cond3_iff i _).1 h hc
      rw [dif_pos (show k0_cond2 i (na _) = 1#1 from hc)]
      iapply load_own $$ H3
      iintro H3
      iapply load_own $$ H9
      iintro H9
      iapply load_own $$ H5
      iintro H5
      iapply load_own $$ H10
      iintro H10
      iapply load_own $$ H7
      iintro H7
      iapply load_own $$ H8
      iintro H8
      iapply store_own $$ H8
      iintro H8
      iapply smem_own $$ H2
      iintro H2
      rw [dif_neg (show ¬ k0_cond3 i (na _) = 1#1 from hc3)]
      unfold Wp
      rw [wp_pure]
      imodintro
      isplitl [H1]; · iexact H1
      isplitl [H2]; · iexact H2
      isplitl [H3]; · iexact H3
      isplitl [H5]; · iexact H5
      isplitl [H7]; · iexact H7
      isplitl [H8]
      · rw [overlay_full2 (s := S256x1024) _ (by decide), emb_full (s := S256x1024) _ (by decide), emb_full (s := S1024x2048) _ (by decide), emb_full (s := S1x1x2048) _ (by decide),
          emb_full (s := S1024x1024) _ (by decide), emb_full (s := S1x1x1024) _ (by decide), outv, if_pos hc]
        iexact H8
      isplitl [H4]; · iexact H4
      isplitl [H6]; · iexact H6
      isplitl [H9]; · iexact H9
      iexact H10
    · have hc3 : k0_cond3 i (wordNa na) = 1#1 := (cond3_iff i _).2 hc
      rw [dif_neg (show ¬ k0_cond2 i (na _) = 1#1 from hc)]
      iapply smem_own $$ H2
      iintro H2
      rw [dif_pos (show k0_cond3 i (na _) = 1#1 from hc3)]
      iapply load_own $$ H8
      iintro H8
      iapply store_own $$ H8
      iintro H8
      unfold Wp
      rw [wp_pure]
      imodintro
      isplitl [H1]; · iexact H1
      isplitl [H2]; · iexact H2
      isplitl [H3]; · iexact H3
      isplitl [H5]; · iexact H5
      isplitl [H7]; · iexact H7
      isplitl [H8]
      · rw [overlay_full2 (s := S256x1024) _ (by decide), outv, if_neg hc]
        iexact H8
      isplitl [H4]; · iexact H4
      isplitl [H6]; · iexact H6
      isplitl [H9]; · iexact H9
      iexact H10
  isplitl [HW]; · iexact HW
  isplitl [H1]; · iexact H1
  isplitl [H2]; · iexact H2
  isplitl [H3]; · iexact H3
  isplitl [H5]; · iexact H5
  isplitl [H7]; · iexact H7
  iexact H8

end Parts

end Cert.Exp

end
-- ==== Proof.ExpertsRun.lean ====
/- The run of the experts' call: the blocks its windows stage, what the body carries between points, and the launch. -/
module

public import proofs.«01_k».proof.Proof.ExpertsBody
public import Idealize.ShloMosaic.Lib.Claim

@[expose] public section

set_option maxRecDepth 16384

noncomputable section

namespace Cert.Exp

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueKit
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the call finds them -/

/-- The buffers after the two host operations that reshape the biases. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh fun c => main_chain c

/-- A buffer neither of the two operations writes is found as it was launched. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1⟩))

/-! ## The tables -/

/-- The two prefetched tables. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every expert's number is one of the experts'. -/
abbrev Ok : Prop := ok0 (F := F) (tbl m)
abbrev adm (hO : Ok m) : (pcfg0 (F := F)).Adm := ⟨tbl m, hO⟩
abbrev cfgM (hO : Ok m) : Cfg sig Λ₀ := cfg0 (adm m hO)

/-- The experts' numbers, block by block, and the number of blocks in use. -/
abbrev te : S320.Idx → BitVec 32 := tbl m 0
abbrev na : S1.Idx → BitVec 32 := tbl m 1

theorem PhiT0_eq (c : Dev nD) : (Pipeline.ΦT pre0 (tbl m) c : sProp 𝕄)
    = iprop(Own c (Memref.whole main_arg0) fullShare.right (te m) ∗ Own c (Memref.whole main_arg1) fullShare.right (na m)) := by
  unfold Pipeline.ΦT Pipeline.prefHeld Own
  rw [owns_whole, owns_whole]
  exact bigSep_univ_eq_bigSepL [(0 : Fin 2), (1 : Fin 2)] (by decide) (by decide) _

/-! ## The grid and the blocks -/

variable {m} in
theorem coords_eq (hO : Ok m) (t : Fin (cfgM m hO).N) : (((cfgM m hO).grid.coords t) 0).val = t.val := by
  have h := Pipeline.Grid.coords_val (G := grid0) t 0 (S := 1) (B := 320) (by decide) rfl
  have ht : t.val < 320 := lt_of_lt_of_eq t.isLt N_0
  have h' : (((cfgM m hO).grid.coords t) 0).val = t.val / 1 % 320 := h
  rw [h', Nat.div_one, Nat.mod_eq_of_lt ht]

/-- The expert of a block is the table's word there; -/
theorem wordAt_eq (te : S320.Idx → BitVec 32) (i : grid0.Coords) (x : S320.Idx) (h : (x 0).val = (i 0).val) : wordAt te i = te x := by
  unfold wordAt
  refine congrArg te (funext fun a => Fin.ext ?_)
  obtain rfl : a = 0 := Subsingleton.elim _ _
  refine (rect_emb_unit_val _ _ _ _ _).trans ?_
  have e : k0_off1 i 0 = (i 0).val := congrFun (k0_off1_eq i) 0
  rw [e, h]
  rfl

theorem off2_eq : ∀ i : grid0.Coords, k0_off2 i 0 = (i 0).val - 1 := by decide +kernel

/-- and the word the body compares it with is the block before's. -/
theorem wordBefore_eq (te : S320.Idx → BitVec 32) (i : grid0.Coords) (x : S320.Idx) (h : (x 0).val = (i 0).val - 1) : wordBefore te i = te x := by
  unfold wordBefore
  refine congrArg te (funext fun a => Fin.ext ?_)
  obtain rfl : a = 0 := Subsingleton.elim _ _
  refine (rect_emb_unit_val _ _ _ _ _).trans ?_
  rw [off2_eq i, h]
  rfl

theorem flag_one : ∀ p q : BitVec 1, p = 1#1 ∨ q = 1#1 → Scalar.cmpi .ne (Scalar.extui (Scalar.ori p q) : BitVec 32) 0#32 = 1#1 := by decide

theorem not_recast {a x y : BitVec 32} (h : ¬ Scalar.cmpi .ne (Scalar.extui (Scalar.ori (Scalar.cmpi .eq a 0#32) (Scalar.cmpi .ne x y)) : BitVec 32) 0#32 = 1#1) :
    a ≠ 0#32 ∧ x = y := by
  constructor
  · intro ha
    exact h (flag_one _ _ (.inl (by subst ha; rfl)))
  · by_contra hxy
    exact h (flag_one _ _ (.inr (by show BitVec.ofBool (x != y) = 1#1; rw [bne_iff_ne.mpr hxy]; rfl)))

/-- The block a window stages at a point, off the array the call finds. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev B0 (hO : Ok m) (c : Dev nD) (t : Fin (cfgM m hO).N) : Vec F S256x1024 .f32 := iblk m hO c 0 t
abbrev B1 (hO : Ok m) (c : Dev nD) (t : Fin (cfgM m hO).N) : Vec F S1x1024x2048 .f32 := iblk m hO c 1 t
abbrev B2 (hO : Ok m) (c : Dev nD) (t : Fin (cfgM m hO).N) : Vec F S1x1x2048 .f32 := iblk m hO c 2 t
abbrev B3 (hO : Ok m) (c : Dev nD) (t : Fin (cfgM m hO).N) : Vec F S1x1024x1024 .f32 := iblk m hO c 3 t
abbrev B4 (hO : Ok m) (c : Dev nD) (t : Fin (cfgM m hO).N) : Vec F S1x1x1024 .f32 := iblk m hO c 4 t

/-- The expert's number at a point, as its word's value. -/
abbrev eAt (hO : Ok m) (t : Fin (cfgM m hO).N) : Nat := (wordAt (te m) ((cfgM m hO).grid.coords t)).toNat

theorem B0_apply (hO : Ok m) (c : Dev nD) (t : Fin (cfgM m hO).N) (y : S256x1024.Idx) (z : S81920x1024.Idx)
    (h0 : (z 0).val = t.val * 256 + (y 0).val) (h1 : (z 1).val = (y 1).val) : B0 m hO c t y = V m c main_arg2 z := by
  refine congrArg (V m c main_arg2) (funext fun (a : Fin 2) => Fin.ext ?_)
  refine (Window.rect_emb_val ((cfgM m hO).win 0) t y a rfl).trans ?_
  have ht : t.val < 320 := lt_of_lt_of_eq t.isLt N_0
  match a with
  | ⟨0, _⟩ =>
    show (BitVec.ofNat 32 (((cfgM m hO).grid.coords t) 0).val).toNat * 256 + (y 0).val = (z 0).val
    rw [h0, coords_eq hO t, BitVec.toNat_ofNat, Nat.mod_eq_of_lt (by omega)]
  | ⟨1, _⟩ =>
    show 0 * 1024 + (y 1).val = (z 1).val
    omega

theorem B1_apply (hO : Ok m) (c : Dev nD) (t : Fin (cfgM m hO).N) (y : S1x1024x2048.Idx) (z : S32x1024x2048.Idx)
    (h0 : (z 0).val = eAt m hO t) (h1 : (z 1).val = (y 1).val) (h2 : (z 2).val = (y 2).val) : B1 m hO c t y = V m c main_arg3 z := by
  refine congrArg (V m c main_arg3) (funext fun (a : Fin 3) => Fin.ext ?_)
  refine (Window.rect_emb_val ((cfgM m hO).win 1) t y a rfl).trans ?_
  match a with
  | ⟨0, _⟩ =>
    have : (y 0).val < 1 := (y 0).isLt
    show eAt m hO t * 1 + (y 0).val = (z 0).val
    omega
  | ⟨1, _⟩ => show 0 * 1024 + (y 1).val = (z 1).val; omega
  | ⟨2, _⟩ => show 0 * 2048 + (y 2).val = (z 2).val; omega

theorem B3_apply (hO : Ok m) (c : Dev nD) (t : Fin (cfgM m hO).N) (y : S1x1024x1024.Idx) (z : S32x1024x1024.Idx)
    (h0 : (z 0).val = eAt m hO t) (h1 : (z 1).val = (y 1).val) (h2 : (z 2).val = (y 2).val) : B3 m hO c t y = V m c main_arg5 z := by
  refine congrArg (V m c main_arg5) (funext fun (a : Fin 3) => Fin.ext ?_)
  refine (Window.rect_emb_val ((cfgM m hO).win 3) t y a rfl).trans ?_
  match a with
  | ⟨0, _⟩ =>
    have : (y 0).val < 1 := (y 0).isLt
    show eAt m hO t * 1 + (y 0).val = (z 0).val
    omega
  | ⟨1, _⟩ => show 0 * 1024 + (y 1).val = (z 1).val; omega
  | ⟨2, _⟩ => show 0 * 1024 + (y 2).val = (z 2).val; omega

theorem B2_apply (hO : Ok m) (c : Dev nD) (t : Fin (cfgM m hO).N) (y : S1x1x2048.Idx) (z : S32x1x2048.Idx)
    (h0 : (z 0).val = eAt m hO t) (h2 : (z 2).val = (y 2).val) : B2 m hO c t y = V m c main_v0 z := by
  refine congrArg (V m c main_v0) (funext fun (a : Fin 3) => Fin.ext ?_)
  refine (Window.rect_emb_val ((cfgM m hO).win 2) t y a rfl).trans ?_
  match a with
  | ⟨0, _⟩ =>
    have : (y 0).val < 1 := (y 0).isLt
    show eAt m hO t * 1 + (y 0).val = (z 0).val
    omega
  | ⟨1, _⟩ =>
    have : (y 1).val < 1 := (y 1).isLt
    have : (z 1).val < 1 := (z 1).isLt
    show 0 * 1 + (y 1).val = (z 1).val; omega
  | ⟨2, _⟩ => show 0 * 2048 + (y 2).val = (z 2).val; omega

theorem B4_apply (hO : Ok m) (c : Dev nD) (t : Fin (cfgM m hO).N) (y : S1x1x1024.Idx) (z : S32x1x1024.Idx)
    (h0 : (z 0).val = eAt m hO t) (h2 : (z 2).val = (y 2).val) : B4 m hO c t y = V m c main_v1 z := by
  refine congrArg (V m c main_v1) (funext fun (a : Fin 3) => Fin.ext ?_)
  refine (Window.rect_emb_val ((cfgM m hO).win 4) t y a rfl).trans ?_
  match a with
  | ⟨0, _⟩ =>
    have : (y 0).val < 1 := (y 0).isLt
    show eAt m hO t * 1 + (y 0).val = (z 0).val
    omega
  | ⟨1, _⟩ =>
    have : (y 1).val < 1 := (y 1).isLt
    have : (z 1).val < 1 := (z 1).isLt
    show 0 * 1 + (y 1).val = (z 1).val; omega
  | ⟨2, _⟩ => show 0 * 1024 + (y 2).val = (z 2).val; omega

/-- The expert's number is below their count. -/
theorem eAt_lt (hO : Ok m) (t : Fin (cfgM m hO).N) : eAt m hO t < 32 := by
  obtain ⟨h, -⟩ := hO.1 ((cfgM m hO).grid.coords t)
  have h0 : (eAt m hO t + 1) * 1 ≤ 32 := h 0
  omega

/-- Two points of one expert stage the same weights. -/
theorem same_weights (hO : Ok m) (c : Dev nD) (t t' : Fin (cfgM m hO).N) (h : eAt m hO t = eAt m hO t') :
    B1 m hO c t = B1 m hO c t' ∧ B3 m hO c t = B3 m hO c t' :=
  ⟨funext fun y => (B1_apply m hO c t y (ix3 ⟨eAt m hO t, eAt_lt m hO t⟩ (y 1) (y 2)) rfl rfl rfl).trans
      (B1_apply m hO c t' y (ix3 ⟨eAt m hO t, eAt_lt m hO t⟩ (y 1) (y 2)) h rfl rfl).symm,
    funext fun y => (B3_apply m hO c t y (ix3 ⟨eAt m hO t, eAt_lt m hO t⟩ (y 1) (y 2)) rfl rfl rfl).trans
      (B3_apply m hO c t' y (ix3 ⟨eAt m hO t, eAt_lt m hO t⟩ (y 1) (y 2)) h rfl rfl).symm⟩

/-- Where the body keeps the scratch, the point before was of the same expert. -/
theorem kept (hO : Ok m) (c : Dev nD) (t : Fin (cfgM m hO).N) (h : ¬ Recast (te m) ((cfgM m hO).grid.coords t)) :
    ∃ t' : Fin (cfgM m hO).N, t'.val + 1 = t.val ∧ B1 m hO c t' = B1 m hO c t ∧ B3 m hO c t' = B3 m hO c t := by
  obtain ⟨h0, hxy⟩ := not_recast h
  have ht : t.val < 320 := lt_of_lt_of_eq t.isLt N_0
  rw [coords_eq hO t] at h0
  have hpos : 0 < t.val := Nat.pos_of_ne_zero fun e => h0 (by rw [e])
  have hlt : t.val - 1 < (cfgM m hO).N := by have := t.isLt; omega
  refine ⟨⟨t.val - 1, hlt⟩, Nat.sub_add_cancel hpos, same_weights m hO c _ t ?_⟩
  have hx : wordBefore (te m) ((cfgM m hO).grid.coords t) = wordAt (te m) ((cfgM m hO).grid.coords ⟨t.val - 1, hlt⟩) := by
    rw [wordBefore_eq (te m) _ (ix1 ⟨t.val - 1, by omega⟩) (by rw [coords_eq hO t]; rfl),
      wordAt_eq (te m) _ (ix1 ⟨t.val - 1, by omega⟩) (coords_eq hO ⟨t.val - 1, hlt⟩).symm]
  show (wordAt _ _).toNat = (wordAt _ _).toNat
  rw [← hx, hxy]

/-! ## The proof data -/

/-- What the scratch holds between points: before point `k > 0`, the cast of the weights of point `k − 1`. -/
def Kept (hO : Ok m) (c : Dev nD) (k : Nat) : sProp 𝕄 :=
  iprop(∃ Y9 Y10, ⌜∀ t : Fin (cfgM m hO).N, t.val + 1 = k → Y9 = T9 (B1 m hO c t) ∧ Y10 = T10 (B3 m hO c t)⌝
    ∗ Own c (Memref.whole cc0_scratch0) fullShare Y9 ∗ Own c (Memref.whole cc0_scratch1) fullShare Y10)

/-- What the body leaves in the output's block. -/
abbrev outAt (hO : Ok m) (c : Dev nD) (t : Fin (cfgM m hO).N) : Vec F S256x1024 .f32 :=
  outv (na m) ((cfgM m hO).grid.coords t) (B0 m hO c t) (B1 m hO c t) (B2 m hO c t) (B3 m hO c t) (B4 m hO c t)

/-- The arrays as the call finds them, the inputs' blocks in place after the body, the output's block at the body's
    answer, the scratch at the last expert's weights. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ k := iprop(Kept m hO c k.val ∗ (∃ r, prngReg c r) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = B0 m hO c t := by dsimp only [dats]; try rfl
theorem after0_1 (hO : Ok m) (c : Dev nD) (t : Fin (cfgM m hO).N) : (dats m hO 0 c).after 1 t = B1 m hO c t := by dsimp only [dats]; try rfl
theorem after0_2 (hO : Ok m) (c : Dev nD) (t : Fin (cfgM m hO).N) : (dats m hO 0 c).after 2 t = B2 m hO c t := by dsimp only [dats]; try rfl
theorem after0_3 (hO : Ok m) (c : Dev nD) (t : Fin (cfgM m hO).N) : (dats m hO 0 c).after 3 t = B3 m hO c t := by dsimp only [dats]; try rfl
theorem after0_4 (hO : Ok m) (c : Dev nD) (t : Fin (cfgM m hO).N) : (dats m hO 0 c).after 4 t = B4 m hO c t := by dsimp only [dats]; try rfl
theorem after0_5 (hO : Ok m) (c : Dev nD) (t : Fin (cfgM m hO).N) : (dats m hO 0 c).after 5 t = outAt m hO c t := by dsimp only [dats]; try rfl

theorem before0_0 (hO : Ok m) (c : Dev nD) (t : Fin (cfgM m hO).N) (d) : (dats m hO 0 c).before 0 t d = B0 m hO c t :=
  ((dats m hO 0 c).before_in_eq_fetched 0 rfl (fun _ => rfl) (fun _ _ _ => rfl)
    (fun t => by rw [after0_0]; unfold Dat.blockOf; rw [A_eq]; rfl) t d).trans (by unfold Dat.fetched Dat.blockOf; rw [A_eq]; rfl)
theorem before0_1 (hO : Ok m) (c : Dev nD) (t : Fin (cfgM m hO).N) (d) : (dats m hO 0 c).before 1 t d = B1 m hO c t :=
  ((dats m hO 0 c).before_in_eq_fetched 1 rfl (fun _ => rfl) (fun _ _ _ => rfl)
    (fun t => by rw [after0_1]; unfold Dat.blockOf; rw [A_eq]; rfl) t d).trans (by unfold Dat.fetched Dat.blockOf; rw [A_eq]; rfl)
theorem before0_2 (hO : Ok m) (c : Dev nD) (t : Fin (cfgM m hO).N) (d) : (dats m hO 0 c).before 2 t d = B2 m hO c t :=
  ((dats m hO 0 c).before_in_eq_fetched 2 rfl (fun _ => rfl) (fun _ _ _ => rfl)
    (fun t => by rw [after0_2]; unfold Dat.blockOf; rw [A_eq]; rfl) t d).trans (by unfold Dat.fetched Dat.blockOf; rw [A_eq]; rfl)
theorem before0_3 (hO : Ok m) (c : Dev nD) (t : Fin (cfgM m hO).N) (d) : (dats m hO 0 c).before 3 t d = B3 m hO c t :=
  ((dats m hO 0 c).before_in_eq_fetched 3 rfl (fun _ => rfl) (fun _ _ _ => rfl)
    (fun t => by rw [after0_3]; unfold Dat.blockOf; rw [A_eq]; rfl) t d).trans (by unfold Dat.fetched Dat.blockOf; rw [A_eq]; rfl)
theorem before0_4 (hO : Ok m) (c : Dev nD) (t : Fin (cfgM m hO).N) (d) : (dats m hO 0 c).before 4 t d = B4 m hO c t :=
  ((dats m hO 0 c).before_in_eq_fetched 4 rfl (fun _ => rfl) (fun _ _ _ => rfl)
    (fun t => by rw [after0_4]; unfold Dat.blockOf; rw [A_eq]; rfl) t d).trans (by unfold Dat.fetched Dat.blockOf; rw [A_eq]; rfl)

/-! ## The body at a point -/

abbrev ms0_0 (hO : Ok m) (t : Fin (cfgM m hO).N) := spec0_0.stage ((cfgM m hO).slots t 0)
abbrev ms0_1 (hO : Ok m) (t : Fin (cfgM m hO).N) := spec0_1.stage ((cfgM m hO).slots t 1)
abbrev ms0_2 (hO : Ok m) (t : Fin (cfgM m hO).N) := spec0_2.stage ((cfgM m hO).slots t 2)
abbrev ms0_3 (hO : Ok m) (t : Fin (cfgM m hO).N) := spec0_3.stage ((cfgM m hO).slots t 3)
abbrev ms0_4 (hO : Ok m) (t : Fin (cfgM m hO).N) := spec0_4.stage ((cfgM m hO).slots t 4)
abbrev ms0_5 (hO : Ok m) (t : Fin (cfgM m hO).N) := spec0_5.stage ((cfgM m hO).slots t 5)

/-- The body's call at point `t`. -/
abbrev bodyAt0 (a : (pcfg0 (F := F)).Adm) (t : Fin (cfg0 a).N) :=
  cc0_moe_experts (F := F) (grid0.coords t) (Memref.whole main_arg0) (Memref.isWhole_whole _) (Memref.whole main_arg1) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (Memref.whole cc0_scratch0) (Memref.isWhole_whole _) (Memref.whole cc0_scratch1) (Memref.isWhole_whole _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [after0_0, after0_1, after0_2, after0_3, after0_4, after0_5,
    show (dats m hO 0 c).Φ t.castSucc = iprop(Kept m hO c t.val ∗ (∃ r, prngReg c r) ∗ Pipeline.ΦT pre0 (tbl m) c) from rfl,
    show (dats m hO 0 c).Φ t.succ = iprop(Kept m hO c (t.val + 1) ∗ (∃ r, prngReg c r) ∗ Pipeline.ΦT pre0 (tbl m) c) from rfl,
    show (dats m hO 0 c).owesAt () t.succ = (dats m hO 0 c).owesAt () t.castSucc from rfl, PhiT0_eq]
  unfold Kept
  iintro ⟨⟨⟨%Y9, %Y10, %hY, H9, H10⟩, Hg, HT0, HT1⟩, HW, ⟨%d0, H0⟩, ⟨%d1, H1⟩, ⟨%d2, H2⟩, ⟨%d3, H3⟩, ⟨%d4, H4⟩, ⟨%d5, H5⟩⟩
  iapply (wp_wand_r frame (wpE (defs₀ (F := F)) Variants.none (c : Thread nD τ) none) Set.univ)
  isplitl [HT0 HT1 H0 H1 H2 H3 H4 H5 H9 H10]
  · iapply (body_run (c := c) (grid0.coords t) (Memref.whole main_arg0) (Memref.isWhole_whole _) (Memref.whole main_arg1) (Memref.isWhole_whole _)
      (ms0_0 m hO t) (hstage0_0 (((cfgM m hO).slots t 0).cast nbuf0_0))
      (ms0_1 m hO t) (hstage0_1 (((cfgM m hO).slots t 1).cast nbuf0_1))
      (ms0_2 m hO t) (hstage0_2 (((cfgM m hO).slots t 2).cast nbuf0_2))
      (ms0_3 m hO t) (hstage0_3 (((cfgM m hO).slots t 3).cast nbuf0_3))
      (ms0_4 m hO t) (hstage0_4 (((cfgM m hO).slots t 4).cast nbuf0_4))
      (ms0_5 m hO t) (hstage0_5 (((cfgM m hO).slots t 5).cast nbuf0_5))
      (Memref.whole cc0_scratch0) (Memref.isWhole_whole _) (Memref.whole cc0_scratch1) (Memref.isWhole_whole _)
      (B1 m hO c t) (B3 m hO c t) (te m) (na m) fullShare.right fullShare.right (B0 m hO c t) (B2 m hO c t) (B4 m hO c t) Y9 Y10
      (fun h => by
        obtain ⟨t', ht', e1, e3⟩ := kept m hO c t h
        rw [← e1, ← e3]
        exact hY t' ht'))
    isplitl [HT0]; · iexact HT0
    isplitl [HT1]; · iexact HT1
    isplitl [H0]; · iexact H0
    isplitl [H2]; · iexact H2
    isplitl [H4]; · iexact H4
    isplitl [H5]; · iexists _; iexact H5
    isplitl [H1]; · iexact H1
    isplitl [H3]; · iexact H3
    isplitl [H9]; · iexact H9
    iexact H10
  · iintro %_ ⟨HT0, HT1, H0, H2, H4, H5, H1, H3, H9, H10⟩
    isplitl [H9 H10 Hg HT0 HT1]
    · isplitl [H9 H10]
      · iexists _; iexists _
        isplitr
        · ipureintro
          intro t' ht'
          obtain rfl : t' = t := Fin.ext (by omega)
          exact ⟨rfl, rfl⟩
        isplitl [H9]; · iexact H9
        iexact H10
      isplitl [Hg]; · iexact Hg
      isplitl [HT0]; · iexact HT0
      iexact HT1
    isplitl [HW]; · iexact HW
    isplitl [H0]; · iexact H0
    isplitl [H1]; · iexact H1
    isplitl [H2]; · iexact H2
    isplitl [H3]; · iexact H3
    isplitl [H4]; · iexact H4
    iexact H5

/-- The body writes the output at every point. -/
theorem one_of (i : grid0.Coords) (v : BitVec 32) : (!(k0_cond2 i v == 1#1) && !(k0_cond3 i v == 1#1)) = false := by
  by_cases h : k0_cond2 i v = 1#1
  · rw [h]; rfl
  · rw [(cond3_iff i _).2 h]; exact Bool.and_false _

theorem not_idle (hO : Ok m) (i : grid0.Coords) : (cfgM m hO).idle 5 i = false := one_of i _

theorem post_of (hO : Ok m) (c : Dev nD) (t : Fin (cfgM m hO).N) (b : Bool) (X : sProp 𝕄) : b = false →
    (owns (c : Thread nD τ) (ms0_5 m hO t) fullShare ((dats m hO 0 c).after 5 t)
      ⊢ (match b with
          | true => (match ((cfgM m hO).win 5).flush t with
            | false => X
            | true => owns (c : Thread nD τ) (ms0_5 m hO t) fullShare ((dats m hO 0 c).after 5 t))
          | false => owns (c : Thread nD τ) (ms0_5 m hO t) fullShare ((dats m hO 0 c).after 5 t) : sProp 𝕄)) := by
  intro hb; subst hb; exact .rfl

set_option maxHeartbeats 1000000 in
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  refine sep_mono .rfl (sep_mono .rfl (sep_mono .rfl (sep_mono .rfl (sep_mono .rfl (sep_mono .rfl (sep_mono .rfl ?_))))))
  exact post_of m hO c t _ _ (not_idle m hO ((cfgM m hO).grid.coords t))

/-! ## The launch -/

theorem hin (hO : Ok m) (c : Dev nD) : iprop(Pipeline.ΦA spec0 c ∗ Pipeline.ΦT pre0 (tbl m) c) ⊢ (dats m hO 0 c).Φ 0 := by
  rw [show (dats m hO 0 c).Φ 0 = iprop(Kept m hO c 0 ∗ (∃ r, prngReg c r) ∗ Pipeline.ΦT pre0 (tbl m) c) from rfl]
  unfold Pipeline.ΦA Kept Own
  rw [scopedRest0_eq]
  iintro ⟨⟨⟨⟨%f9, H9⟩, ⟨%f10, H10⟩⟩, Hg⟩, HT⟩
  isplitl [H9 H10]
  · iexists f9; iexists f10
    rw [owns_whole, owns_whole]
    isplitr
    · ipureintro
      intro t h
      exact absurd h (Nat.succ_ne_zero _)
    isplitl [H9]; · iexact H9
    iexact H10
  isplitl [Hg]; · iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = iprop(Kept m hO c (cfgM m hO).N ∗ (∃ r, prngReg c r) ∗ Pipeline.ΦT pre0 (tbl m) c) from rfl]
  unfold Pipeline.ΦA Kept Own
  rw [scopedRest0_eq]
  simp only [owns_whole]
  iintro ⟨⟨%Y9, %Y10, -, H9, H10⟩, Hg, -⟩
  isplitl [H9 H10]
  · isplitl [H9]
    · iexists Y9; iexact H9
    · iexists Y10; iexact H10
  iexact Hg

set_option backward.isDefEq.respectTransparency.types false in
/-- The launch: every array as the windows leave it, every other buffer as found, every semaphore counter at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The call terminates, its arguments are unchanged and the counters are at zero again; and its result is what the
    points wrote. -/
theorem run (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v2) = (dats m hO 0 c).arrAt 5 (cfgM m hO).N)
      ∧ r.2.sem = fun _ => 0) :=
  (θ_run defs _ _).mono (fun r h => ⟨fun c => ⟨⟨
      ((h.1 c).2 main_arg0 (by decide : main_arg0 ∈ Pipeline.restRefs sig spec0)).trans (V_kept m c main_arg0 (by decide) (by decide)),
      ((h.1 c).2 main_arg1 (by decide : main_arg1 ∈ Pipeline.restRefs sig spec0)).trans (V_kept m c main_arg1 (by decide) (by decide)),
      ((h.1 c).1 0).trans (((dats m hO 0 c).arrAt_in 0 rfl _).trans ((A_eq m hO c 0).trans (V_kept m c main_arg2 (by decide) (by decide)))),
      ((h.1 c).1 1).trans (((dats m hO 0 c).arrAt_in 1 rfl _).trans ((A_eq m hO c 1).trans (V_kept m c main_arg3 (by decide) (by decide)))),
      ((h.1 c).2 main_arg4 (by decide : main_arg4 ∈ Pipeline.restRefs sig spec0)).trans (V_kept m c main_arg4 (by decide) (by decide)),
      ((h.1 c).1 3).trans (((dats m hO 0 c).arrAt_in 3 rfl _).trans ((A_eq m hO c 3).trans (V_kept m c main_arg5 (by decide) (by decide)))),
      ((h.1 c).2 main_arg6 (by decide : main_arg6 ∈ Pipeline.restRefs sig spec0)).trans (V_kept m c main_arg6 (by decide) (by decide))⟩,
      (h.1 c).1 5⟩, h.2⟩) (run_main m ρ hO)

end Cert.Exp
-- ==== Proof.ExpertsPure.lean ====
/- The experts' arithmetic at one row and one column, on both sides. -/
module

public import proofs.«01_k».proof.Proof.ExpertsBody
public import proofs.«01_k».proof.Proof.Gen.ExpertsReferenceIdeal.Run
public import Idealize.ShloMosaic.Lib.Pointwise

@[expose] public section

set_option maxRecDepth 16384

noncomputable section

open Idealize.ShloMosaic Idealize.ShloMosaic.TcCoe Idealize.SL.Sem

namespace Cert.Exp

/-! ## One row through one expert -/

/-- The hidden layer's entry `f` of a row `x`. -/
def hid (x : Fin 1024 → EReal) (w : Fin 1024 → Fin 2048 → EReal) (b : Fin 2048 → EReal) (f : Fin 2048) : EReal :=
  (∑ k, x k * w k f) + b f

/-- The gated activation of a gate `g` and an up-projection `u`. -/
def act (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

/-- The activation of a hidden layer's entries `f` and `1024 + f`. -/
def actAt (h : Fin 2048 → EReal) (f : Fin 1024) : EReal :=
  act (h ⟨f.val, by omega⟩) (h ⟨1024 + f.val, by omega⟩)

/-- Entry `d` of the expert's result for the row `x`. -/
def rowOut (x : Fin 1024 → EReal) (w : Fin 1024 → Fin 2048 → EReal) (b : Fin 2048 → EReal) (w' : Fin 1024 → Fin 1024 → EReal)
    (b' : Fin 1024 → EReal) (d : Fin 1024) : EReal :=
  (∑ f, actAt (hid x w b) f * w' f d) + b' d

end Cert.Exp

namespace Cert.Exp
section
open Cert.ExpertsIdeal Cert.ExpertsIdeal.Gen

/-- What the body stores for a used tile, at row `r` and column `d`. -/
theorem pay_eq (X : FVec Ideal S256x1024 .f32) (W : FVec Ideal S1x1024x2048 .f32) (b : FVec Ideal S1x1x2048 .f32) (W' : FVec Ideal S1x1024x1024 .f32)
    (b' : FVec Ideal S1x1x1024 .f32) (r : Fin 256) (d : Fin 1024) :
    k0_pay2 (F := Ideal) X (T9 W) b (T10 W') b' (ix2 r d)
      = rowOut (fun k => X (ix2 r k)) (fun k f => W (ix3 0 k f)) (fun f => b (ix3 0 0 f)) (fun k f => W' (ix3 0 k f)) (fun f => b' (ix3 0 0 f)) d := by
  pointwise [k0_pay2, T9, T10]
  rfl

/-- What it stores for a tile that isn't used. -/
theorem pay_zero (r : Fin 256) (d : Fin 1024) : k0_pay3 (F := Ideal) (ix2 r d) = 0 := by
  pointwise [k0_pay3]

end
end Cert.Exp

namespace Cert.ExpertsReferenceIdeal.Value
open Cert.ExpertsReferenceIdeal Cert.ExpertsReferenceIdeal.Gen

/-- The reference's hidden layer, from the gathered weights. -/
def refHid (x : FVec Ideal S81920x1024 .f32) (U : FVec Ideal S320x1024x2048 .f32) (bu : FVec Ideal S320x2048 .f32) : FVec Ideal S320x256x2048 .f32 :=
  addf (Host.dotGeneral dot_S320x256x1024_S320x1024x2048_S320x256x2048_2_1_1_2_0_0 none (shapeCast _ x shapeCasts_S81920x1024_S320x256x1024) U) (broadcastInDim S320x256x2048 ![0, 1, 2] bcast_S320x1x2048_S320x256x2048_0_1_2 (broadcastInDim S320x1x2048 ![0, 2] bcast_S320x2048_S320x1x2048_0_2 bu))

/-- The reference's activation of a hidden layer. -/
def refAct (h : FVec Ideal S320x256x2048 .f32) : FVec Ideal S320x256x1024 .f32 :=
  mulf (mulf (addf (minimumf (broadcastInDim S320x256x1024 ![] bcast_S_S320x256x1024 (id (constant S_ .f32 0x40E00000#32))) (maximumf (broadcastInDim S320x256x1024 ![] bcast_S_S320x256x1024 (id (constant S_ .f32 0xC0E00000#32))) (extractStridedSlice S320x256x1024 ![0, 0, 1024] h slices_S320x256x2048_S320x256x1024_0_0_1024))) (broadcastInDim S320x256x1024 ![] bcast_S_S320x256x1024 (constant S_ .f32 0x3F800000#32))) (minimumf (extractStridedSlice S320x256x1024 ![0, 0, 0] h slices_S320x256x2048_S320x256x1024_0_0_0) (broadcastInDim S320x256x1024 ![] bcast_S_S320x256x1024 (constant S_ .f32 0x40E00000#32)))) (Host.divf (broadcastInDim S320x256x1024 ![] bcast_S_S320x256x1024 (constant S_ .f32 0x3F800000#32)) (addf (broadcastInDim S320x256x1024 ![] bcast_S_S320x256x1024 (constant S_ .f32 0x3F800000#32)) (Host.exp (Host.negf (mulf (broadcastInDim S320x256x1024 ![] bcast_S_S320x256x1024 (constant S_ .f32 0x3FD9DB23#32)) (minimumf (extractStridedSlice S320x256x1024 ![0, 0, 0] h slices_S320x256x2048_S320x256x1024_0_0_0) (broadcastInDim S320x256x1024 ![] bcast_S_S320x256x1024 (constant S_ .f32 0x40E00000#32))))))))

/-- The reference's result, from the gathered weights. -/
def refOut (na : IVec S1 32) (x : FVec Ideal S81920x1024 .f32) (U : FVec Ideal S320x1024x2048 .f32) (bu : FVec Ideal S320x2048 .f32)
    (D : FVec Ideal S320x1024x1024 .f32) (bd : FVec Ideal S320x1024 .f32) : FVec Ideal S81920x1024 .f32 :=
  shapeCast _ (select (broadcastInDim S320x256x1024 ![0, 1, 2] bcast_S320x1x1_S320x256x1024_0_1_2 (broadcastInDim S320x1x1 ![0] bcast_S320_S320x1x1_0 (cmpi .slt (iotaInDim S320 32 0) (broadcastInDim S320 ![] bcast_S_S320 (shapeCast _ na shapeCasts_S1_S_))))) (addf (Host.dotGeneral dot_S320x256x1024_S320x1024x1024_S320x256x1024_2_1_1_2_0_0 none (refAct (refHid x U bu)) D) (broadcastInDim S320x256x1024 ![0, 1, 2] bcast_S320x1x1024_S320x256x1024_0_1_2 (broadcastInDim S320x1x1024 ![0, 2] bcast_S320x1024_S320x1x1024_0_2 bd))) (broadcastInDim S320x256x1024 ![] bcast_S_S320x256x1024 (id (constant S_ .f32 0x00000000#32)))) shapeCasts_S320x256x1024_S81920x1024

theorem refHid_apply (x : FVec Ideal S81920x1024 .f32) (U : FVec Ideal S320x1024x2048 .f32) (bu : FVec Ideal S320x2048 .f32) (t : Fin 320) (r : Fin 256) (f : Fin 2048) :
    refHid x U bu (ix3 t r f) = Cert.Exp.hid (fun k => x (ix2 ⟨t.val * 256 + r.val, by omega⟩ k)) (fun k f => U (ix3 t k f)) (fun f => bu (ix2 t f)) f := by
  pointwise [refHid]
  rfl

theorem refAct_apply (h : FVec Ideal S320x256x2048 .f32) (t : Fin 320) (r : Fin 256) (f : Fin 1024) :
    refAct h (ix3 t r f) = Cert.Exp.actAt (fun f => h (ix3 t r f)) f := by
  pointwise [refAct, id]
  rfl

theorem refOut_apply (na : IVec S1 32) (x : FVec Ideal S81920x1024 .f32) (U : FVec Ideal S320x1024x2048 .f32) (bu : FVec Ideal S320x2048 .f32)
    (D : FVec Ideal S320x1024x1024 .f32) (bd : FVec Ideal S320x1024 .f32) (z : Fin 81920) (d : Fin 1024) (t : Fin 320) (ht : t.val = z.val / 256) :
    refOut na x U bu D bd (ix2 z d) = Scalar.select (IntOp.cmpi .slt (BitVec.ofNat 32 t.val) (na (ix1 0)))
      (Cert.Exp.rowOut (fun k => x (ix2 z k)) (fun k f => U (ix3 t k f)) (fun f => bu (ix2 t f)) (fun k f => D (ix3 t k f)) (fun f => bd (ix2 t f)) d) (0 : EReal) := by
  obtain ⟨tv, htv⟩ := t
  obtain rfl : tv = z.val / 256 := ht
  have hz : (⟨z.val / 256 * 256 + z.val % 256, by omega⟩ : Fin 81920) = z := Fin.ext (by show z.val / 256 * 256 + z.val % 256 = z.val; omega)
  pointwise [refOut, id]
  simp only [refAct_apply, refHid_apply, hz]
  rfl

end Cert.ExpertsReferenceIdeal.Value
-- ==== Proof.ExpertsTake.lean ====
/- Rows and slabs of a table taken by an integer array, read at an index. -/
module

public import Idealize.ShloMosaic.Lib.Pointwise

@[expose] public section

noncomputable section

open Idealize.ShloMosaic

namespace Cert.Exp

/-- Row `idx[t]` of a table of rows, read at column `f`, when that row's number, kept within the table, is `e`. -/
theorem take_row {α : Type} {N B n : Nat} (wf : GatherDims.WF ⟨2, ![N, B]⟩ ⟨2, ![n, 1]⟩ ⟨2, ![n, B]⟩ [1] [0] [] [0] [] 1 ![1, B])
    (x : (⟨2, ![N, B]⟩ : Shape).Idx → α) (idx : IVec ⟨2, ![n, 1]⟩ 32) (t : Fin n) (f : Fin B) (e : Fin N)
    (h : min (idx (ix2 t (0 : Fin 1))).toInt.toNat (N - 1) = e.val) :
    Host.gather (⟨[1], [0], [], [], [0], 1, ![1, B], wf⟩ : GatherDims ⟨2, ![N, B]⟩ ⟨2, ![n, 1]⟩ ⟨2, ![n, B]⟩) x idx (ix2 t f) = x (ix2 e f) := by
  unfold Host.gather
  refine congrArg x (funext fun a => Fin.ext ?_)
  generalize hd : (⟨[1], [0], [], [], [0], 1, ![1, B], wf⟩ : GatherDims ⟨2, ![N, B]⟩ ⟨2, ![n, 1]⟩ ⟨2, ![n, B]⟩) = d
  have hob : ∀ a', a' ∉ d.operandBatchingDims := fun a' => by rw [← hd]; exact List.not_mem_nil
  show d.start (ix2 t f) idx a + d.batchCoord (ix2 t f) a + d.offCoord (ix2 t f) a = _
  rw [d.batchCoord_eq_zero _ _ (hob a)]
  match a with
  | ⟨0, _⟩ =>
    show d.start _ idx 0 + 0 + d.offCoord _ 0 = e.val
    rw [d.offCoord_eq_zero _ _ fun h => ((d.mem_sKept _).1 h).1 (by rw [← hd]; exact List.mem_singleton.2 rfl)]
    have hm : (0 : Fin 2) ∈ d.startIndexMap := by rw [← hd]; exact List.mem_singleton.2 rfl
    unfold GatherDims.start
    rw [dif_pos hm]
    have hsi : d.siIdx (ix2 t f) ⟨d.startIndexMap.idxOf 0, List.idxOf_lt_length_iff.2 hm⟩ = ix2 t (0 : Fin 1) := by
      subst hd
      funext b; refine Fin.ext ?_
      match b with
      | ⟨0, _⟩ => rfl
      | ⟨1, _⟩ => rfl
    show min (idx (d.siIdx (ix2 t f) ⟨d.startIndexMap.idxOf 0, _⟩)).toInt.toNat _ + 0 + 0 = e.val
    rw [hsi]
    subst hd
    exact h
  | ⟨1, _⟩ =>
    have h0 : d.start (ix2 t f) idx 1 = 0 := by
      subst hd
      exact dif_neg (show (1 : Fin 2) ∉ ([0] : List (Fin 2)) by decide)
    show d.start (ix2 t f) idx 1 + 0 + d.offCoord (ix2 t f) 1 = _
    rw [h0, Nat.zero_add]
    subst hd
    rfl

/-- Slab `idx[t]` of a table of slabs, read at row `k` and column `f`, when that slab's number, kept within the table,
    is `e`. -/
theorem take_slab {α : Type} {N A B n : Nat}
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (k : Fin A) (f : Fin B) (e : Fin N)
    (h : min (idx (ix2 t (0 : Fin 1))).toInt.toNat (N - 1) = e.val) :
    Host.gather (⟨[1, 2], [0], [], [], [0], 1, ![1, A, B], wf⟩ : GatherDims ⟨3, ![N, A, B]⟩ ⟨2, ![n, 1]⟩ ⟨3, ![n, A, B]⟩) x idx (ix3 t k f) = x (ix3 e k f) := by
  unfold Host.gather
  refine congrArg x (funext fun a => Fin.ext ?_)
  generalize hd : (⟨[1, 2], [0], [], [], [0], 1, ![1, A, B], wf⟩ : GatherDims ⟨3, ![N, A, B]⟩ ⟨2, ![n, 1]⟩ ⟨3, ![n, A, B]⟩) = d
  have hob : ∀ a', a' ∉ d.operandBatchingDims := fun a' => by rw [← hd]; exact List.not_mem_nil
  show d.start (ix3 t k f) idx a + d.batchCoord (ix3 t k f) a + d.offCoord (ix3 t k f) a = _
  rw [d.batchCoord_eq_zero _ _ (hob a)]
  match a with
  | ⟨0, _⟩ =>
    show d.start _ idx 0 + 0 + d.offCoord _ 0 = e.val
    rw [d.offCoord_eq_zero _ _ fun h => ((d.mem_sKept _).1 h).1 (by rw [← hd]; exact List.mem_singleton.2 rfl)]
    have hm : (0 : Fin 3) ∈ d.startIndexMap := by rw [← hd]; exact List.mem_singleton.2 rfl
    unfold GatherDims.start
    rw [dif_pos hm]
    have hsi : d.siIdx (ix3 t k f) ⟨d.startIndexMap.idxOf 0, List.idxOf_lt_length_iff.2 hm⟩ = ix2 t (0 : Fin 1) := by
      subst hd
      funext b; refine Fin.ext ?_
      match b with
      | ⟨0, _⟩ => rfl
      | ⟨1, _⟩ => rfl
    show min (idx (d.siIdx (ix3 t k f) ⟨d.startIndexMap.idxOf 0, _⟩)).toInt.toNat _ + 0 + 0 = e.val
    rw [hsi]
    subst hd
    exact h
  | ⟨1, _⟩ =>
    have h0 : d.start (ix3 t k f) idx 1 = 0 := by
      subst hd
      exact dif_neg (show (1 : Fin 3) ∉ ([0] : List (Fin 3)) by decide)
    show d.start (ix3 t k f) idx 1 + 0 + d.offCoord (ix3 t k f) 1 = _
    rw [h0, Nat.zero_add]
    subst hd
    rfl
  | ⟨2, _⟩ =>
    have h0 : d.start (ix3 t k f) idx 2 = 0 := by
      subst hd
      exact dif_neg (show (2 : Fin 3) ∉ ([0] : List (Fin 3)) by decide)
    show d.start (ix3 t k f) idx 2 + 0 + d.offCoord (ix3 t k f) 2 = _
    rw [h0, Nat.zero_add]
    subst hd
    rfl

end Cert.Exp
-- ==== Proof.ExpertsValue.lean ====
/- The value of the experts' call: every row of the result is its expert's, on both sides. -/
module

public import proofs.«01_k».proof.Proof.ExpertsRun
public import proofs.«01_k».proof.Proof.ExpertsPure
public import proofs.«01_k».proof.Proof.ExpertsTake
public import proofs.«01_k».proof.Proof.Gen.Pre_experts_in_range
public import Idealize.ShloMosaic.Lib.StableHlo.Predicate
public import Idealize.ShloMosaic.Lib.Pipeline.ValueKit

@[expose] public section

set_option maxRecDepth 16384

noncomputable section

open Idealize.ShloMosaic Idealize.ShloMosaic.TcCoe Idealize.SL.Sem

namespace Cert.Exp

/-! ## The result, written over the arguments -/

/-- The expert of the tile `t`, kept within the table. -/
def expertOf (te : IVec ⟨1, ![320]⟩ 32) (t : Fin 320) : Fin 32 := ⟨min (te (ix1 t)).toInt.toNat (32 - 1), by omega⟩

/-- Row `z` and column `d` of the result: the row through the expert of its tile, zero past the tiles in use. -/
def entry (te : IVec ⟨1, ![320]⟩ 32) (na : IVec ⟨1, ![1]⟩ 32) (x : FVec Ideal ⟨2, ![81920, 1024]⟩ .f32) (w : FVec Ideal ⟨3, ![32, 1024, 2048]⟩ .f32)
    (b : FVec Ideal ⟨2, ![32, 2048]⟩ .f32) (w' : FVec Ideal ⟨3, ![32, 1024, 1024]⟩ .f32) (b' : FVec Ideal ⟨2, ![32, 1024]⟩ .f32)
    (t : Fin 320) (z : Fin 81920) (d : Fin 1024) : EReal :=
  Scalar.select (IntOp.cmpi .slt (BitVec.ofNat 32 t.val) (na (ix1 0)))
    (rowOut (fun k => x (ix2 z k)) (fun k f => w (ix3 (expertOf te t) k f)) (fun f => b (ix2 (expertOf te t) f))
      (fun k f => w' (ix3 (expertOf te t) k f)) (fun f => b' (ix2 (expertOf te t) f)) d) (0 : EReal)

/-! ## The numbers in range -/

/-- A word that is at least 0 and less than 32, compared signed, is below 32. -/
theorem word_small (v : BitVec 32) (h : IntOp.andi (IntOp.cmpi .sge v 0#32) (IntOp.cmpi .slt v 32#32) = 1#1) : v.toNat < 32 := by
  have hb : ∀ p q : Bool, IntOp.andi (BitVec.ofBool p) (BitVec.ofBool q) = 1#1 → p = true ∧ q = true := by decide
  obtain ⟨h0, h1⟩ := hb _ _ h
  have h0' : (0 : Int) ≤ v.toInt := by simpa [BitVec.sle] using h0
  have h1' : v.toInt < 32 := by simpa [BitVec.slt] using h1
  rw [BitVec.toInt_eq_toNat_cond] at h0' h1'
  split at h0' <;> omega

/-- The precondition, read at a tile. -/
theorem range_of {F : FTy → Type} [FloatOps F] [hp : Cert.Pre_experts_in_range.Facts] (te : IVec ⟨1, ![320]⟩ 32) (na : IVec ⟨1, ![1]⟩ 32)
    (x : FVec F ⟨2, ![81920, 1024]⟩ .f32) (w : FVec F ⟨3, ![32, 1024, 2048]⟩ .f32)
    (b : FVec F ⟨2, ![32, 2048]⟩ .f32) (w' : FVec F ⟨3, ![32, 1024, 1024]⟩ .f32) (b' : FVec F ⟨2, ![32, 1024]⟩ .f32)
    (h : Cert.Pre_experts_in_range.fn (F := F) te na x w b w' b' = fun _ => 1#1) (j : (⟨1, ![320]⟩ : Shape).Idx) : (te j).toNat < 32 :=
  word_small _ (congrFun h j)

end Cert.Exp

/-! ## The reference -/

namespace Cert.ExpertsReferenceIdeal.Value
open Cert.ExpertsReferenceIdeal Cert.ExpertsReferenceIdeal.Gen

/-- The reference's result, entry by entry. -/
theorem reference_entry (m : (ℓ : Loc nD τ sig) → Buf (Elt Ideal) ℓ) (c : Dev nD) (z : Fin 81920) (d : Fin 1024) (t : Fin 320) (ht : t.val = z.val / 256) :
    res_main_v36 (F := Ideal) m c (ix2 z d) = Cert.Exp.entry (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) t z d := by
  have hi : ∀ te : IVec S320 32, (broadcastInDim S320x1 ![0] bcast_S320_S320x1_0 te) (ix2 t (0 : Fin 1)) = te (ix1 t) := fun te => by
    pointwise
  have hh : ∀ te : IVec S320 32, min ((broadcastInDim S320x1 ![0] bcast_S320_S320x1_0 te) (ix2 t (0 : Fin 1))).toInt.toNat (32 - 1) = (Cert.Exp.expertOf te t).val :=
    fun te => by rw [hi]; rfl
  refine (refOut_apply _ _ _ _ _ _ z d t ht).trans ?_
  unfold Cert.Exp.entry
  congr 1
  congr 1
  · funext k f
    exact Cert.Exp.take_slab _ _ _ t k f _ (hh _)
  · funext f
    exact Cert.Exp.take_row _ _ _ t f _ (hh _)
  · funext k f
    exact Cert.Exp.take_slab _ _ _ t k f _ (hh _)
  · funext f
    exact Cert.Exp.take_row _ _ _ t f _ (hh _)

end Cert.ExpertsReferenceIdeal.Value

/-! ## The kernel -/

namespace Cert.Exp
section
open Cert.ExpertsIdeal Cert.ExpertsIdeal.Gen
open Idealize.ShloMosaic.Pipeline (Dat Cfg Window BodyObligation cellOf)

section
variable {F : FTy → Type} [FloatOps F] (m : (ℓ : Loc nD τ sig) → Buf (Elt F) ℓ)

theorem te_eq : te m = m (((0 : Dev nD).tc : Thread nD τ).loc main_arg0) := V_kept m 0 main_arg0 (by decide) (by decide)
theorem na_eq : na m = m (((0 : Dev nD).tc : Thread nD τ).loc main_arg1) := V_kept m 0 main_arg1 (by decide) (by decide)

/-- Where every number of the table is one of the experts', the windows' blocks lie in their arrays. -/
theorem ok_of (h : ∀ j : S320.Idx, (te m j).toNat < 32) : Ok m := by
  have hw : ∀ i : grid0.Coords, (wordAt (te m) i).toNat < 32 := fun i => by
    rw [wordAt_eq (te m) i (ix1 ⟨(i 0).val, (i 0).isLt⟩) rfl]
    exact h _
  refine ⟨fun i => ⟨fun (a : Fin 3) => ?_, .inl rfl⟩, fun i => ⟨fun (a : Fin 3) => ?_, .inl rfl⟩, fun i => ⟨fun (a : Fin 3) => ?_, .inl rfl⟩,
    fun i => ⟨fun (a : Fin 3) => ?_, .inl rfl⟩⟩ <;> have hi := hw i
  · match a with
    | ⟨0, _⟩ => show ((wordAt (te m) i).toNat + 1) * 1 ≤ 32; omega
    | ⟨1, _⟩ => show (0 + 1) * 1024 ≤ 1024; omega
    | ⟨2, _⟩ => show (0 + 1) * 2048 ≤ 2048; omega
  · match a with
    | ⟨0, _⟩ => show ((wordAt (te m) i).toNat + 1) * 1 ≤ 32; omega
    | ⟨1, _⟩ => show (0 + 1) * 1 ≤ 1; omega
    | ⟨2, _⟩ => show (0 + 1) * 2048 ≤ 2048; omega
  · match a with
    | ⟨0, _⟩ => show ((wordAt (te m) i).toNat + 1) * 1 ≤ 32; omega
    | ⟨1, _⟩ => show (0 + 1) * 1024 ≤ 1024; omega
    | ⟨2, _⟩ => show (0 + 1) * 1024 ≤ 1024; omega
  · match a with
    | ⟨0, _⟩ => show ((wordAt (te m) i).toNat + 1) * 1 ≤ 32; omega
    | ⟨1, _⟩ => show (0 + 1) * 1 ≤ 1; omega
    | ⟨2, _⟩ => show (0 + 1) * 1024 ≤ 1024; omega

/-- The biases as the call finds them are the arguments with a unit axis. -/
theorem V_v0 (c : Dev nD) : V m c main_v0 = broadcastInDim S32x1x2048 ![0, 2] bcast_S32x2048_S32x1x2048_0_2 (m ((c.tc : Thread nD τ).loc main_arg4)) := by
  simp only [V, hostOps0]; after_results_simp <;> rfl
theorem V_v1 (c : Dev nD) : V m c main_v1 = broadcastInDim S32x1x1024 ![0, 2] bcast_S32x1024_S32x1x1024_0_2 (m ((c.tc : Thread nD τ).loc main_arg6)) := by
  simp only [V, hostOps0]; after_results_simp <;> rfl

/-- A tile is in use when its number, compared signed, is below the count. -/
theorem cond2_iff (i : grid0.Coords) (v : BitVec 32) : k0_cond2 i v = 1#1 ↔ IntOp.cmpi .slt (BitVec.ofNat 32 (i 0).val) v = 1#1 := by
  have hb : ∀ p : BitVec 1, (Scalar.cmpi .ne (Scalar.extui p : BitVec 32) 0#32 = 1#1) ↔ p = 1#1 := by decide
  exact hb _

theorem wordNa_eq (na : S1.Idx → BitVec 32) : wordNa na = na (ix1 0) :=
  congrArg na (funext fun (a : Fin 1) => match a with | ⟨0, _⟩ => Subsingleton.elim (α := Fin 1) _ _)

end

variable (m : (ℓ : Loc nD τ sig) → Buf (Elt Ideal) ℓ)

/-- The expert of a point is the one the table names. -/
theorem eAt_expertOf (hO : Ok m) (t : Fin (cfgM m hO).N) (t' : Fin 320) (e : t'.val = t.val) : (expertOf (te m) t').val = eAt m hO t := by
  have hw : wordAt (te m) ((cfgM m hO).grid.coords t) = te m (ix1 t') := wordAt_eq _ _ _ (by rw [coords_eq hO t]; exact e)
  have hl : (wordAt (te m) ((cfgM m hO).grid.coords t)).toNat < 32 := eAt_lt m hO t
  show min (te m (ix1 t')).toInt.toNat (32 - 1) = (wordAt (te m) ((cfgM m hO).grid.coords t)).toNat
  rw [← hw, StableHlo.Predicate.toInt_eq_toNat_of_lt (by omega), Int.toNat_natCast]
  omega

theorem rows0 (hO : Ok m) (c : Dev nD) (t : Fin (cfgM m hO).N) (r : Fin 256) (z : Fin 81920) (hz : z.val = t.val * 256 + r.val) :
    (fun k : Fin 1024 => B0 m hO c t (ix2 r k)) = fun k => m ((c.tc : Thread nD τ).loc main_arg2) (ix2 z k) := funext fun k =>
  (B0_apply m hO c t (ix2 r k) (ix2 z k) hz rfl).trans (congrFun (V_kept m c main_arg2 (by decide) (by decide)) _)
theorem rows1 (hO : Ok m) (c : Dev nD) (t : Fin (cfgM m hO).N) (e : Fin 32) (he : e.val = eAt m hO t) :
    (fun (k : Fin 1024) (f : Fin 2048) => B1 m hO c t (ix3 0 k f)) = fun k f => m ((c.tc : Thread nD τ).loc main_arg3) (ix3 e k f) :=
  funext fun k => funext fun f =>
    (B1_apply m hO c t (ix3 0 k f) (ix3 e k f) he rfl rfl).trans (congrFun (V_kept m c main_arg3 (by decide) (by decide)) _)
theorem bias1 (b : FVec Ideal S32x2048 .f32) (e : Fin 32) (f : Fin 2048) :
    broadcastInDim S32x1x2048 ![0, 2] bcast_S32x2048_S32x1x2048_0_2 b (ix3 e 0 f) = b (ix2 e f) := by pointwise
theorem rows2 (hO : Ok m) (c : Dev nD) (t : Fin (cfgM m hO).N) (e : Fin 32) (he : e.val = eAt m hO t) :
    (fun f : Fin 2048 => B2 m hO c t (ix3 0 0 f)) = fun f => m ((c.tc : Thread nD τ).loc main_arg4) (ix2 e f) := funext fun f =>
  (B2_apply m hO c t (ix3 0 0 f) (ix3 e 0 f) he rfl).trans ((congrFun (V_v0 m c) _).trans (bias1 _ e f))
theorem rows3 (hO : Ok m) (c : Dev nD) (t : Fin (cfgM m hO).N) (e : Fin 32) (he : e.val = eAt m hO t) :
    (fun (k : Fin 1024) (f : Fin 1024) => B3 m hO c t (ix3 0 k f)) = fun k f => m ((c.tc : Thread nD τ).loc main_arg5) (ix3 e k f) :=
  funext fun k => funext fun f =>
    (B3_apply m hO c t (ix3 0 k f) (ix3 e k f) he rfl rfl).trans (congrFun (V_kept m c main_arg5 (by decide) (by decide)) _)
theorem bias2 (b : FVec Ideal S32x1024 .f32) (e : Fin 32) (f : Fin 1024) :
    broadcastInDim S32x1x1024 ![0, 2] bcast_S32x1024_S32x1x1024_0_2 b (ix3 e 0 f) = b (ix2 e f) := by pointwise
theorem rows4 (hO : Ok m) (c : Dev nD) (t : Fin (cfgM m hO).N) (e : Fin 32) (he : e.val = eAt m hO t) :
    (fun f : Fin 1024 => B4 m hO c t (ix3 0 0 f)) = fun f => m ((c.tc : Thread nD τ).loc main_arg6) (ix2 e f) := funext fun f =>
  (B4_apply m hO c t (ix3 0 0 f) (ix3 e 0 f) he rfl).trans ((congrFun (V_v1 m c) _).trans (bias2 _ e f))

/-- What a point writes, entry by entry. -/
theorem outAt_entry (hO : Ok m) (c : Dev nD) (t : Fin (cfgM m hO).N) (r : Fin 256) (d : Fin 1024) (t' : Fin 320) (e : t'.val = t.val)
    (z : Fin 81920) (hz : z.val = t.val * 256 + r.val) :
    outAt m hO c t (ix2 r d) = entry (te m) (na m) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) t' z d := by
  have he := eAt_expertOf m hO t t' e
  have hc : (((cfgM m hO).grid.coords t) 0).val = t'.val := (coords_eq hO t).trans e.symm
  unfold entry outAt outv Scalar.select
  rw [← hc, ← wordNa_eq (na m)]
  by_cases hu : k0_cond2 ((cfgM m hO).grid.coords t) (wordNa (na m)) = 1#1
  · refine ((congrFun (if_pos hu) _).trans ?_).trans (if_pos ((cond2_iff _ _).1 hu)).symm
    refine (pay_eq _ _ _ _ _ r d).trans ?_
    rw [rows0 m hO c t r z hz, rows1 m hO c t _ he, rows2 m hO c t _ he, rows3 m hO c t _ he, rows4 m hO c t _ he]
  · exact ((congrFun (if_neg hu) _).trans (pay_zero r d)).trans (if_neg fun h => hu ((cond2_iff _ _).2 h)).symm

/-- The tile of a row. -/
abbrev tileOf (z : Fin 81920) : Fin 320 := ⟨z.val / 256, by omega⟩

/-- The whole result. -/
def result (c : Dev nD) : FVec Ideal S81920x1024 .f32 := fun j =>
  entry (te m) (na m) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (tileOf (j 0)) (j 0) (j 1)

/-- The block of the result a point writes is the point's. -/
theorem index5 (hO : Ok m) (t : Fin (cfgM m hO).N) : ((cfgM m hO).win 5).index t (0 : Fin 2) = t.val := by
  have ht : t.val < 320 := lt_of_lt_of_eq t.isLt N_0
  show (BitVec.ofNat 32 (((cfgM m hO).grid.coords t) 0).val).toNat = t.val
  rw [coords_eq hO t, BitVec.toNat_ofNat, Nat.mod_eq_of_lt (by omega)]

/-- Every point writes its block back. -/
theorem flush5 (hO : Ok m) (t : Fin (cfgM m hO).N) : ((cfgM m hO).win 5).flush t = true := by
  unfold Window.flush
  rw [Bool.and_eq_true, Bool.or_eq_true]
  refine ⟨rfl, ?_⟩
  by_cases h : t.val + 1 < (cfgM m hO).N
  · refine .inr (decide_eq_true ⟨h, fun he => ?_⟩)
    have := congrFun he (0 : Fin 2)
    rw [index5, index5] at this
    exact absurd this (Nat.succ_ne_self _)
  · refine .inl (decide_eq_true ?_)
    have := t.isLt
    show t.val + 1 = (cfgM m hO).N
    omega

/-- Entry `y` of the block lies at row `256 t + y₀` and column `y₁`. -/
theorem emb5 (hO : Ok m) (t : Fin (cfgM m hO).N) (y : S256x1024.Idx) (z : S81920x1024.Idx)
    (h0 : (z 0).val = t.val * 256 + (y 0).val) (h1 : (z 1).val = (y 1).val) : (((cfgM m hO).win 5).blk t).view.emb y = z := by
  refine funext fun (a : Fin 2) => Fin.ext ?_
  refine (Window.rect_emb_val ((cfgM m hO).win 5) t y a rfl).trans ?_
  match a with
  | ⟨0, _⟩ =>
    show ((cfgM m hO).win 5).index t (0 : Fin 2) * 256 + (y 0).val = (z 0).val
    rw [h0, index5]
  | ⟨1, _⟩ =>
    show 0 * 1024 + (y 1).val = (z 1).val
    omega

/-- What a point writes is its block of the result. -/
theorem block_eq (hO : Ok m) (c : Dev nD) (t : Fin (cfgM m hO).N) (y : S256x1024.Idx) :
    outAt m hO c t y = result m c ((((cfgM m hO).win 5).blk t).view.emb y) := by
  have ht : t.val < 320 := lt_of_lt_of_eq t.isLt N_0
  have hy0 : (y 0).val < 256 := (y 0).isLt
  have he := emb5 m hO t y (ix2 (⟨t.val * 256 + (y 0).val, by omega⟩ : Fin 81920) (y 1)) rfl rfl
  refine Eq.trans ?_ (congrArg (result m c) he).symm
  refine (congrArg (outAt m hO c t) (eq_ix2 y)).trans ?_
  refine outAt_entry m hO c t (y 0) (y 1) _ ?_ _ rfl
  show (t.val * 256 + (y 0).val) / 256 = t.val
  omega

/-- Every entry of the result is in the block of its tile's point. -/
theorem cover5 (hO : Ok m) (i : S81920x1024.Idx) : ∃ t : Fin (cfgM m hO).N, ((cfgM m hO).win 5).flush t = true ∧ i ∈ (((cfgM m hO).win 5).blk t).view.set := by
  have hi0 : (i 0).val < 81920 := (i 0).isLt
  have hN : (i 0).val / 256 < (cfgM m hO).N := lt_of_lt_of_eq (by omega : (i 0).val / 256 < 320) N_0.symm
  refine ⟨⟨(i 0).val / 256, hN⟩, flush5 m hO _, ?_⟩
  have he := emb5 m hO ⟨(i 0).val / 256, hN⟩ (ix2 (⟨(i 0).val % 256, by omega⟩ : Fin 256) (i 1)) i
    (by show (i 0).val = (i 0).val / 256 * 256 + (i 0).val % 256; omega) rfl
  have hm := View.emb_mem_set (((cfgM m hO).win 5).blk ⟨(i 0).val / 256, hN⟩).view (ix2 (⟨(i 0).val % 256, by omega⟩ : Fin 256) (i 1))
  exact Eq.subst (motive := fun j => j ∈ (((cfgM m hO).win 5).blk ⟨(i 0).val / 256, hN⟩).view.set) he hm

/-- The result array after the run. -/
theorem final (hO : Ok m) (c : Dev nD) : (dats m hO 0 c).arrAt 5 (cfgM m hO).N = result m c :=
  (dats m hO 0 c).arrAt_eq_of_emb 5 (result m c) (fun t _ y =>
    (cast_eq _ _).trans ((congrFun (after0_5 m hO c t) _).trans (block_eq m hO c t y))) (cover5 m hO)

end
end Cert.Exp
-- ==== Proof.ExpertsWords.lean ====
/- The frame of the experts' call on words, derived from the run that is proved once over any element type: the call's two
   programs, on words and over the reals, are the same term at the same element type. -/
module

public import proofs.«01_k».proof.Defs
public import proofs.«01_k».proof.Proof.Gen.Experts
public import proofs.«01_k».proof.Proof.Gen.ExpertsIdeal
public import proofs.«01_k».proof.Proof.Gen.Pre_experts_in_range
public import proofs.«01_k».proof.Proof.ExpertsValue
public import Idealize.ShloMosaic.Lib.Tactic

@[expose] public section

set_option maxRecDepth 16384

namespace Cert.Exp.Words
open Idealize.ShloMosaic Idealize.ShloMosaic.TcCoe Idealize.SL.Sem Idealize.ShloMosaic.Tactic

/-- The precondition on the words of the call's arguments. -/
def Pre (m : (ℓ : Loc Cert.ExpertsIdeal.nD Cert.ExpertsIdeal.τ Cert.ExpertsIdeal.sig) → Buf (Elt Bits) ℓ) : Prop :=
  ∀ c : Dev Cert.ExpertsIdeal.nD,
    (Cert.Pre_experts_in_range.fn (F := Bits) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

/-- The frame of the call over the reals, taken at words. -/
def FrameWords : Prop :=
  ∀ (m : (ℓ : Loc Cert.ExpertsIdeal.nD Cert.ExpertsIdeal.τ Cert.ExpertsIdeal.sig) → Buf (Elt Bits) ℓ) (g : Dev Cert.ExpertsIdeal.nD → PrngReg), Cert.Exp.Words.Pre m →
    θ_run (Cert.ExpertsIdeal.defs (F := Bits)) (onTc (τ := Cert.ExpertsIdeal.τ) (Cert.ExpertsIdeal.main (F := Bits))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

/-- It is the frame of the call on words. -/
theorem frame_eq : FrameWords = Cert.quiescent_Experts := by sl_kernel_rfl

/-- The frame of the call over the reals, at words. -/
theorem frame_words : FrameWords := fun m ρ hp =>
  have hO : Cert.Exp.Ok (F := Bits) m := Cert.Exp.ok_of m fun j => by
    rw [Cert.Exp.te_eq]
    exact Cert.Exp.range_of _ _ _ _ _ _ _ (hp 0) j
  (θ_run Cert.ExpertsIdeal.defs _ _).mono (fun _ h => ⟨fun c => (h.1 c).1, h.2⟩) (Cert.Exp.run (F := Bits) m ρ hO)

/-- The frame of the call on words: it runs and gives back its arguments and counters. -/
theorem frame : Cert.quiescent_Experts := frame_eq ▸ frame_words

end Cert.Exp.Words
-- ==== Proof.InprojBody.lean ====
/- The body of the input projection's call, step by step: which of the loaded blocks each of the stored values is made
   of, for the three results that are followed (the keys, the values and the indexer's keys). -/
module

public import proofs.«01_k».proof.Proof.Gen.InprojIdeal.Launch
public import proofs.«01_k».proof.Proof.Gen.InprojIdeal.Skeleton
public import Idealize.ShloMosaic.Lib.Pipeline.FrameBody
public import Idealize.ShloMosaic.Lib.Pipeline.ValueKit
public import Idealize.ShloMosaic.Lib.ValueLayout
public import Idealize.ShloMosaic.Lib.Tactic

@[expose] public section

set_option maxRecDepth 16384

noncomputable section

namespace Cert.Inp

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueKit

variable {F : FTy → Type} [FloatOps F]

local notation "𝕄" => MT nD τ sig Unit (Elt F) ℕ (UR sig nD τ) ℕ

/-- A program of the TensorCore that makes no call. -/
abbrev Pr (F : FTy → Type) (α : Type) := Prog (TpuEff nD τ sig (Elt F) Λ₀ .tc) α

/-- The memref owned whole, with these contents. -/
abbrev Has (c : Dev nD) {sp : Space} {s : Shape} {e : EltTy} (m : Memref sig .tc sp s e) (X : s.Idx → Elt F e) : sProp 𝕄 :=
  owns (c : Thread nD τ) m fullShare X

variable {c : Dev nD} {α β : Type}

/-- From `S` the program runs and ends in `R` of its result. -/
def Ends (c : Dev nD) (S : sProp 𝕄) {α : Type} (p : Pr F α) (R : α → sProp 𝕄) : Prop :=
  S ⊢ wp frame (wpE (defs₀ (F := F)) Variants.none (c : Thread nD τ) none) Set.univ p R

/-- `S` lends the memref, with these contents, against its return. -/
def Lends (c : Dev nD) (S : sProp 𝕄) {sp : Space} {s : Shape} {e : EltTy} (m : Memref sig .tc sp s e) (X : s.Idx → Elt F e) : Prop :=
  S ⊢ iprop(Has c m X ∗ (Has c m X -∗ S))

/-- `S` lends the memref, with any contents, and takes it back with any. -/
def Gives (c : Dev nD) (S : sProp 𝕄) {sp : Space} {s : Shape} {e : EltTy} (m : Memref sig .tc sp s e) : Prop :=
  S ⊢ iprop(∃ X, Has c m X ∗ (∀ Y, Has c m Y -∗ S))

/-- `S X` lends the memref with the contents `X`, and taken back with `Y` it is `S Y`. -/
def Tracks (c : Dev nD) {sp : Space} {s : Shape} {e : EltTy} (S : (s.Idx → Elt F e) → sProp 𝕄) (m : Memref sig .tc sp s e) : Prop :=
  ∀ X, S X ⊢ iprop(Has c m X ∗ (∀ Y, Has c m Y -∗ S Y))

theorem Tracks.gives {sp : Space} {s : Shape} {e : EltTy} {S : (s.Idx → Elt F e) → sProp 𝕄} {m : Memref sig .tc sp s e} (h : Tracks c S m) (X : s.Idx → Elt F e) :
    Lends c (S X) m X := by
  unfold Lends
  refine (h X).trans ?_
  iintro ⟨H, K⟩
  isplitl [H]; · iexact H
  iintro H
  iapply K; iexact H

/-- A returned value. -/
theorem Ends.ret {S : sProp 𝕄} {x : α} : Ends (F := F) c S (pure x) (fun y => iprop(⌜y = x⌝ ∗ S)) := by
  unfold Ends
  show S ⊢ wp frame _ Set.univ (Prog.ret x) _
  rw [wp_ret]
  iintro H
  imodintro
  isplitr; · ipureintro; rfl
  iexact H

/-- A part that returns `x`, and then the rest from `x`. -/
theorem Ends.part {S S' : sProp 𝕄} {p : Pr F α} {x : α} {k : α → Pr F β} {R : β → sProp 𝕄} (h : Ends c S p (fun y => iprop(⌜y = x⌝ ∗ S')))
    (hk : Ends c S' (k x) R) : Ends c S (p >>= k) R := by
  unfold Ends at *
  refine h.trans ?_
  rw [wp_bind]
  refine wp_mono _ _ _ ?_
  intro y
  iintro ⟨%e, H⟩
  subst e
  iapply hk; iexact H

/-- A load of a lent memref goes on with what the memref holds at the rectangle. -/
theorem Lends.load {S : sProp 𝕄} {cs : CoreSpace} {s : Shape} {e : EltTy} {m : Memref sig .tc cs s e} {X : s.Idx → Elt F e} (h : Lends c S m X) {r : Rect s}
    {hl : m.view.LoadsAt r.toLoadRect} {k : (r.shape.Idx → Elt F e) → Pr F β} {R : β → sProp 𝕄} (hk : Ends c S (k fun j => X (r.emb j)) R) :
    Ends c S (Prog.lift (TpuEff.load m r.toLoadRect hl) >>= k) R := by
  unfold Ends Lends Has owns at *
  refine h.trans ?_
  iintro ⟨⟨%f, %hf, H⟩, K⟩
  iapply (wp_load_rect (q := fullShare) (f := f) Variants.none (c : Thread nD τ) none Set.univ (m := m) (r := r) (hl := hl) (k := k) (m.view.set_slice_subset r)) $$ H
  iintro H
  have hv : (m.access r).read (Elt F) f = fun j => X (r.emb j) := by rw [← hf]; rfl
  rw [hv]
  iapply hk
  iapply K
  iexists f
  isplitr; · ipureintro; exact hf
  iexact H

/-- A load whose value is not used. -/
theorem Lends.idle {S : sProp 𝕄} {cs : CoreSpace} {s : Shape} {e : EltTy} {m : Memref sig .tc cs s e} {X : s.Idx → Elt F e} (h : Lends c S m X) {r : LoadRect s}
    {hl : m.view.LoadsAt r} {k : Pr F β} {R : β → sProp 𝕄} (hk : Ends c S k R) :
    Ends c S (Prog.lift (TpuEff.load m r hl) >>= fun _ => k) R := by
  unfold Ends Lends Has owns at *
  refine h.trans ?_
  iintro ⟨⟨%f, %hf, H⟩, K⟩
  iapply (wp_load (q := fullShare) (f := f) Variants.none (c : Thread nD τ) none Set.univ (m := m) (hl := hl) (k := fun _ => k) (m.view.setOn_subset_set r.set)) $$ H
  iintro H
  iapply hk
  iapply K
  iexists f
  isplitr; · ipureintro; exact hf
  iexact H

theorem Gives.idle {S : sProp 𝕄} {cs : CoreSpace} {s : Shape} {e : EltTy} {m : Memref sig .tc cs s e} (h : Gives c S m) {r : LoadRect s}
    {hl : m.view.LoadsAt r} {k : Pr F β} {R : β → sProp 𝕄} (hk : Ends c S k R) :
    Ends c S (Prog.lift (TpuEff.load m r hl) >>= fun _ => k) R := by
  unfold Ends Gives Has owns at *
  refine h.trans ?_
  iintro ⟨%X, ⟨%f, %hf, H⟩, K⟩
  iapply (wp_load (q := fullShare) (f := f) Variants.none (c : Thread nD τ) none Set.univ (m := m) (hl := hl) (k := fun _ => k) (m.view.setOn_subset_set r.set)) $$ H
  iintro H
  iapply hk
  iapply K $$ %X
  iexists f
  isplitr; · ipureintro; exact hf
  iexact H

/-- A store to a memref whose contents are not followed. -/
theorem Gives.store {S : sProp 𝕄} {cs : CoreSpace} {s : Shape} {e : EltTy} {m : Memref sig .tc cs s e} (h : Gives c S m) {r : Rect s}
    {w : r.shape.Idx → Elt F e} {hx : (m.access r).Stores Finset.univ} {hm : (Finset.univ : Finset r.shape.Idx) = Finset.univ ∨ ∀ a, r.stride a = 1}
    {k : PUnit → Pr F β} {R : β → sProp 𝕄} (hk : Ends c S (k ⟨⟩) R) :
    Ends c S (Prog.lift (TpuEff.store m r w Finset.univ hx hm) >>= k) R := by
  unfold Ends Gives Has owns at *
  refine h.trans ?_
  iintro ⟨%X, ⟨%f, %hf, H⟩, K⟩
  iapply (wp_store (f := f) Variants.none (c : Thread nD τ) none Set.univ (m := m) (r := r) (hx := hx) (hm := hm) (k := k)
    (((m.access r).setOn_subset_set Finset.univ).trans (m.view.set_slice_subset r))) $$ H
  iintro H
  iapply hk
  iapply K $$ %(m.view.read (Elt F) ((m.access r).write (Elt F) f w Finset.univ))
  iexists ((m.access r).write (Elt F) f w Finset.univ)
  isplitr; · ipureintro; rfl
  iexact H

/-- A store to a memref whose contents are followed replaces them on the rectangle. -/
theorem Tracks.store {cs : CoreSpace} {s : Shape} {e : EltTy} {S : (s.Idx → Elt F e) → sProp 𝕄} {m : Memref sig .tc cs s e} (h : Tracks c S m) {X : s.Idx → Elt F e} {r : Rect s}
    {w : r.shape.Idx → Elt F e} {hx : (m.access r).Stores Finset.univ} {hm : (Finset.univ : Finset r.shape.Idx) = Finset.univ ∨ ∀ a, r.stride a = 1}
    {k : PUnit → Pr F β} {R : β → sProp 𝕄} (hk : Ends c (S (r.overlay X w)) (k ⟨⟩) R) :
    Ends c (S X) (Prog.lift (TpuEff.store m r w Finset.univ hx hm) >>= k) R := by
  unfold Ends at *
  unfold Tracks Has owns at h
  refine (h X).trans ?_
  iintro ⟨⟨%f, %hf, H⟩, K⟩
  iapply (wp_store (f := f) Variants.none (c : Thread nD τ) none Set.univ (m := m) (r := r) (hx := hx) (hm := hm) (k := k)
    (((m.access r).setOn_subset_set Finset.univ).trans (m.view.set_slice_subset r))) $$ H
  iintro H
  iapply hk
  iapply K $$ %(r.overlay X w)
  iexists ((m.access r).write (Elt F) f w Finset.univ)
  isplitr
  · ipureintro
    funext j
    by_cases hj : j ∈ r.set
    · obtain ⟨i, rfl⟩ := r.exists_idx_of_mem hj
      change m.view.read (Elt F) _ (r.emb i) = r.overlay _ _ (r.emb i)
      rw [Rect.overlay_emb]
      exact congrFun ((m.access r).read_write_univ f w) i
    · rw [Rect.overlay_of_not_mem _ _ _ hj, ← hf]
      exact View.read_writes_cons_miss m.view f ⟨r, w⟩ [] j hj
  · iexact H

/-! ## The blocks loaded and the rectangles stored to -/

def ld1 (X : Vec F S256x1024 .f32) : Vec F S256x1024 .f32 := fun j => X ((Rect.unit (s := S256x1024) ![0, 0] S256x1024.size inb_S256x1024_S256x1024_0_0).emb j)
def ld2 (X : Vec F S1x1024 .f32) : Vec F S1x1024 .f32 := fun j => X ((Rect.unit (s := S1x1024) ![0, 0] S1x1024.size inb_S1x1024_S1x1024_0_0).emb j)
def ld3_0 (X : Vec F S1024x6656 .bf16) : Vec F S1024x1024 .bf16 := fun j => X ((Rect.unit (s := S1024x6656) ![0, 0] S1024x1024.size inb_S1024x6656_S1024x1024_0_0).emb j)
def ld3_1024 (X : Vec F S1024x6656 .bf16) : Vec F S1024x1024 .bf16 := fun j => X ((Rect.unit (s := S1024x6656) ![0, 1024] S1024x1024.size inb_S1024x6656_S1024x1024_0_1024).emb j)
def ld3_2048 (X : Vec F S1024x6656 .bf16) : Vec F S1024x1024 .bf16 := fun j => X ((Rect.unit (s := S1024x6656) ![0, 2048] S1024x1024.size inb_S1024x6656_S1024x1024_0_2048).emb j)
def ld3_3072 (X : Vec F S1024x6656 .bf16) : Vec F S1024x1024 .bf16 := fun j => X ((Rect.unit (s := S1024x6656) ![0, 3072] S1024x1024.size inb_S1024x6656_S1024x1024_0_3072).emb j)
def ld8 (X : Vec F S256x128 .f32) : Vec F S256x128 .f32 := fun j => X ((Rect.unit (s := S256x128) ![0, 0] S256x128.size inb_S256x128_S256x128_0_0).emb j)
def ld9 (X : Vec F S256x128 .f32) : Vec F S256x128 .f32 := fun j => X ((Rect.unit (s := S256x128) ![0, 0] S256x128.size inb_S256x128_S256x128_0_0).emb j)
def ld3_4096 (X : Vec F S1024x6656 .bf16) : Vec F S1024x1024 .bf16 := fun j => X ((Rect.unit (s := S1024x6656) ![0, 4096] S1024x1024.size inb_S1024x6656_S1024x1024_0_4096).emb j)
def ld6 (X : Vec F S1x128 .f32) : Vec F S1x128 .f32 := fun j => X ((Rect.unit (s := S1x128) ![0, 0] S1x128.size inb_S1x128_S1x128_0_0).emb j)
def ld3_5120 (X : Vec F S1024x6656 .bf16) : Vec F S1024x512 .bf16 := fun j => X ((Rect.unit (s := S1024x6656) ![0, 5120] S1024x512.size inb_S1024x6656_S1024x512_0_5120).emb j)
def ld7 (X : Vec F S1x128 .f32) : Vec F S1x128 .f32 := fun j => X ((Rect.unit (s := S1x128) ![0, 0] S1x128.size inb_S1x128_S1x128_0_0).emb j)
def ld3_5632 (X : Vec F S1024x6656 .bf16) : Vec F S1024x512 .bf16 := fun j => X ((Rect.unit (s := S1024x6656) ![0, 5632] S1024x512.size inb_S1024x6656_S1024x512_0_5632).emb j)
def ld10 (X : Vec F S256x128 .f32) : Vec F S256x128 .f32 := fun j => X ((Rect.unit (s := S256x128) ![0, 0] S256x128.size inb_S256x128_S256x128_0_0).emb j)
def ld11 (X : Vec F S256x128 .f32) : Vec F S256x128 .f32 := fun j => X ((Rect.unit (s := S256x128) ![0, 0] S256x128.size inb_S256x128_S256x128_0_0).emb j)
def ld3_6144 (X : Vec F S1024x6656 .bf16) : Vec F S1024x512 .bf16 := fun j => X ((Rect.unit (s := S1024x6656) ![0, 6144] S1024x512.size inb_S1024x6656_S1024x512_0_6144).emb j)
def ld4 (X : Vec F S1024x256 .bf16) : Vec F S1024x256 .bf16 := fun j => X ((Rect.unit (s := S1024x256) ![0, 0] S1024x256.size inb_S1024x256_S1024x256_0_0).emb j)
def ld5 (X : Vec F S1024x2048 .bf16) : Vec F S1024x2048 .bf16 := fun j => X ((Rect.unit (s := S1024x2048) ![0, 0] S1024x2048.size inb_S1024x2048_S1024x2048_0_0).emb j)
abbrev kr0 : Rect S1024x128 := ⟨(⟨![0, 0], S256x128.size, ![4, 1], inb_S1024x128_S256x128_0_0_s_4_1⟩ : LoadRect S1024x128), spos_4_1⟩
abbrev kr1 : Rect S1024x128 := ⟨(⟨![1, 0], S256x128.size, ![4, 1], inb_S1024x128_S256x128_1_0_s_4_1⟩ : LoadRect S1024x128), spos_4_1⟩
abbrev kr2 : Rect S1024x128 := ⟨(⟨![2, 0], S256x128.size, ![4, 1], inb_S1024x128_S256x128_2_0_s_4_1⟩ : LoadRect S1024x128), spos_4_1⟩
abbrev kr3 : Rect S1024x128 := ⟨(⟨![3, 0], S256x128.size, ![4, 1], inb_S1024x128_S256x128_3_0_s_4_1⟩ : LoadRect S1024x128), spos_4_1⟩
abbrev ir : Rect S256x64 := (Rect.unit (s := S256x64) ![0, 0] S256x64.size inb_S256x64_S256x64_0_0)

/-- The state of a point: the inputs lent at their contents, three outputs followed, the others lent at anything. -/
structure Acc (c : Dev nD) (S : Vec F S1024x128 .f32 → Vec F S1024x128 .f32 → Vec F S256x64 .f32 → sProp 𝕄) (arg1 : Memref sig .tc .vmem S256x1024 .f32) (arg2 : Memref sig .tc .vmem S1x1024 .f32) (arg3 : Memref sig .tc .vmem S1024x6656 .bf16) (arg4 : Memref sig .tc .vmem S1024x256 .bf16) (arg5 : Memref sig .tc .vmem S1024x2048 .bf16) (arg6 : Memref sig .tc .vmem S1x128 .f32) (arg7 : Memref sig .tc .vmem S1x128 .f32) (arg8 : Memref sig .tc .vmem S256x128 .f32) (arg9 : Memref sig .tc .vmem S256x128 .f32) (arg10 : Memref sig .tc .vmem S256x128 .f32) (arg11 : Memref sig .tc .vmem S256x128 .f32) (arg12 : Memref sig .tc .vmem S256x1024 .bf16) (arg13 : Memref sig .tc .vmem S256x1024 .f32) (arg14 : Memref sig .tc .vmem S256x1024 .bf16) (arg15 : Memref sig .tc .vmem S256x1024 .bf16) (arg16 : Memref sig .tc .vmem S256x1024 .bf16) (arg17 : Memref sig .tc .vmem S1024x128 .f32) (arg18 : Memref sig .tc .vmem S256x512 .bf16) (arg19 : Memref sig .tc .vmem S1024x128 .f32) (arg20 : Memref sig .tc .vmem S256x512 .bf16) (arg21 : Memref sig .tc .vmem S256x1024 .bf16) (arg22 : Memref sig .tc .vmem S256x64 .f32) (arg23 : Memref sig .tc .vmem S256x128 .bf16) (arg24 : Memref sig .tc .vmem S256x128 .f32) (arg25 : Memref sig .tc .vmem S256x1024 .bf16) (arg26 : Memref sig .tc .vmem S256x1024 .bf16) (arg27 : Memref sig .tc .vmem S1x512x256 .bf16) (X1 : Vec F S256x1024 .f32) (X2 : Vec F S1x1024 .f32) (X3 : Vec F S1024x6656 .bf16) (X4 : Vec F S1024x256 .bf16) (X5 : Vec F S1024x2048 .bf16) (X6 : Vec F S1x128 .f32) (X7 : Vec F S1x128 .f32) (X8 : Vec F S256x128 .f32) (X9 : Vec F S256x128 .f32) (X10 : Vec F S256x128 .f32) (X11 : Vec F S256x128 .f32) : Prop where
  r1 : ∀ K W I, Lends c (S K W I) arg1 X1
  r2 : ∀ K W I, Lends c (S K W I) arg2 X2
  r3 : ∀ K W I, Lends c (S K W I) arg3 X3
  r4 : ∀ K W I, Lends c (S K W I) arg4 X4
  r5 : ∀ K W I, Lends c (S K W I) arg5 X5
  r6 : ∀ K W I, Lends c (S K W I) arg6 X6
  r7 : ∀ K W I, Lends c (S K W I) arg7 X7
  r8 : ∀ K W I, Lends c (S K W I) arg8 X8
  r9 : ∀ K W I, Lends c (S K W I) arg9 X9
  r10 : ∀ K W I, Lends c (S K W I) arg10 X10
  r11 : ∀ K W I, Lends c (S K W I) arg11 X11
  g12 : ∀ K W I, Gives c (S K W I) arg12
  g13 : ∀ K W I, Gives c (S K W I) arg13
  g14 : ∀ K W I, Gives c (S K W I) arg14
  g15 : ∀ K W I, Gives c (S K W I) arg15
  g16 : ∀ K W I, Gives c (S K W I) arg16
  t17 : ∀ W I, Tracks c (fun K => S K W I) arg17
  g18 : ∀ K W I, Gives c (S K W I) arg18
  t19 : ∀ K I, Tracks c (fun W => S K W I) arg19
  g20 : ∀ K W I, Gives c (S K W I) arg20
  g21 : ∀ K W I, Gives c (S K W I) arg21
  t22 : ∀ K W, Tracks c (fun I => S K W I) arg22
  g23 : ∀ K W I, Gives c (S K W I) arg23
  g24 : ∀ K W I, Gives c (S K W I) arg24
  g25 : ∀ K W I, Gives c (S K W I) arg25
  g26 : ∀ K W I, Gives c (S K W I) arg26
  g27 : ∀ K W I, Gives c (S K W I) arg27

variable {S : Vec F S1024x128 .f32 → Vec F S1024x128 .f32 → Vec F S256x64 .f32 → sProp (MT nD τ sig Unit (Elt F) ℕ (UR sig nD τ) ℕ)} {i : grid0.Coords} {arg1 : Memref sig .tc .vmem S256x1024 .f32} {harg1 : arg1.IsWhole} {arg2 : Memref sig .tc .vmem S1x1024 .f32} {harg2 : arg2.IsWhole} {arg3 : Memref sig .tc .vmem S1024x6656 .bf16} {harg3 : arg3.IsWhole} {arg4 : Memref sig .tc .vmem S1024x256 .bf16} {harg4 : arg4.IsWhole} {arg5 : Memref sig .tc .vmem S1024x2048 .bf16} {harg5 : arg5.IsWhole} {arg6 : Memref sig .tc .vmem S1x128 .f32} {harg6 : arg6.IsWhole} {arg7 : Memref sig .tc .vmem S1x128 .f32} {harg7 : arg7.IsWhole} {arg8 : Memref sig .tc .vmem S256x128 .f32} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} {arg12 : Memref sig .tc .vmem S256x1024 .bf16} {harg12 : arg12.IsWhole} {arg13 : Memref sig .tc .vmem S256x1024 .f32} {harg13 : arg13.IsWhole} {arg14 : Memref sig .tc .vmem S256x1024 .bf16} {harg14 : arg14.IsWhole} {arg15 : Memref sig .tc .vmem S256x1024 .bf16} {harg15 : arg15.IsWhole} {arg16 : Memref sig .tc .vmem S256x1024 .bf16} {harg16 : arg16.IsWhole} {arg17 : Memref sig .tc .vmem S1024x128 .f32} {harg17 : arg17.IsWhole} {arg18 : Memref sig .tc .vmem S256x512 .bf16} {harg18 : arg18.IsWhole} {arg19 : Memref sig .tc .vmem S1024x128 .f32} {harg19 : arg19.IsWhole} {arg20 : Memref sig .tc .vmem S256x512 .bf16} {harg20 : arg20.IsWhole} {arg21 : Memref sig .tc .vmem S256x1024 .bf16} {harg21 : arg21.IsWhole} {arg22 : Memref sig .tc .vmem S256x64 .f32} {harg22 : arg22.IsWhole} {arg23 : Memref sig .tc .vmem S256x128 .bf16} {harg23 : arg23.IsWhole} {arg24 : Memref sig .tc .vmem S256x128 .f32} {harg24 : arg24.IsWhole} {arg25 : Memref sig .tc .vmem S256x1024 .bf16} {harg25 : arg25.IsWhole} {arg26 : Memref sig .tc .vmem S256x1024 .bf16} {harg26 : arg26.IsWhole} {arg27 : Memref sig .tc .vmem S1x512x256 .bf16} {harg27 : arg27.IsWhole} {X1 : Vec F S256x1024 .f32} {X2 : Vec F S1x1024 .f32} {X3 : Vec F S1024x6656 .bf16} {X4 : Vec F S1024x256 .bf16} {X5 : Vec F S1024x2048 .bf16} {X6 : Vec F S1x128 .f32} {X7 : Vec F S1x128 .f32} {X8 : Vec F S256x128 .f32} {X9 : Vec F S256x128 .f32} {X10 : Vec F S256x128 .f32} {X11 : Vec F S256x128 .f32}

set_option maxHeartbeats 1600000 in
theorem ends_p1 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32)  :
    Ends c (S K W I) (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 ) (fun y => iprop(⌜y = (⟨k0_pay1 (ld1 X1) (ld2 X2), k0_pay5 (ld3_3072 X3)⟩ : (Σ' (v15 : FVec F S256x1024 .bf16), FVec F S1024x1024 .bf16))⌝ ∗ S K W I)) := by
  rw [k0_part1_eq_skeleton]
  unfold k0_part1_skel
  refine Lends.load (H.r1 _ _ _) ?_
  refine Lends.load (H.r2 _ _ _) ?_
  refine Lends.load (H.r3 _ _ _) ?_
  refine Gives.idle (H.g12 _ _ _) ?_
  refine Gives.store (H.g12 _ _ _) ?_
  refine Lends.load (H.r3 _ _ _) ?_
  refine Gives.idle (H.g13 _ _ _) ?_
  refine Gives.store (H.g13 _ _ _) ?_
  refine Lends.load (H.r3 _ _ _) ?_
  refine Gives.idle (H.g14 _ _ _) ?_
  refine Gives.store (H.g14 _ _ _) ?_
  refine Lends.load (H.r3 _ _ _) ?_
  exact Ends.ret

set_option maxHeartbeats 1600000 in
theorem ends_p2 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v31 : FVec F S1024x1024 .bf16) :
    Ends c (S K W I) (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v31) (fun y => iprop(⌜y = (⟨k0_pay7 (ld8 X8), k0_pay8 (ld9 X9), k0_pay9 v15 (ld3_4096 X3), k0_pay11 v15 (ld3_4096 X3), k0_pay12 v15 (ld3_4096 X3), (Scalar.ofBits .f32 0x43000000#32)⟩ : (Σ' (v36 : FVec F S256x128 .f32) (v38 : FVec F S256x128 .f32) (v41 : FVec F S256x1024 .f32) (v65 : FVec F S256x128 .f32) (v68 : FVec F S256x1 .f32), F .f32))⌝ ∗ S K W I)) := by
  rw [k0_part2_eq_skeleton]
  unfold k0_part2_skel
  refine Gives.idle (H.g15 _ _ _) ?_
  refine Gives.store (H.g15 _ _ _) ?_
  refine Lends.load (H.r8 _ _ _) ?_
  refine Lends.load (H.r9 _ _ _) ?_
  refine Lends.load (H.r3 _ _ _) ?_
  refine Lends.load (H.r6 _ _ _) ?_
  refine Gives.idle (H.g16 _ _ _) ?_
  refine Gives.store (H.g16 _ _ _) ?_
  exact Ends.ret

set_option maxHeartbeats 1600000 in
theorem ends_p3 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v41 : FVec F S256x1024 .f32) (v65 : FVec F S256x128 .f32) (v68 : FVec F S256x1 .f32) (cst_37 : F .f32) :
    Ends c (S K W I) (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v41 v65 v68 cst_37) (fun y => iprop(⌜y = (⟨⟩ : (PUnit))⌝ ∗ S K W I)) := by
  rw [k0_part3_eq_skeleton]
  unfold k0_part3_skel
  refine Lends.load (H.r6 _ _ _) ?_
  refine Gives.idle (H.g16 _ _ _) ?_
  refine Gives.store (H.g16 _ _ _) ?_
  refine Lends.load (H.r6 _ _ _) ?_
  refine Gives.idle (H.g16 _ _ _) ?_
  refine Gives.store (H.g16 _ _ _) ?_
  exact Ends.ret

set_option maxHeartbeats 1600000 in
theorem ends_p4 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v41 : FVec F S256x1024 .f32) :
    Ends c (S K W I) (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v41) (fun y => iprop(⌜y = (⟨k0_pay16 v36 v38 v41 (ld6 X6), k0_pay17 (F := F)⟩ : (Σ' (v152 : FVec F S256x128 .f32), FVec F S256x128 .f32))⌝ ∗ S K W I)) := by
  rw [k0_part4_eq_skeleton]
  unfold k0_part4_skel
  refine Lends.load (H.r6 _ _ _) ?_
  refine Gives.idle (H.g16 _ _ _) ?_
  refine Gives.store (H.g16 _ _ _) ?_
  refine Lends.load (H.r6 _ _ _) ?_
  exact Ends.ret

set_option maxHeartbeats 1600000 in
theorem ends_p5 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v41 : FVec F S256x1024 .f32) (v152 : FVec F S256x128 .f32) (v153 : FVec F S256x128 .f32) :
    Ends c (S K W I) (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v41 v152 v153) (fun y => iprop(⌜y = (⟨k0_pay20 v41 (ld6 X6), k0_pay21 v36 v41 (ld6 X6)⟩ : (Σ' (v194 : FVec F S256x128 .f32), FVec F S256x128 .f32))⌝ ∗ S K W I)) := by
  rw [k0_part5_eq_skeleton]
  unfold k0_part5_skel
  refine Gives.idle (H.g16 _ _ _) ?_
  refine Gives.store (H.g16 _ _ _) ?_
  refine Lends.load (H.r6 _ _ _) ?_
  refine Gives.idle (H.g16 _ _ _) ?_
  refine Gives.store (H.g16 _ _ _) ?_
  refine Lends.load (H.r6 _ _ _) ?_
  exact Ends.ret

set_option maxHeartbeats 1600000 in
theorem ends_p6 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v36 : FVec F S256x128 .f32) (v38 : FVec F S256x128 .f32) (v41 : FVec F S256x1024 .f32) (v194 : FVec F S256x128 .f32) (v195 : FVec F S256x128 .f32) :
    Ends c (S K W I) (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v36 v38 v41 v194 v195) (fun y => iprop(⌜y = (⟨k0_pay24 v15 (ld3_5120 X3), k0_pay25 v15 (ld3_5120 X3), k0_pay26 v15 (ld3_5120 X3), (Scalar.ofBits .f32 0x358637BD#32)⟩ : (Σ' (v228 : FVec F S256x512 .f32) (v229 : FVec F S256x128 .f32) (v234 : FVec F S256x1 .f32), F .f32))⌝ ∗ S K W I)) := by
  rw [k0_part6_eq_skeleton]
  unfold k0_part6_skel
  refine Gives.idle (H.g16 _ _ _) ?_
  refine Gives.store (H.g16 _ _ _) ?_
  refine Lends.load (H.r6 _ _ _) ?_
  refine Gives.idle (H.g16 _ _ _) ?_
  refine Gives.store (H.g16 _ _ _) ?_
  refine Lends.load (H.r3 _ _ _) ?_
  exact Ends.ret

set_option maxHeartbeats 1600000 in
theorem ends_p7 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v228 : FVec F S256x512 .f32) (v229 : FVec F S256x128 .f32) (v234 : FVec F S256x1 .f32) (cst_96 : F .f32) :
    Ends c (S K W I) (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v228 v229 v234 cst_96) (fun y => iprop(⌜y = ((k0_pay31 v228) : (FVec F S256x128 .f32))⌝ ∗ S (kr1.overlay (kr0.overlay K (k0_pay27 v36 v38 v229 v234 cst_96 (ld7 X7))) (k0_pay29 v36 v38 v228 (ld7 X7))) W I)) := by
  rw [k0_part7_eq_skeleton]
  unfold k0_part7_skel
  refine Lends.load (H.r7 _ _ _) ?_
  refine Lends.idle ((H.t17 _ _).gives _) ?_
  refine Tracks.store (H.t17 _ _) ?_
  refine Gives.idle (H.g18 _ _ _) ?_
  refine Gives.store (H.g18 _ _ _) ?_
  refine Lends.load (H.r7 _ _ _) ?_
  refine Lends.idle ((H.t17 _ _).gives _) ?_
  refine Tracks.store (H.t17 _ _) ?_
  refine Gives.idle (H.g18 _ _ _) ?_
  refine Gives.store (H.g18 _ _ _) ?_
  exact Ends.ret

set_option maxHeartbeats 1600000 in
theorem ends_p8 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v228 : FVec F S256x512 .f32) (v273 : FVec F S256x128 .f32) :
    Ends c (S K W I) (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v228 v273) (fun y => iprop(⌜y = ((k0_pay34 v36 v38 v228 (ld7 X7)) : (FVec F S256x128 .f32))⌝ ∗ S (kr2.overlay K (k0_pay32 v36 v38 v273 (ld7 X7))) W I)) := by
  rw [k0_part8_eq_skeleton]
  unfold k0_part8_skel
  refine Lends.load (H.r7 _ _ _) ?_
  refine Lends.idle ((H.t17 _ _).gives _) ?_
  refine Tracks.store (H.t17 _ _) ?_
  refine Gives.idle (H.g18 _ _ _) ?_
  refine Gives.store (H.g18 _ _ _) ?_
  refine Lends.load (H.r7 _ _ _) ?_
  exact Ends.ret

set_option maxHeartbeats 1600000 in
theorem ends_p9 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v313 : FVec F S256x128 .f32) :
    Ends c (S K W I) (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v313) (fun y => iprop(⌜y = (⟨k0_pay43 (ld10 X10), k0_pay44 (ld11 X11), (iota .tc S256x128 32 [1] iota_S256x128_d1_w32), k0_pay45, 32#32⟩ : (Σ' (v336 : FVec F S256x128 .f32) (v338 : FVec F S256x128 .f32) (v339 : IVec S256x128 32) (v341 : IVec S256x128 32), BitVec 32))⌝ ∗ S (kr3.overlay K v313) (kr3.overlay (kr2.overlay (kr1.overlay (kr0.overlay W (k0_pay37 v15 (ld3_5632 X3))) (k0_pay38 v15 (ld3_5632 X3))) (k0_pay39 v15 (ld3_5632 X3))) (k0_pay40 v15 (ld3_5632 X3))) I)) := by
  rw [k0_part9_eq_skeleton]
  unfold k0_part9_skel
  refine Lends.idle ((H.t17 _ _).gives _) ?_
  refine Tracks.store (H.t17 _ _) ?_
  refine Gives.idle (H.g18 _ _ _) ?_
  refine Gives.store (H.g18 _ _ _) ?_
  refine Lends.load (H.r3 _ _ _) ?_
  refine Lends.idle ((H.t19 _ _).gives _) ?_
  refine Tracks.store (H.t19 _ _) ?_
  refine Lends.idle ((H.t19 _ _).gives _) ?_
  refine Tracks.store (H.t19 _ _) ?_
  refine Lends.idle ((H.t19 _ _).gives _) ?_
  refine Tracks.store (H.t19 _ _) ?_
  refine Lends.idle ((H.t19 _ _).gives _) ?_
  refine Tracks.store (H.t19 _ _) ?_
  refine Gives.idle (H.g20 _ _ _) ?_
  refine Gives.store (H.g20 _ _ _) ?_
  refine Gives.idle (H.g27 _ _ _) ?_
  refine Gives.store (H.g27 _ _ _) ?_
  refine Lends.load (H.r10 _ _ _) ?_
  refine Lends.load (H.r11 _ _ _) ?_
  exact Ends.ret

set_option maxHeartbeats 1600000 in
theorem ends_p10 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v336 : FVec F S256x128 .f32) (v338 : FVec F S256x128 .f32) (v339 : IVec S256x128 32) (v341 : IVec S256x128 32) (c32_i32 : BitVec 32) :
    Ends c (S K W I) (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v336 v338 v339 v341 c32_i32) (fun y => iprop(⌜y = (⟨k0_pay46 v341 c32_i32, k0_pay47 v15 (ld3_6144 X3), k0_pay51 v15 v336 v338 v341 c32_i32 (ld3_6144 X3), 64#32⟩ : (Σ' (v343 : IVec S256x128 1) (v346 : FVec F S256x512 .f32) (v372 : FVec F S256x128 .f32), BitVec 32))⌝ ∗ S K W I)) := by
  rw [k0_part10_eq_skeleton]
  unfold k0_part10_skel
  refine Lends.load (H.r3 _ _ _) ?_
  refine Gives.idle (H.g21 _ _ _) ?_
  refine Gives.store (H.g21 _ _ _) ?_
  refine Gives.idle (H.g21 _ _ _) ?_
  refine Gives.store (H.g21 _ _ _) ?_
  refine Gives.idle (H.g21 _ _ _) ?_
  refine Gives.store (H.g21 _ _ _) ?_
  exact Ends.ret

set_option maxHeartbeats 1600000 in
theorem ends_p11 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v336 : FVec F S256x128 .f32) (v338 : FVec F S256x128 .f32) (v339 : IVec S256x128 32) (v343 : IVec S256x128 1) (v346 : FVec F S256x512 .f32) (v372 : FVec F S256x128 .f32) (c64_i32_167 : BitVec 32) :
    Ends c (S K W I) (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v336 v338 v339 v343 v346 v372 c64_i32_167) (fun y => iprop(⌜y = (⟨k0_pay57 v336 v338 v343 v346, k0_pay58 v336 v338 v339 v343 v346⟩ : (Σ' (v410 : FVec F S256x128 .f32), FVec F S256x128 .bf16))⌝ ∗ S K W I)) := by
  rw [k0_part11_eq_skeleton]
  unfold k0_part11_skel
  refine Gives.idle (H.g21 _ _ _) ?_
  refine Gives.store (H.g21 _ _ _) ?_
  refine Gives.idle (H.g21 _ _ _) ?_
  refine Gives.store (H.g21 _ _ _) ?_
  refine Gives.idle (H.g21 _ _ _) ?_
  refine Gives.store (H.g21 _ _ _) ?_
  refine Gives.idle (H.g21 _ _ _) ?_
  exact Ends.ret

set_option maxHeartbeats 1600000 in
theorem ends_p12 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v336 : FVec F S256x128 .f32) (v338 : FVec F S256x128 .f32) (v339 : IVec S256x128 32) (v343 : IVec S256x128 1) (v410 : FVec F S256x128 .f32) (v415 : FVec F S256x128 .bf16) :
    Ends c (S K W I) (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v336 v338 v339 v343 v410 v415) (fun y => iprop(⌜y = ((k0_pay67 v15 (ld5 X5)) : (FVec F S256x1024 .bf16))⌝ ∗ S K W (ir.overlay I (k0_pay63 v15 v336 v338 v343 (ld4 X4))))) := by
  rw [k0_part12_eq_skeleton]
  unfold k0_part12_skel
  refine Gives.store (H.g21 _ _ _) ?_
  refine Gives.idle (H.g21 _ _ _) ?_
  refine Gives.store (H.g21 _ _ _) ?_
  refine Lends.load (H.r4 _ _ _) ?_
  refine Gives.idle (H.g23 _ _ _) ?_
  refine Gives.store (H.g23 _ _ _) ?_
  refine Lends.idle ((H.t22 _ _).gives _) ?_
  refine Tracks.store (H.t22 _ _) ?_
  refine Gives.idle (H.g24 _ _ _) ?_
  refine Gives.store (H.g24 _ _ _) ?_
  refine Lends.load (H.r5 _ _ _) ?_
  refine Gives.idle (H.g25 _ _ _) ?_
  refine Gives.store (H.g25 _ _ _) ?_
  exact Ends.ret

/-! ## The whole body -/

/-- The normed rows. -/
abbrev hn (X1 : Vec F S256x1024 .f32) (X2 : Vec F S1x1024 .f32) : FVec F S256x1024 .bf16 := k0_pay1 (ld1 X1) (ld2 X2)

/-- Four blocks of rows, interleaved. -/
def four (p0 p1 p2 p3 : Vec F S256x128 .f32) : Vec F S1024x128 .f32 := fun x =>
  if (x 0).val % 4 = 0 then p0 (ix2 (⟨(x 0).val / 4, by have h : (x 0).val < 1024 := (x 0).isLt; omega⟩ : Fin 256) (x 1))
  else if (x 0).val % 4 = 1 then p1 (ix2 (⟨(x 0).val / 4, by have h : (x 0).val < 1024 := (x 0).isLt; omega⟩ : Fin 256) (x 1))
  else if (x 0).val % 4 = 2 then p2 (ix2 (⟨(x 0).val / 4, by have h : (x 0).val < 1024 := (x 0).isLt; omega⟩ : Fin 256) (x 1))
  else p3 (ix2 (⟨(x 0).val / 4, by have h : (x 0).val < 1024 := (x 0).isLt; omega⟩ : Fin 256) (x 1))

/-- The keys of a block. -/
def outK (X1 : Vec F S256x1024 .f32) (X2 : Vec F S1x1024 .f32) (X3 : Vec F S1024x6656 .bf16) (X7 : Vec F S1x128 .f32) (X8 X9 : Vec F S256x128 .f32) : Vec F S1024x128 .f32 :=
  four (k0_pay27 (k0_pay7 (ld8 X8)) (k0_pay8 (ld9 X9)) (k0_pay25 (hn X1 X2) (ld3_5120 X3)) (k0_pay26 (hn X1 X2) (ld3_5120 X3)) (Scalar.ofBits .f32 0x358637BD#32) (ld7 X7))
    (k0_pay29 (k0_pay7 (ld8 X8)) (k0_pay8 (ld9 X9)) (k0_pay24 (hn X1 X2) (ld3_5120 X3)) (ld7 X7))
    (k0_pay32 (k0_pay7 (ld8 X8)) (k0_pay8 (ld9 X9)) (k0_pay31 (k0_pay24 (hn X1 X2) (ld3_5120 X3))) (ld7 X7))
    (k0_pay34 (k0_pay7 (ld8 X8)) (k0_pay8 (ld9 X9)) (k0_pay24 (hn X1 X2) (ld3_5120 X3)) (ld7 X7))

/-- The values of a block. -/
def outV (X1 : Vec F S256x1024 .f32) (X2 : Vec F S1x1024 .f32) (X3 : Vec F S1024x6656 .bf16) : Vec F S1024x128 .f32 :=
  four (k0_pay37 (hn X1 X2) (ld3_5632 X3)) (k0_pay38 (hn X1 X2) (ld3_5632 X3)) (k0_pay39 (hn X1 X2) (ld3_5632 X3)) (k0_pay40 (hn X1 X2) (ld3_5632 X3))

/-- The indexer's keys of a block. -/
def outI (X1 : Vec F S256x1024 .f32) (X2 : Vec F S1x1024 .f32) (X4 : Vec F S1024x256 .bf16) (X10 X11 : Vec F S256x128 .f32) : Vec F S256x64 .f32 :=
  k0_pay63 (hn X1 X2) (k0_pay43 (ld10 X10)) (k0_pay44 (ld11 X11)) (k0_pay46 k0_pay45 32#32) (ld4 X4)

theorem over_four (K : Vec F S1024x128 .f32) (p0 p1 p2 p3 : Vec F S256x128 .f32) :
    kr3.overlay (kr2.overlay (kr1.overlay (kr0.overlay K p0) p1) p2) p3 = four p0 p1 p2 p3 := by
  funext x
  have hx0 : (x 0).val < 1024 := (x 0).isLt
  have hx1 : (x 1).val < 128 := (x 1).isLt
  have e0 : (x 0).val % 4 = 0 → kr0.emb (ix2 (⟨(x 0).val / 4, by omega⟩ : Fin 256) (x 1)) = x := fun h => by
    funext (a : Fin 2)
    apply Fin.ext
    match a with
    | ⟨0, _⟩ => show 0 + 4 * ((x 0).val / 4) = (x 0).val; omega
    | ⟨1, _⟩ => show 0 + 1 * (x 1).val = (x 1).val; omega
  have e1 : (x 0).val % 4 = 1 → kr1.emb (ix2 (⟨(x 0).val / 4, by omega⟩ : Fin 256) (x 1)) = x := fun h => by
    funext (a : Fin 2)
    apply Fin.ext
    match a with
    | ⟨0, _⟩ => show 1 + 4 * ((x 0).val / 4) = (x 0).val; omega
    | ⟨1, _⟩ => show 0 + 1 * (x 1).val = (x 1).val; omega
  have e2 : (x 0).val % 4 = 2 → kr2.emb (ix2 (⟨(x 0).val / 4, by omega⟩ : Fin 256) (x 1)) = x := fun h => by
    funext (a : Fin 2)
    apply Fin.ext
    match a with
    | ⟨0, _⟩ => show 2 + 4 * ((x 0).val / 4) = (x 0).val; omega
    | ⟨1, _⟩ => show 0 + 1 * (x 1).val = (x 1).val; omega
  have e3 : (x 0).val % 4 = 3 → kr3.emb (ix2 (⟨(x 0).val / 4, by omega⟩ : Fin 256) (x 1)) = x := fun h => by
    funext (a : Fin 2)
    apply Fin.ext
    match a with
    | ⟨0, _⟩ => show 3 + 4 * ((x 0).val / 4) = (x 0).val; omega
    | ⟨1, _⟩ => show 0 + 1 * (x 1).val = (x 1).val; omega
  have n1 : x ∈ kr1.set → (x 0).val % 4 = 1 := fun h => by
    obtain ⟨i, rfl⟩ := kr1.exists_idx_of_mem h
    show (1 + 4 * (i 0).val) % 4 = 1
    omega
  have n2 : x ∈ kr2.set → (x 0).val % 4 = 2 := fun h => by
    obtain ⟨i, rfl⟩ := kr2.exists_idx_of_mem h
    show (2 + 4 * (i 0).val) % 4 = 2
    omega
  have n3 : x ∈ kr3.set → (x 0).val % 4 = 3 := fun h => by
    obtain ⟨i, rfl⟩ := kr3.exists_idx_of_mem h
    show (3 + 4 * (i 0).val) % 4 = 3
    omega
  unfold four
  by_cases h3 : (x 0).val % 4 = 3
  · rw [if_neg (by omega), if_neg (by omega), if_neg (by omega)]
    refine Eq.trans (congrArg _ (e3 h3).symm) ?_
    exact kr3.overlay_emb _ _ _
  rw [Rect.overlay_of_not_mem _ _ _ fun h => h3 (n3 h)]
  by_cases h2 : (x 0).val % 4 = 2
  · rw [if_neg (by omega), if_neg (by omega), if_pos h2]
    refine Eq.trans (congrArg _ (e2 h2).symm) ?_
    exact kr2.overlay_emb _ _ _
  rw [Rect.overlay_of_not_mem _ _ _ fun h => h2 (n2 h)]
  by_cases h1 : (x 0).val % 4 = 1
  · rw [if_neg (by omega), if_pos h1]
    refine Eq.trans (congrArg _ (e1 h1).symm) ?_
    exact kr1.overlay_emb _ _ _
  rw [Rect.overlay_of_not_mem _ _ _ fun h => h1 (n1 h)]
  have h0 : (x 0).val % 4 = 0 := by omega
  rw [if_pos h0]
  refine Eq.trans (congrArg _ (e0 h0).symm) ?_
  exact kr0.overlay_emb _ _ _

theorem over_all (I p : Vec F S256x64 .f32) : ir.overlay I p = p := by
  funext x
  have e : ir.emb x = x := by
    funext (a : Fin 2)
    apply Fin.ext
    match a with
    | ⟨0, _⟩ => show 0 + 1 * (x 0).val = (x 0).val; omega
    | ⟨1, _⟩ => show 0 + 1 * (x 1).val = (x 1).val; omega
  exact Eq.trans (congrArg _ e.symm) (ir.overlay_emb _ _ _)

set_option maxHeartbeats 3200000 in
/-- The body at its blocks: the three results followed are the blocks' keys, values and indexer's keys. -/
theorem ends_body (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K W : Vec F S1024x128 .f32) (I : Vec F S256x64 .f32) :
    Ends c (S K W I) (cc0_inproj_64 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) (fun y => iprop(⌜y = PUnit.unit⌝ ∗ S (outK X1 X2 X3 X7 X8 X9) (outV X1 X2 X3) (outI X1 X2 X4 X10 X11))) := by
  unfold outK outV outI
  rw [← over_four K, ← over_four W, ← over_all I (k0_pay63 _ _ _ _ _), cc0_inproj_64_eq_skeleton]
  unfold cc0_inproj_64_skel
  refine Ends.part (ends_p1 H _ _ _) ?_
  refine Ends.part (ends_p2 H _ _ _ _ _) ?_
  refine Ends.part (ends_p3 H _ _ _ _ _ _ _ _ _) ?_
  refine Ends.part (ends_p4 H _ _ _ _ _ _) ?_
  refine Ends.part (ends_p5 H _ _ _ _ _ _ _ _) ?_
  refine Ends.part (ends_p6 H _ _ _ _ _ _ _ _ _) ?_
  refine Ends.part (ends_p7 H _ _ _ _ _ _ _ _ _) ?_
  refine Ends.part (ends_p8 H _ _ _ _ _ _ _) ?_
  refine Ends.part (ends_p9 H _ _ _ _ _) ?_
  refine Ends.part (ends_p10 H _ _ _ _ _ _ _ _ _) ?_
  refine Ends.part (ends_p11 H _ _ _ _ _ _ _ _ _ _) ?_
  refine Ends.part (ends_p12 H _ _ _ _ _ _ _ _ _ _) ?_
  refine Gives.idle (H.g26 _ _ _) ?_
  refine Gives.store (H.g26 _ _ _) ?_
  exact Ends.ret

end Cert.Inp

end
-- ==== Proof.InprojRun.lean ====
/- The run of the input projection's call: at every point the body leaves the block's keys, values and indexer's keys in
   their outputs; nothing is stated of what it leaves in the others. -/
module

public import proofs.«01_k».proof.Proof.InprojBody
public import proofs.«01_k».proof.Proof.Gen.InprojIdeal.Frame
public import proofs.«01_k».proof.Defs

@[expose] public section

set_option maxRecDepth 16384

noncomputable section

namespace Cert.Inp

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Lending

variable {c : Dev nD} {sp : Space} {s : Shape} {e : EltTy} {M : Memref sig .tc sp s e}

theorem Lends.self {X : s.Idx → Elt F e} : Lends c (Has c M X : sProp 𝕄) M X := by
  unfold Lends
  iintro H
  isplitl [H]; · iexact H
  iintro H
  iexact H

theorem Lends.left {A B : sProp 𝕄} {X : s.Idx → Elt F e} (h : Lends c A M X) : Lends c iprop(A ∗ B) M X := by
  unfold Lends at *
  refine (sep_mono_left h).trans ?_
  iintro ⟨⟨H, K⟩, HB⟩
  isplitl [H]; · iexact H
  iintro H
  isplitr [HB]; · iapply K; iexact H
  iexact HB

theorem Lends.right {A B : sProp 𝕄} {X : s.Idx → Elt F e} (h : Lends c B M X) : Lends c iprop(A ∗ B) M X := by
  unfold Lends at *
  refine (sep_mono_right h).trans ?_
  iintro ⟨HA, H, K⟩
  isplitl [H]; · iexact H
  iintro H
  isplitl [HA]; · iexact HA
  iapply K; iexact H

theorem Gives.self : Gives c (iprop(∃ X, Has c M X) : sProp 𝕄) M := by
  unfold Gives
  iintro ⟨%X, H⟩
  iexists X
  isplitl [H]; · iexact H
  iintro %Y H
  iexists Y; iexact H

theorem Gives.left {A B : sProp 𝕄} (h : Gives c A M) : Gives c iprop(A ∗ B) M := by
  unfold Gives at *
  refine (sep_mono_left h).trans ?_
  iintro ⟨⟨%X, H, K⟩, HB⟩
  iexists X
  isplitl [H]; · iexact H
  iintro %Y H
  isplitr [HB]; · iapply K; iexact H
  iexact HB

theorem Gives.right {A B : sProp 𝕄} (h : Gives c B M) : Gives c iprop(A ∗ B) M := by
  unfold Gives at *
  refine (sep_mono_right h).trans ?_
  iintro ⟨HA, %X, H, K⟩
  iexists X
  isplitl [H]; · iexact H
  iintro %Y H
  isplitl [HA]; · iexact HA
  iapply K; iexact H

theorem Tracks.self : Tracks c (fun X => (Has c M X : sProp 𝕄)) M := by
  intro X
  iintro H
  isplitl [H]; · iexact H
  iintro %Y H
  iexact H

theorem Tracks.left {A : (s.Idx → Elt F e) → sProp 𝕄} {B : sProp 𝕄} (h : Tracks c A M) : Tracks c (fun X => iprop(A X ∗ B)) M := by
  intro X
  refine (sep_mono_left (h X)).trans ?_
  iintro ⟨⟨H, K⟩, HB⟩
  isplitl [H]; · iexact H
  iintro %Y H
  isplitr [HB]; · iapply K; iexact H
  iexact HB

theorem Tracks.right {A : sProp 𝕄} {B : (s.Idx → Elt F e) → sProp 𝕄} (h : Tracks c B M) : Tracks c (fun X => iprop(A ∗ B X)) M := by
  intro X
  refine (sep_mono_right (h X)).trans ?_
  iintro ⟨HA, H, K⟩
  isplitl [H]; · iexact H
  iintro %Y H
  isplitl [HA]; · iexact HA
  iapply K; iexact H

end Lending

/-! ## The blocks -/

/-- Input 0 at a point. -/
abbrev B0 (c : Dev nD) (t : Fin cfg0.N) : Vec F S256x1024 .f32 := iblk m c 0 t
/-- Input 1 at a point. -/
abbrev B1 (c : Dev nD) (t : Fin cfg0.N) : Vec F S1x1024 .f32 := iblk m c 1 t
/-- Input 2 at a point. -/
abbrev B2 (c : Dev nD) (t : Fin cfg0.N) : Vec F S1024x6656 .bf16 := iblk m c 2 t
/-- Input 3 at a point. -/
abbrev B3 (c : Dev nD) (t : Fin cfg0.N) : Vec F S1024x256 .bf16 := iblk m c 3 t
/-- Input 4 at a point. -/
abbrev B4 (c : Dev nD) (t : Fin cfg0.N) : Vec F S1024x2048 .bf16 := iblk m c 4 t
/-- Input 5 at a point. -/
abbrev B5 (c : Dev nD) (t : Fin cfg0.N) : Vec F S1x128 .f32 := iblk m c 5 t
/-- Input 6 at a point. -/
abbrev B6 (c : Dev nD) (t : Fin cfg0.N) : Vec F S1x128 .f32 := iblk m c 6 t
/-- Input 7 at a point. -/
abbrev B7 (c : Dev nD) (t : Fin cfg0.N) : Vec F S256x128 .f32 := iblk m c 7 t
/-- Input 8 at a point. -/
abbrev B8 (c : Dev nD) (t : Fin cfg0.N) : Vec F S256x128 .f32 := iblk m c 8 t
/-- Input 9 at a point. -/
abbrev B9 (c : Dev nD) (t : Fin cfg0.N) : Vec F S256x128 .f32 := iblk m c 9 t
/-- Input 10 at a point. -/
abbrev B10 (c : Dev nD) (t : Fin cfg0.N) : Vec F S256x128 .f32 := iblk m c 10 t

/-- The keys of a point. -/
abbrev KAt (c : Dev nD) (t : Fin cfg0.N) : Vec F S1024x128 .f32 := outK (B0 m c t) (B1 m c t) (B2 m c t) (B6 m c t) (B7 m c t) (B8 m c t)
/-- The values of a point. -/
abbrev VAt (c : Dev nD) (t : Fin cfg0.N) : Vec F S1024x128 .f32 := outV (B0 m c t) (B1 m c t) (B2 m c t)
/-- The indexer's keys of a point. -/
abbrev IAt (c : Dev nD) (t : Fin cfg0.N) : Vec F S256x64 .f32 := outI (B0 m c t) (B1 m c t) (B3 m c t) (B9 m c t) (B10 m c t)

/-- The outputs of which nothing is stated. -/
def forgets0 : Fin 27 → Bool := fun w => decide (11 ≤ w.val) && !(w.val == 16) && !(w.val == 18) && !(w.val == 21)

/-- The proof data: the arrays as the region finds them, each input's buffer at its block after every point, the three
    followed outputs at the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, _⟩ => KAt m c t
    | ⟨17, h⟩ => Pipeline.Dat.unnamed (cfg := cfg0) ⟨17, h⟩ t
    | ⟨18, _⟩ => VAt m c t
    | ⟨19, h⟩ => Pipeline.Dat.unnamed (cfg := cfg0) ⟨19, h⟩ t
    | ⟨20, h⟩ => Pipeline.Dat.unnamed (cfg := cfg0) ⟨20, h⟩ t
    | ⟨21, _⟩ => IAt m c t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q w := if (spec0 w).isOut then fullShare else Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_16 (c : Dev nD) (t : Fin cfg0.N) : (dats m 0 c).after 16 t = KAt m c t := by dsimp only [dats]
theorem after0_18 (c : Dev nD) (t : Fin cfg0.N) : (dats m 0 c).after 18 t = VAt m c t := by dsimp only [dats]
theorem after0_21 (c : Dev nD) (t : Fin cfg0.N) : (dats m 0 c).after 21 t = IAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare ((dats m 0 c).before 16 t d))
    ∗ (∃ d, owns (c : Thread nD τ) (st0_17 t) fullShare d)
    ∗ (∃ d, owns (c : Thread nD τ) (st0_18 t) fullShare ((dats m 0 c).before 18 t d))
    ∗ (∃ d, owns (c : Thread nD τ) (st0_19 t) fullShare d)
    ∗ (∃ d, owns (c : Thread nD τ) (st0_20 t) fullShare d)
    ∗ (∃ d, owns (c : Thread nD τ) (st0_21 t) fullShare ((dats m 0 c).before 21 t d))
    ∗ (∃ d, owns (c : Thread nD τ) (st0_22 t) fullShare d)
    ∗ (∃ d, owns (c : Thread nD τ) (st0_23 t) fullShare d)
    ∗ (∃ d, owns (c : Thread nD τ) (st0_24 t) fullShare d)
    ∗ (∃ d, owns (c : Thread nD τ) (st0_25 t) fullShare d)
    ∗ (∃ d, owns (c : Thread nD τ) (st0_26 t) fullShare d))

/-- what it returns, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ owns (c : Thread nD τ) (st0_16 t) fullShare ((dats m 0 c).after 16 t)
    ∗ (∃ d, owns (c : Thread nD τ) (st0_17 t) fullShare d)
    ∗ owns (c : Thread nD τ) (st0_18 t) fullShare ((dats m 0 c).after 18 t)
    ∗ (∃ d, owns (c : Thread nD τ) (st0_19 t) fullShare d)
    ∗ (∃ d, owns (c : Thread nD τ) (st0_20 t) fullShare d)
    ∗ owns (c : Thread nD τ) (st0_21 t) fullShare ((dats m 0 c).after 21 t)
    ∗ (∃ d, owns (c : Thread nD τ) (st0_22 t) fullShare d)
    ∗ (∃ d, owns (c : Thread nD τ) (st0_23 t) fullShare d)
    ∗ (∃ d, owns (c : Thread nD τ) (st0_24 t) fullShare d)
    ∗ (∃ d, owns (c : Thread nD τ) (st0_25 t) fullShare d)
    ∗ (∃ d, owns (c : Thread nD τ) (st0_26 t) fullShare d))

/-- and the state in between: the followed outputs at these contents. -/
def St (c : Dev nD) (t : Fin cfg0.N) (K W : Vec F S1024x128 .f32) (I : Vec F S256x64 .f32) : sProp 𝕄 :=
  iprop((dats m 0 c).Φ t.castSucc ∗ (dats m 0 c).owesAt () t.castSucc
    ∗ Has c (st0_0 t) (B0 m c t)
    ∗ Has c (st0_1 t) (B1 m c t)
    ∗ Has c (st0_2 t) (B2 m c t)
    ∗ Has c (st0_3 t) (B3 m c t)
    ∗ Has c (st0_4 t) (B4 m c t)
    ∗ Has c (st0_5 t) (B5 m c t)
    ∗ Has c (st0_6 t) (B6 m c t)
    ∗ Has c (st0_7 t) (B7 m c t)
    ∗ Has c (st0_8 t) (B8 m c t)
    ∗ Has c (st0_9 t) (B9 m c t)
    ∗ Has c (st0_10 t) (B10 m c t)
    ∗ (∃ d, Has c (st0_11 t) d)
    ∗ (∃ d, Has c (st0_12 t) d)
    ∗ (∃ d, Has c (st0_13 t) d)
    ∗ (∃ d, Has c (st0_14 t) d)
    ∗ (∃ d, Has c (st0_15 t) d)
    ∗ Has c (st0_16 t) K
    ∗ (∃ d, Has c (st0_17 t) d)
    ∗ Has c (st0_18 t) W
    ∗ (∃ d, Has c (st0_19 t) d)
    ∗ (∃ d, Has c (st0_20 t) d)
    ∗ Has c (st0_21 t) I
    ∗ (∃ d, Has c (st0_22 t) d)
    ∗ (∃ d, Has c (st0_23 t) d)
    ∗ (∃ d, Has c (st0_24 t) d)
    ∗ (∃ d, Has c (st0_25 t) d)
    ∗ (∃ d, Has c (st0_26 t) d))

theorem acc (c : Dev nD) (t : Fin cfg0.N) : Acc c (St m c t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (B0 m c t) (B1 m c t) (B2 m c t) (B3 m c t) (B4 m c t) (B5 m c t) (B6 m c t) (B7 m c t) (B8 m c t) (B9 m c t) (B10 m c t) := by
  unfold St
  constructor
  · intro K W I; exact .right (.right (.left .self))
  · intro K W I; exact .right (.right (.right (.left .self)))
  · intro K W I; exact .right (.right (.right (.right (.left .self))))
  · intro K W I; exact .right (.right (.right (.right (.right (.left .self)))))
  · intro K W I; exact .right (.right (.right (.right (.right (.right (.left .self))))))
  · intro K W I; exact .right (.right (.right (.right (.right (.right (.right (.left .self)))))))
  · intro K W I; exact .right (.right (.right (.right (.right (.right (.right (.right (.left .self))))))))
  · intro K W I; exact .right (.right (.right (.right (.right (.right (.right (.right (.right (.left .self)))))))))
  · intro K W I; exact .right (.right (.right (.right (.right (.right (.right (.right (.right (.right (.left .self))))))))))
  · intro K W I; exact .right (.right (.right (.right (.right (.right (.right (.right (.right (.right (.right (.left .self)))))))))))
  · intro K W I; exact .right (.right (.right (.right (.right (.right (.right (.right (.right (.right (.right (.right (.left .self))))))))))))
  · intro K W I; exact .right (.right (.right (.right (.right (.right (.right (.right (.right (.right (.right (.right (.right (.left .self)))))))))))))
  · intro K W I; exact .right (.right (.right (.right (.right (.right (.right (.right (.right (.right (.right (.right (.right (.right (.left .self))))))))))))))
  · intro K W I; exact .right (.right (.right (.right (.right (.right (.right (.right (.right (.right (.right (.right (.right (.right (.right (.left .self)))))))))))))))
  · intro K W I; exact .right (.right (.right (.right (.right (.right (.right (.right (.right (.right (.right (.right (.right (.right (.right (.right (.left .self))))))))))))))))
  · intro K W I; exact .right (.right (.right (.right (.right (.right (.right (.right (.right (.right (.right (.right (.right (.right (.right (.right (.right (.left .self)))))))))))))))))
  · intro _ _; exact .right (.right (.right (.right (.right (.right (.right (.right (.right (.right (.right (.right (.right (.right (.right (.right (.right (.right (.left .self))))))))))))))))))
  · intro K W I; exact .right (.right (.right (.right (.right (.right (.right (.right (.right (.right (.right (.right (.right (.right (.right (.right (.right (.right (.right (.left .self)))))))))))))))))))
  · intro _ _; exact .right (.right (.right (.right (.right (.right (.right (.right (.right (.right (.right (.right (.right (.right (.right (.right (.right (.right (.right (.right (.left .self))))))))))))))))))))
  · intro K W I; exact .right (.right (.right (.right (.right (.right (.right (.right (.right (.right (.right (.right (.right (.right (.right (.right (.right (.right (.right (.right (.right (.left .self)))))))))))))))))))))
  · intro K W I; exact .right (.right (.right (.right (.right (.right (.right (.right (.right (.right (.right (.right (.right (.right (.right (.right (.right (.right (.right (.right (.right (.right (.left .self))))))))))))))))))))))
  · intro _ _; exact .right (.right (.right (.right (.right (.right (.right (.right (.right (.right (.right (.right (.right (.right (.right (.right (.right (.right (.right (.right (.right (.right (.right (.left .self)))))))))))))))))))))))
  · intro K W I; exact .right (.right (.right (.right (.right (.right (.right (.right (.right (.right (.right (.right (.right (.right (.right (.right (.right (.right (.right (.right (.right (.right (.right (.right (.left .self))))))))))))))))))))))))
  · intro K W I; exact .right (.right (.right (.right (.right (.right (.right (.right (.right (.right (.right (.right (.right (.right (.right (.right (.right (.right (.right (.right (.right (.right (.right (.right (.right (.left .self)))))))))))))))))))))))))
  · intro K W I; exact .right (.right (.right (.right (.right (.right (.right (.right (.right (.right (.right (.right (.right (.right (.right (.right (.right (.right (.right (.right (.right (.right (.right (.right (.right (.right (.left .self))))))))))))))))))))))))))
  · intro K W I; exact .right (.right (.right (.right (.right (.right (.right (.right (.right (.right (.right (.right (.right (.right (.right (.right (.right (.right (.right (.right (.right (.right (.right (.right (.right (.right (.right (.left .self)))))))))))))))))))))))))))
  · intro K W I; exact .right (.right (.right (.right (.right (.right (.right (.right (.right (.right (.right (.right (.right (.right (.right (.right (.right (.right (.right (.right (.right (.right (.right (.right (.right (.right (.right (.right (.self))))))))))))))))))))))))))))

set_option maxHeartbeats 1600000 in
theorem pre_state (c : Dev nD) (t : Fin cfg0.N) : bodyPre m c t ⊢ iprop(∃ K, ∃ W, ∃ I, St m c t K W I) := by
  unfold bodyPre St Has
  simp only [before0_0, before0_1, before0_2, before0_3, before0_4, before0_5, before0_6, before0_7, before0_8, before0_9, before0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, ⟨%d16, H16⟩, H17, ⟨%d18, H18⟩, H19, H20, ⟨%d21, H21⟩, H22, H23, H24, H25, H26⟩
  iexists _; iexists _; iexists _
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem state_post (c : Dev nD) (t : Fin cfg0.N) : St m c t (KAt m c t) (VAt m c t) (IAt m c t) ⊢ bodyPost m c t := by
  unfold St bodyPost
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_16, after0_18, after0_21]

/-- The body at any point. -/
theorem sound_body (c : Dev nD) (t : Fin cfg0.N) :
    bodyPre m c t ⊢ wp frame (wpE (defs₀ (F := F)) Variants.none c none) Set.univ (bodyAt0 t) (fun _ => bodyPost m c t) := by
  refine (pre_state m c t).trans ?_
  iintro ⟨%K, %W, %I, H⟩
  have hb : Ends c (St m c t K W I) (bodyAt0 (F := F) t) (fun y => iprop(⌜y = ⟨⟩⌝ ∗ St m c t (KAt m c t) (VAt m c t) (IAt m c t))) :=
    ends_body (acc m c t) K W I
  unfold Ends at hb
  iapply (wp_wand_r frame (wpE (defs₀ (F := F)) Variants.none (c : Thread nD τ) none) Set.univ)
  isplitl [H]
  · iapply hb; iexact H
  · iintro %_ ⟨-, H⟩
    iapply (state_post m c t); iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every input array at its entry contents, the followed outputs at what the points wrote, every semaphore
    counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch0.to₀ defs₀ Variants.none forgets0 m ρ main
    (hbody := fun c => (body_obligation m c).loose)
    (hq := fun c w h => by
      have h' : (spec0 w).isOut = false := h
      dsimp only [dats]; rw [h']; rfl)
    (howed := fun _ _ => rfl) (V := V m) (hmain := hmain m Variants.none) (hA := A_eq m) (hΦ := fun _ _ => rfl)

/-- A followed output ends at what the points wrote. -/
theorem out_eq {r} (h : Pipeline.RDat.FramePost (cfgs 0) (fun c => (dats m 0 c).toRForget forgets0) (V m) r) (c : Dev nD) (w : Fin cfg0.W) (hw : forgets0 w = false) :
    r.2.mem ((cfg0.win w).arr.view.loc (c.tc : Thread nD τ)) = (dats m 0 c).arrAt w cfg0.N :=
  (Pipeline.Dat.toRForget_arrAt_iff (dats m 0 c) hw cfg0.N _).1 ((h c).1 w)

theorem rest_eq {r} (h : Pipeline.RDat.FramePost (cfgs 0) (fun c => (dats m 0 c).toRForget forgets0) (V m) r) (c : Dev nD) (b : Ref sig .tc) (hb : b ∈ Pipeline.restRefs sig spec0) :
    r.2.mem ((c.tc : Thread nD τ).loc b) = V m c b := (h c).2 b hb

theorem in_rest1 : main_arg1 ∈ Pipeline.restRefs sig spec0 := by decide
theorem in_rest2 : main_arg2 ∈ Pipeline.restRefs sig spec0 := by decide
theorem in_rest3 : main_arg3 ∈ Pipeline.restRefs sig spec0 := by decide
theorem in_rest4 : main_arg4 ∈ Pipeline.restRefs sig spec0 := by decide
theorem in_rest5 : main_arg5 ∈ Pipeline.restRefs sig spec0 := by decide

set_option maxHeartbeats 1600000 in
/-- At any values of the floats, from any memory with its counters at zero: the call terminates, its arguments are
    unchanged, the counters are at zero again, and the followed results are what the points wrote. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v56_5) = (dats m 0 c).arrAt 16 cfg0.N
      ∧ r.2.mem ((c.tc : Thread nD τ).loc main_v56_7) = (dats m 0 c).arrAt 18 cfg0.N
      ∧ r.2.mem ((c.tc : Thread nD τ).loc main_v56_10) = (dats m 0 c).arrAt 21 cfg0.N)
      ∧ r.2.sem = fun _ => 0) :=
  (θ_run defs _ _).mono (fun r h => ⟨fun c => ⟨⟨
      (Pipeline.RDat.FramePost.arr_in h.1 c 0 rfl).trans ((A_eq m c 0).trans (V_main_arg0 m c)),
      (rest_eq m h.1 c main_arg1 in_rest1).trans (V_main_arg1 m c),
      (rest_eq m h.1 c main_arg2 in_rest2).trans (V_main_arg2 m c),
      (rest_eq m h.1 c main_arg3 in_rest3).trans (V_main_arg3 m c),
      (rest_eq m h.1 c main_arg4 in_rest4).trans (V_main_arg4 m c),
      (rest_eq m h.1 c main_arg5 in_rest5).trans (V_main_arg5 m c)⟩,
      out_eq m h.1 c 16 rfl, out_eq m h.1 c 18 rfl, out_eq m h.1 c 21 rfl⟩, h.2⟩) (run_main m ρ)

end Cert.Inp

end
-- ==== Proof.InprojPure.lean ====
/- The input projection's arithmetic at one row and one column, on both sides. -/
module

public import proofs.«01_k».proof.Proof.InprojBody
public import proofs.«01_k».proof.Proof.Gen.InprojReferenceIdeal.Run
public import Idealize.ShloMosaic.Lib.Pointwise

@[expose] public section

set_option maxRecDepth 16384

noncomputable section

open Idealize.ShloMosaic Idealize.ShloMosaic.TcCoe Idealize.SL.Sem

namespace Cert.Inp

/-- Entry `k` of a row divided by the root of its mean square, times a gain. -/
def nrm {n : ℕ} (N : EReal) (x g : Fin n → EReal) (k : Fin n) : EReal :=
  x k * Ideal.rsqrt (Ideal.div (∑ j, x j * x j) N + Ideal.ofBits .f32 0x358637BD#32) * g k

/-- Entry `f` of the normed row times the weights. -/
def proj (x g : Fin 1024 → EReal) (w : Fin 1024 → EReal) : EReal :=
  ∑ k, nrm (Ideal.ofBits .f32 0x44800000#32) x g k * w k

/-- Entry `d` of a rotated row of 128, by the angles `a`. -/
def rot {n : ℕ} (y : Fin (n + n) → EReal) (a : Fin n → EReal) (d : Fin (n + n)) : EReal :=
  if h : d.val < n then y d * Ideal.cos (a ⟨d.val, h⟩) - y ⟨n + d.val, by omega⟩ * Ideal.sin (a ⟨d.val, h⟩)
  else y ⟨n + (d.val - n), by omega⟩ * Ideal.cos (a ⟨d.val - n, by omega⟩) + y ⟨d.val - n, by omega⟩ * Ideal.sin (a ⟨d.val - n, by omega⟩)

end Cert.Inp

namespace Cert.InprojReferenceIdeal.Value
open Cert.InprojReferenceIdeal Cert.InprojReferenceIdeal.Gen

/-- The reference's normed rows. -/
def refHn (x : FVec Ideal S16384x1024 .f32) (g : FVec Ideal S1024 .f32) : FVec Ideal S4x4096x1024 .f32 :=
  mulf (mulf (shapeCast _ x shapeCasts_S16384x1024_S4x4096x1024) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (shapeCast _ x shapeCasts_S16384x1024_S4x4096x1024) (shapeCast _ x shapeCasts_S16384x1024_S4x4096x1024)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The reference's projected rows. -/
def refZ (x : FVec Ideal S16384x1024 .f32) (g : FVec Ideal S1024 .f32) (w : FVec Ideal S1024x8776 .f32) : FVec Ideal S4x4096x8776 .f32 :=
  Host.dotGeneral dot_S4x4096x1024_S1024x8776_S4x4096x8776_2_0_01_1_n_n none (refHn x g) w

/-- The reference's normed keys. -/
def refKn (z : FVec Ideal S4x4096x8776 .f32) (kg : FVec Ideal S128 .f32) : FVec Ideal S4x4096x4x128 .f32 :=
  mulf (mulf (shapeCast _ (extractStridedSlice S4x4096x512 ![0, 0, 5120] z slices_S4x4096x8776_S4x4096x512_0_0_5120) shapeCasts_S4x4096x512_S4x4096x4x128) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (shapeCast _ (extractStridedSlice S4x4096x512 ![0, 0, 5120] z slices_S4x4096x8776_S4x4096x512_0_0_5120) shapeCasts_S4x4096x512_S4x4096x4x128) (shapeCast _ (extractStridedSlice S4x4096x512 ![0, 0, 5120] z slices_S4x4096x8776_S4x4096x512_0_0_5120) shapeCasts_S4x4096x512_S4x4096x4x128)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x358637BD#32)))))) (broadcastInDim S4x4096x4x128 ![0, 1, 2, 3] bcast_S1x1x1x128_S4x4096x4x128_0_1_2_3 (broadcastInDim S1x1x1x128 ![3] bcast_S128_S1x1x1x128_3 kg))

/-- The angles of a head's rotation. -/
def ang64 (pos : IVec S4096 32) : FVec Ideal S4096x64 .f32 :=
  mulf (broadcastInDim S4096x64 ![0, 1] bcast_S4096x1_S4096x64_0_1 (broadcastInDim S4096x1 ![0] bcast_S4096_S4096x1_0 (sitofp .f32 pos))) (broadcastInDim S4096x64 ![0, 1] bcast_S1x64_S4096x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

/-- The angles of the indexer's rotation. -/
def ang32 (pos : IVec S4096 32) : FVec Ideal S4096x32 .f32 :=
  mulf (broadcastInDim S4096x32 ![0, 1] bcast_S4096x1_S4096x32_0_1 (broadcastInDim S4096x1 ![0] bcast_S4096_S4096x1_0 (sitofp .f32 pos))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The reference's keys. -/
def refK (y : FVec Ideal S4x4096x4x128 .f32) (a : FVec Ideal S4096x64 .f32) : FVec Ideal S65536x128 .f32 :=
  shapeCast _ (concatenate S4x4096x4x128 3 [⟨S4x4096x4x64, (subf (mulf (extractStridedSlice S4x4096x4x64 ![0, 0, 0, 0] y slices_S4x4096x4x128_S4x4096x4x64_0_0_0_0) (broadcastInDim S4x4096x4x64 ![0, 1, 2, 3] bcast_S1x4096x1x64_S4x4096x4x64_0_1_2_3 (broadcastInDim S1x4096x1x64 ![1, 2, 3] bcast_S4096x1x64_S1x4096x1x64_1_2_3 (broadcastInDim S4096x1x64 ![0, 2] bcast_S4096x64_S4096x1x64_0_2 (Host.cos a))))) (mulf (extractStridedSlice S4x4096x4x64 ![0, 0, 0, 64] y slices_S4x4096x4x128_S4x4096x4x64_0_0_0_64) (broadcastInDim S4x4096x4x64 ![0, 1, 2, 3] bcast_S1x4096x1x64_S4x4096x4x64_0_1_2_3 (broadcastInDim S1x4096x1x64 ![1, 2, 3] bcast_S4096x1x64_S1x4096x1x64_1_2_3 (broadcastInDim S4096x1x64 ![0, 2] bcast_S4096x64_S4096x1x64_0_2 (Host.sin a))))))⟩, ⟨S4x4096x4x64, (addf (mulf (extractStridedSlice S4x4096x4x64 ![0, 0, 0, 64] y slices_S4x4096x4x128_S4x4096x4x64_0_0_0_64) (broadcastInDim S4x4096x4x64 ![0, 1, 2, 3] bcast_S1x4096x1x64_S4x4096x4x64_0_1_2_3 (broadcastInDim S1x4096x1x64 ![1, 2, 3] bcast_S4096x1x64_S1x4096x1x64_1_2_3 (broadcastInDim S4096x1x64 ![0, 2] bcast_S4096x64_S4096x1x64_0_2 (Host.cos a))))) (mulf (extractStridedSlice S4x4096x4x64 ![0, 0, 0, 0] y slices_S4x4096x4x128_S4x4096x4x64_0_0_0_0) (broadcastInDim S4x4096x4x64 ![0, 1, 2, 3] bcast_S1x4096x1x64_S4x4096x4x64_0_1_2_3 (broadcastInDim S1x4096x1x64 ![1, 2, 3] bcast_S4096x1x64_S1x4096x1x64_1_2_3 (broadcastInDim S4096x1x64 ![0, 2] bcast_S4096x64_S4096x1x64_0_2 (Host.sin a))))))⟩] concatenates_S4x4096x4x64_S4x4096x4x64_S4x4096x4x128_d3) shapeCasts_S4x4096x4x128_S65536x128

/-- The reference's values. -/
def refV (z : FVec Ideal S4x4096x8776 .f32) : FVec Ideal S65536x128 .f32 :=
  shapeCast _ (extractStridedSlice S4x4096x512 ![0, 0, 5632] z slices_S4x4096x8776_S4x4096x512_0_0_5632) shapeCasts_S4x4096x512_S65536x128

/-- The reference's indexer keys. -/
def refI (z : FVec Ideal S4x4096x8776 .f32) (a : FVec Ideal S4096x32 .f32) : FVec Ideal S16384x64 .f32 :=
  shapeCast _ (shapeCast _ (concatenate S4x4096x1x64 3 [⟨S4x4096x1x32, (subf (mulf (extractStridedSlice S4x4096x1x32 ![0, 0, 0, 0] (broadcastInDim S4x4096x1x64 ![0, 1, 3] bcast_S4x4096x64_S4x4096x1x64_0_1_3 (extractStridedSlice S4x4096x64 ![0, 0, 6656] z slices_S4x4096x8776_S4x4096x64_0_0_6656)) slices_S4x4096x1x64_S4x4096x1x32_0_0_0_0) (broadcastInDim S4x4096x1x32 ![0, 1, 2, 3] bcast_S1x4096x1x32_S4x4096x1x32_0_1_2_3 (broadcastInDim S1x4096x1x32 ![1, 2, 3] bcast_S4096x1x32_S1x4096x1x32_1_2_3 (broadcastInDim S4096x1x32 ![0, 2] bcast_S4096x32_S4096x1x32_0_2 (Host.cos a))))) (mulf (extractStridedSlice S4x4096x1x32 ![0, 0, 0, 32] (broadcastInDim S4x4096x1x64 ![0, 1, 3] bcast_S4x4096x64_S4x4096x1x64_0_1_3 (extractStridedSlice S4x4096x64 ![0, 0, 6656] z slices_S4x4096x8776_S4x4096x64_0_0_6656)) slices_S4x4096x1x64_S4x4096x1x32_0_0_0_32) (broadcastInDim S4x4096x1x32 ![0, 1, 2, 3] bcast_S1x4096x1x32_S4x4096x1x32_0_1_2_3 (broadcastInDim S1x4096x1x32 ![1, 2, 3] bcast_S4096x1x32_S1x4096x1x32_1_2_3 (broadcastInDim S4096x1x32 ![0, 2] bcast_S4096x32_S4096x1x32_0_2 (Host.sin a))))))⟩, ⟨S4x4096x1x32, (addf (mulf (extractStridedSlice S4x4096x1x32 ![0, 0, 0, 32] (broadcastInDim S4x4096x1x64 ![0, 1, 3] bcast_S4x4096x64_S4x4096x1x64_0_1_3 (extractStridedSlice S4x4096x64 ![0, 0, 6656] z slices_S4x4096x8776_S4x4096x64_0_0_6656)) slices_S4x4096x1x64_S4x4096x1x32_0_0_0_32) (broadcastInDim S4x4096x1x32 ![0, 1, 2, 3] bcast_S1x4096x1x32_S4x4096x1x32_0_1_2_3 (broadcastInDim S1x4096x1x32 ![1, 2, 3] bcast_S4096x1x32_S1x4096x1x32_1_2_3 (broadcastInDim S4096x1x32 ![0, 2] bcast_S4096x32_S4096x1x32_0_2 (Host.cos a))))) (mulf (extractStridedSlice S4x4096x1x32 ![0, 0, 0, 0] (broadcastInDim S4x4096x1x64 ![0, 1, 3] bcast_S4x4096x64_S4x4096x1x64_0_1_3 (extractStridedSlice S4x4096x64 ![0, 0, 6656] z slices_S4x4096x8776_S4x4096x64_0_0_6656)) slices_S4x4096x1x64_S4x4096x1x32_0_0_0_0) (broadcastInDim S4x4096x1x32 ![0, 1, 2, 3] bcast_S1x4096x1x32_S4x4096x1x32_0_1_2_3 (broadcastInDim S1x4096x1x32 ![1, 2, 3] bcast_S4096x1x32_S1x4096x1x32_1_2_3 (broadcastInDim S4096x1x32 ![0, 2] bcast_S4096x32_S4096x1x32_0_2 (Host.sin a))))))⟩] concatenates_S4x4096x1x32_S4x4096x1x32_S4x4096x1x64_d3) shapeCasts_S4x4096x1x64_S4x4096x64) shapeCasts_S4x4096x64_S16384x64

theorem refHn_apply (x : FVec Ideal S16384x1024 .f32) (g : FVec Ideal S1024 .f32) (b : Fin 4) (p : Fin 4096) (k : Fin 1024) :
    refHn x g (ix3 b p k) = Cert.Inp.nrm (Ideal.ofBits .f32 0x44800000#32) (fun k => x (ix2 ⟨b.val * 4096 + p.val, by omega⟩ k)) (fun k => g (ix1 k)) k := by
  pointwise [refHn]
  rfl

theorem refZ_apply (x : FVec Ideal S16384x1024 .f32) (g : FVec Ideal S1024 .f32) (w : FVec Ideal S1024x8776 .f32) (b : Fin 4) (p : Fin 4096) (f : Fin 8776) :
    refZ x g w (ix3 b p f) = Cert.Inp.proj (fun k => x (ix2 ⟨b.val * 4096 + p.val, by omega⟩ k)) (fun k => g (ix1 k)) (fun k => w (ix2 k f)) := by
  pointwise [refZ]
  simp only [refHn_apply]
  rfl

theorem refKn_apply (z : FVec Ideal S4x4096x8776 .f32) (kg : FVec Ideal S128 .f32) (b : Fin 4) (p : Fin 4096) (h : Fin 4) (d : Fin 128) :
    refKn z kg (ix4 b p h d) = Cert.Inp.nrm (Ideal.ofBits .f32 0x43000000#32) (fun e => z (ix3 b p ⟨5120 + (h.val * 128 + e.val), by omega⟩)) (fun k => kg (ix1 k)) d := by
  pointwise [refKn]
  rfl

theorem refV_apply (z : FVec Ideal S4x4096x8776 .f32) (r : Fin 65536) (d : Fin 128) :
    refV z (ix2 r d) = z (ix3 ⟨r.val / 16384, by omega⟩ ⟨r.val / 4 % 4096, by omega⟩ ⟨5632 + (r.val % 4 * 128 + d.val), by omega⟩) := by
  pointwise [refV]

theorem refK_apply (y : FVec Ideal S4x4096x4x128 .f32) (a : FVec Ideal S4096x64 .f32) (r : Fin 65536) (d : Fin 128) :
    refK y a (ix2 r d) = Cert.Inp.rot (n := 64) (fun e => y (ix4 ⟨r.val / 16384, by omega⟩ ⟨r.val / 4 % 4096, by omega⟩ ⟨r.val % 4, by omega⟩ e)) (fun e => a (ix2 ⟨r.val / 4 % 4096, by omega⟩ e)) d := by
  pointwise [refK]
  rfl

theorem refI_apply (z : FVec Ideal S4x4096x8776 .f32) (a : FVec Ideal S4096x32 .f32) (r : Fin 16384) (d : Fin 64) :
    refI z a (ix2 r d) = Cert.Inp.rot (n := 32) (fun e => z (ix3 ⟨r.val / 4096, by omega⟩ ⟨r.val % 4096, by omega⟩ ⟨6656 + e.val, by omega⟩)) (fun e => a (ix2 ⟨r.val % 4096, by omega⟩ e)) d := by
  pointwise [refI]
  rfl

end Cert.InprojReferenceIdeal.Value

namespace Cert.Inp
open Cert.InprojIdeal Cert.InprojIdeal.Gen

theorem hn_apply (X : FVec Ideal S256x1024 .f32) (G : FVec Ideal S1x1024 .f32) (r : Fin 256) (k : Fin 1024) :
    k0_pay1 (F := Ideal) X G (ix2 r k) = nrm (Ideal.ofBits .f32 0x44800000#32) (fun k => X (ix2 r k)) (fun k => G (ix2 0 k)) k := by
  pointwise [k0_pay1]
  rfl

/-- A row times its cosines and, turned by half its length, its signed sines, is the rotated row. -/
theorem rot_of_turn (y a : Fin 128 → EReal) (t : Fin 64 → EReal) (C S : EReal) (d e : Fin 128)
    (he : e.val = (d.val + 128 - 64) % 128) (hC : C = Ideal.cos (t ⟨d.val % 64, by omega⟩))
    (hS : S = if d.val < 64 then -Ideal.sin (t ⟨d.val % 64, by omega⟩) else Ideal.sin (t ⟨d.val % 64, by omega⟩)) :
    y d * C + y e * S = rot (n := 64) y t d := by
  subst hC; subst hS
  unfold rot
  by_cases h : d.val < 64
  · rw [if_pos h, dif_pos h]
    have e1 : e = ⟨64 + d.val, by omega⟩ := Fin.ext (by rw [he]; show _ = 64 + d.val; omega)
    have e2 : (⟨d.val % 64, by omega⟩ : Fin 64) = ⟨d.val, h⟩ := Fin.ext (Nat.mod_eq_of_lt h)
    rw [e1, e2, mul_neg, sub_eq_add_neg]
  · rw [if_neg h, dif_neg h]
    have e1 : e = ⟨d.val - 64, by omega⟩ := Fin.ext (by rw [he]; show _ = d.val - 64; omega)
    have e2 : (⟨d.val % 64, by omega⟩ : Fin 64) = ⟨d.val - 64, by omega⟩ := Fin.ext (by show d.val % 64 = d.val - 64; omega)
    have e3 : (⟨64 + (d.val - 64), by omega⟩ : Fin 128) = d := Fin.ext (by show 64 + (d.val - 64) = d.val; omega)
    rw [e1, e2, e3]

/-- The key a head's store writes, from the product `z`, the gain and the two tables. -/
def keyAt (y : Fin 128 → EReal) (g : Fin 128 → EReal) (C S : EReal) (d : Fin 128) : EReal :=
  nrm (Ideal.ofBits .f32 0x43000000#32) y g d * C + nrm (Ideal.ofBits .f32 0x43000000#32) y g ⟨(d.val + 128 - 64) % 128, by omega⟩ * S

theorem pay24_apply (h : FVec Ideal S256x1024 .bf16) (w : FVec Ideal S1024x512 .bf16) (r : Fin 256) (f : Fin 512) :
    k0_pay24 (F := Ideal) h w (ix2 r f) = ∑ k, h (ix2 r k) * w (ix2 k f) := by
  pointwise [k0_pay24]

theorem pay27_apply (C S : FVec Ideal S256x128 .f32) (h : FVec Ideal S256x1024 .bf16) (w : FVec Ideal S1024x512 .bf16) (G : FVec Ideal S1x128 .f32) (r : Fin 256) (d : Fin 128) :
    k0_pay27 (F := Ideal) (k0_pay7 C) (k0_pay8 S) (k0_pay25 h w) (k0_pay26 h w) (Scalar.ofBits .f32 0x358637BD#32) G (ix2 r d)
      = keyAt (fun e => k0_pay24 (F := Ideal) h w (ix2 r ⟨e.val, by omega⟩)) (fun e => G (ix2 0 e)) (C (ix2 r d)) (S (ix2 r d)) d := by
  pointwise [k0_pay27, k0_pay7, k0_pay8, k0_pay25, k0_pay26]
  rfl

theorem pay29_apply (C S : FVec Ideal S256x128 .f32) (z : FVec Ideal S256x512 .f32) (G : FVec Ideal S1x128 .f32) (r : Fin 256) (d : Fin 128) :
    k0_pay29 (F := Ideal) (k0_pay7 C) (k0_pay8 S) z G (ix2 r d) = keyAt (fun e => z (ix2 r ⟨128 + e.val, by omega⟩)) (fun e => G (ix2 0 e)) (C (ix2 r d)) (S (ix2 r d)) d := by
  pointwise [k0_pay29, k0_pay7, k0_pay8]
  rfl

theorem pay32_apply (C S : FVec Ideal S256x128 .f32) (z : FVec Ideal S256x512 .f32) (G : FVec Ideal S1x128 .f32) (r : Fin 256) (d : Fin 128) :
    k0_pay32 (F := Ideal) (k0_pay7 C) (k0_pay8 S) (k0_pay31 z) G (ix2 r d) = keyAt (fun e => z (ix2 r ⟨256 + e.val, by omega⟩)) (fun e => G (ix2 0 e)) (C (ix2 r d)) (S (ix2 r d)) d := by
  pointwise [k0_pay32, k0_pay31, k0_pay7, k0_pay8]
  rfl

theorem pay34_apply (C S : FVec Ideal S256x128 .f32) (z : FVec Ideal S256x512 .f32) (G : FVec Ideal S1x128 .f32) (r : Fin 256) (d : Fin 128) :
    k0_pay34 (F := Ideal) (k0_pay7 C) (k0_pay8 S) z G (ix2 r d) = keyAt (fun e => z (ix2 r ⟨384 + e.val, by omega⟩)) (fun e => G (ix2 0 e)) (C (ix2 r d)) (S (ix2 r d)) d := by
  pointwise [k0_pay34, k0_pay7, k0_pay8]
  rfl

theorem pay37_apply (h : FVec Ideal S256x1024 .bf16) (w : FVec Ideal S1024x512 .bf16) (r : Fin 256) (d : Fin 128) :
    k0_pay37 (F := Ideal) h w (ix2 r d) = ∑ k, h (ix2 r k) * w (ix2 k ⟨d.val, by omega⟩) := by
  pointwise [k0_pay37, k0_pay36]
theorem pay38_apply (h : FVec Ideal S256x1024 .bf16) (w : FVec Ideal S1024x512 .bf16) (r : Fin 256) (d : Fin 128) :
    k0_pay38 (F := Ideal) h w (ix2 r d) = ∑ k, h (ix2 r k) * w (ix2 k ⟨128 + d.val, by omega⟩) := by
  pointwise [k0_pay38, k0_pay36]
theorem pay39_apply (h : FVec Ideal S256x1024 .bf16) (w : FVec Ideal S1024x512 .bf16) (r : Fin 256) (d : Fin 128) :
    k0_pay39 (F := Ideal) h w (ix2 r d) = ∑ k, h (ix2 r k) * w (ix2 k ⟨256 + d.val, by omega⟩) := by
  pointwise [k0_pay39, k0_pay36]
theorem pay40_apply (h : FVec Ideal S256x1024 .bf16) (w : FVec Ideal S1024x512 .bf16) (r : Fin 256) (d : Fin 128) :
    k0_pay40 (F := Ideal) h w (ix2 r d) = ∑ k, h (ix2 r k) * w (ix2 k ⟨384 + d.val, by omega⟩) := by
  pointwise [k0_pay40, k0_pay36]

/-- The lanes of the first half of a head of 64, compared as the body does. -/
theorem half_of_lane : ∀ d : Fin 64, IntOp.cmpi .slt (IntOp.andi (BitVec.ofNat 32 d.val) 63#32) 32#32 = if d.val < 32 then 1#1 else 0#1 := by
  decide

/-- The indexer's key, from the product, where the weights' columns repeat after 64. -/
theorem pay63_apply (h : FVec Ideal S256x1024 .bf16) (C S : FVec Ideal S256x128 .f32) (w : FVec Ideal S1024x256 .bf16) (r : Fin 256) (d : Fin 64)
    (y : Fin 64 → EReal) (t : Fin 32 → EReal)
    (hy : ∀ e : Fin 128, ∑ k, h (ix2 r k) * w (ix2 k ⟨e.val, by omega⟩) = y ⟨e.val % 64, by omega⟩)
    (hC : C (ix2 r ⟨d.val, by omega⟩) = Ideal.cos (t ⟨d.val % 32, by omega⟩))
    (hS : S (ix2 r ⟨d.val, by omega⟩) = if d.val < 32 then -Ideal.sin (t ⟨d.val % 32, by omega⟩) else Ideal.sin (t ⟨d.val % 32, by omega⟩)) :
    k0_pay63 (F := Ideal) h (k0_pay43 C) (k0_pay44 S) (k0_pay46 k0_pay45 32#32) w (ix2 r d) = rot (n := 32) y t d := by
  pointwise [k0_pay63, k0_pay61, k0_pay60, k0_pay46, k0_pay45, k0_pay43, k0_pay44]
  have y0 := hy ⟨d.val, by omega⟩
  have y1 := hy ⟨(d.val + 128 - 96) % 128, by omega⟩
  have y2 := hy ⟨(d.val + 128 - 32) % 128, by omega⟩
  dsimp only at y0 y1 y2
  have s1 : ∀ A B : EReal, Scalar.select (1#1) A B = A := fun _ _ => rfl
  have s0 : ∀ A B : EReal, Scalar.select (0#1) A B = B := fun _ _ => rfl
  rw [half_of_lane, hC, hS]
  unfold rot
  by_cases hd : d.val < 32
  · rw [if_pos hd, if_pos hd, s1, dif_pos hd]
    have e0 : (⟨d.val % 64, by omega⟩ : Fin 64) = d := Fin.ext (Nat.mod_eq_of_lt d.isLt)
    have e1 : (⟨(d.val + 128 - 96) % 128 % 64, by omega⟩ : Fin 64) = ⟨32 + d.val, by omega⟩ := Fin.ext (by show (d.val + 128 - 96) % 128 % 64 = 32 + d.val; omega)
    have e2 : (⟨d.val % 32, by omega⟩ : Fin 32) = ⟨d.val, hd⟩ := Fin.ext (Nat.mod_eq_of_lt hd)
    rw [y0, y1, e2]
    rw [e0, e1, mul_neg, sub_eq_add_neg]
  · rw [if_neg hd, if_neg hd, s0, dif_neg hd]
    have e0 : (⟨d.val % 64, by omega⟩ : Fin 64) = d := Fin.ext (Nat.mod_eq_of_lt d.isLt)
    have e1 : (⟨(d.val + 128 - 32) % 128 % 64, by omega⟩ : Fin 64) = ⟨d.val - 32, by omega⟩ := Fin.ext (by show (d.val + 128 - 32) % 128 % 64 = d.val - 32; omega)
    have e2 : (⟨d.val % 32, by omega⟩ : Fin 32) = ⟨d.val - 32, by omega⟩ := Fin.ext (by show d.val % 32 = d.val - 32; omega)
    rw [y0, y2, e2]
    have e3 : (⟨32 + (d.val - 32), by omega⟩ : Fin 64) = d := Fin.ext (by show 32 + (d.val - 32) = d.val; omega)
    rw [e0, e1, e3]

end Cert.Inp
-- ==== Proof.InprojTables.lean ====
/- The arrays the input projection's call is given by the host operations before it: the columns of the weights, the tables
   of cosines and signed sines, and the gains with a unit axis. -/
module

public import proofs.«01_k».proof.Proof.InprojPure
public import proofs.«01_k».proof.Proof.Gen.InprojIdeal.Frame
public import Idealize.ShloMosaic.Lib.Claim

@[expose] public section

set_option maxRecDepth 16384

noncomputable section

namespace Cert.Inp

open Cert.InprojIdeal Cert.InprojIdeal.Gen
open Idealize.ShloMosaic Idealize.ShloMosaic.TcCoe Idealize.ShloMosaic.Tactic Idealize.ShloMosaic.ValueKit
open Cert.InprojReferenceIdeal.Value (ang64 ang32)

/-- The columns of the queries, keys and values. -/
def tabW (w : FVec Ideal S1024x8776 .f32) : FVec Ideal S1024x6656 .bf16 :=
  truncf .bf16 (extractStridedSlice S1024x6656 ![0, 0] w slices_S1024x8776_S1024x6656_0_0) bitsLt_bf16_f32

/-- The columns of the indexer's keys, twice, its heads' weights' and zeros. -/
def tabI (w : FVec Ideal S1024x8776 .f32) : FVec Ideal S1024x256 .bf16 :=
  truncf .bf16 (concatenate S1024x256 1
    [⟨S1024x64, extractStridedSlice S1024x64 ![0, 6656] w slices_S1024x8776_S1024x64_0_6656⟩,
     ⟨S1024x64, extractStridedSlice S1024x64 ![0, 6656] w slices_S1024x8776_S1024x64_0_6656⟩,
     ⟨S1024x8, extractStridedSlice S1024x8 ![0, 6720] w slices_S1024x8776_S1024x8_0_6720⟩,
     ⟨S1024x120, broadcastInDim S1024x120 ![] bcast_S_S1024x120 (constant S_ .f32 0x00000000#32)⟩]
    concatenates_S1024x64_S1024x64_S1024x8_S1024x120_S1024x256_d1) bitsLt_bf16_f32

/-- A head's cosines, once for each half. -/
def tabC (a : FVec Ideal S4096x64 .f32) : FVec Ideal S4096x128 .f32 :=
  concatenate S4096x128 1 [⟨S4096x64, Host.cos a⟩, ⟨S4096x64, Host.cos a⟩] concatenates_S4096x64_S4096x64_S4096x128_d1

/-- A head's sines, negated for the first half. -/
def tabS (a : FVec Ideal S4096x64 .f32) : FVec Ideal S4096x128 .f32 :=
  concatenate S4096x128 1 [⟨S4096x64, Host.negf (Host.sin a)⟩, ⟨S4096x64, Host.sin a⟩] concatenates_S4096x64_S4096x64_S4096x128_d1

/-- The indexer's cosines, four times. -/
def tabC4 (a : FVec Ideal S4096x32 .f32) : FVec Ideal S4096x128 .f32 :=
  concatenate S4096x128 1 [⟨S4096x32, Host.cos a⟩, ⟨S4096x32, Host.cos a⟩, ⟨S4096x32, Host.cos a⟩, ⟨S4096x32, Host.cos a⟩]
    concatenates_S4096x32_S4096x32_S4096x32_S4096x32_S4096x128_d1

/-- The indexer's sines, negated for the first half of each head. -/
def tabS4 (a : FVec Ideal S4096x32 .f32) : FVec Ideal S4096x128 .f32 :=
  concatenate S4096x128 1 [⟨S4096x32, Host.negf (Host.sin a)⟩, ⟨S4096x32, Host.sin a⟩, ⟨S4096x32, Host.negf (Host.sin a)⟩, ⟨S4096x32, Host.sin a⟩]
    concatenates_S4096x32_S4096x32_S4096x32_S4096x32_S4096x128_d1

theorem tabW_apply (w : FVec Ideal S1024x8776 .f32) (k : Fin 1024) (f : Fin 6656) : tabW w (ix2 k f) = w (ix2 k ⟨f.val, by omega⟩) := by
  pointwise [tabW]

theorem tabI_apply (w : FVec Ideal S1024x8776 .f32) (k : Fin 1024) (e : Fin 128) :
    tabI w (ix2 k ⟨e.val, by omega⟩) = w (ix2 k ⟨6656 + e.val % 64, by omega⟩) := by
  pointwise [tabI]
  by_cases h : e.val < 64
  · rw [dif_pos h]
    exact congrArg w (congrArg (ix2 k) (Fin.ext (by show 6656 + e.val = 6656 + e.val % 64; omega)))
  · rw [dif_neg h]
    have h2 : e.val - 64 < 64 := by omega
    rw [dif_pos h2]
    exact congrArg w (congrArg (ix2 k) (Fin.ext (by show 6656 + (e.val - 64) = 6656 + e.val % 64; omega)))

theorem tabC_apply (a : FVec Ideal S4096x64 .f32) (p : Fin 4096) (d : Fin 128) : tabC a (ix2 p d) = Ideal.cos (a (ix2 p ⟨d.val % 64, by omega⟩)) := by
  pointwise [tabC]
  by_cases h : d.val < 64
  · rw [dif_pos h]
    exact congrArg (fun e => Ideal.cos (a (ix2 p e))) (Fin.ext (by show d.val = d.val % 64; omega))
  · rw [dif_neg h]
    exact congrArg (fun e => Ideal.cos (a (ix2 p e))) (Fin.ext (by show d.val - 64 = d.val % 64; omega))

theorem tabS_apply (a : FVec Ideal S4096x64 .f32) (p : Fin 4096) (d : Fin 128) :
    tabS a (ix2 p d) = if d.val < 64 then -Ideal.sin (a (ix2 p ⟨d.val % 64, by omega⟩)) else Ideal.sin (a (ix2 p ⟨d.val % 64, by omega⟩)) := by
  pointwise [tabS]
  by_cases h : d.val < 64
  · rw [dif_pos h, if_pos h]
    exact congrArg (fun e => -Ideal.sin (a (ix2 p e))) (Fin.ext (by show d.val = d.val % 64; omega))
  · rw [dif_neg h, if_neg h]
    exact congrArg (fun e => Ideal.sin (a (ix2 p e))) (Fin.ext (by show d.val - 64 = d.val % 64; omega))

theorem tabC4_apply (a : FVec Ideal S4096x32 .f32) (p : Fin 4096) (d : Fin 64) :
    tabC4 a (ix2 p ⟨d.val, by omega⟩) = Ideal.cos (a (ix2 p ⟨d.val % 32, by omega⟩)) := by
  pointwise [tabC4]
  by_cases h : d.val < 32
  · rw [dif_pos h]
    exact congrArg (fun e => Ideal.cos (a (ix2 p e))) (Fin.ext (by show d.val = d.val % 32; omega))
  · have h2 : d.val - 32 < 32 := by omega
    rw [dif_neg h, dif_pos h2]
    exact congrArg (fun e => Ideal.cos (a (ix2 p e))) (Fin.ext (by show d.val - 32 = d.val % 32; omega))

theorem tabS4_apply (a : FVec Ideal S4096x32 .f32) (p : Fin 4096) (d : Fin 64) :
    tabS4 a (ix2 p ⟨d.val, by omega⟩) = if d.val < 32 then -Ideal.sin (a (ix2 p ⟨d.val % 32, by omega⟩)) else Ideal.sin (a (ix2 p ⟨d.val % 32, by omega⟩)) := by
  pointwise [tabS4]
  by_cases h : d.val < 32
  · rw [dif_pos h, if_pos h]
    exact congrArg (fun e => -Ideal.sin (a (ix2 p e))) (Fin.ext (by show d.val = d.val % 32; omega))
  · have h2 : d.val - 32 < 32 := by omega
    rw [dif_neg h, dif_pos h2, if_neg h]
    exact congrArg (fun e => Ideal.sin (a (ix2 p e))) (Fin.ext (by show d.val - 32 = d.val % 32; omega))

section
variable (m : (ℓ : Loc nD τ sig) → Buf (Elt Ideal) ℓ)

theorem V_v1 (c : Dev nD) : V m c main_v1 = tabW (m ((c.tc : Thread nD τ).loc main_arg2)) := by
  simp only [V, hostOps0]; after_results_simp <;> rfl
theorem V_v6 (c : Dev nD) : V m c main_v6 = tabI (m ((c.tc : Thread nD τ).loc main_arg2)) := by
  simp only [V, hostOps0]; after_results_simp <;> rfl
theorem V_v28 (c : Dev nD) : V m c main_v28 = tabC (ang64 (m ((c.tc : Thread nD τ).loc main_arg5))) := by
  simp only [V, hostOps0]; after_results_simp <;> rfl
theorem V_v30 (c : Dev nD) : V m c main_v30 = tabS (ang64 (m ((c.tc : Thread nD τ).loc main_arg5))) := by
  simp only [V, hostOps0]; after_results_simp <;> rfl
theorem V_v50 (c : Dev nD) : V m c main_v50 = tabC4 (ang32 (m ((c.tc : Thread nD τ).loc main_arg5))) := by
  simp only [V, hostOps0]; after_results_simp <;> rfl
theorem V_v52 (c : Dev nD) : V m c main_v52 = tabS4 (ang32 (m ((c.tc : Thread nD τ).loc main_arg5))) := by
  simp only [V, hostOps0]; after_results_simp <;> rfl
theorem V_v53 (c : Dev nD) (k : Fin 1024) : V m c main_v53 (ix2 0 k) = m ((c.tc : Thread nD τ).loc main_arg1) (ix1 k) := by
  have h : ∀ g : FVec Ideal S1024 .f32, broadcastInDim S1x1024 ![1] bcast_S1024_S1x1024_1 g (ix2 0 k) = g (ix1 k) := fun g => by pointwise
  refine (congrFun (show V m c main_v53 = broadcastInDim S1x1024 ![1] bcast_S1024_S1x1024_1 (m ((c.tc : Thread nD τ).loc main_arg1)) by
    simp only [V, hostOps0]; after_results_simp <;> rfl) _).trans (h _)
theorem V_v55 (c : Dev nD) (k : Fin 128) : V m c main_v55 (ix2 0 k) = m ((c.tc : Thread nD τ).loc main_arg4) (ix1 k) := by
  have h : ∀ g : FVec Ideal S128 .f32, broadcastInDim S1x128 ![1] bcast_S128_S1x128_1 g (ix2 0 k) = g (ix1 k) := fun g => by pointwise
  refine (congrFun (show V m c main_v55 = broadcastInDim S1x128 ![1] bcast_S128_S1x128_1 (m ((c.tc : Thread nD τ).loc main_arg4)) by
    simp only [V, hostOps0]; after_results_simp <;> rfl) _).trans (h _)
end

end Cert.Inp

end
-- ==== Proof.InprojValue.lean ====
/- The value of the input projection's call: its keys, values and indexer's keys written over the arguments, on both sides. -/
module

public import proofs.«01_k».proof.Proof.InprojRun
public import proofs.«01_k».proof.Proof.InprojTables
public import proofs.«01_k».proof.Proof.Gen.InprojReferenceIdeal.Run
public import Idealize.ShloMosaic.Lib.Pipeline.ValueKit

@[expose] public section

set_option maxRecDepth 16384

noncomputable section

namespace Cert.Inp

open Idealize.ShloMosaic Idealize.ShloMosaic.TcCoe Idealize.ShloMosaic.Tactic Idealize.ShloMosaic.ValueKit
open Idealize.SL Idealize.SL.Sem
open Cert.InprojReferenceIdeal.Value (ang64 ang32)
open Idealize.ShloMosaic.Pipeline (Dat Cfg Window)

/-! ## The results, written over the arguments -/

/-- Entry `f` of the projection of row `i`. -/
def zAt (x : FVec Ideal ⟨2, ![16384, 1024]⟩ .f32) (g : FVec Ideal ⟨1, ![1024]⟩ .f32) (w : FVec Ideal ⟨2, ![1024, 8776]⟩ .f32) (i : Fin 16384) (f : Fin 8776) : EReal :=
  proj (fun k => x (ix2 i k)) (fun k => g (ix1 k)) (fun k => w (ix2 k f))

/-- Entry `d` of key `h` of row `i`: normed, then rotated by the angles of the row's position. -/
def keyOf (x : FVec Ideal ⟨2, ![16384, 1024]⟩ .f32) (g : FVec Ideal ⟨1, ![1024]⟩ .f32) (w : FVec Ideal ⟨2, ![1024, 8776]⟩ .f32) (kg : FVec Ideal ⟨1, ![128]⟩ .f32)
    (pos : IVec ⟨1, ![4096]⟩ 32) (i : Fin 16384) (h : Fin 4) (d : Fin 128) : EReal :=
  rot (n := 64) (fun e => nrm (Ideal.ofBits .f32 0x43000000#32) (fun e : Fin 128 => zAt x g w i ⟨5120 + (h.val * 128 + e.val), by omega⟩) (fun k => kg (ix1 k)) e)
    (fun e => ang64 pos (ix2 ⟨i.val % 4096, by omega⟩ e)) d

/-- Entry `d` of value `h` of row `i`. -/
def valOf (x : FVec Ideal ⟨2, ![16384, 1024]⟩ .f32) (g : FVec Ideal ⟨1, ![1024]⟩ .f32) (w : FVec Ideal ⟨2, ![1024, 8776]⟩ .f32) (i : Fin 16384) (h : Fin 4) (d : Fin 128) : EReal :=
  zAt x g w i ⟨5632 + (h.val * 128 + d.val), by omega⟩

/-- Entry `d` of the indexer's key of row `i`. -/
def idxOf (x : FVec Ideal ⟨2, ![16384, 1024]⟩ .f32) (g : FVec Ideal ⟨1, ![1024]⟩ .f32) (w : FVec Ideal ⟨2, ![1024, 8776]⟩ .f32)
    (pos : IVec ⟨1, ![4096]⟩ 32) (i : Fin 16384) (d : Fin 64) : EReal :=
  rot (n := 32) (fun e => zAt x g w i ⟨6656 + e.val, by omega⟩) (fun e => ang32 pos (ix2 ⟨i.val % 4096, by omega⟩ e)) d

end Cert.Inp

/-! ## The reference's entries -/

namespace Cert.InprojReferenceIdeal.Value

open Idealize.ShloMosaic Idealize.ShloMosaic.TcCoe Idealize.ShloMosaic.Tactic Idealize.ShloMosaic.ValueKit
open Cert.Inp (zAt keyOf valOf idxOf)

theorem refZ_row (x : FVec Ideal S16384x1024 .f32) (g : FVec Ideal S1024 .f32) (w : FVec Ideal S1024x8776 .f32) (i : Fin 16384) (b : Fin 4) (p : Fin 4096) (f : Fin 8776)
    (hb : b.val = i.val / 4096) (hp : p.val = i.val % 4096) : refZ x g w (ix3 b p f) = zAt x g w i f := by
  rw [refZ_apply]
  exact congrArg (fun i => zAt x g w i f) (Fin.ext (by show b.val * 4096 + p.val = i.val; omega))

theorem refK_entry (x : FVec Ideal S16384x1024 .f32) (g : FVec Ideal S1024 .f32) (w : FVec Ideal S1024x8776 .f32) (kg : FVec Ideal S128 .f32) (pos : IVec S4096 32) (r : Fin 65536) (d : Fin 128) :
    refK (refKn (refZ x g w) kg) (ang64 pos) (ix2 r d) = keyOf x g w kg pos ⟨r.val / 4, by omega⟩ ⟨r.val % 4, by omega⟩ d := by
  rw [refK_apply]
  simp only [refKn_apply]
  simp only [refZ_row x g w (⟨r.val / 4, by omega⟩ : Fin 16384) ⟨r.val / 16384, by omega⟩ ⟨r.val / 4 % 4096, by omega⟩ _ (by show r.val / 16384 = r.val / 4 / 4096; omega) rfl]
  rfl

theorem refV_entry (x : FVec Ideal S16384x1024 .f32) (g : FVec Ideal S1024 .f32) (w : FVec Ideal S1024x8776 .f32) (r : Fin 65536) (d : Fin 128) :
    refV (refZ x g w) (ix2 r d) = valOf x g w ⟨r.val / 4, by omega⟩ ⟨r.val % 4, by omega⟩ d := by
  rw [refV_apply, refZ_row x g w (⟨r.val / 4, by omega⟩ : Fin 16384) _ _ _ (by show r.val / 16384 = r.val / 4 / 4096; omega) rfl]
  rfl

theorem refI_entry (x : FVec Ideal S16384x1024 .f32) (g : FVec Ideal S1024 .f32) (w : FVec Ideal S1024x8776 .f32) (pos : IVec S4096 32) (r : Fin 16384) (d : Fin 64) :
    refI (refZ x g w) (ang32 pos) (ix2 r d) = idxOf x g w pos r d := by
  rw [refI_apply]
  simp only [refZ_row x g w r ⟨r.val / 4096, by omega⟩ ⟨r.val % 4096, by omega⟩ _ rfl rfl]
  rfl

end Cert.InprojReferenceIdeal.Value

/-! ## The kernel's entries -/

namespace Cert.Inp

open Cert.InprojIdeal Cert.InprojIdeal.Gen
open Idealize.ShloMosaic Idealize.ShloMosaic.TcCoe Idealize.ShloMosaic.Tactic Idealize.ShloMosaic.ValueKit
open Idealize.SL Idealize.SL.Sem
open Cert.InprojReferenceIdeal.Value (ang64 ang32)
open Idealize.ShloMosaic.Pipeline (Dat Cfg Window)

section
variable (m : (ℓ : Loc nD τ sig) → Buf (Elt Ideal) ℓ)

theorem coords_eq (t : Fin cfg0.N) : ((cfg0.grid.coords t) 0).val = t.val := by
  have h := Pipeline.Grid.coords_val (G := grid0) t 0 (S := 1) (B := 64) (by decide) rfl
  have ht : t.val < 64 := lt_of_lt_of_eq t.isLt N_0
  have h' : ((cfg0.grid.coords t) 0).val = t.val / 1 % 64 := h
  rw [h', Nat.div_one, Nat.mod_eq_of_lt ht]

theorem index7 : ∀ i : grid0.Coords, cc0_transform_7 i 0 = (i 0).val % 16 := by decide
theorem index8 : ∀ i : grid0.Coords, cc0_transform_8 i 0 = (i 0).val % 16 := by decide
theorem index9 : ∀ i : grid0.Coords, cc0_transform_9 i 0 = (i 0).val % 16 := by decide
theorem index10 : ∀ i : grid0.Coords, cc0_transform_10 i 0 = (i 0).val % 16 := by decide
theorem B0_apply (c : Dev nD) (t : Fin cfg0.N) (y : S256x1024.Idx) (z : S16384x1024.Idx)
    (h0 : (z 0).val = t.val * 256 + (y 0).val) (h1 : (z 1).val = (y 1).val) : B0 m c t y = V m c main_arg0 z := by
  refine congrArg (V m c main_arg0) (funext fun (a : Fin 2) => Fin.ext ?_)
  refine (Window.rect_emb_val (cfg0.win 0) t y a rfl).trans ?_
  have ht : t.val < 64 := lt_of_lt_of_eq t.isLt N_0
  match a with
  | ⟨0, _⟩ =>
    show (BitVec.ofNat 32 ((cfg0.grid.coords t) 0).val).toNat * 256 + (y 0).val = (z 0).val
    rw [h0, coords_eq t, BitVec.toNat_ofNat, Nat.mod_eq_of_lt (by omega)]
  | ⟨1, _⟩ =>
    show 0 * 1024 + (y 1).val = (z 1).val
    omega

theorem B1_apply (c : Dev nD) (t : Fin cfg0.N) (y : S1x1024.Idx) (z : S1x1024.Idx)
    (h0 : (z 0).val = (y 0).val) (h1 : (z 1).val = (y 1).val) : B1 m c t y = V m c main_v53 z := by
  refine congrArg (V m c main_v53) (funext fun (a : Fin 2) => Fin.ext ?_)
  refine (Window.rect_emb_val (cfg0.win 1) t y a rfl).trans ?_
  have ht : t.val < 64 := lt_of_lt_of_eq t.isLt N_0
  match a with
  | ⟨0, _⟩ =>
    show 0 * 1 + (y 0).val = (z 0).val
    omega
  | ⟨1, _⟩ =>
    show 0 * 1024 + (y 1).val = (z 1).val
    omega

theorem B2_apply (c : Dev nD) (t : Fin cfg0.N) (y : S1024x6656.Idx) (z : S1024x6656.Idx)
    (h0 : (z 0).val = (y 0).val) (h1 : (z 1).val = (y 1).val) : B2 m c t y = V m c main_v1 z := by
  refine congrArg (V m c main_v1) (funext fun (a : Fin 2) => Fin.ext ?_)
  refine (Window.rect_emb_val (cfg0.win 2) t y a rfl).trans ?_
  have ht : t.val < 64 := lt_of_lt_of_eq t.isLt N_0
  match a with
  | ⟨0, _⟩ =>
    show 0 * 1024 + (y 0).val = (z 0).val
    omega
  | ⟨1, _⟩ =>
    show 0 * 6656 + (y 1).val = (z 1).val
    omega

theorem B3_apply (c : Dev nD) (t : Fin cfg0.N) (y : S1024x256.Idx) (z : S1024x256.Idx)
    (h0 : (z 0).val = (y 0).val) (h1 : (z 1).val = (y 1).val) : B3 m c t y = V m c main_v6 z := by
  refine congrArg (V m c main_v6) (funext fun (a : Fin 2) => Fin.ext ?_)
  refine (Window.rect_emb_val (cfg0.win 3) t y a rfl).trans ?_
  have ht : t.val < 64 := lt_of_lt_of_eq t.isLt N_0
  match a with
  | ⟨0, _⟩ =>
    show 0 * 1024 + (y 0).val = (z 0).val
    omega
  | ⟨1, _⟩ =>
    show 0 * 256 + (y 1).val = (z 1).val
    omega

theorem B6_apply (c : Dev nD) (t : Fin cfg0.N) (y : S1x128.Idx) (z : S1x128.Idx)
    (h0 : (z 0).val = (y 0).val) (h1 : (z 1).val = (y 1).val) : B6 m c t y = V m c main_v55 z := by
  refine congrArg (V m c main_v55) (funext fun (a : Fin 2) => Fin.ext ?_)
  refine (Window.rect_emb_val (cfg0.win 6) t y a rfl).trans ?_
  have ht : t.val < 64 := lt_of_lt_of_eq t.isLt N_0
  match a with
  | ⟨0, _⟩ =>
    show 0 * 1 + (y 0).val = (z 0).val
    omega
  | ⟨1, _⟩ =>
    show 0 * 128 + (y 1).val = (z 1).val
    omega

theorem B7_apply (c : Dev nD) (t : Fin cfg0.N) (y : S256x128.Idx) (z : S4096x128.Idx)
    (h0 : (z 0).val = t.val % 16 * 256 + (y 0).val) (h1 : (z 1).val = (y 1).val) : B7 m c t y = V m c main_v28 z := by
  refine congrArg (V m c main_v28) (funext fun (a : Fin 2) => Fin.ext ?_)
  refine (Window.rect_emb_val (cfg0.win 7) t y a rfl).trans ?_
  have ht : t.val < 64 := lt_of_lt_of_eq t.isLt N_0
  match a with
  | ⟨0, _⟩ =>
    show cc0_transform_7 (cfg0.grid.coords t) 0 * 256 + (y 0).val = (z 0).val
    rw [h0, index7, coords_eq t]
  | ⟨1, _⟩ =>
    show 0 * 128 + (y 1).val = (z 1).val
    omega

theorem B8_apply (c : Dev nD) (t : Fin cfg0.N) (y : S256x128.Idx) (z : S4096x128.Idx)
    (h0 : (z 0).val = t.val % 16 * 256 + (y 0).val) (h1 : (z 1).val = (y 1).val) : B8 m c t y = V m c main_v30 z := by
  refine congrArg (V m c main_v30) (funext fun (a : Fin 2) => Fin.ext ?_)
  refine (Window.rect_emb_val (cfg0.win 8) t y a rfl).trans ?_
  have ht : t.val < 64 := lt_of_lt_of_eq t.isLt N_0
  match a with
  | ⟨0, _⟩ =>
    show cc0_transform_8 (cfg0.grid.coords t) 0 * 256 + (y 0).val = (z 0).val
    rw [h0, index8, coords_eq t]
  | ⟨1, _⟩ =>
    show 0 * 128 + (y 1).val = (z 1).val
    omega

theorem B9_apply (c : Dev nD) (t : Fin cfg0.N) (y : S256x128.Idx) (z : S4096x128.Idx)
    (h0 : (z 0).val = t.val % 16 * 256 + (y 0).val) (h1 : (z 1).val = (y 1).val) : B9 m c t y = V m c main_v50 z := by
  refine congrArg (V m c main_v50) (funext fun (a : Fin 2) => Fin.ext ?_)
  refine (Window.rect_emb_val (cfg0.win 9) t y a rfl).trans ?_
  have ht : t.val < 64 := lt_of_lt_of_eq t.isLt N_0
  match a with
  | ⟨0, _⟩ =>
    show cc0_transform_9 (cfg0.grid.coords t) 0 * 256 + (y 0).val = (z 0).val
    rw [h0, index9, coords_eq t]
  | ⟨1, _⟩ =>
    show 0 * 128 + (y 1).val = (z 1).val
    omega

theorem B10_apply (c : Dev nD) (t : Fin cfg0.N) (y : S256x128.Idx) (z : S4096x128.Idx)
    (h0 : (z 0).val = t.val % 16 * 256 + (y 0).val) (h1 : (z 1).val = (y 1).val) : B10 m c t y = V m c main_v52 z := by
  refine congrArg (V m c main_v52) (funext fun (a : Fin 2) => Fin.ext ?_)
  refine (Window.rect_emb_val (cfg0.win 10) t y a rfl).trans ?_
  have ht : t.val < 64 := lt_of_lt_of_eq t.isLt N_0
  match a with
  | ⟨0, _⟩ =>
    show cc0_transform_10 (cfg0.grid.coords t) 0 * 256 + (y 0).val = (z 0).val
    rw [h0, index10, coords_eq t]
  | ⟨1, _⟩ =>
    show 0 * 128 + (y 1).val = (z 1).val
    omega

theorem ld1_eq (X : FVec Ideal S256x1024 .f32) : ld1 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld2_eq (X : FVec Ideal S1x1024 .f32) : ld2 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld7_eq (X : FVec Ideal S1x128 .f32) : ld7 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld8_eq (X : FVec Ideal S256x128 .f32) : ld8 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld9_eq (X : FVec Ideal S256x128 .f32) : ld9 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld10_eq (X : FVec Ideal S256x128 .f32) : ld10 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld11_eq (X : FVec Ideal S256x128 .f32) : ld11 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld4_eq (X : FVec Ideal S1024x256 .bf16) : ld4 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld3_5120_apply (X : FVec Ideal S1024x6656 .bf16) (k : Fin 1024) (f : Fin 512) : ld3_5120 (F := Ideal) X (ix2 k f) = X (ix2 k ⟨5120 + f.val, by omega⟩) :=
  congrArg X (funext fun (a : Fin 2) => Fin.ext (by
    match a with
    | ⟨0, _⟩ => show 0 + 1 * k.val = k.val; omega
    | ⟨1, _⟩ => show 5120 + 1 * f.val = 5120 + f.val; omega))
theorem ld3_5632_apply (X : FVec Ideal S1024x6656 .bf16) (k : Fin 1024) (f : Fin 512) : ld3_5632 (F := Ideal) X (ix2 k f) = X (ix2 k ⟨5632 + f.val, by omega⟩) :=
  congrArg X (funext fun (a : Fin 2) => Fin.ext (by
    match a with
    | ⟨0, _⟩ => show 0 + 1 * k.val = k.val; omega
    | ⟨1, _⟩ => show 5632 + 1 * f.val = 5632 + f.val; omega))

/-- The row of the input that row `r` of block `t` is. -/
def rowOf (t : Fin cfg0.N) (r : Fin 256) : Fin 16384 := ⟨t.val * 256 + r.val, by have ht : t.val < 64 := lt_of_lt_of_eq t.isLt N_0; omega⟩

abbrev aX (c : Dev nD) : FVec Ideal ⟨2, ![16384, 1024]⟩ .f32 := m ((c.tc : Thread nD τ).loc main_arg0)
abbrev aG (c : Dev nD) : FVec Ideal ⟨1, ![1024]⟩ .f32 := m ((c.tc : Thread nD τ).loc main_arg1)
abbrev aW (c : Dev nD) : FVec Ideal ⟨2, ![1024, 8776]⟩ .f32 := m ((c.tc : Thread nD τ).loc main_arg2)
abbrev aK (c : Dev nD) : FVec Ideal ⟨1, ![128]⟩ .f32 := m ((c.tc : Thread nD τ).loc main_arg4)
abbrev aP (c : Dev nD) : IVec ⟨1, ![4096]⟩ 32 := m ((c.tc : Thread nD τ).loc main_arg5)

/-- The normed rows of a block. -/
theorem hn_row (c : Dev nD) (t : Fin cfg0.N) (r : Fin 256) (k : Fin 1024) :
    hn (F := Ideal) (B0 m c t) (B1 m c t) (ix2 r k) = nrm (Ideal.ofBits .f32 0x44800000#32) (fun k => aX m c (ix2 (rowOf t r) k)) (fun k => aG m c (ix1 k)) k := by
  unfold hn
  rw [ld1_eq, ld2_eq]
  refine (hn_apply (B0 m c t) (B1 m c t) r k).trans ?_
  have hx : (fun k : Fin 1024 => B0 m c t (ix2 r k)) = fun k => aX m c (ix2 (rowOf t r) k) := funext fun k =>
    (B0_apply m c t (ix2 r k) (ix2 (rowOf t r) k) rfl rfl).trans (congrFun (V_main_arg0 m c) _)
  have hg : (fun k : Fin 1024 => B1 m c t (ix2 0 k)) = fun k => aG m c (ix1 k) := funext fun k =>
    (B1_apply m c t (ix2 0 k) (ix2 0 k) rfl rfl).trans (V_v53 m c k)
  rw [hx, hg]

theorem prod_5120 (c : Dev nD) (t : Fin cfg0.N) (r : Fin 256) (f : Fin 512) (g : Fin 8776) (hg : g.val = 5120 + f.val) :
    ∑ k, hn (F := Ideal) (B0 m c t) (B1 m c t) (ix2 r k) * ld3_5120 (F := Ideal) (B2 m c t) (ix2 k f) = zAt (aX m c) (aG m c) (aW m c) (rowOf t r) g := by
  unfold zAt proj
  refine Fintype.sum_congr _ _ fun k => ?_
  refine congrArg₂ (fun a b : EReal => a * b) (hn_row m c t r k) ((ld3_5120_apply (B2 m c t) k f).trans ?_)
  refine (B2_apply m c t (ix2 k ⟨5120 + f.val, by omega⟩) (ix2 k ⟨5120 + f.val, by omega⟩) rfl rfl).trans ?_
  refine (congrFun (V_v1 m c) _).trans ((tabW_apply _ k _).trans ?_)
  exact congrArg (fun g => aW m c (ix2 k g)) (Fin.ext hg.symm)

theorem prod_5632 (c : Dev nD) (t : Fin cfg0.N) (r : Fin 256) (f : Fin 512) (g : Fin 8776) (hg : g.val = 5632 + f.val) :
    ∑ k, hn (F := Ideal) (B0 m c t) (B1 m c t) (ix2 r k) * ld3_5632 (F := Ideal) (B2 m c t) (ix2 k f) = zAt (aX m c) (aG m c) (aW m c) (rowOf t r) g := by
  unfold zAt proj
  refine Fintype.sum_congr _ _ fun k => ?_
  refine congrArg₂ (fun a b : EReal => a * b) (hn_row m c t r k) ((ld3_5632_apply (B2 m c t) k f).trans ?_)
  refine (B2_apply m c t (ix2 k ⟨5632 + f.val, by omega⟩) (ix2 k ⟨5632 + f.val, by omega⟩) rfl rfl).trans ?_
  refine (congrFun (V_v1 m c) _).trans ((tabW_apply _ k _).trans ?_)
  exact congrArg (fun g => aW m c (ix2 k g)) (Fin.ext hg.symm)

theorem prod_idx (c : Dev nD) (t : Fin cfg0.N) (r : Fin 256) (e : Fin 128) :
    ∑ k, hn (F := Ideal) (B0 m c t) (B1 m c t) (ix2 r k) * B3 m c t (ix2 k ⟨e.val, by omega⟩) = zAt (aX m c) (aG m c) (aW m c) (rowOf t r) ⟨6656 + e.val % 64, by omega⟩ := by
  unfold zAt proj
  refine Fintype.sum_congr _ _ fun k => ?_
  refine congrArg₂ (fun a b : EReal => a * b) (hn_row m c t r k) ?_
  refine (B3_apply m c t (ix2 k ⟨e.val, by omega⟩) (ix2 k ⟨e.val, by omega⟩) rfl rfl).trans ?_
  exact (congrFun (V_v6 m c) _).trans (tabI_apply _ k e)

theorem table7 (c : Dev nD) (t : Fin cfg0.N) (r : Fin 256) (d : Fin 128) : B7 m c t (ix2 r d) = Ideal.cos (ang64 (aP m c) (ix2 ⟨(rowOf t r).val % 4096, by omega⟩ ⟨d.val % 64, by omega⟩)) := by
  refine (B7_apply m c t (ix2 r d) (ix2 (⟨(rowOf t r).val % 4096, by omega⟩ : Fin 4096) d) ?_ rfl).trans ?_
  · show (t.val * 256 + r.val) % 4096 = t.val % 16 * 256 + r.val
    omega
  · exact (congrFun (V_v28 m c) _).trans (tabC_apply _ _ d)

theorem table8 (c : Dev nD) (t : Fin cfg0.N) (r : Fin 256) (d : Fin 128) : B8 m c t (ix2 r d) = if d.val < 64 then -Ideal.sin (ang64 (aP m c) (ix2 ⟨(rowOf t r).val % 4096, by omega⟩ ⟨d.val % 64, by omega⟩)) else Ideal.sin (ang64 (aP m c) (ix2 ⟨(rowOf t r).val % 4096, by omega⟩ ⟨d.val % 64, by omega⟩)) := by
  refine (B8_apply m c t (ix2 r d) (ix2 (⟨(rowOf t r).val % 4096, by omega⟩ : Fin 4096) d) ?_ rfl).trans ?_
  · show (t.val * 256 + r.val) % 4096 = t.val % 16 * 256 + r.val
    omega
  · exact (congrFun (V_v30 m c) _).trans (tabS_apply _ _ d)

theorem table9 (c : Dev nD) (t : Fin cfg0.N) (r : Fin 256) (d : Fin 64) : B9 m c t (ix2 r ⟨d.val, by omega⟩) = Ideal.cos (ang32 (aP m c) (ix2 ⟨(rowOf t r).val % 4096, by omega⟩ ⟨d.val % 32, by omega⟩)) := by
  refine (B9_apply m c t (ix2 r ⟨d.val, by omega⟩) (ix2 (⟨(rowOf t r).val % 4096, by omega⟩ : Fin 4096) ⟨d.val, by omega⟩) ?_ rfl).trans ?_
  · show (t.val * 256 + r.val) % 4096 = t.val % 16 * 256 + r.val
    omega
  · exact (congrFun (V_v50 m c) _).trans (tabC4_apply _ _ d)

theorem table10 (c : Dev nD) (t : Fin cfg0.N) (r : Fin 256) (d : Fin 64) : B10 m c t (ix2 r ⟨d.val, by omega⟩) = if d.val < 32 then -Ideal.sin (ang32 (aP m c) (ix2 ⟨(rowOf t r).val % 4096, by omega⟩ ⟨d.val % 32, by omega⟩)) else Ideal.sin (ang32 (aP m c) (ix2 ⟨(rowOf t r).val % 4096, by omega⟩ ⟨d.val % 32, by omega⟩)) := by
  refine (B10_apply m c t (ix2 r ⟨d.val, by omega⟩) (ix2 (⟨(rowOf t r).val % 4096, by omega⟩ : Fin 4096) ⟨d.val, by omega⟩) ?_ rfl).trans ?_
  · show (t.val * 256 + r.val) % 4096 = t.val % 16 * 256 + r.val
    omega
  · exact (congrFun (V_v52 m c) _).trans (tabS4_apply _ _ d)

/-- A head normed, scaled and turned as the body does is the rotated key. -/
theorem key_case (c : Dev nD) (t : Fin cfg0.N) (r : Fin 256) (h : Fin 4) (d : Fin 128) (y G : Fin 128 → EReal) (C S : EReal)
    (hy : ∀ e : Fin 128, y e = zAt (aX m c) (aG m c) (aW m c) (rowOf t r) ⟨5120 + (h.val * 128 + e.val), by omega⟩) (hG : ∀ e, G e = aK m c (ix1 e))
    (hC : C = B7 m c t (ix2 r d)) (hS : S = B8 m c t (ix2 r d)) :
    keyAt y G C S d = keyOf (aX m c) (aG m c) (aW m c) (aK m c) (aP m c) (rowOf t r) h d := by
  obtain rfl := funext hy
  obtain rfl := funext hG
  unfold keyAt keyOf
  exact rot_of_turn (fun e => nrm (Ideal.ofBits .f32 0x43000000#32) _ _ e) (fun e => aK m c (ix1 e)) _ C S d _ rfl (hC.trans (table7 m c t r d)) (hS.trans (table8 m c t r d))

theorem gain_row (c : Dev nD) (t : Fin cfg0.N) (e : Fin 128) : ld7 (F := Ideal) (B6 m c t) (ix2 0 e) = aK m c (ix1 e) :=
  (congrFun (ld7_eq (B6 m c t)) _).trans ((B6_apply m c t (ix2 0 e) (ix2 0 e) rfl rfl).trans (V_v55 m c e))

/-- An entry of four interleaved pieces. -/
theorem four_of (p0 p1 p2 p3 : FVec Ideal S256x128 .f32) (R : Fin 1024) (d : Fin 128) (v : EReal)
    (h0 : R.val % 4 = 0 → p0 (ix2 ⟨R.val / 4, by omega⟩ d) = v) (h1 : R.val % 4 = 1 → p1 (ix2 ⟨R.val / 4, by omega⟩ d) = v)
    (h2 : R.val % 4 = 2 → p2 (ix2 ⟨R.val / 4, by omega⟩ d) = v) (h3 : R.val % 4 = 3 → p3 (ix2 ⟨R.val / 4, by omega⟩ d) = v) :
    four (F := Ideal) p0 p1 p2 p3 (ix2 R d) = v := by
  show (if R.val % 4 = 0 then p0 (ix2 ⟨R.val / 4, by omega⟩ d) else if R.val % 4 = 1 then p1 (ix2 ⟨R.val / 4, by omega⟩ d)
    else if R.val % 4 = 2 then p2 (ix2 ⟨R.val / 4, by omega⟩ d) else p3 (ix2 ⟨R.val / 4, by omega⟩ d)) = v
  by_cases e0 : R.val % 4 = 0
  · rw [if_pos e0]; exact h0 e0
  · rw [if_neg e0]
    by_cases e1 : R.val % 4 = 1
    · rw [if_pos e1]; exact h1 e1
    · rw [if_neg e1]
      by_cases e2 : R.val % 4 = 2
      · rw [if_pos e2]; exact h2 e2
      · rw [if_neg e2]; exact h3 (by omega)

/-- An entry of a block of keys. -/
theorem KAt_entry (c : Dev nD) (t : Fin cfg0.N) (R : Fin 1024) (d : Fin 128) :
    KAt m c t (ix2 R d) = keyOf (aX m c) (aG m c) (aW m c) (aK m c) (aP m c) (rowOf t ⟨R.val / 4, by omega⟩) ⟨R.val % 4, by omega⟩ d := by
  have z : ∀ (r : Fin 256) (f : Fin 512) (g : Fin 8776), g.val = 5120 + f.val →
      k0_pay24 (F := Ideal) (hn (B0 m c t) (B1 m c t)) (ld3_5120 (B2 m c t)) (ix2 r f) = zAt (aX m c) (aG m c) (aW m c) (rowOf t r) g :=
    fun r f g hg => (pay24_apply _ _ r f).trans (prod_5120 m c t r f g hg)
  have hC : ∀ r : Fin 256, ld8 (F := Ideal) (B7 m c t) (ix2 r d) = B7 m c t (ix2 r d) := fun r => congrFun (ld8_eq (B7 m c t)) _
  have hS : ∀ r : Fin 256, ld9 (F := Ideal) (B8 m c t) (ix2 r d) = B8 m c t (ix2 r d) := fun r => congrFun (ld9_eq (B8 m c t)) _
  refine four_of _ _ _ _ R d _ (fun h => ?_) (fun h => ?_) (fun h => ?_) (fun h => ?_)
  · refine (pay27_apply _ _ _ _ _ _ _).trans (key_case m c t _ _ d _ _ _ _ (fun e => z _ _ _ ?_) (gain_row m c t) (hC _) (hS _))
    show 5120 + (R.val % 4 * 128 + e.val) = 5120 + e.val
    omega
  · refine (pay29_apply _ _ _ _ _ _).trans (key_case m c t _ _ d _ _ _ _ (fun e => z _ _ _ ?_) (gain_row m c t) (hC _) (hS _))
    show 5120 + (R.val % 4 * 128 + e.val) = 5120 + (128 + e.val)
    omega
  · refine (pay32_apply _ _ _ _ _ _).trans (key_case m c t _ _ d _ _ _ _ (fun e => z _ _ _ ?_) (gain_row m c t) (hC _) (hS _))
    show 5120 + (R.val % 4 * 128 + e.val) = 5120 + (256 + e.val)
    omega
  · refine (pay34_apply _ _ _ _ _ _).trans (key_case m c t _ _ d _ _ _ _ (fun e => z _ _ _ ?_) (gain_row m c t) (hC _) (hS _))
    show 5120 + (R.val % 4 * 128 + e.val) = 5120 + (384 + e.val)
    omega

/-- An entry of a block of values. -/
theorem VAt_entry (c : Dev nD) (t : Fin cfg0.N) (R : Fin 1024) (d : Fin 128) :
    VAt m c t (ix2 R d) = valOf (aX m c) (aG m c) (aW m c) (rowOf t ⟨R.val / 4, by omega⟩) ⟨R.val % 4, by omega⟩ d := by
  refine four_of _ _ _ _ R d _ (fun h => ?_) (fun h => ?_) (fun h => ?_) (fun h => ?_)
  · refine (pay37_apply _ _ _ d).trans (prod_5632 m c t _ _ _ ?_)
    show 5632 + (R.val % 4 * 128 + d.val) = 5632 + d.val
    omega
  · refine (pay38_apply _ _ _ d).trans (prod_5632 m c t _ _ _ ?_)
    show 5632 + (R.val % 4 * 128 + d.val) = 5632 + (128 + d.val)
    omega
  · refine (pay39_apply _ _ _ d).trans (prod_5632 m c t _ _ _ ?_)
    show 5632 + (R.val % 4 * 128 + d.val) = 5632 + (256 + d.val)
    omega
  · refine (pay40_apply _ _ _ d).trans (prod_5632 m c t _ _ _ ?_)
    show 5632 + (R.val % 4 * 128 + d.val) = 5632 + (384 + d.val)
    omega

/-- An entry of a block of the indexer's keys. -/
theorem IAt_entry (c : Dev nD) (t : Fin cfg0.N) (r : Fin 256) (d : Fin 64) :
    IAt m c t (ix2 r d) = idxOf (aX m c) (aG m c) (aW m c) (aP m c) (rowOf t r) d := by
  unfold IAt outI
  rw [ld10_eq, ld11_eq, ld4_eq]
  exact pay63_apply _ _ _ _ r d _ _ (fun e => prod_idx m c t r e) (table9 m c t r d) (table10 m c t r d)

/-! ## The results after the run -/

def resK (c : Dev nD) : S65536x128.Idx → EReal := fun j =>
  keyOf (aX m c) (aG m c) (aW m c) (aK m c) (aP m c) ⟨(j 0).val / 4, by have h : (j 0).val < 65536 := (j 0).isLt; omega⟩ ⟨(j 0).val % 4, by omega⟩ (j 1)
def resV (c : Dev nD) : S65536x128.Idx → EReal := fun j =>
  valOf (aX m c) (aG m c) (aW m c) ⟨(j 0).val / 4, by have h : (j 0).val < 65536 := (j 0).isLt; omega⟩ ⟨(j 0).val % 4, by omega⟩ (j 1)
def resI (c : Dev nD) : S16384x64.Idx → EReal := fun j => idxOf (aX m c) (aG m c) (aW m c) (aP m c) (j 0) (j 1)

theorem emb16 (t : Fin cfg0.N) (y : S1024x128.Idx) (z : S65536x128.Idx)
    (h0 : (z 0).val = t.val * 1024 + (y 0).val) (h1 : (z 1).val = (y 1).val) : ((cfg0.win 16).blk t).view.emb y = z := by
  refine funext fun (a : Fin 2) => Fin.ext ?_
  refine (Window.rect_emb_val (cfg0.win 16) t y a rfl).trans ?_
  have ht : t.val < 64 := lt_of_lt_of_eq t.isLt N_0
  match a with
  | ⟨0, _⟩ =>
    show (BitVec.ofNat 32 ((cfg0.grid.coords t) 0).val).toNat * 1024 + (y 0).val = (z 0).val
    rw [h0, coords_eq t, BitVec.toNat_ofNat, Nat.mod_eq_of_lt (by omega)]
  | ⟨1, _⟩ =>
    show 0 * 128 + (y 1).val = (z 1).val
    omega

theorem block16 (c : Dev nD) (t : Fin cfg0.N) (y : S1024x128.Idx) : KAt m c t y = resK m c (((cfg0.win 16).blk t).view.emb y) := by
  have ht : t.val < 64 := lt_of_lt_of_eq t.isLt N_0
  have hy0 : (y 0).val < 1024 := (y 0).isLt
  have he := emb16 t y (ix2 (⟨t.val * 1024 + (y 0).val, by omega⟩ : Fin 65536) (y 1)) rfl rfl
  refine Eq.trans ?_ (congrArg (resK m c) he).symm
  refine (congrArg (KAt m c t) (eq_ix2 y)).trans ?_
  refine (KAt_entry m c t (y 0) (y 1)).trans ?_
  refine congrArg₂ (fun i h => keyOf (aX m c) (aG m c) (aW m c) (aK m c) (aP m c) i h (y 1)) (Fin.ext ?_) (Fin.ext ?_)
  · show t.val * 256 + (y 0).val / 4 = (t.val * 1024 + (y 0).val) / 4
    omega
  · show (y 0).val % 4 = (t.val * 1024 + (y 0).val) % 4
    omega

theorem cover16 (i : S65536x128.Idx) : ∃ t : Fin cfg0.N, (cfg0.win 16).flush t = true ∧ i ∈ ((cfg0.win 16).blk t).view.set := by
  have hi0 : (i 0).val < 65536 := (i 0).isLt
  have hN : (i 0).val / 1024 < cfg0.N := lt_of_lt_of_eq (by omega : (i 0).val / 1024 < 64) N_0.symm
  refine ⟨⟨(i 0).val / 1024, hN⟩, flush0_16 _, ?_⟩
  have he := emb16 ⟨(i 0).val / 1024, hN⟩ (ix2 (⟨(i 0).val % 1024, by omega⟩ : Fin 1024) (i 1)) i
    (by show (i 0).val = (i 0).val / 1024 * 1024 + (i 0).val % 1024; omega) rfl
  have hm := View.emb_mem_set ((cfg0.win 16).blk ⟨(i 0).val / 1024, hN⟩).view (ix2 (⟨(i 0).val % 1024, by omega⟩ : Fin 1024) (i 1))
  exact Eq.subst (motive := fun j => j ∈ ((cfg0.win 16).blk ⟨(i 0).val / 1024, hN⟩).view.set) he hm

theorem final16 (c : Dev nD) : (dats m 0 c).arrAt 16 cfg0.N = resK m c :=
  (dats m 0 c).arrAt_eq_of_emb 16 (resK m c) (fun t _ y =>
    (cast_eq _ _).trans ((congrFun (after0_16 m c t) _).trans (block16 m c t y))) cover16

theorem emb18 (t : Fin cfg0.N) (y : S1024x128.Idx) (z : S65536x128.Idx)
    (h0 : (z 0).val = t.val * 1024 + (y 0).val) (h1 : (z 1).val = (y 1).val) : ((cfg0.win 18).blk t).view.emb y = z := by
  refine funext fun (a : Fin 2) => Fin.ext ?_
  refine (Window.rect_emb_val (cfg0.win 18) t y a rfl).trans ?_
  have ht : t.val < 64 := lt_of_lt_of_eq t.isLt N_0
  match a with
  | ⟨0, _⟩ =>
    show (BitVec.ofNat 32 ((cfg0.grid.coords t) 0).val).toNat * 1024 + (y 0).val = (z 0).val
    rw [h0, coords_eq t, BitVec.toNat_ofNat, Nat.mod_eq_of_lt (by omega)]
  | ⟨1, _⟩ =>
    show 0 * 128 + (y 1).val = (z 1).val
    omega

theorem block18 (c : Dev nD) (t : Fin cfg0.N) (y : S1024x128.Idx) : VAt m c t y = resV m c (((cfg0.win 18).blk t).view.emb y) := by
  have ht : t.val < 64 := lt_of_lt_of_eq t.isLt N_0
  have hy0 : (y 0).val < 1024 := (y 0).isLt
  have he := emb18 t y (ix2 (⟨t.val * 1024 + (y 0).val, by omega⟩ : Fin 65536) (y 1)) rfl rfl
  refine Eq.trans ?_ (congrArg (resV m c) he).symm
  refine (congrArg (VAt m c t) (eq_ix2 y)).trans ?_
  refine (VAt_entry m c t (y 0) (y 1)).trans ?_
  refine congrArg₂ (fun i h => valOf (aX m c) (aG m c) (aW m c) i h (y 1)) (Fin.ext ?_) (Fin.ext ?_)
  · show t.val * 256 + (y 0).val / 4 = (t.val * 1024 + (y 0).val) / 4
    omega
  · show (y 0).val % 4 = (t.val * 1024 + (y 0).val) % 4
    omega

theorem cover18 (i : S65536x128.Idx) : ∃ t : Fin cfg0.N, (cfg0.win 18).flush t = true ∧ i ∈ ((cfg0.win 18).blk t).view.set := by
  have hi0 : (i 0).val < 65536 := (i 0).isLt
  have hN : (i 0).val / 1024 < cfg0.N := lt_of_lt_of_eq (by omega : (i 0).val / 1024 < 64) N_0.symm
  refine ⟨⟨(i 0).val / 1024, hN⟩, flush0_18 _, ?_⟩
  have he := emb18 ⟨(i 0).val / 1024, hN⟩ (ix2 (⟨(i 0).val % 1024, by omega⟩ : Fin 1024) (i 1)) i
    (by show (i 0).val = (i 0).val / 1024 * 1024 + (i 0).val % 1024; omega) rfl
  have hm := View.emb_mem_set ((cfg0.win 18).blk ⟨(i 0).val / 1024, hN⟩).view (ix2 (⟨(i 0).val % 1024, by omega⟩ : Fin 1024) (i 1))
  exact Eq.subst (motive := fun j => j ∈ ((cfg0.win 18).blk ⟨(i 0).val / 1024, hN⟩).view.set) he hm

theorem final18 (c : Dev nD) : (dats m 0 c).arrAt 18 cfg0.N = resV m c :=
  (dats m 0 c).arrAt_eq_of_emb 18 (resV m c) (fun t _ y =>
    (cast_eq _ _).trans ((congrFun (after0_18 m c t) _).trans (block18 m c t y))) cover18

theorem emb21 (t : Fin cfg0.N) (y : S256x64.Idx) (z : S16384x64.Idx)
    (h0 : (z 0).val = t.val * 256 + (y 0).val) (h1 : (z 1).val = (y 1).val) : ((cfg0.win 21).blk t).view.emb y = z := by
  refine funext fun (a : Fin 2) => Fin.ext ?_
  refine (Window.rect_emb_val (cfg0.win 21) t y a rfl).trans ?_
  have ht : t.val < 64 := lt_of_lt_of_eq t.isLt N_0
  match a with
  | ⟨0, _⟩ =>
    show (BitVec.ofNat 32 ((cfg0.grid.coords t) 0).val).toNat * 256 + (y 0).val = (z 0).val
    rw [h0, coords_eq t, BitVec.toNat_ofNat, Nat.mod_eq_of_lt (by omega)]
  | ⟨1, _⟩ =>
    show 0 * 64 + (y 1).val = (z 1).val
    omega

theorem block21 (c : Dev nD) (t : Fin cfg0.N) (y : S256x64.Idx) : IAt m c t y = resI m c (((cfg0.win 21).blk t).view.emb y) := by
  have ht : t.val < 64 := lt_of_lt_of_eq t.isLt N_0
  have hy0 : (y 0).val < 256 := (y 0).isLt
  have he := emb21 t y (ix2 (⟨t.val * 256 + (y 0).val, by omega⟩ : Fin 16384) (y 1)) rfl rfl
  refine Eq.trans ?_ (congrArg (resI m c) he).symm
  refine (congrArg (IAt m c t) (eq_ix2 y)).trans ?_
  refine (IAt_entry m c t (y 0) (y 1)).trans ?_
  rfl

theorem cover21 (i : S16384x64.Idx) : ∃ t : Fin cfg0.N, (cfg0.win 21).flush t = true ∧ i ∈ ((cfg0.win 21).blk t).view.set := by
  have hi0 : (i 0).val < 16384 := (i 0).isLt
  have hN : (i 0).val / 256 < cfg0.N := lt_of_lt_of_eq (by omega : (i 0).val / 256 < 64) N_0.symm
  refine ⟨⟨(i 0).val / 256, hN⟩, flush0_21 _, ?_⟩
  have he := emb21 ⟨(i 0).val / 256, hN⟩ (ix2 (⟨(i 0).val % 256, by omega⟩ : Fin 256) (i 1)) i
    (by show (i 0).val = (i 0).val / 256 * 256 + (i 0).val % 256; omega) rfl
  have hm := View.emb_mem_set ((cfg0.win 21).blk ⟨(i 0).val / 256, hN⟩).view (ix2 (⟨(i 0).val % 256, by omega⟩ : Fin 256) (i 1))
  exact Eq.subst (motive := fun j => j ∈ ((cfg0.win 21).blk ⟨(i 0).val / 256, hN⟩).view.set) he hm

theorem final21 (c : Dev nD) : (dats m 0 c).arrAt 21 cfg0.N = resI m c :=
  (dats m 0 c).arrAt_eq_of_emb 21 (resI m c) (fun t _ y =>
    (cast_eq _ _).trans ((congrFun (after0_21 m c t) _).trans (block21 m c t y))) cover21

end

end Cert.Inp

end
-- ==== Proof.InprojWords.lean ====
/- The frame of the input projection's call on words, derived from the run that is proved once over any element type. -/
module

public import proofs.«01_k».proof.Defs
public import proofs.«01_k».proof.Proof.Gen.Inproj
public import proofs.«01_k».proof.Proof.Gen.InprojIdeal
public import proofs.«01_k».proof.Proof.InprojRun
public import Idealize.ShloMosaic.Lib.Tactic

@[expose] public section

set_option maxRecDepth 16384

namespace Cert.Inp.Words
open Idealize.ShloMosaic Idealize.ShloMosaic.TcCoe Idealize.SL.Sem Idealize.ShloMosaic.Tactic

/-- The frame of the call over the reals, taken at words. -/
def FrameWords : Prop :=
  ∀ (m : (ℓ : Loc Cert.InprojIdeal.nD Cert.InprojIdeal.τ Cert.InprojIdeal.sig) → Buf (Elt Bits) ℓ) (g : Dev Cert.InprojIdeal.nD → PrngReg), Cert.Pre_Inproj m →
    θ_run (Cert.InprojIdeal.defs (F := Bits)) (onTc (τ := Cert.InprojIdeal.τ) (Cert.InprojIdeal.main (F := Bits))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

/-- It is the frame of the call on words. -/
theorem frame_eq : FrameWords = Cert.quiescent_Inproj := by sl_kernel_rfl

/-- The frame of the call over the reals, at words. -/
theorem frame_words : FrameWords := fun m ρ _ =>
  (θ_run Cert.InprojIdeal.defs _ _).mono (fun _ h => ⟨fun c => (h.1 c).1, h.2⟩) (Cert.Inp.run (F := Bits) m ρ)

/-- The frame of the call on words: it runs and gives back its arguments and counters. -/
theorem frame : Cert.quiescent_Inproj := frame_eq ▸ frame_words

end Cert.Inp.Words
-- ==== Proof.ProjectBody.lean ====
/- The body of the input projection's call, step by step: which of the loaded blocks each of the stored values is made
   of, for the three results that are followed (the keys, the values and the indexer's keys). -/
module

public import proofs.«01_k».proof.Proof.Gen.ProjectIdeal.Launch
public import proofs.«01_k».proof.Proof.Gen.ProjectIdeal.Skeleton
public import Idealize.ShloMosaic.Lib.Pipeline.FrameBody
public import Idealize.ShloMosaic.Lib.Pipeline.ValueKit
public import Idealize.ShloMosaic.Lib.ValueLayout
public import Idealize.ShloMosaic.Lib.Tactic

@[expose] public section

set_option maxRecDepth 16384

noncomputable section

namespace Cert.Prj

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueKit

variable {F : FTy → Type} [FloatOps F]

local notation "𝕄" => MT nD τ sig Unit (Elt F) ℕ (UR sig nD τ) ℕ

/-- A program of the TensorCore that makes no call. -/
abbrev Pr (F : FTy → Type) (α : Type) := Prog (TpuEff nD τ sig (Elt F) Λ₀ .tc) α

/-- The memref owned whole, with these contents. -/
abbrev Has (c : Dev nD) {sp : Space} {s : Shape} {e : EltTy} (m : Memref sig .tc sp s e) (X : s.Idx → Elt F e) : sProp 𝕄 :=
  owns (c : Thread nD τ) m fullShare X

variable {c : Dev nD} {α β : Type}

/-- From `S` the program runs and ends in `R` of its result. -/
def Ends (c : Dev nD) (S : sProp 𝕄) {α : Type} (p : Pr F α) (R : α → sProp 𝕄) : Prop :=
  S ⊢ wp frame (wpE (defs₀ (F := F)) Variants.none (c : Thread nD τ) none) Set.univ p R

/-- `S` lends the memref, with these contents, against its return. -/
def Lends (c : Dev nD) (S : sProp 𝕄) {sp : Space} {s : Shape} {e : EltTy} (m : Memref sig .tc sp s e) (X : s.Idx → Elt F e) : Prop :=
  S ⊢ iprop(Has c m X ∗ (Has c m X -∗ S))

/-- `S` lends the memref, with any contents, and takes it back with any. -/
def Gives (c : Dev nD) (S : sProp 𝕄) {sp : Space} {s : Shape} {e : EltTy} (m : Memref sig .tc sp s e) : Prop :=
  S ⊢ iprop(∃ X, Has c m X ∗ (∀ Y, Has c m Y -∗ S))

/-- `S X` lends the memref with the contents `X`, and taken back with `Y` it is `S Y`. -/
def Tracks (c : Dev nD) {sp : Space} {s : Shape} {e : EltTy} (S : (s.Idx → Elt F e) → sProp 𝕄) (m : Memref sig .tc sp s e) : Prop :=
  ∀ X, S X ⊢ iprop(Has c m X ∗ (∀ Y, Has c m Y -∗ S Y))

theorem Tracks.gives {sp : Space} {s : Shape} {e : EltTy} {S : (s.Idx → Elt F e) → sProp 𝕄} {m : Memref sig .tc sp s e} (h : Tracks c S m) (X : s.Idx → Elt F e) :
    Lends c (S X) m X := by
  unfold Lends
  refine (h X).trans ?_
  iintro ⟨H, K⟩
  isplitl [H]; · iexact H
  iintro H
  iapply K; iexact H

/-- A returned value. -/
theorem Ends.ret {S : sProp 𝕄} {x : α} : Ends (F := F) c S (pure x) (fun y => iprop(⌜y = x⌝ ∗ S)) := by
  unfold Ends
  show S ⊢ wp frame _ Set.univ (Prog.ret x) _
  rw [wp_ret]
  iintro H
  imodintro
  isplitr; · ipureintro; rfl
  iexact H

/-- A part that returns `x`, and then the rest from `x`. -/
theorem Ends.part {S S' : sProp 𝕄} {p : Pr F α} {x : α} {k : α → Pr F β} {R : β → sProp 𝕄} (h : Ends c S p (fun y => iprop(⌜y = x⌝ ∗ S')))
    (hk : Ends c S' (k x) R) : Ends c S (p >>= k) R := by
  unfold Ends at *
  refine h.trans ?_
  rw [wp_bind]
  refine wp_mono _ _ _ ?_
  intro y
  iintro ⟨%e, H⟩
  subst e
  iapply hk; iexact H

/-- A load of a lent memref goes on with what the memref holds at the rectangle. -/
theorem Lends.load {S : sProp 𝕄} {cs : CoreSpace} {s : Shape} {e : EltTy} {m : Memref sig .tc cs s e} {X : s.Idx → Elt F e} (h : Lends c S m X) {r : Rect s}
    {hl : m.view.LoadsAt r.toLoadRect} {k : (r.shape.Idx → Elt F e) → Pr F β} {R : β → sProp 𝕄} (hk : Ends c S (k fun j => X (r.emb j)) R) :
    Ends c S (Prog.lift (TpuEff.load m r.toLoadRect hl) >>= k) R := by
  unfold Ends Lends Has owns at *
  refine h.trans ?_
  iintro ⟨⟨%f, %hf, H⟩, K⟩
  iapply (wp_load_rect (q := fullShare) (f := f) Variants.none (c : Thread nD τ) none Set.univ (m := m) (r := r) (hl := hl) (k := k) (m.view.set_slice_subset r)) $$ H
  iintro H
  have hv : (m.access r).read (Elt F) f = fun j => X (r.emb j) := by rw [← hf]; rfl
  rw [hv]
  iapply hk
  iapply K
  iexists f
  isplitr; · ipureintro; exact hf
  iexact H

/-- A load whose value is not used. -/
theorem Lends.idle {S : sProp 𝕄} {cs : CoreSpace} {s : Shape} {e : EltTy} {m : Memref sig .tc cs s e} {X : s.Idx → Elt F e} (h : Lends c S m X) {r : LoadRect s}
    {hl : m.view.LoadsAt r} {k : Pr F β} {R : β → sProp 𝕄} (hk : Ends c S k R) :
    Ends c S (Prog.lift (TpuEff.load m r hl) >>= fun _ => k) R := by
  unfold Ends Lends Has owns at *
  refine h.trans ?_
  iintro ⟨⟨%f, %hf, H⟩, K⟩
  iapply (wp_load (q := fullShare) (f := f) Variants.none (c : Thread nD τ) none Set.univ (m := m) (hl := hl) (k := fun _ => k) (m.view.setOn_subset_set r.set)) $$ H
  iintro H
  iapply hk
  iapply K
  iexists f
  isplitr; · ipureintro; exact hf
  iexact H

theorem Gives.idle {S : sProp 𝕄} {cs : CoreSpace} {s : Shape} {e : EltTy} {m : Memref sig .tc cs s e} (h : Gives c S m) {r : LoadRect s}
    {hl : m.view.LoadsAt r} {k : Pr F β} {R : β → sProp 𝕄} (hk : Ends c S k R) :
    Ends c S (Prog.lift (TpuEff.load m r hl) >>= fun _ => k) R := by
  unfold Ends Gives Has owns at *
  refine h.trans ?_
  iintro ⟨%X, ⟨%f, %hf, H⟩, K⟩
  iapply (wp_load (q := fullShare) (f := f) Variants.none (c : Thread nD τ) none Set.univ (m := m) (hl := hl) (k := fun _ => k) (m.view.setOn_subset_set r.set)) $$ H
  iintro H
  iapply hk
  iapply K $$ %X
  iexists f
  isplitr; · ipureintro; exact hf
  iexact H

/-- A store to a memref whose contents are not followed. -/
theorem Gives.store {S : sProp 𝕄} {cs : CoreSpace} {s : Shape} {e : EltTy} {m : Memref sig .tc cs s e} (h : Gives c S m) {r : Rect s}
    {w : r.shape.Idx → Elt F e} {hx : (m.access r).Stores Finset.univ} {hm : (Finset.univ : Finset r.shape.Idx) = Finset.univ ∨ ∀ a, r.stride a = 1}
    {k : PUnit → Pr F β} {R : β → sProp 𝕄} (hk : Ends c S (k ⟨⟩) R) :
    Ends c S (Prog.lift (TpuEff.store m r w Finset.univ hx hm) >>= k) R := by
  unfold Ends Gives Has owns at *
  refine h.trans ?_
  iintro ⟨%X, ⟨%f, %hf, H⟩, K⟩
  iapply (wp_store (f := f) Variants.none (c : Thread nD τ) none Set.univ (m := m) (r := r) (hx := hx) (hm := hm) (k := k)
    (((m.access r).setOn_subset_set Finset.univ).trans (m.view.set_slice_subset r))) $$ H
  iintro H
  iapply hk
  iapply K $$ %(m.view.read (Elt F) ((m.access r).write (Elt F) f w Finset.univ))
  iexists ((m.access r).write (Elt F) f w Finset.univ)
  isplitr; · ipureintro; rfl
  iexact H

/-- A store to a memref whose contents are followed replaces them on the rectangle. -/
theorem Tracks.store {cs : CoreSpace} {s : Shape} {e : EltTy} {S : (s.Idx → Elt F e) → sProp 𝕄} {m : Memref sig .tc cs s e} (h : Tracks c S m) {X : s.Idx → Elt F e} {r : Rect s}
    {w : r.shape.Idx → Elt F e} {hx : (m.access r).Stores Finset.univ} {hm : (Finset.univ : Finset r.shape.Idx) = Finset.univ ∨ ∀ a, r.stride a = 1}
    {k : PUnit → Pr F β} {R : β → sProp 𝕄} (hk : Ends c (S (r.overlay X w)) (k ⟨⟩) R) :
    Ends c (S X) (Prog.lift (TpuEff.store m r w Finset.univ hx hm) >>= k) R := by
  unfold Ends at *
  unfold Tracks Has owns at h
  refine (h X).trans ?_
  iintro ⟨⟨%f, %hf, H⟩, K⟩
  iapply (wp_store (f := f) Variants.none (c : Thread nD τ) none Set.univ (m := m) (r := r) (hx := hx) (hm := hm) (k := k)
    (((m.access r).setOn_subset_set Finset.univ).trans (m.view.set_slice_subset r))) $$ H
  iintro H
  iapply hk
  iapply K $$ %(r.overlay X w)
  iexists ((m.access r).write (Elt F) f w Finset.univ)
  isplitr
  · ipureintro
    funext j
    by_cases hj : j ∈ r.set
    · obtain ⟨i, rfl⟩ := r.exists_idx_of_mem hj
      change m.view.read (Elt F) _ (r.emb i) = r.overlay _ _ (r.emb i)
      rw [Rect.overlay_emb]
      exact congrFun ((m.access r).read_write_univ f w) i
    · rw [Rect.overlay_of_not_mem _ _ _ hj, ← hf]
      exact View.read_writes_cons_miss m.view f ⟨r, w⟩ [] j hj
  · iexact H

/-! ## The blocks loaded and the rectangles stored to -/

def ld1 (X : Vec F S256x1024 .f32) : Vec F S256x1024 .f32 := fun j => X ((Rect.unit (s := S256x1024) ![0, 0] S256x1024.size inb_S256x1024_S256x1024_0_0).emb j)
def ld2 (X : Vec F S1x1024 .f32) : Vec F S1x1024 .f32 := fun j => X ((Rect.unit (s := S1x1024) ![0, 0] S1x1024.size inb_S1x1024_S1x1024_0_0).emb j)
def ld3_0 (X : Vec F S1024x6656 .bf16) : Vec F S1024x1024 .bf16 := fun j => X ((Rect.unit (s := S1024x6656) ![0, 0] S1024x1024.size inb_S1024x6656_S1024x1024_0_0).emb j)
def ld3_1024 (X : Vec F S1024x6656 .bf16) : Vec F S1024x1024 .bf16 := fun j => X ((Rect.unit (s := S1024x6656) ![0, 1024] S1024x1024.size inb_S1024x6656_S1024x1024_0_1024).emb j)
def ld3_2048 (X : Vec F S1024x6656 .bf16) : Vec F S1024x1024 .bf16 := fun j => X ((Rect.unit (s := S1024x6656) ![0, 2048] S1024x1024.size inb_S1024x6656_S1024x1024_0_2048).emb j)
def ld3_3072 (X : Vec F S1024x6656 .bf16) : Vec F S1024x1024 .bf16 := fun j => X ((Rect.unit (s := S1024x6656) ![0, 3072] S1024x1024.size inb_S1024x6656_S1024x1024_0_3072).emb j)
def ld8 (X : Vec F S256x128 .f32) : Vec F S256x128 .f32 := fun j => X ((Rect.unit (s := S256x128) ![0, 0] S256x128.size inb_S256x128_S256x128_0_0).emb j)
def ld9 (X : Vec F S256x128 .f32) : Vec F S256x128 .f32 := fun j => X ((Rect.unit (s := S256x128) ![0, 0] S256x128.size inb_S256x128_S256x128_0_0).emb j)
def ld3_4096 (X : Vec F S1024x6656 .bf16) : Vec F S1024x1024 .bf16 := fun j => X ((Rect.unit (s := S1024x6656) ![0, 4096] S1024x1024.size inb_S1024x6656_S1024x1024_0_4096).emb j)
def ld6 (X : Vec F S1x128 .f32) : Vec F S1x128 .f32 := fun j => X ((Rect.unit (s := S1x128) ![0, 0] S1x128.size inb_S1x128_S1x128_0_0).emb j)
def ld3_5120 (X : Vec F S1024x6656 .bf16) : Vec F S1024x512 .bf16 := fun j => X ((Rect.unit (s := S1024x6656) ![0, 5120] S1024x512.size inb_S1024x6656_S1024x512_0_5120).emb j)
def ld7 (X : Vec F S1x128 .f32) : Vec F S1x128 .f32 := fun j => X ((Rect.unit (s := S1x128) ![0, 0] S1x128.size inb_S1x128_S1x128_0_0).emb j)
def ld3_5632 (X : Vec F S1024x6656 .bf16) : Vec F S1024x512 .bf16 := fun j => X ((Rect.unit (s := S1024x6656) ![0, 5632] S1024x512.size inb_S1024x6656_S1024x512_0_5632).emb j)
def ld10 (X : Vec F S256x128 .f32) : Vec F S256x128 .f32 := fun j => X ((Rect.unit (s := S256x128) ![0, 0] S256x128.size inb_S256x128_S256x128_0_0).emb j)
def ld11 (X : Vec F S256x128 .f32) : Vec F S256x128 .f32 := fun j => X ((Rect.unit (s := S256x128) ![0, 0] S256x128.size inb_S256x128_S256x128_0_0).emb j)
def ld3_6144 (X : Vec F S1024x6656 .bf16) : Vec F S1024x512 .bf16 := fun j => X ((Rect.unit (s := S1024x6656) ![0, 6144] S1024x512.size inb_S1024x6656_S1024x512_0_6144).emb j)
def ld4 (X : Vec F S1024x256 .bf16) : Vec F S1024x256 .bf16 := fun j => X ((Rect.unit (s := S1024x256) ![0, 0] S1024x256.size inb_S1024x256_S1024x256_0_0).emb j)
def ld5 (X : Vec F S1024x2048 .bf16) : Vec F S1024x2048 .bf16 := fun j => X ((Rect.unit (s := S1024x2048) ![0, 0] S1024x2048.size inb_S1024x2048_S1024x2048_0_0).emb j)
abbrev kr0 : Rect S1024x128 := ⟨(⟨![0, 0], S256x128.size, ![4, 1], inb_S1024x128_S256x128_0_0_s_4_1⟩ : LoadRect S1024x128), spos_4_1⟩
abbrev kr1 : Rect S1024x128 := ⟨(⟨![1, 0], S256x128.size, ![4, 1], inb_S1024x128_S256x128_1_0_s_4_1⟩ : LoadRect S1024x128), spos_4_1⟩
abbrev kr2 : Rect S1024x128 := ⟨(⟨![2, 0], S256x128.size, ![4, 1], inb_S1024x128_S256x128_2_0_s_4_1⟩ : LoadRect S1024x128), spos_4_1⟩
abbrev kr3 : Rect S1024x128 := ⟨(⟨![3, 0], S256x128.size, ![4, 1], inb_S1024x128_S256x128_3_0_s_4_1⟩ : LoadRect S1024x128), spos_4_1⟩
abbrev ir : Rect S256x64 := (Rect.unit (s := S256x64) ![0, 0] S256x64.size inb_S256x64_S256x64_0_0)

/-- The state of a point: the inputs lent at their contents, three outputs followed, the others lent at anything. -/
structure Acc (c : Dev nD) (S : Vec F S1024x128 .f32 → Vec F S1024x128 .f32 → Vec F S256x64 .f32 → sProp 𝕄) (arg1 : Memref sig .tc .vmem S256x1024 .f32) (arg2 : Memref sig .tc .vmem S1x1024 .f32) (arg3 : Memref sig .tc .vmem S1024x6656 .bf16) (arg4 : Memref sig .tc .vmem S1024x256 .bf16) (arg5 : Memref sig .tc .vmem S1024x2048 .bf16) (arg6 : Memref sig .tc .vmem S1x128 .f32) (arg7 : Memref sig .tc .vmem S1x128 .f32) (arg8 : Memref sig .tc .vmem S256x128 .f32) (arg9 : Memref sig .tc .vmem S256x128 .f32) (arg10 : Memref sig .tc .vmem S256x128 .f32) (arg11 : Memref sig .tc .vmem S256x128 .f32) (arg12 : Memref sig .tc .vmem S256x1024 .bf16) (arg13 : Memref sig .tc .vmem S256x1024 .f32) (arg14 : Memref sig .tc .vmem S256x1024 .bf16) (arg15 : Memref sig .tc .vmem S256x1024 .bf16) (arg16 : Memref sig .tc .vmem S256x1024 .bf16) (arg17 : Memref sig .tc .vmem S1024x128 .f32) (arg18 : Memref sig .tc .vmem S256x512 .bf16) (arg19 : Memref sig .tc .vmem S1024x128 .f32) (arg20 : Memref sig .tc .vmem S256x512 .bf16) (arg21 : Memref sig .tc .vmem S256x1024 .bf16) (arg22 : Memref sig .tc .vmem S256x64 .f32) (arg23 : Memref sig .tc .vmem S256x128 .bf16) (arg24 : Memref sig .tc .vmem S256x128 .f32) (arg25 : Memref sig .tc .vmem S256x1024 .bf16) (arg26 : Memref sig .tc .vmem S256x1024 .bf16) (arg27 : Memref sig .tc .vmem S1x512x256 .bf16) (X1 : Vec F S256x1024 .f32) (X2 : Vec F S1x1024 .f32) (X3 : Vec F S1024x6656 .bf16) (X4 : Vec F S1024x256 .bf16) (X5 : Vec F S1024x2048 .bf16) (X6 : Vec F S1x128 .f32) (X7 : Vec F S1x128 .f32) (X8 : Vec F S256x128 .f32) (X9 : Vec F S256x128 .f32) (X10 : Vec F S256x128 .f32) (X11 : Vec F S256x128 .f32) : Prop where
  r1 : ∀ K W I, Lends c (S K W I) arg1 X1
  r2 : ∀ K W I, Lends c (S K W I) arg2 X2
  r3 : ∀ K W I, Lends c (S K W I) arg3 X3
  r4 : ∀ K W I, Lends c (S K W I) arg4 X4
  r5 : ∀ K W I, Lends c (S K W I) arg5 X5
  r6 : ∀ K W I, Lends c (S K W I) arg6 X6
  r7 : ∀ K W I, Lends c (S K W I) arg7 X7
  r8 : ∀ K W I, Lends c (S K W I) arg8 X8
  r9 : ∀ K W I, Lends c (S K W I) arg9 X9
  r10 : ∀ K W I, Lends c (S K W I) arg10 X10
  r11 : ∀ K W I, Lends c (S K W I) arg11 X11
  g12 : ∀ K W I, Gives c (S K W I) arg12
  g13 : ∀ K W I, Gives c (S K W I) arg13
  g14 : ∀ K W I, Gives c (S K W I) arg14
  g15 : ∀ K W I, Gives c (S K W I) arg15
  g16 : ∀ K W I, Gives c (S K W I) arg16
  t17 : ∀ W I, Tracks c (fun K => S K W I) arg17
  g18 : ∀ K W I, Gives c (S K W I) arg18
  t19 : ∀ K I, Tracks c (fun W => S K W I) arg19
  g20 : ∀ K W I, Gives c (S K W I) arg20
  g21 : ∀ K W I, Gives c (S K W I) arg21
  t22 : ∀ K W, Tracks c (fun I => S K W I) arg22
  g23 : ∀ K W I, Gives c (S K W I) arg23
  g24 : ∀ K W I, Gives c (S K W I) arg24
  g25 : ∀ K W I, Gives c (S K W I) arg25
  g26 : ∀ K W I, Gives c (S K W I) arg26
  g27 : ∀ K W I, Gives c (S K W I) arg27

variable {S : Vec F S1024x128 .f32 → Vec F S1024x128 .f32 → Vec F S256x64 .f32 → sProp (MT nD τ sig Unit (Elt F) ℕ (UR sig nD τ) ℕ)} {i : grid0.Coords} {arg1 : Memref sig .tc .vmem S256x1024 .f32} {harg1 : arg1.IsWhole} {arg2 : Memref sig .tc .vmem S1x1024 .f32} {harg2 : arg2.IsWhole} {arg3 : Memref sig .tc .vmem S1024x6656 .bf16} {harg3 : arg3.IsWhole} {arg4 : Memref sig .tc .vmem S1024x256 .bf16} {harg4 : arg4.IsWhole} {arg5 : Memref sig .tc .vmem S1024x2048 .bf16} {harg5 : arg5.IsWhole} {arg6 : Memref sig .tc .vmem S1x128 .f32} {harg6 : arg6.IsWhole} {arg7 : Memref sig .tc .vmem S1x128 .f32} {harg7 : arg7.IsWhole} {arg8 : Memref sig .tc .vmem S256x128 .f32} {harg8 : arg8.IsWhole} {arg9 : Memref sig .tc .vmem S256x128 .f32} {harg9 : arg9.IsWhole} {arg10 : Memref sig .tc .vmem S256x128 .f32} {harg10 : arg10.IsWhole} {arg11 : Memref sig .tc .vmem S256x128 .f32} {harg11 : arg11.IsWhole} {arg12 : Memref sig .tc .vmem S256x1024 .bf16} {harg12 : arg12.IsWhole} {arg13 : Memref sig .tc .vmem S256x1024 .f32} {harg13 : arg13.IsWhole} {arg14 : Memref sig .tc .vmem S256x1024 .bf16} {harg14 : arg14.IsWhole} {arg15 : Memref sig .tc .vmem S256x1024 .bf16} {harg15 : arg15.IsWhole} {arg16 : Memref sig .tc .vmem S256x1024 .bf16} {harg16 : arg16.IsWhole} {arg17 : Memref sig .tc .vmem S1024x128 .f32} {harg17 : arg17.IsWhole} {arg18 : Memref sig .tc .vmem S256x512 .bf16} {harg18 : arg18.IsWhole} {arg19 : Memref sig .tc .vmem S1024x128 .f32} {harg19 : arg19.IsWhole} {arg20 : Memref sig .tc .vmem S256x512 .bf16} {harg20 : arg20.IsWhole} {arg21 : Memref sig .tc .vmem S256x1024 .bf16} {harg21 : arg21.IsWhole} {arg22 : Memref sig .tc .vmem S256x64 .f32} {harg22 : arg22.IsWhole} {arg23 : Memref sig .tc .vmem S256x128 .bf16} {harg23 : arg23.IsWhole} {arg24 : Memref sig .tc .vmem S256x128 .f32} {harg24 : arg24.IsWhole} {arg25 : Memref sig .tc .vmem S256x1024 .bf16} {harg25 : arg25.IsWhole} {arg26 : Memref sig .tc .vmem S256x1024 .bf16} {harg26 : arg26.IsWhole} {arg27 : Memref sig .tc .vmem S1x512x256 .bf16} {harg27 : arg27.IsWhole} {X1 : Vec F S256x1024 .f32} {X2 : Vec F S1x1024 .f32} {X3 : Vec F S1024x6656 .bf16} {X4 : Vec F S1024x256 .bf16} {X5 : Vec F S1024x2048 .bf16} {X6 : Vec F S1x128 .f32} {X7 : Vec F S1x128 .f32} {X8 : Vec F S256x128 .f32} {X9 : Vec F S256x128 .f32} {X10 : Vec F S256x128 .f32} {X11 : Vec F S256x128 .f32}

set_option maxHeartbeats 1600000 in
theorem ends_p1 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32)  :
    Ends c (S K W I) (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 ) (fun y => iprop(⌜y = (⟨k0_pay1 (ld1 X1) (ld2 X2), k0_pay5 (ld3_3072 X3)⟩ : (Σ' (v15 : FVec F S256x1024 .bf16), FVec F S1024x1024 .bf16))⌝ ∗ S K W I)) := by
  rw [k0_part1_eq_skeleton]
  unfold k0_part1_skel
  refine Lends.load (H.r1 _ _ _) ?_
  refine Lends.load (H.r2 _ _ _) ?_
  refine Lends.load (H.r3 _ _ _) ?_
  refine Gives.idle (H.g12 _ _ _) ?_
  refine Gives.store (H.g12 _ _ _) ?_
  refine Lends.load (H.r3 _ _ _) ?_
  refine Gives.idle (H.g13 _ _ _) ?_
  refine Gives.store (H.g13 _ _ _) ?_
  refine Lends.load (H.r3 _ _ _) ?_
  refine Gives.idle (H.g14 _ _ _) ?_
  refine Gives.store (H.g14 _ _ _) ?_
  refine Lends.load (H.r3 _ _ _) ?_
  exact Ends.ret

set_option maxHeartbeats 1600000 in
theorem ends_p2 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v31 : FVec F S1024x1024 .bf16) :
    Ends c (S K W I) (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v31) (fun y => iprop(⌜y = (⟨k0_pay7 (ld8 X8), k0_pay8 (ld9 X9), k0_pay9 v15 (ld3_4096 X3), k0_pay11 v15 (ld3_4096 X3), k0_pay12 v15 (ld3_4096 X3), (Scalar.ofBits .f32 0x43000000#32)⟩ : (Σ' (v36 : FVec F S256x128 .f32) (v38 : FVec F S256x128 .f32) (v41 : FVec F S256x1024 .f32) (v65 : FVec F S256x128 .f32) (v68 : FVec F S256x1 .f32), F .f32))⌝ ∗ S K W I)) := by
  rw [k0_part2_eq_skeleton]
  unfold k0_part2_skel
  refine Gives.idle (H.g15 _ _ _) ?_
  refine Gives.store (H.g15 _ _ _) ?_
  refine Lends.load (H.r8 _ _ _) ?_
  refine Lends.load (H.r9 _ _ _) ?_
  refine Lends.load (H.r3 _ _ _) ?_
  refine Lends.load (H.r6 _ _ _) ?_
  refine Gives.idle (H.g16 _ _ _) ?_
  refine Gives.store (H.g16 _ _ _) ?_
  exact Ends.ret

set_option maxHeartbeats 1600000 in
theorem ends_p3 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v41 : FVec F S256x1024 .f32) (v65 : FVec F S256x128 .f32) (v68 : FVec F S256x1 .f32) (cst_37 : F .f32) :
    Ends c (S K W I) (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v41 v65 v68 cst_37) (fun y => iprop(⌜y = (⟨⟩ : (PUnit))⌝ ∗ S K W I)) := by
  rw [k0_part3_eq_skeleton]
  unfold k0_part3_skel
  refine Lends.load (H.r6 _ _ _) ?_
  refine Gives.idle (H.g16 _ _ _) ?_
  refine Gives.store (H.g16 _ _ _) ?_
  refine Lends.load (H.r6 _ _ _) ?_
  refine Gives.idle (H.g16 _ _ _) ?_
  refine Gives.store (H.g16 _ _ _) ?_
  exact Ends.ret

set_option maxHeartbeats 1600000 in
theorem ends_p4 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v41 : FVec F S256x1024 .f32) :
    Ends c (S K W I) (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v41) (fun y => iprop(⌜y = (⟨k0_pay16 v36 v38 v41 (ld6 X6), k0_pay17 (F := F)⟩ : (Σ' (v152 : FVec F S256x128 .f32), FVec F S256x128 .f32))⌝ ∗ S K W I)) := by
  rw [k0_part4_eq_skeleton]
  unfold k0_part4_skel
  refine Lends.load (H.r6 _ _ _) ?_
  refine Gives.idle (H.g16 _ _ _) ?_
  refine Gives.store (H.g16 _ _ _) ?_
  refine Lends.load (H.r6 _ _ _) ?_
  exact Ends.ret

set_option maxHeartbeats 1600000 in
theorem ends_p5 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v41 : FVec F S256x1024 .f32) (v152 : FVec F S256x128 .f32) (v153 : FVec F S256x128 .f32) :
    Ends c (S K W I) (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v41 v152 v153) (fun y => iprop(⌜y = (⟨k0_pay20 v41 (ld6 X6), k0_pay21 v36 v41 (ld6 X6)⟩ : (Σ' (v194 : FVec F S256x128 .f32), FVec F S256x128 .f32))⌝ ∗ S K W I)) := by
  rw [k0_part5_eq_skeleton]
  unfold k0_part5_skel
  refine Gives.idle (H.g16 _ _ _) ?_
  refine Gives.store (H.g16 _ _ _) ?_
  refine Lends.load (H.r6 _ _ _) ?_
  refine Gives.idle (H.g16 _ _ _) ?_
  refine Gives.store (H.g16 _ _ _) ?_
  refine Lends.load (H.r6 _ _ _) ?_
  exact Ends.ret

set_option maxHeartbeats 1600000 in
theorem ends_p6 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v36 : FVec F S256x128 .f32) (v38 : FVec F S256x128 .f32) (v41 : FVec F S256x1024 .f32) (v194 : FVec F S256x128 .f32) (v195 : FVec F S256x128 .f32) :
    Ends c (S K W I) (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v36 v38 v41 v194 v195) (fun y => iprop(⌜y = (⟨k0_pay24 v15 (ld3_5120 X3), k0_pay25 v15 (ld3_5120 X3), k0_pay26 v15 (ld3_5120 X3), (Scalar.ofBits .f32 0x358637BD#32)⟩ : (Σ' (v228 : FVec F S256x512 .f32) (v229 : FVec F S256x128 .f32) (v234 : FVec F S256x1 .f32), F .f32))⌝ ∗ S K W I)) := by
  rw [k0_part6_eq_skeleton]
  unfold k0_part6_skel
  refine Gives.idle (H.g16 _ _ _) ?_
  refine Gives.store (H.g16 _ _ _) ?_
  refine Lends.load (H.r6 _ _ _) ?_
  refine Gives.idle (H.g16 _ _ _) ?_
  refine Gives.store (H.g16 _ _ _) ?_
  refine Lends.load (H.r3 _ _ _) ?_
  exact Ends.ret

set_option maxHeartbeats 1600000 in
theorem ends_p7 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v228 : FVec F S256x512 .f32) (v229 : FVec F S256x128 .f32) (v234 : FVec F S256x1 .f32) (cst_96 : F .f32) :
    Ends c (S K W I) (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v228 v229 v234 cst_96) (fun y => iprop(⌜y = ((k0_pay31 v228) : (FVec F S256x128 .f32))⌝ ∗ S (kr1.overlay (kr0.overlay K (k0_pay27 v36 v38 v229 v234 cst_96 (ld7 X7))) (k0_pay29 v36 v38 v228 (ld7 X7))) W I)) := by
  rw [k0_part7_eq_skeleton]
  unfold k0_part7_skel
  refine Lends.load (H.r7 _ _ _) ?_
  refine Lends.idle ((H.t17 _ _).gives _) ?_
  refine Tracks.store (H.t17 _ _) ?_
  refine Gives.idle (H.g18 _ _ _) ?_
  refine Gives.store (H.g18 _ _ _) ?_
  refine Lends.load (H.r7 _ _ _) ?_
  refine Lends.idle ((H.t17 _ _).gives _) ?_
  refine Tracks.store (H.t17 _ _) ?_
  refine Gives.idle (H.g18 _ _ _) ?_
  refine Gives.store (H.g18 _ _ _) ?_
  exact Ends.ret

set_option maxHeartbeats 1600000 in
theorem ends_p8 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v36 : FVec F S256x128 .f32) (v38 : FVec F S256x128 .f32) (v228 : FVec F S256x512 .f32) (v273 : FVec F S256x128 .f32) :
    Ends c (S K W I) (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v36 v38 v228 v273) (fun y => iprop(⌜y = ((k0_pay34 v36 v38 v228 (ld7 X7)) : (FVec F S256x128 .f32))⌝ ∗ S (kr2.overlay K (k0_pay32 v36 v38 v273 (ld7 X7))) W I)) := by
  rw [k0_part8_eq_skeleton]
  unfold k0_part8_skel
  refine Lends.load (H.r7 _ _ _) ?_
  refine Lends.idle ((H.t17 _ _).gives _) ?_
  refine Tracks.store (H.t17 _ _) ?_
  refine Gives.idle (H.g18 _ _ _) ?_
  refine Gives.store (H.g18 _ _ _) ?_
  refine Lends.load (H.r7 _ _ _) ?_
  exact Ends.ret

set_option maxHeartbeats 1600000 in
theorem ends_p9 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v313 : FVec F S256x128 .f32) :
    Ends c (S K W I) (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v313) (fun y => iprop(⌜y = (⟨k0_pay43 (ld10 X10), k0_pay44 (ld11 X11), (iota .tc S256x128 32 [1] iota_S256x128_d1_w32), k0_pay45, 32#32⟩ : (Σ' (v336 : FVec F S256x128 .f32) (v338 : FVec F S256x128 .f32) (v339 : IVec S256x128 32) (v341 : IVec S256x128 32), BitVec 32))⌝ ∗ S (kr3.overlay K v313) (kr3.overlay (kr2.overlay (kr1.overlay (kr0.overlay W (k0_pay37 v15 (ld3_5632 X3))) (k0_pay38 v15 (ld3_5632 X3))) (k0_pay39 v15 (ld3_5632 X3))) (k0_pay40 v15 (ld3_5632 X3))) I)) := by
  rw [k0_part9_eq_skeleton]
  unfold k0_part9_skel
  refine Lends.idle ((H.t17 _ _).gives _) ?_
  refine Tracks.store (H.t17 _ _) ?_
  refine Gives.idle (H.g18 _ _ _) ?_
  refine Gives.store (H.g18 _ _ _) ?_
  refine Lends.load (H.r3 _ _ _) ?_
  refine Lends.idle ((H.t19 _ _).gives _) ?_
  refine Tracks.store (H.t19 _ _) ?_
  refine Lends.idle ((H.t19 _ _).gives _) ?_
  refine Tracks.store (H.t19 _ _) ?_
  refine Lends.idle ((H.t19 _ _).gives _) ?_
  refine Tracks.store (H.t19 _ _) ?_
  refine Lends.idle ((H.t19 _ _).gives _) ?_
  refine Tracks.store (H.t19 _ _) ?_
  refine Gives.idle (H.g20 _ _ _) ?_
  refine Gives.store (H.g20 _ _ _) ?_
  refine Gives.idle (H.g27 _ _ _) ?_
  refine Gives.store (H.g27 _ _ _) ?_
  refine Lends.load (H.r10 _ _ _) ?_
  refine Lends.load (H.r11 _ _ _) ?_
  exact Ends.ret

set_option maxHeartbeats 1600000 in
theorem ends_p10 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v336 : FVec F S256x128 .f32) (v338 : FVec F S256x128 .f32) (v339 : IVec S256x128 32) (v341 : IVec S256x128 32) (c32_i32 : BitVec 32) :
    Ends c (S K W I) (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v336 v338 v339 v341 c32_i32) (fun y => iprop(⌜y = (⟨k0_pay46 v341 c32_i32, k0_pay47 v15 (ld3_6144 X3), k0_pay51 v15 v336 v338 v341 c32_i32 (ld3_6144 X3), 64#32⟩ : (Σ' (v343 : IVec S256x128 1) (v346 : FVec F S256x512 .f32) (v372 : FVec F S256x128 .f32), BitVec 32))⌝ ∗ S K W I)) := by
  rw [k0_part10_eq_skeleton]
  unfold k0_part10_skel
  refine Lends.load (H.r3 _ _ _) ?_
  refine Gives.idle (H.g21 _ _ _) ?_
  refine Gives.store (H.g21 _ _ _) ?_
  refine Gives.idle (H.g21 _ _ _) ?_
  refine Gives.store (H.g21 _ _ _) ?_
  refine Gives.idle (H.g21 _ _ _) ?_
  refine Gives.store (H.g21 _ _ _) ?_
  exact Ends.ret

set_option maxHeartbeats 1600000 in
theorem ends_p11 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v336 : FVec F S256x128 .f32) (v338 : FVec F S256x128 .f32) (v339 : IVec S256x128 32) (v343 : IVec S256x128 1) (v346 : FVec F S256x512 .f32) (v372 : FVec F S256x128 .f32) (c64_i32_167 : BitVec 32) :
    Ends c (S K W I) (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v336 v338 v339 v343 v346 v372 c64_i32_167) (fun y => iprop(⌜y = (⟨k0_pay57 v336 v338 v343 v346, k0_pay58 v336 v338 v339 v343 v346⟩ : (Σ' (v410 : FVec F S256x128 .f32), FVec F S256x128 .bf16))⌝ ∗ S K W I)) := by
  rw [k0_part11_eq_skeleton]
  unfold k0_part11_skel
  refine Gives.idle (H.g21 _ _ _) ?_
  refine Gives.store (H.g21 _ _ _) ?_
  refine Gives.idle (H.g21 _ _ _) ?_
  refine Gives.store (H.g21 _ _ _) ?_
  refine Gives.idle (H.g21 _ _ _) ?_
  refine Gives.store (H.g21 _ _ _) ?_
  refine Gives.idle (H.g21 _ _ _) ?_
  exact Ends.ret

set_option maxHeartbeats 1600000 in
theorem ends_p12 (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K : Vec F S1024x128 .f32) (W : Vec F S1024x128 .f32) (I : Vec F S256x64 .f32) (v15 : FVec F S256x1024 .bf16) (v336 : FVec F S256x128 .f32) (v338 : FVec F S256x128 .f32) (v339 : IVec S256x128 32) (v343 : IVec S256x128 1) (v410 : FVec F S256x128 .f32) (v415 : FVec F S256x128 .bf16) :
    Ends c (S K W I) (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v15 v336 v338 v339 v343 v410 v415) (fun y => iprop(⌜y = ((k0_pay67 v15 (ld5 X5)) : (FVec F S256x1024 .bf16))⌝ ∗ S K W (ir.overlay I (k0_pay63 v15 v336 v338 v343 (ld4 X4))))) := by
  rw [k0_part12_eq_skeleton]
  unfold k0_part12_skel
  refine Gives.store (H.g21 _ _ _) ?_
  refine Gives.idle (H.g21 _ _ _) ?_
  refine Gives.store (H.g21 _ _ _) ?_
  refine Lends.load (H.r4 _ _ _) ?_
  refine Gives.idle (H.g23 _ _ _) ?_
  refine Gives.store (H.g23 _ _ _) ?_
  refine Lends.idle ((H.t22 _ _).gives _) ?_
  refine Tracks.store (H.t22 _ _) ?_
  refine Gives.idle (H.g24 _ _ _) ?_
  refine Gives.store (H.g24 _ _ _) ?_
  refine Lends.load (H.r5 _ _ _) ?_
  refine Gives.idle (H.g25 _ _ _) ?_
  refine Gives.store (H.g25 _ _ _) ?_
  exact Ends.ret

/-! ## The whole body -/

/-- The normed rows. -/
abbrev hn (X1 : Vec F S256x1024 .f32) (X2 : Vec F S1x1024 .f32) : FVec F S256x1024 .bf16 := k0_pay1 (ld1 X1) (ld2 X2)

/-- Four blocks of rows, interleaved. -/
def four (p0 p1 p2 p3 : Vec F S256x128 .f32) : Vec F S1024x128 .f32 := fun x =>
  if (x 0).val % 4 = 0 then p0 (ix2 (⟨(x 0).val / 4, by have h : (x 0).val < 1024 := (x 0).isLt; omega⟩ : Fin 256) (x 1))
  else if (x 0).val % 4 = 1 then p1 (ix2 (⟨(x 0).val / 4, by have h : (x 0).val < 1024 := (x 0).isLt; omega⟩ : Fin 256) (x 1))
  else if (x 0).val % 4 = 2 then p2 (ix2 (⟨(x 0).val / 4, by have h : (x 0).val < 1024 := (x 0).isLt; omega⟩ : Fin 256) (x 1))
  else p3 (ix2 (⟨(x 0).val / 4, by have h : (x 0).val < 1024 := (x 0).isLt; omega⟩ : Fin 256) (x 1))

/-- The keys of a block. -/
def outK (X1 : Vec F S256x1024 .f32) (X2 : Vec F S1x1024 .f32) (X3 : Vec F S1024x6656 .bf16) (X7 : Vec F S1x128 .f32) (X8 X9 : Vec F S256x128 .f32) : Vec F S1024x128 .f32 :=
  four (k0_pay27 (k0_pay7 (ld8 X8)) (k0_pay8 (ld9 X9)) (k0_pay25 (hn X1 X2) (ld3_5120 X3)) (k0_pay26 (hn X1 X2) (ld3_5120 X3)) (Scalar.ofBits .f32 0x358637BD#32) (ld7 X7))
    (k0_pay29 (k0_pay7 (ld8 X8)) (k0_pay8 (ld9 X9)) (k0_pay24 (hn X1 X2) (ld3_5120 X3)) (ld7 X7))
    (k0_pay32 (k0_pay7 (ld8 X8)) (k0_pay8 (ld9 X9)) (k0_pay31 (k0_pay24 (hn X1 X2) (ld3_5120 X3))) (ld7 X7))
    (k0_pay34 (k0_pay7 (ld8 X8)) (k0_pay8 (ld9 X9)) (k0_pay24 (hn X1 X2) (ld3_5120 X3)) (ld7 X7))

/-- The values of a block. -/
def outV (X1 : Vec F S256x1024 .f32) (X2 : Vec F S1x1024 .f32) (X3 : Vec F S1024x6656 .bf16) : Vec F S1024x128 .f32 :=
  four (k0_pay37 (hn X1 X2) (ld3_5632 X3)) (k0_pay38 (hn X1 X2) (ld3_5632 X3)) (k0_pay39 (hn X1 X2) (ld3_5632 X3)) (k0_pay40 (hn X1 X2) (ld3_5632 X3))

/-- The indexer's keys of a block. -/
def outI (X1 : Vec F S256x1024 .f32) (X2 : Vec F S1x1024 .f32) (X4 : Vec F S1024x256 .bf16) (X10 X11 : Vec F S256x128 .f32) : Vec F S256x64 .f32 :=
  k0_pay63 (hn X1 X2) (k0_pay43 (ld10 X10)) (k0_pay44 (ld11 X11)) (k0_pay46 k0_pay45 32#32) (ld4 X4)

theorem over_four (K : Vec F S1024x128 .f32) (p0 p1 p2 p3 : Vec F S256x128 .f32) :
    kr3.overlay (kr2.overlay (kr1.overlay (kr0.overlay K p0) p1) p2) p3 = four p0 p1 p2 p3 := by
  funext x
  have hx0 : (x 0).val < 1024 := (x 0).isLt
  have hx1 : (x 1).val < 128 := (x 1).isLt
  have e0 : (x 0).val % 4 = 0 → kr0.emb (ix2 (⟨(x 0).val / 4, by omega⟩ : Fin 256) (x 1)) = x := fun h => by
    funext (a : Fin 2)
    apply Fin.ext
    match a with
    | ⟨0, _⟩ => show 0 + 4 * ((x 0).val / 4) = (x 0).val; omega
    | ⟨1, _⟩ => show 0 + 1 * (x 1).val = (x 1).val; omega
  have e1 : (x 0).val % 4 = 1 → kr1.emb (ix2 (⟨(x 0).val / 4, by omega⟩ : Fin 256) (x 1)) = x := fun h => by
    funext (a : Fin 2)
    apply Fin.ext
    match a with
    | ⟨0, _⟩ => show 1 + 4 * ((x 0).val / 4) = (x 0).val; omega
    | ⟨1, _⟩ => show 0 + 1 * (x 1).val = (x 1).val; omega
  have e2 : (x 0).val % 4 = 2 → kr2.emb (ix2 (⟨(x 0).val / 4, by omega⟩ : Fin 256) (x 1)) = x := fun h => by
    funext (a : Fin 2)
    apply Fin.ext
    match a with
    | ⟨0, _⟩ => show 2 + 4 * ((x 0).val / 4) = (x 0).val; omega
    | ⟨1, _⟩ => show 0 + 1 * (x 1).val = (x 1).val; omega
  have e3 : (x 0).val % 4 = 3 → kr3.emb (ix2 (⟨(x 0).val / 4, by omega⟩ : Fin 256) (x 1)) = x := fun h => by
    funext (a : Fin 2)
    apply Fin.ext
    match a with
    | ⟨0, _⟩ => show 3 + 4 * ((x 0).val / 4) = (x 0).val; omega
    | ⟨1, _⟩ => show 0 + 1 * (x 1).val = (x 1).val; omega
  have n1 : x ∈ kr1.set → (x 0).val % 4 = 1 := fun h => by
    obtain ⟨i, rfl⟩ := kr1.exists_idx_of_mem h
    show (1 + 4 * (i 0).val) % 4 = 1
    omega
  have n2 : x ∈ kr2.set → (x 0).val % 4 = 2 := fun h => by
    obtain ⟨i, rfl⟩ := kr2.exists_idx_of_mem h
    show (2 + 4 * (i 0).val) % 4 = 2
    omega
  have n3 : x ∈ kr3.set → (x 0).val % 4 = 3 := fun h => by
    obtain ⟨i, rfl⟩ := kr3.exists_idx_of_mem h
    show (3 + 4 * (i 0).val) % 4 = 3
    omega
  unfold four
  by_cases h3 : (x 0).val % 4 = 3
  · rw [if_neg (by omega), if_neg (by omega), if_neg (by omega)]
    refine Eq.trans (congrArg _ (e3 h3).symm) ?_
    exact kr3.overlay_emb _ _ _
  rw [Rect.overlay_of_not_mem _ _ _ fun h => h3 (n3 h)]
  by_cases h2 : (x 0).val % 4 = 2
  · rw [if_neg (by omega), if_neg (by omega), if_pos h2]
    refine Eq.trans (congrArg _ (e2 h2).symm) ?_
    exact kr2.overlay_emb _ _ _
  rw [Rect.overlay_of_not_mem _ _ _ fun h => h2 (n2 h)]
  by_cases h1 : (x 0).val % 4 = 1
  · rw [if_neg (by omega), if_pos h1]
    refine Eq.trans (congrArg _ (e1 h1).symm) ?_
    exact kr1.overlay_emb _ _ _
  rw [Rect.overlay_of_not_mem _ _ _ fun h => h1 (n1 h)]
  have h0 : (x 0).val % 4 = 0 := by omega
  rw [if_pos h0]
  refine Eq.trans (congrArg _ (e0 h0).symm) ?_
  exact kr0.overlay_emb _ _ _

theorem over_all (I p : Vec F S256x64 .f32) : ir.overlay I p = p := by
  funext x
  have e : ir.emb x = x := by
    funext (a : Fin 2)
    apply Fin.ext
    match a with
    | ⟨0, _⟩ => show 0 + 1 * (x 0).val = (x 0).val; omega
    | ⟨1, _⟩ => show 0 + 1 * (x 1).val = (x 1).val; omega
  exact Eq.trans (congrArg _ e.symm) (ir.overlay_emb _ _ _)

set_option maxHeartbeats 3200000 in
/-- The body at its blocks: the three results followed are the blocks' keys, values and indexer's keys. -/
theorem ends_body (H : Acc c S arg1 arg2 arg3 arg4 arg5 arg6 arg7 arg8 arg9 arg10 arg11 arg12 arg13 arg14 arg15 arg16 arg17 arg18 arg19 arg20 arg21 arg22 arg23 arg24 arg25 arg26 arg27 X1 X2 X3 X4 X5 X6 X7 X8 X9 X10 X11) (K W : Vec F S1024x128 .f32) (I : Vec F S256x64 .f32) :
    Ends c (S K W I) (cc0_inproj_8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) (fun y => iprop(⌜y = PUnit.unit⌝ ∗ S (outK X1 X2 X3 X7 X8 X9) (outV X1 X2 X3) (outI X1 X2 X4 X10 X11))) := by
  unfold outK outV outI
  rw [← over_four K, ← over_four W, ← over_all I (k0_pay63 _ _ _ _ _), cc0_inproj_8_eq_skeleton]
  unfold cc0_inproj_8_skel
  refine Ends.part (ends_p1 H _ _ _) ?_
  refine Ends.part (ends_p2 H _ _ _ _ _) ?_
  refine Ends.part (ends_p3 H _ _ _ _ _ _ _ _ _) ?_
  refine Ends.part (ends_p4 H _ _ _ _ _ _) ?_
  refine Ends.part (ends_p5 H _ _ _ _ _ _ _ _) ?_
  refine Ends.part (ends_p6 H _ _ _ _ _ _ _ _ _) ?_
  refine Ends.part (ends_p7 H _ _ _ _ _ _ _ _ _) ?_
  refine Ends.part (ends_p8 H _ _ _ _ _ _ _) ?_
  refine Ends.part (ends_p9 H _ _ _ _ _) ?_
  refine Ends.part (ends_p10 H _ _ _ _ _ _ _ _ _) ?_
  refine Ends.part (ends_p11 H _ _ _ _ _ _ _ _ _ _) ?_
  refine Ends.part (ends_p12 H _ _ _ _ _ _ _ _ _ _) ?_
  refine Gives.idle (H.g26 _ _ _) ?_
  refine Gives.store (H.g26 _ _ _) ?_
  exact Ends.ret

end Cert.Prj

end
-- ==== Proof.ProjectRun.lean ====
/- The run of the input projection's call: at every point the body leaves the block's keys, values and indexer's keys in
   their outputs; nothing is stated of what it leaves in the others. -/
module

public import proofs.«01_k».proof.Proof.ProjectBody
public import proofs.«01_k».proof.Proof.Gen.ProjectIdeal.Frame
public import proofs.«01_k».proof.Defs

@[expose] public section

set_option maxRecDepth 16384

noncomputable section

namespace Cert.Prj

open Cert.ProjectIdeal Cert.ProjectIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Lending

variable {c : Dev nD} {sp : Space} {s : Shape} {e : EltTy} {M : Memref sig .tc sp s e}

theorem Lends.self {X : s.Idx → Elt F e} : Lends c (Has c M X : sProp 𝕄) M X := by
  unfold Lends
  iintro H
  isplitl [H]; · iexact H
  iintro H
  iexact H

theorem Lends.left {A B : sProp 𝕄} {X : s.Idx → Elt F e} (h : Lends c A M X) : Lends c iprop(A ∗ B) M X := by
  unfold Lends at *
  refine (sep_mono_left h).trans ?_
  iintro ⟨⟨H, K⟩, HB⟩
  isplitl [H]; · iexact H
  iintro H
  isplitr [HB]; · iapply K; iexact H
  iexact HB

theorem Lends.right {A B : sProp 𝕄} {X : s.Idx → Elt F e} (h : Lends c B M X) : Lends c iprop(A ∗ B) M X := by
  unfold Lends at *
  refine (sep_mono_right h).trans ?_
  iintro ⟨HA, H, K⟩
  isplitl [H]; · iexact H
  iintro H
  isplitl [HA]; · iexact HA
  iapply K; iexact H

theorem Gives.self : Gives c (iprop(∃ X, Has c M X) : sProp 𝕄) M := by
  unfold Gives
  iintro ⟨%X, H⟩
  iexists X
  isplitl [H]; · iexact H
  iintro %Y H
  iexists Y; iexact H

theorem Gives.left {A B : sProp 𝕄} (h : Gives c A M) : Gives c iprop(A ∗ B) M := by
  unfold Gives at *
  refine (sep_mono_left h).trans ?_
  iintro ⟨⟨%X, H, K⟩, HB⟩
  iexists X
  isplitl [H]; · iexact H
  iintro %Y H
  isplitr [HB]; · iapply K; iexact H
  iexact HB

theorem Gives.right {A B : sProp 𝕄} (h : Gives c B M) : Gives c iprop(A ∗ B) M := by
  unfold Gives at *
  refine (sep_mono_right h).trans ?_
  iintro ⟨HA, %X, H, K⟩
  iexists X
  isplitl [H]; · iexact H
  iintro %Y H
  isplitl [HA]; · iexact HA
  iapply K; iexact H

theorem Tracks.self : Tracks c (fun X => (Has c M X : sProp 𝕄)) M := by
  intro X
  iintro H
  isplitl [H]; · iexact H
  iintro %Y H
  iexact H

theorem Tracks.left {A : (s.Idx → Elt F e) → sProp 𝕄} {B : sProp 𝕄} (h : Tracks c A M) : Tracks c (fun X => iprop(A X ∗ B)) M := by
  intro X
  refine (sep_mono_left (h X)).trans ?_
  iintro ⟨⟨H, K⟩, HB⟩
  isplitl [H]; · iexact H
  iintro %Y H
  isplitr [HB]; · iapply K; iexact H
  iexact HB

theorem Tracks.right {A : sProp 𝕄} {B : (s.Idx → Elt F e) → sProp 𝕄} (h : Tracks c B M) : Tracks c (fun X => iprop(A ∗ B X)) M := by
  intro X
  refine (sep_mono_right (h X)).trans ?_
  iintro ⟨HA, H, K⟩
  isplitl [H]; · iexact H
  iintro %Y H
  isplitl [HA]; · iexact HA
  iapply K; iexact H

end Lending

/-! ## The blocks -/

/-- Input 0 at a point. -/
abbrev B0 (c : Dev nD) (t : Fin cfg0.N) : Vec F S256x1024 .f32 := iblk m c 0 t
/-- Input 1 at a point. -/
abbrev B1 (c : Dev nD) (t : Fin cfg0.N) : Vec F S1x1024 .f32 := iblk m c 1 t
/-- Input 2 at a point. -/
abbrev B2 (c : Dev nD) (t : Fin cfg0.N) : Vec F S1024x6656 .bf16 := iblk m c 2 t
/-- Input 3 at a point. -/
abbrev B3 (c : Dev nD) (t : Fin cfg0.N) : Vec F S1024x256 .bf16 := iblk m c 3 t
/-- Input 4 at a point. -/
abbrev B4 (c : Dev nD) (t : Fin cfg0.N) : Vec F S1024x2048 .bf16 := iblk m c 4 t
/-- Input 5 at a point. -/
abbrev B5 (c : Dev nD) (t : Fin cfg0.N) : Vec F S1x128 .f32 := iblk m c 5 t
/-- Input 6 at a point. -/
abbrev B6 (c : Dev nD) (t : Fin cfg0.N) : Vec F S1x128 .f32 := iblk m c 6 t
/-- Input 7 at a point. -/
abbrev B7 (c : Dev nD) (t : Fin cfg0.N) : Vec F S256x128 .f32 := iblk m c 7 t
/-- Input 8 at a point. -/
abbrev B8 (c : Dev nD) (t : Fin cfg0.N) : Vec F S256x128 .f32 := iblk m c 8 t
/-- Input 9 at a point. -/
abbrev B9 (c : Dev nD) (t : Fin cfg0.N) : Vec F S256x128 .f32 := iblk m c 9 t
/-- Input 10 at a point. -/
abbrev B10 (c : Dev nD) (t : Fin cfg0.N) : Vec F S256x128 .f32 := iblk m c 10 t

/-- The keys of a point. -/
abbrev KAt (c : Dev nD) (t : Fin cfg0.N) : Vec F S1024x128 .f32 := outK (B0 m c t) (B1 m c t) (B2 m c t) (B6 m c t) (B7 m c t) (B8 m c t)
/-- The values of a point. -/
abbrev VAt (c : Dev nD) (t : Fin cfg0.N) : Vec F S1024x128 .f32 := outV (B0 m c t) (B1 m c t) (B2 m c t)
/-- The indexer's keys of a point. -/
abbrev IAt (c : Dev nD) (t : Fin cfg0.N) : Vec F S256x64 .f32 := outI (B0 m c t) (B1 m c t) (B3 m c t) (B9 m c t) (B10 m c t)

/-- The outputs of which nothing is stated. -/
def forgets0 : Fin 27 → Bool := fun w => decide (11 ≤ w.val) && !(w.val == 16) && !(w.val == 18) && !(w.val == 21)

/-- The proof data: the arrays as the region finds them, each input's buffer at its block after every point, the three
    followed outputs at the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, _⟩ => KAt m c t
    | ⟨17, h⟩ => Pipeline.Dat.unnamed (cfg := cfg0) ⟨17, h⟩ t
    | ⟨18, _⟩ => VAt m c t
    | ⟨19, h⟩ => Pipeline.Dat.unnamed (cfg := cfg0) ⟨19, h⟩ t
    | ⟨20, h⟩ => Pipeline.Dat.unnamed (cfg := cfg0) ⟨20, h⟩ t
    | ⟨21, _⟩ => IAt m c t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨_ + 27, h⟩ => absurd h (Nat.not_lt.2 (Nat.le_add_left _ _))
  Φ _ := Pipeline.ΦA spec0 c
  q w := if (spec0 w).isOut then fullShare else Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_16 (c : Dev nD) (t : Fin cfg0.N) : (dats m 0 c).after 16 t = KAt m c t := by dsimp only [dats]
theorem after0_18 (c : Dev nD) (t : Fin cfg0.N) : (dats m 0 c).after 18 t = VAt m c t := by dsimp only [dats]
theorem after0_21 (c : Dev nD) (t : Fin cfg0.N) : (dats m 0 c).after 21 t = IAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare ((dats m 0 c).before 16 t d))
    ∗ (∃ d, owns (c : Thread nD τ) (st0_17 t) fullShare d)
    ∗ (∃ d, owns (c : Thread nD τ) (st0_18 t) fullShare ((dats m 0 c).before 18 t d))
    ∗ (∃ d, owns (c : Thread nD τ) (st0_19 t) fullShare d)
    ∗ (∃ d, owns (c : Thread nD τ) (st0_20 t) fullShare d)
    ∗ (∃ d, owns (c : Thread nD τ) (st0_21 t) fullShare ((dats m 0 c).before 21 t d))
    ∗ (∃ d, owns (c : Thread nD τ) (st0_22 t) fullShare d)
    ∗ (∃ d, owns (c : Thread nD τ) (st0_23 t) fullShare d)
    ∗ (∃ d, owns (c : Thread nD τ) (st0_24 t) fullShare d)
    ∗ (∃ d, owns (c : Thread nD τ) (st0_25 t) fullShare d)
    ∗ (∃ d, owns (c : Thread nD τ) (st0_26 t) fullShare d))

/-- what it returns, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ owns (c : Thread nD τ) (st0_16 t) fullShare ((dats m 0 c).after 16 t)
    ∗ (∃ d, owns (c : Thread nD τ) (st0_17 t) fullShare d)
    ∗ owns (c : Thread nD τ) (st0_18 t) fullShare ((dats m 0 c).after 18 t)
    ∗ (∃ d, owns (c : Thread nD τ) (st0_19 t) fullShare d)
    ∗ (∃ d, owns (c : Thread nD τ) (st0_20 t) fullShare d)
    ∗ owns (c : Thread nD τ) (st0_21 t) fullShare ((dats m 0 c).after 21 t)
    ∗ (∃ d, owns (c : Thread nD τ) (st0_22 t) fullShare d)
    ∗ (∃ d, owns (c : Thread nD τ) (st0_23 t) fullShare d)
    ∗ (∃ d, owns (c : Thread nD τ) (st0_24 t) fullShare d)
    ∗ (∃ d, owns (c : Thread nD τ) (st0_25 t) fullShare d)
    ∗ (∃ d, owns (c : Thread nD τ) (st0_26 t) fullShare d))

/-- and the state in between: the followed outputs at these contents. -/
def St (c : Dev nD) (t : Fin cfg0.N) (K W : Vec F S1024x128 .f32) (I : Vec F S256x64 .f32) : sProp 𝕄 :=
  iprop((dats m 0 c).Φ t.castSucc ∗ (dats m 0 c).owesAt () t.castSucc
    ∗ Has c (st0_0 t) (B0 m c t)
    ∗ Has c (st0_1 t) (B1 m c t)
    ∗ Has c (st0_2 t) (B2 m c t)
    ∗ Has c (st0_3 t) (B3 m c t)
    ∗ Has c (st0_4 t) (B4 m c t)
    ∗ Has c (st0_5 t) (B5 m c t)
    ∗ Has c (st0_6 t) (B6 m c t)
    ∗ Has c (st0_7 t) (B7 m c t)
    ∗ Has c (st0_8 t) (B8 m c t)
    ∗ Has c (st0_9 t) (B9 m c t)
    ∗ Has c (st0_10 t) (B10 m c t)
    ∗ (∃ d, Has c (st0_11 t) d)
    ∗ (∃ d, Has c (st0_12 t) d)
    ∗ (∃ d, Has c (st0_13 t) d)
    ∗ (∃ d, Has c (st0_14 t) d)
    ∗ (∃ d, Has c (st0_15 t) d)
    ∗ Has c (st0_16 t) K
    ∗ (∃ d, Has c (st0_17 t) d)
    ∗ Has c (st0_18 t) W
    ∗ (∃ d, Has c (st0_19 t) d)
    ∗ (∃ d, Has c (st0_20 t) d)
    ∗ Has c (st0_21 t) I
    ∗ (∃ d, Has c (st0_22 t) d)
    ∗ (∃ d, Has c (st0_23 t) d)
    ∗ (∃ d, Has c (st0_24 t) d)
    ∗ (∃ d, Has c (st0_25 t) d)
    ∗ (∃ d, Has c (st0_26 t) d))

theorem acc (c : Dev nD) (t : Fin cfg0.N) : Acc c (St m c t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (B0 m c t) (B1 m c t) (B2 m c t) (B3 m c t) (B4 m c t) (B5 m c t) (B6 m c t) (B7 m c t) (B8 m c t) (B9 m c t) (B10 m c t) := by
  unfold St
  constructor
  · intro K W I; exact .right (.right (.left .self))
  · intro K W I; exact .right (.right (.right (.left .self)))
  · intro K W I; exact .right (.right (.right (.right (.left .self))))
  · intro K W I; exact .right (.right (.right (.right (.right (.left .self)))))
  · intro K W I; exact .right (.right (.right (.right (.right (.right (.left .self))))))
  · intro K W I; exact .right (.right (.right (.right (.right (.right (.right (.left .self)))))))
  · intro K W I; exact .right (.right (.right (.right (.right (.right (.right (.right (.left .self))))))))
  · intro K W I; exact .right (.right (.right (.right (.right (.right (.right (.right (.right (.left .self)))))))))
  · intro K W I; exact .right (.right (.right (.right (.right (.right (.right (.right (.right (.right (.left .self))))))))))
  · intro K W I; exact .right (.right (.right (.right (.right (.right (.right (.right (.right (.right (.right (.left .self)))))))))))
  · intro K W I; exact .right (.right (.right (.right (.right (.right (.right (.right (.right (.right (.right (.right (.left .self))))))))))))
  · intro K W I; exact .right (.right (.right (.right (.right (.right (.right (.right (.right (.right (.right (.right (.right (.left .self)))))))))))))
  · intro K W I; exact .right (.right (.right (.right (.right (.right (.right (.right (.right (.right (.right (.right (.right (.right (.left .self))))))))))))))
  · intro K W I; exact .right (.right (.right (.right (.right (.right (.right (.right (.right (.right (.right (.right (.right (.right (.right (.left .self)))))))))))))))
  · intro K W I; exact .right (.right (.right (.right (.right (.right (.right (.right (.right (.right (.right (.right (.right (.right (.right (.right (.left .self))))))))))))))))
  · intro K W I; exact .right (.right (.right (.right (.right (.right (.right (.right (.right (.right (.right (.right (.right (.right (.right (.right (.right (.left .self)))))))))))))))))
  · intro _ _; exact .right (.right (.right (.right (.right (.right (.right (.right (.right (.right (.right (.right (.right (.right (.right (.right (.right (.right (.left .self))))))))))))))))))
  · intro K W I; exact .right (.right (.right (.right (.right (.right (.right (.right (.right (.right (.right (.right (.right (.right (.right (.right (.right (.right (.right (.left .self)))))))))))))))))))
  · intro _ _; exact .right (.right (.right (.right (.right (.right (.right (.right (.right (.right (.right (.right (.right (.right (.right (.right (.right (.right (.right (.right (.left .self))))))))))))))))))))
  · intro K W I; exact .right (.right (.right (.right (.right (.right (.right (.right (.right (.right (.right (.right (.right (.right (.right (.right (.right (.right (.right (.right (.right (.left .self)))))))))))))))))))))
  · intro K W I; exact .right (.right (.right (.right (.right (.right (.right (.right (.right (.right (.right (.right (.right (.right (.right (.right (.right (.right (.right (.right (.right (.right (.left .self))))))))))))))))))))))
  · intro _ _; exact .right (.right (.right (.right (.right (.right (.right (.right (.right (.right (.right (.right (.right (.right (.right (.right (.right (.right (.right (.right (.right (.right (.right (.left .self)))))))))))))))))))))))
  · intro K W I; exact .right (.right (.right (.right (.right (.right (.right (.right (.right (.right (.right (.right (.right (.right (.right (.right (.right (.right (.right (.right (.right (.right (.right (.right (.left .self))))))))))))))))))))))))
  · intro K W I; exact .right (.right (.right (.right (.right (.right (.right (.right (.right (.right (.right (.right (.right (.right (.right (.right (.right (.right (.right (.right (.right (.right (.right (.right (.right (.left .self)))))))))))))))))))))))))
  · intro K W I; exact .right (.right (.right (.right (.right (.right (.right (.right (.right (.right (.right (.right (.right (.right (.right (.right (.right (.right (.right (.right (.right (.right (.right (.right (.right (.right (.left .self))))))))))))))))))))))))))
  · intro K W I; exact .right (.right (.right (.right (.right (.right (.right (.right (.right (.right (.right (.right (.right (.right (.right (.right (.right (.right (.right (.right (.right (.right (.right (.right (.right (.right (.right (.left .self)))))))))))))))))))))))))))
  · intro K W I; exact .right (.right (.right (.right (.right (.right (.right (.right (.right (.right (.right (.right (.right (.right (.right (.right (.right (.right (.right (.right (.right (.right (.right (.right (.right (.right (.right (.right (.self))))))))))))))))))))))))))))

set_option maxHeartbeats 1600000 in
theorem pre_state (c : Dev nD) (t : Fin cfg0.N) : bodyPre m c t ⊢ iprop(∃ K, ∃ W, ∃ I, St m c t K W I) := by
  unfold bodyPre St Has
  simp only [before0_0, before0_1, before0_2, before0_3, before0_4, before0_5, before0_6, before0_7, before0_8, before0_9, before0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, ⟨%d16, H16⟩, H17, ⟨%d18, H18⟩, H19, H20, ⟨%d21, H21⟩, H22, H23, H24, H25, H26⟩
  iexists _; iexists _; iexists _
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem state_post (c : Dev nD) (t : Fin cfg0.N) : St m c t (KAt m c t) (VAt m c t) (IAt m c t) ⊢ bodyPost m c t := by
  unfold St bodyPost
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_16, after0_18, after0_21]

/-- The body at any point. -/
theorem sound_body (c : Dev nD) (t : Fin cfg0.N) :
    bodyPre m c t ⊢ wp frame (wpE (defs₀ (F := F)) Variants.none c none) Set.univ (bodyAt0 t) (fun _ => bodyPost m c t) := by
  refine (pre_state m c t).trans ?_
  iintro ⟨%K, %W, %I, H⟩
  have hb : Ends c (St m c t K W I) (bodyAt0 (F := F) t) (fun y => iprop(⌜y = ⟨⟩⌝ ∗ St m c t (KAt m c t) (VAt m c t) (IAt m c t))) :=
    ends_body (acc m c t) K W I
  unfold Ends at hb
  iapply (wp_wand_r frame (wpE (defs₀ (F := F)) Variants.none (c : Thread nD τ) none) Set.univ)
  isplitl [H]
  · iapply hb; iexact H
  · iintro %_ ⟨-, H⟩
    iapply (state_post m c t); iexact H

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every input array at its entry contents, the followed outputs at what the points wrote, every semaphore
    counter at zero. -/
theorem run_main : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch0.to₀ defs₀ Variants.none forgets0 m ρ main
    (hbody := fun c => (body_obligation m c).loose)
    (hq := fun c w h => by
      have h' : (spec0 w).isOut = false := h
      dsimp only [dats]; rw [h']; rfl)
    (howed := fun _ _ => rfl) (V := V m) (hmain := hmain m Variants.none) (hA := A_eq m) (hΦ := fun _ _ => rfl)

/-- A followed output ends at what the points wrote. -/
theorem out_eq {r} (h : Pipeline.RDat.FramePost (cfgs 0) (fun c => (dats m 0 c).toRForget forgets0) (V m) r) (c : Dev nD) (w : Fin cfg0.W) (hw : forgets0 w = false) :
    r.2.mem ((cfg0.win w).arr.view.loc (c.tc : Thread nD τ)) = (dats m 0 c).arrAt w cfg0.N :=
  (Pipeline.Dat.toRForget_arrAt_iff (dats m 0 c) hw cfg0.N _).1 ((h c).1 w)

theorem rest_eq {r} (h : Pipeline.RDat.FramePost (cfgs 0) (fun c => (dats m 0 c).toRForget forgets0) (V m) r) (c : Dev nD) (b : Ref sig .tc) (hb : b ∈ Pipeline.restRefs sig spec0) :
    r.2.mem ((c.tc : Thread nD τ).loc b) = V m c b := (h c).2 b hb

theorem in_rest1 : main_arg1 ∈ Pipeline.restRefs sig spec0 := by decide
theorem in_rest2 : main_arg2 ∈ Pipeline.restRefs sig spec0 := by decide
theorem in_rest3 : main_arg3 ∈ Pipeline.restRefs sig spec0 := by decide
theorem in_rest4 : main_arg4 ∈ Pipeline.restRefs sig spec0 := by decide
theorem in_rest5 : main_arg5 ∈ Pipeline.restRefs sig spec0 := by decide

set_option maxHeartbeats 1600000 in
/-- At any values of the floats, from any memory with its counters at zero: the call terminates, its arguments are
    unchanged, the counters are at zero again, and the followed results are what the points wrote. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v68_5) = (dats m 0 c).arrAt 16 cfg0.N
      ∧ r.2.mem ((c.tc : Thread nD τ).loc main_v68_7) = (dats m 0 c).arrAt 18 cfg0.N
      ∧ r.2.mem ((c.tc : Thread nD τ).loc main_v68_10) = (dats m 0 c).arrAt 21 cfg0.N)
      ∧ r.2.sem = fun _ => 0) :=
  (θ_run defs _ _).mono (fun r h => ⟨fun c => ⟨⟨
      (Pipeline.RDat.FramePost.arr_in h.1 c 0 rfl).trans ((A_eq m c 0).trans (V_main_arg0 m c)),
      (rest_eq m h.1 c main_arg1 in_rest1).trans (V_main_arg1 m c),
      (rest_eq m h.1 c main_arg2 in_rest2).trans (V_main_arg2 m c),
      (rest_eq m h.1 c main_arg3 in_rest3).trans (V_main_arg3 m c),
      (rest_eq m h.1 c main_arg4 in_rest4).trans (V_main_arg4 m c),
      (rest_eq m h.1 c main_arg5 in_rest5).trans (V_main_arg5 m c)⟩,
      out_eq m h.1 c 16 rfl, out_eq m h.1 c 18 rfl, out_eq m h.1 c 21 rfl⟩, h.2⟩) (run_main m ρ)

end Cert.Prj

end
-- ==== Proof.ProjectPure.lean ====
/- The input projection's arithmetic at one row and one column, on both sides. -/
module

public import proofs.«01_k».proof.Proof.ProjectBody
public import proofs.«01_k».proof.Proof.Gen.ProjectReferenceIdeal.Run
public import Idealize.ShloMosaic.Lib.Pointwise

@[expose] public section

set_option maxRecDepth 16384

noncomputable section

open Idealize.ShloMosaic Idealize.ShloMosaic.TcCoe Idealize.SL.Sem

namespace Cert.Prj

/-- Entry `k` of a row divided by the root of its mean square, times a gain. -/
def nrm {n : ℕ} (N : EReal) (x g : Fin n → EReal) (k : Fin n) : EReal :=
  x k * Ideal.rsqrt (Ideal.div (∑ j, x j * x j) N + Ideal.ofBits .f32 0x358637BD#32) * g k

/-- Entry `f` of the normed row times the weights. -/
def proj (x g : Fin 1024 → EReal) (w : Fin 1024 → EReal) : EReal :=
  ∑ k, nrm (Ideal.ofBits .f32 0x44800000#32) x g k * w k

/-- Entry `d` of a rotated row of 128, by the angles `a`. -/
def rot {n : ℕ} (y : Fin (n + n) → EReal) (a : Fin n → EReal) (d : Fin (n + n)) : EReal :=
  if h : d.val < n then y d * Ideal.cos (a ⟨d.val, h⟩) - y ⟨n + d.val, by omega⟩ * Ideal.sin (a ⟨d.val, h⟩)
  else y ⟨n + (d.val - n), by omega⟩ * Ideal.cos (a ⟨d.val - n, by omega⟩) + y ⟨d.val - n, by omega⟩ * Ideal.sin (a ⟨d.val - n, by omega⟩)

end Cert.Prj

namespace Cert.ProjectReferenceIdeal.Value
open Cert.ProjectReferenceIdeal Cert.ProjectReferenceIdeal.Gen

/-- The reference's normed rows. -/
def refHn (x : FVec Ideal S2048x1024 .f32) (g : FVec Ideal S1024 .f32) : FVec Ideal S32x64x1024 .f32 :=
  mulf (mulf (shapeCast _ x shapeCasts_S2048x1024_S32x64x1024) (broadcastInDim S32x64x1024 ![0, 1, 2] bcast_S32x64x1_S32x64x1024_0_1_2 (Host.rsqrt (addf (Host.divf (broadcastInDim S32x64x1 ![0, 1] bcast_S32x64_S32x64x1_0_1 (Host.reduceAdd (mulf (shapeCast _ x shapeCasts_S2048x1024_S32x64x1024) (shapeCast _ x shapeCasts_S2048x1024_S32x64x1024)) (constant S_ .f32 0x00000000#32) reducesTo_S32x64x1024_S32x64_d2 h_S_)) (broadcastInDim S32x64x1 ![] bcast_S_S32x64x1 (constant S_ .f32 0x44800000#32))) (broadcastInDim S32x64x1 ![] bcast_S_S32x64x1 (constant S_ .f32 0x358637BD#32)))))) (broadcastInDim S32x64x1024 ![0, 1, 2] bcast_S1x1x1024_S32x64x1024_0_1_2 (broadcastInDim S1x1x1024 ![2] bcast_S1024_S1x1x1024_2 g))

/-- The reference's projected rows. -/
def refZ (x : FVec Ideal S2048x1024 .f32) (g : FVec Ideal S1024 .f32) (w : FVec Ideal S1024x8776 .f32) : FVec Ideal S32x64x8776 .f32 :=
  Host.dotGeneral dot_S32x64x1024_S1024x8776_S32x64x8776_2_0_01_1_n_n none (refHn x g) w

/-- The reference's normed keys. -/
def refKn (z : FVec Ideal S32x64x8776 .f32) (kg : FVec Ideal S128 .f32) : FVec Ideal S32x64x4x128 .f32 :=
  mulf (mulf (shapeCast _ (extractStridedSlice S32x64x512 ![0, 0, 5120] z slices_S32x64x8776_S32x64x512_0_0_5120) shapeCasts_S32x64x512_S32x64x4x128) (broadcastInDim S32x64x4x128 ![0, 1, 2, 3] bcast_S32x64x4x1_S32x64x4x128_0_1_2_3 (Host.rsqrt (addf (Host.divf (broadcastInDim S32x64x4x1 ![0, 1, 2] bcast_S32x64x4_S32x64x4x1_0_1_2 (Host.reduceAdd (mulf (shapeCast _ (extractStridedSlice S32x64x512 ![0, 0, 5120] z slices_S32x64x8776_S32x64x512_0_0_5120) shapeCasts_S32x64x512_S32x64x4x128) (shapeCast _ (extractStridedSlice S32x64x512 ![0, 0, 5120] z slices_S32x64x8776_S32x64x512_0_0_5120) shapeCasts_S32x64x512_S32x64x4x128)) (constant S_ .f32 0x00000000#32) reducesTo_S32x64x4x128_S32x64x4_d3 h_S_)) (broadcastInDim S32x64x4x1 ![] bcast_S_S32x64x4x1 (constant S_ .f32 0x43000000#32))) (broadcastInDim S32x64x4x1 ![] bcast_S_S32x64x4x1 (constant S_ .f32 0x358637BD#32)))))) (broadcastInDim S32x64x4x128 ![0, 1, 2, 3] bcast_S1x1x1x128_S32x64x4x128_0_1_2_3 (broadcastInDim S1x1x1x128 ![3] bcast_S128_S1x1x1x128_3 kg))

/-- The angles of a head's rotation. -/
def ang64 (pos : IVec S64 32) : FVec Ideal S64x64 .f32 :=
  mulf (broadcastInDim S64x64 ![0, 1] bcast_S64x1_S64x64_0_1 (broadcastInDim S64x1 ![0] bcast_S64_S64x1_0 (sitofp .f32 pos))) (broadcastInDim S64x64 ![0, 1] bcast_S1x64_S64x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (Host.divf (addf (broadcastInDim S64 ![] bcast_S_S64 (constant S_ .f32 0x00000000#32)) (mulf (broadcastInDim S64 ![] bcast_S_S64 (constant S_ .f32 0x40000000#32)) (sitofp .f32 (iotaInDim S64 32 0)))) (broadcastInDim S64 ![] bcast_S_S64 (constant S_ .f32 0x43000000#32)))))))

/-- The angles of the indexer's rotation. -/
def ang32 (pos : IVec S64 32) : FVec Ideal S64x32 .f32 :=
  mulf (broadcastInDim S64x32 ![0, 1] bcast_S64x1_S64x32_0_1 (broadcastInDim S64x1 ![0] bcast_S64_S64x1_0 (sitofp .f32 pos))) (broadcastInDim S64x32 ![0, 1] bcast_S1x32_S64x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The reference's keys. -/
def refK (y : FVec Ideal S32x64x4x128 .f32) (a : FVec Ideal S64x64 .f32) : FVec Ideal S8192x128 .f32 :=
  shapeCast _ (concatenate S32x64x4x128 3 [⟨S32x64x4x64, (subf (mulf (extractStridedSlice S32x64x4x64 ![0, 0, 0, 0] y slices_S32x64x4x128_S32x64x4x64_0_0_0_0) (broadcastInDim S32x64x4x64 ![0, 1, 2, 3] bcast_S1x64x1x64_S32x64x4x64_0_1_2_3 (broadcastInDim S1x64x1x64 ![1, 2, 3] bcast_S64x1x64_S1x64x1x64_1_2_3 (broadcastInDim S64x1x64 ![0, 2] bcast_S64x64_S64x1x64_0_2 (Host.cos a))))) (mulf (extractStridedSlice S32x64x4x64 ![0, 0, 0, 64] y slices_S32x64x4x128_S32x64x4x64_0_0_0_64) (broadcastInDim S32x64x4x64 ![0, 1, 2, 3] bcast_S1x64x1x64_S32x64x4x64_0_1_2_3 (broadcastInDim S1x64x1x64 ![1, 2, 3] bcast_S64x1x64_S1x64x1x64_1_2_3 (broadcastInDim S64x1x64 ![0, 2] bcast_S64x64_S64x1x64_0_2 (Host.sin a))))))⟩, ⟨S32x64x4x64, (addf (mulf (extractStridedSlice S32x64x4x64 ![0, 0, 0, 64] y slices_S32x64x4x128_S32x64x4x64_0_0_0_64) (broadcastInDim S32x64x4x64 ![0, 1, 2, 3] bcast_S1x64x1x64_S32x64x4x64_0_1_2_3 (broadcastInDim S1x64x1x64 ![1, 2, 3] bcast_S64x1x64_S1x64x1x64_1_2_3 (broadcastInDim S64x1x64 ![0, 2] bcast_S64x64_S64x1x64_0_2 (Host.cos a))))) (mulf (extractStridedSlice S32x64x4x64 ![0, 0, 0, 0] y slices_S32x64x4x128_S32x64x4x64_0_0_0_0) (broadcastInDim S32x64x4x64 ![0, 1, 2, 3] bcast_S1x64x1x64_S32x64x4x64_0_1_2_3 (broadcastInDim S1x64x1x64 ![1, 2, 3] bcast_S64x1x64_S1x64x1x64_1_2_3 (broadcastInDim S64x1x64 ![0, 2] bcast_S64x64_S64x1x64_0_2 (Host.sin a))))))⟩] concatenates_S32x64x4x64_S32x64x4x64_S32x64x4x128_d3) shapeCasts_S32x64x4x128_S8192x128

/-- The reference's values. -/
def refV (z : FVec Ideal S32x64x8776 .f32) : FVec Ideal S8192x128 .f32 :=
  shapeCast _ (extractStridedSlice S32x64x512 ![0, 0, 5632] z slices_S32x64x8776_S32x64x512_0_0_5632) shapeCasts_S32x64x512_S8192x128

/-- The reference's indexer keys. -/
def refI (z : FVec Ideal S32x64x8776 .f32) (a : FVec Ideal S64x32 .f32) : FVec Ideal S2048x64 .f32 :=
  shapeCast _ (shapeCast _ (concatenate S32x64x1x64 3 [⟨S32x64x1x32, (subf (mulf (extractStridedSlice S32x64x1x32 ![0, 0, 0, 0] (broadcastInDim S32x64x1x64 ![0, 1, 3] bcast_S32x64x64_S32x64x1x64_0_1_3 (extractStridedSlice S32x64x64 ![0, 0, 6656] z slices_S32x64x8776_S32x64x64_0_0_6656)) slices_S32x64x1x64_S32x64x1x32_0_0_0_0) (broadcastInDim S32x64x1x32 ![0, 1, 2, 3] bcast_S1x64x1x32_S32x64x1x32_0_1_2_3 (broadcastInDim S1x64x1x32 ![1, 2, 3] bcast_S64x1x32_S1x64x1x32_1_2_3 (broadcastInDim S64x1x32 ![0, 2] bcast_S64x32_S64x1x32_0_2 (Host.cos a))))) (mulf (extractStridedSlice S32x64x1x32 ![0, 0, 0, 32] (broadcastInDim S32x64x1x64 ![0, 1, 3] bcast_S32x64x64_S32x64x1x64_0_1_3 (extractStridedSlice S32x64x64 ![0, 0, 6656] z slices_S32x64x8776_S32x64x64_0_0_6656)) slices_S32x64x1x64_S32x64x1x32_0_0_0_32) (broadcastInDim S32x64x1x32 ![0, 1, 2, 3] bcast_S1x64x1x32_S32x64x1x32_0_1_2_3 (broadcastInDim S1x64x1x32 ![1, 2, 3] bcast_S64x1x32_S1x64x1x32_1_2_3 (broadcastInDim S64x1x32 ![0, 2] bcast_S64x32_S64x1x32_0_2 (Host.sin a))))))⟩, ⟨S32x64x1x32, (addf (mulf (extractStridedSlice S32x64x1x32 ![0, 0, 0, 32] (broadcastInDim S32x64x1x64 ![0, 1, 3] bcast_S32x64x64_S32x64x1x64_0_1_3 (extractStridedSlice S32x64x64 ![0, 0, 6656] z slices_S32x64x8776_S32x64x64_0_0_6656)) slices_S32x64x1x64_S32x64x1x32_0_0_0_32) (broadcastInDim S32x64x1x32 ![0, 1, 2, 3] bcast_S1x64x1x32_S32x64x1x32_0_1_2_3 (broadcastInDim S1x64x1x32 ![1, 2, 3] bcast_S64x1x32_S1x64x1x32_1_2_3 (broadcastInDim S64x1x32 ![0, 2] bcast_S64x32_S64x1x32_0_2 (Host.cos a))))) (mulf (extractStridedSlice S32x64x1x32 ![0, 0, 0, 0] (broadcastInDim S32x64x1x64 ![0, 1, 3] bcast_S32x64x64_S32x64x1x64_0_1_3 (extractStridedSlice S32x64x64 ![0, 0, 6656] z slices_S32x64x8776_S32x64x64_0_0_6656)) slices_S32x64x1x64_S32x64x1x32_0_0_0_0) (broadcastInDim S32x64x1x32 ![0, 1, 2, 3] bcast_S1x64x1x32_S32x64x1x32_0_1_2_3 (broadcastInDim S1x64x1x32 ![1, 2, 3] bcast_S64x1x32_S1x64x1x32_1_2_3 (broadcastInDim S64x1x32 ![0, 2] bcast_S64x32_S64x1x32_0_2 (Host.sin a))))))⟩] concatenates_S32x64x1x32_S32x64x1x32_S32x64x1x64_d3) shapeCasts_S32x64x1x64_S32x64x64) shapeCasts_S32x64x64_S2048x64

theorem refHn_apply (x : FVec Ideal S2048x1024 .f32) (g : FVec Ideal S1024 .f32) (b : Fin 32) (p : Fin 64) (k : Fin 1024) :
    refHn x g (ix3 b p k) = Cert.Prj.nrm (Ideal.ofBits .f32 0x44800000#32) (fun k => x (ix2 ⟨b.val * 64 + p.val, by omega⟩ k)) (fun k => g (ix1 k)) k := by
  pointwise [refHn]
  rfl

theorem refZ_apply (x : FVec Ideal S2048x1024 .f32) (g : FVec Ideal S1024 .f32) (w : FVec Ideal S1024x8776 .f32) (b : Fin 32) (p : Fin 64) (f : Fin 8776) :
    refZ x g w (ix3 b p f) = Cert.Prj.proj (fun k => x (ix2 ⟨b.val * 64 + p.val, by omega⟩ k)) (fun k => g (ix1 k)) (fun k => w (ix2 k f)) := by
  pointwise [refZ]
  simp only [refHn_apply]
  rfl

theorem refKn_apply (z : FVec Ideal S32x64x8776 .f32) (kg : FVec Ideal S128 .f32) (b : Fin 32) (p : Fin 64) (h : Fin 4) (d : Fin 128) :
    refKn z kg (ix4 b p h d) = Cert.Prj.nrm (Ideal.ofBits .f32 0x43000000#32) (fun e => z (ix3 b p ⟨5120 + (h.val * 128 + e.val), by omega⟩)) (fun k => kg (ix1 k)) d := by
  pointwise [refKn]
  rfl

theorem refV_apply (z : FVec Ideal S32x64x8776 .f32) (r : Fin 8192) (d : Fin 128) :
    refV z (ix2 r d) = z (ix3 ⟨r.val / 256, by omega⟩ ⟨r.val / 4 % 64, by omega⟩ ⟨5632 + (r.val % 4 * 128 + d.val), by omega⟩) := by
  pointwise [refV]

theorem refK_apply (y : FVec Ideal S32x64x4x128 .f32) (a : FVec Ideal S64x64 .f32) (r : Fin 8192) (d : Fin 128) :
    refK y a (ix2 r d) = Cert.Prj.rot (n := 64) (fun e => y (ix4 ⟨r.val / 256, by omega⟩ ⟨r.val / 4 % 64, by omega⟩ ⟨r.val % 4, by omega⟩ e)) (fun e => a (ix2 ⟨r.val / 4 % 64, by omega⟩ e)) d := by
  pointwise [refK]
  rfl

theorem refI_apply (z : FVec Ideal S32x64x8776 .f32) (a : FVec Ideal S64x32 .f32) (r : Fin 2048) (d : Fin 64) :
    refI z a (ix2 r d) = Cert.Prj.rot (n := 32) (fun e => z (ix3 ⟨r.val / 64, by omega⟩ ⟨r.val % 64, by omega⟩ ⟨6656 + e.val, by omega⟩)) (fun e => a (ix2 ⟨r.val % 64, by omega⟩ e)) d := by
  pointwise [refI]
  rfl

end Cert.ProjectReferenceIdeal.Value

namespace Cert.Prj
open Cert.ProjectIdeal Cert.ProjectIdeal.Gen

theorem hn_apply (X : FVec Ideal S256x1024 .f32) (G : FVec Ideal S1x1024 .f32) (r : Fin 256) (k : Fin 1024) :
    k0_pay1 (F := Ideal) X G (ix2 r k) = nrm (Ideal.ofBits .f32 0x44800000#32) (fun k => X (ix2 r k)) (fun k => G (ix2 0 k)) k := by
  pointwise [k0_pay1]
  rfl

/-- A row times its cosines and, turned by half its length, its signed sines, is the rotated row. -/
theorem rot_of_turn (y a : Fin 128 → EReal) (t : Fin 64 → EReal) (C S : EReal) (d e : Fin 128)
    (he : e.val = (d.val + 128 - 64) % 128) (hC : C = Ideal.cos (t ⟨d.val % 64, by omega⟩))
    (hS : S = if d.val < 64 then -Ideal.sin (t ⟨d.val % 64, by omega⟩) else Ideal.sin (t ⟨d.val % 64, by omega⟩)) :
    y d * C + y e * S = rot (n := 64) y t d := by
  subst hC; subst hS
  unfold rot
  by_cases h : d.val < 64
  · rw [if_pos h, dif_pos h]
    have e1 : e = ⟨64 + d.val, by omega⟩ := Fin.ext (by rw [he]; show _ = 64 + d.val; omega)
    have e2 : (⟨d.val % 64, by omega⟩ : Fin 64) = ⟨d.val, h⟩ := Fin.ext (Nat.mod_eq_of_lt h)
    rw [e1, e2, mul_neg, sub_eq_add_neg]
  · rw [if_neg h, dif_neg h]
    have e1 : e = ⟨d.val - 64, by omega⟩ := Fin.ext (by rw [he]; show _ = d.val - 64; omega)
    have e2 : (⟨d.val % 64, by omega⟩ : Fin 64) = ⟨d.val - 64, by omega⟩ := Fin.ext (by show d.val % 64 = d.val - 64; omega)
    have e3 : (⟨64 + (d.val - 64), by omega⟩ : Fin 128) = d := Fin.ext (by show 64 + (d.val - 64) = d.val; omega)
    rw [e1, e2, e3]

/-- The key a head's store writes, from the product `z`, the gain and the two tables. -/
def keyAt (y : Fin 128 → EReal) (g : Fin 128 → EReal) (C S : EReal) (d : Fin 128) : EReal :=
  nrm (Ideal.ofBits .f32 0x43000000#32) y g d * C + nrm (Ideal.ofBits .f32 0x43000000#32) y g ⟨(d.val + 128 - 64) % 128, by omega⟩ * S

theorem pay24_apply (h : FVec Ideal S256x1024 .bf16) (w : FVec Ideal S1024x512 .bf16) (r : Fin 256) (f : Fin 512) :
    k0_pay24 (F := Ideal) h w (ix2 r f) = ∑ k, h (ix2 r k) * w (ix2 k f) := by
  pointwise [k0_pay24]

theorem pay27_apply (C S : FVec Ideal S256x128 .f32) (h : FVec Ideal S256x1024 .bf16) (w : FVec Ideal S1024x512 .bf16) (G : FVec Ideal S1x128 .f32) (r : Fin 256) (d : Fin 128) :
    k0_pay27 (F := Ideal) (k0_pay7 C) (k0_pay8 S) (k0_pay25 h w) (k0_pay26 h w) (Scalar.ofBits .f32 0x358637BD#32) G (ix2 r d)
      = keyAt (fun e => k0_pay24 (F := Ideal) h w (ix2 r ⟨e.val, by omega⟩)) (fun e => G (ix2 0 e)) (C (ix2 r d)) (S (ix2 r d)) d := by
  pointwise [k0_pay27, k0_pay7, k0_pay8, k0_pay25, k0_pay26]
  rfl

theorem pay29_apply (C S : FVec Ideal S256x128 .f32) (z : FVec Ideal S256x512 .f32) (G : FVec Ideal S1x128 .f32) (r : Fin 256) (d : Fin 128) :
    k0_pay29 (F := Ideal) (k0_pay7 C) (k0_pay8 S) z G (ix2 r d) = keyAt (fun e => z (ix2 r ⟨128 + e.val, by omega⟩)) (fun e => G (ix2 0 e)) (C (ix2 r d)) (S (ix2 r d)) d := by
  pointwise [k0_pay29, k0_pay7, k0_pay8]
  rfl

theorem pay32_apply (C S : FVec Ideal S256x128 .f32) (z : FVec Ideal S256x512 .f32) (G : FVec Ideal S1x128 .f32) (r : Fin 256) (d : Fin 128) :
    k0_pay32 (F := Ideal) (k0_pay7 C) (k0_pay8 S) (k0_pay31 z) G (ix2 r d) = keyAt (fun e => z (ix2 r ⟨256 + e.val, by omega⟩)) (fun e => G (ix2 0 e)) (C (ix2 r d)) (S (ix2 r d)) d := by
  pointwise [k0_pay32, k0_pay31, k0_pay7, k0_pay8]
  rfl

theorem pay34_apply (C S : FVec Ideal S256x128 .f32) (z : FVec Ideal S256x512 .f32) (G : FVec Ideal S1x128 .f32) (r : Fin 256) (d : Fin 128) :
    k0_pay34 (F := Ideal) (k0_pay7 C) (k0_pay8 S) z G (ix2 r d) = keyAt (fun e => z (ix2 r ⟨384 + e.val, by omega⟩)) (fun e => G (ix2 0 e)) (C (ix2 r d)) (S (ix2 r d)) d := by
  pointwise [k0_pay34, k0_pay7, k0_pay8]
  rfl

theorem pay37_apply (h : FVec Ideal S256x1024 .bf16) (w : FVec Ideal S1024x512 .bf16) (r : Fin 256) (d : Fin 128) :
    k0_pay37 (F := Ideal) h w (ix2 r d) = ∑ k, h (ix2 r k) * w (ix2 k ⟨d.val, by omega⟩) := by
  pointwise [k0_pay37, k0_pay36]
theorem pay38_apply (h : FVec Ideal S256x1024 .bf16) (w : FVec Ideal S1024x512 .bf16) (r : Fin 256) (d : Fin 128) :
    k0_pay38 (F := Ideal) h w (ix2 r d) = ∑ k, h (ix2 r k) * w (ix2 k ⟨128 + d.val, by omega⟩) := by
  pointwise [k0_pay38, k0_pay36]
theorem pay39_apply (h : FVec Ideal S256x1024 .bf16) (w : FVec Ideal S1024x512 .bf16) (r : Fin 256) (d : Fin 128) :
    k0_pay39 (F := Ideal) h w (ix2 r d) = ∑ k, h (ix2 r k) * w (ix2 k ⟨256 + d.val, by omega⟩) := by
  pointwise [k0_pay39, k0_pay36]
theorem pay40_apply (h : FVec Ideal S256x1024 .bf16) (w : FVec Ideal S1024x512 .bf16) (r : Fin 256) (d : Fin 128) :
    k0_pay40 (F := Ideal) h w (ix2 r d) = ∑ k, h (ix2 r k) * w (ix2 k ⟨384 + d.val, by omega⟩) := by
  pointwise [k0_pay40, k0_pay36]

/-- The lanes of the first half of a head of 64, compared as the body does. -/
theorem half_of_lane : ∀ d : Fin 64, IntOp.cmpi .slt (IntOp.andi (BitVec.ofNat 32 d.val) 63#32) 32#32 = if d.val < 32 then 1#1 else 0#1 := by
  decide

/-- The indexer's key, from the product, where the weights' columns repeat after 64. -/
theorem pay63_apply (h : FVec Ideal S256x1024 .bf16) (C S : FVec Ideal S256x128 .f32) (w : FVec Ideal S1024x256 .bf16) (r : Fin 256) (d : Fin 64)
    (y : Fin 64 → EReal) (t : Fin 32 → EReal)
    (hy : ∀ e : Fin 128, ∑ k, h (ix2 r k) * w (ix2 k ⟨e.val, by omega⟩) = y ⟨e.val % 64, by omega⟩)
    (hC : C (ix2 r ⟨d.val, by omega⟩) = Ideal.cos (t ⟨d.val % 32, by omega⟩))
    (hS : S (ix2 r ⟨d.val, by omega⟩) = if d.val < 32 then -Ideal.sin (t ⟨d.val % 32, by omega⟩) else Ideal.sin (t ⟨d.val % 32, by omega⟩)) :
    k0_pay63 (F := Ideal) h (k0_pay43 C) (k0_pay44 S) (k0_pay46 k0_pay45 32#32) w (ix2 r d) = rot (n := 32) y t d := by
  pointwise [k0_pay63, k0_pay61, k0_pay60, k0_pay46, k0_pay45, k0_pay43, k0_pay44]
  have y0 := hy ⟨d.val, by omega⟩
  have y1 := hy ⟨(d.val + 128 - 96) % 128, by omega⟩
  have y2 := hy ⟨(d.val + 128 - 32) % 128, by omega⟩
  dsimp only at y0 y1 y2
  have s1 : ∀ A B : EReal, Scalar.select (1#1) A B = A := fun _ _ => rfl
  have s0 : ∀ A B : EReal, Scalar.select (0#1) A B = B := fun _ _ => rfl
  rw [half_of_lane, hC, hS]
  unfold rot
  by_cases hd : d.val < 32
  · rw [if_pos hd, if_pos hd, s1, dif_pos hd]
    have e0 : (⟨d.val % 64, by omega⟩ : Fin 64) = d := Fin.ext (Nat.mod_eq_of_lt d.isLt)
    have e1 : (⟨(d.val + 128 - 96) % 128 % 64, by omega⟩ : Fin 64) = ⟨32 + d.val, by omega⟩ := Fin.ext (by show (d.val + 128 - 96) % 128 % 64 = 32 + d.val; omega)
    have e2 : (⟨d.val % 32, by omega⟩ : Fin 32) = ⟨d.val, hd⟩ := Fin.ext (Nat.mod_eq_of_lt hd)
    rw [y0, y1, e2]
    rw [e0, e1, mul_neg, sub_eq_add_neg]
  · rw [if_neg hd, if_neg hd, s0, dif_neg hd]
    have e0 : (⟨d.val % 64, by omega⟩ : Fin 64) = d := Fin.ext (Nat.mod_eq_of_lt d.isLt)
    have e1 : (⟨(d.val + 128 - 32) % 128 % 64, by omega⟩ : Fin 64) = ⟨d.val - 32, by omega⟩ := Fin.ext (by show (d.val + 128 - 32) % 128 % 64 = d.val - 32; omega)
    have e2 : (⟨d.val % 32, by omega⟩ : Fin 32) = ⟨d.val - 32, by omega⟩ := Fin.ext (by show d.val % 32 = d.val - 32; omega)
    rw [y0, y2, e2]
    have e3 : (⟨32 + (d.val - 32), by omega⟩ : Fin 64) = d := Fin.ext (by show 32 + (d.val - 32) = d.val; omega)
    rw [e0, e1, e3]

end Cert.Prj
-- ==== Proof.ProjectTables.lean ====
/- The arrays the input projection's call is given by the host operations before it: the columns of the weights, the tables
   of cosines and signed sines, and the gains with a unit axis. -/
module

public import proofs.«01_k».proof.Proof.ProjectPure
public import proofs.«01_k».proof.Proof.Gen.ProjectIdeal.Frame
public import Idealize.ShloMosaic.Lib.Claim

@[expose] public section

set_option maxRecDepth 16384

noncomputable section

namespace Cert.Prj

open Cert.ProjectIdeal Cert.ProjectIdeal.Gen
open Idealize.ShloMosaic Idealize.ShloMosaic.TcCoe Idealize.ShloMosaic.Tactic Idealize.ShloMosaic.ValueKit
open Cert.ProjectReferenceIdeal.Value (ang64 ang32)

/-- The columns of the queries, keys and values. -/
def tabW (w : FVec Ideal S1024x8776 .f32) : FVec Ideal S1024x6656 .bf16 :=
  truncf .bf16 (extractStridedSlice S1024x6656 ![0, 0] w slices_S1024x8776_S1024x6656_0_0) bitsLt_bf16_f32

/-- The columns of the indexer's keys, twice, its heads' weights' and zeros. -/
def tabI (w : FVec Ideal S1024x8776 .f32) : FVec Ideal S1024x256 .bf16 :=
  truncf .bf16 (concatenate S1024x256 1
    [⟨S1024x64, extractStridedSlice S1024x64 ![0, 6656] w slices_S1024x8776_S1024x64_0_6656⟩,
     ⟨S1024x64, extractStridedSlice S1024x64 ![0, 6656] w slices_S1024x8776_S1024x64_0_6656⟩,
     ⟨S1024x8, extractStridedSlice S1024x8 ![0, 6720] w slices_S1024x8776_S1024x8_0_6720⟩,
     ⟨S1024x120, broadcastInDim S1024x120 ![] bcast_S_S1024x120 (constant S_ .f32 0x00000000#32)⟩]
    concatenates_S1024x64_S1024x64_S1024x8_S1024x120_S1024x256_d1) bitsLt_bf16_f32

/-- A head's cosines, once for each half. -/
def tabC (a : FVec Ideal S64x64 .f32) : FVec Ideal S64x128 .f32 :=
  concatenate S64x128 1 [⟨S64x64, Host.cos a⟩, ⟨S64x64, Host.cos a⟩] concatenates_S64x64_S64x64_S64x128_d1

/-- A head's sines, negated for the first half. -/
def tabS (a : FVec Ideal S64x64 .f32) : FVec Ideal S64x128 .f32 :=
  concatenate S64x128 1 [⟨S64x64, Host.negf (Host.sin a)⟩, ⟨S64x64, Host.sin a⟩] concatenates_S64x64_S64x64_S64x128_d1

/-- The indexer's cosines, four times. -/
def tabC4 (a : FVec Ideal S64x32 .f32) : FVec Ideal S64x128 .f32 :=
  concatenate S64x128 1 [⟨S64x32, Host.cos a⟩, ⟨S64x32, Host.cos a⟩, ⟨S64x32, Host.cos a⟩, ⟨S64x32, Host.cos a⟩]
    concatenates_S64x32_S64x32_S64x32_S64x32_S64x128_d1

/-- The indexer's sines, negated for the first half of each head. -/
def tabS4 (a : FVec Ideal S64x32 .f32) : FVec Ideal S64x128 .f32 :=
  concatenate S64x128 1 [⟨S64x32, Host.negf (Host.sin a)⟩, ⟨S64x32, Host.sin a⟩, ⟨S64x32, Host.negf (Host.sin a)⟩, ⟨S64x32, Host.sin a⟩]
    concatenates_S64x32_S64x32_S64x32_S64x32_S64x128_d1

/-- A table repeated for the four sequences of a tile of rows. -/
def til (a : FVec Ideal S64x128 .f32) : FVec Ideal S256x128 .f32 :=
  shapeCast _ (broadcastInDim S4x64x1x128 ![0, 1, 2, 3] bcast_S1x64x1x128_S4x64x1x128_0_1_2_3 (shapeCast S1x64x1x128 a shapeCasts_S64x128_S1x64x1x128)) shapeCasts_S4x64x1x128_S256x128

theorem til_apply (a : FVec Ideal S64x128 .f32) (r : Fin 256) (d : Fin 128) : til a (ix2 r d) = a (ix2 ⟨r.val % 64, by omega⟩ d) := by
  pointwise [til]

theorem tabW_apply (w : FVec Ideal S1024x8776 .f32) (k : Fin 1024) (f : Fin 6656) : tabW w (ix2 k f) = w (ix2 k ⟨f.val, by omega⟩) := by
  pointwise [tabW]

theorem tabI_apply (w : FVec Ideal S1024x8776 .f32) (k : Fin 1024) (e : Fin 128) :
    tabI w (ix2 k ⟨e.val, by omega⟩) = w (ix2 k ⟨6656 + e.val % 64, by omega⟩) := by
  pointwise [tabI]
  by_cases h : e.val < 64
  · rw [dif_pos h]
    exact congrArg w (congrArg (ix2 k) (Fin.ext (by show 6656 + e.val = 6656 + e.val % 64; omega)))
  · rw [dif_neg h]
    have h2 : e.val - 64 < 64 := by omega
    rw [dif_pos h2]
    exact congrArg w (congrArg (ix2 k) (Fin.ext (by show 6656 + (e.val - 64) = 6656 + e.val % 64; omega)))

theorem tabC_apply (a : FVec Ideal S64x64 .f32) (p : Fin 64) (d : Fin 128) : tabC a (ix2 p d) = Ideal.cos (a (ix2 p ⟨d.val % 64, by omega⟩)) := by
  pointwise [tabC]
  by_cases h : d.val < 64
  · rw [dif_pos h]
    exact congrArg (fun e => Ideal.cos (a (ix2 p e))) (Fin.ext (by show d.val = d.val % 64; omega))
  · rw [dif_neg h]
    exact congrArg (fun e => Ideal.cos (a (ix2 p e))) (Fin.ext (by show d.val - 64 = d.val % 64; omega))

theorem tabS_apply (a : FVec Ideal S64x64 .f32) (p : Fin 64) (d : Fin 128) :
    tabS a (ix2 p d) = if d.val < 64 then -Ideal.sin (a (ix2 p ⟨d.val % 64, by omega⟩)) else Ideal.sin (a (ix2 p ⟨d.val % 64, by omega⟩)) := by
  pointwise [tabS]
  by_cases h : d.val < 64
  · rw [dif_pos h, if_pos h]
    exact congrArg (fun e => -Ideal.sin (a (ix2 p e))) (Fin.ext (by show d.val = d.val % 64; omega))
  · rw [dif_neg h, if_neg h]
    exact congrArg (fun e => Ideal.sin (a (ix2 p e))) (Fin.ext (by show d.val - 64 = d.val % 64; omega))

theorem tabC4_apply (a : FVec Ideal S64x32 .f32) (p : Fin 64) (d : Fin 64) :
    tabC4 a (ix2 p ⟨d.val, by omega⟩) = Ideal.cos (a (ix2 p ⟨d.val % 32, by omega⟩)) := by
  pointwise [tabC4]
  by_cases h : d.val < 32
  · rw [dif_pos h]
    exact congrArg (fun e => Ideal.cos (a (ix2 p e))) (Fin.ext (by show d.val = d.val % 32; omega))
  · have h2 : d.val - 32 < 32 := by omega
    rw [dif_neg h, dif_pos h2]
    exact congrArg (fun e => Ideal.cos (a (ix2 p e))) (Fin.ext (by show d.val - 32 = d.val % 32; omega))

theorem tabS4_apply (a : FVec Ideal S64x32 .f32) (p : Fin 64) (d : Fin 64) :
    tabS4 a (ix2 p ⟨d.val, by omega⟩) = if d.val < 32 then -Ideal.sin (a (ix2 p ⟨d.val % 32, by omega⟩)) else Ideal.sin (a (ix2 p ⟨d.val % 32, by omega⟩)) := by
  pointwise [tabS4]
  by_cases h : d.val < 32
  · rw [dif_pos h, if_pos h]
    exact congrArg (fun e => -Ideal.sin (a (ix2 p e))) (Fin.ext (by show d.val = d.val % 32; omega))
  · have h2 : d.val - 32 < 32 := by omega
    rw [dif_neg h, dif_pos h2, if_neg h]
    exact congrArg (fun e => Ideal.sin (a (ix2 p e))) (Fin.ext (by show d.val - 32 = d.val % 32; omega))

section
variable (m : (ℓ : Loc nD τ sig) → Buf (Elt Ideal) ℓ)

theorem V_v1 (c : Dev nD) : V m c main_v1 = tabW (m ((c.tc : Thread nD τ).loc main_arg2)) := by
  simp only [V, hostOps0]; after_results_simp <;> rfl
theorem V_v6 (c : Dev nD) : V m c main_v6 = tabI (m ((c.tc : Thread nD τ).loc main_arg2)) := by
  simp only [V, hostOps0]; after_results_simp <;> rfl
theorem V_v55 (c : Dev nD) : V m c main_v55 = til (tabC (ang64 (m ((c.tc : Thread nD τ).loc main_arg5)))) := by
  simp only [V, hostOps0]; after_results_simp <;> rfl
theorem V_v58 (c : Dev nD) : V m c main_v58 = til (tabS (ang64 (m ((c.tc : Thread nD τ).loc main_arg5)))) := by
  simp only [V, hostOps0]; after_results_simp <;> rfl
theorem V_v61 (c : Dev nD) : V m c main_v61 = til (tabC4 (ang32 (m ((c.tc : Thread nD τ).loc main_arg5)))) := by
  simp only [V, hostOps0]; after_results_simp <;> rfl
theorem V_v64 (c : Dev nD) : V m c main_v64 = til (tabS4 (ang32 (m ((c.tc : Thread nD τ).loc main_arg5)))) := by
  simp only [V, hostOps0]; after_results_simp <;> rfl
theorem V_v65 (c : Dev nD) (k : Fin 1024) : V m c main_v65 (ix2 0 k) = m ((c.tc : Thread nD τ).loc main_arg1) (ix1 k) := by
  have h : ∀ g : FVec Ideal S1024 .f32, broadcastInDim S1x1024 ![1] bcast_S1024_S1x1024_1 g (ix2 0 k) = g (ix1 k) := fun g => by pointwise
  refine (congrFun (show V m c main_v65 = broadcastInDim S1x1024 ![1] bcast_S1024_S1x1024_1 (m ((c.tc : Thread nD τ).loc main_arg1)) by
    simp only [V, hostOps0]; after_results_simp <;> rfl) _).trans (h _)
theorem V_v67 (c : Dev nD) (k : Fin 128) : V m c main_v67 (ix2 0 k) = m ((c.tc : Thread nD τ).loc main_arg4) (ix1 k) := by
  have h : ∀ g : FVec Ideal S128 .f32, broadcastInDim S1x128 ![1] bcast_S128_S1x128_1 g (ix2 0 k) = g (ix1 k) := fun g => by pointwise
  refine (congrFun (show V m c main_v67 = broadcastInDim S1x128 ![1] bcast_S128_S1x128_1 (m ((c.tc : Thread nD τ).loc main_arg4)) by
    simp only [V, hostOps0]; after_results_simp <;> rfl) _).trans (h _)
end

end Cert.Prj

end
-- ==== Proof.ProjectValue.lean ====
/- The value of the input projection's call: its keys, values and indexer's keys written over the arguments, on both sides. -/
module

public import proofs.«01_k».proof.Proof.ProjectRun
public import proofs.«01_k».proof.Proof.ProjectTables
public import proofs.«01_k».proof.Proof.Gen.ProjectReferenceIdeal.Run
public import Idealize.ShloMosaic.Lib.Pipeline.ValueKit

@[expose] public section

set_option maxRecDepth 16384

noncomputable section

namespace Cert.Prj

open Idealize.ShloMosaic Idealize.ShloMosaic.TcCoe Idealize.ShloMosaic.Tactic Idealize.ShloMosaic.ValueKit
open Idealize.SL Idealize.SL.Sem
open Cert.ProjectReferenceIdeal.Value (ang64 ang32)
open Idealize.ShloMosaic.Pipeline (Dat Cfg Window)

/-! ## The results, written over the arguments -/

/-- Entry `f` of the projection of row `i`. -/
def zAt (x : FVec Ideal ⟨2, ![2048, 1024]⟩ .f32) (g : FVec Ideal ⟨1, ![1024]⟩ .f32) (w : FVec Ideal ⟨2, ![1024, 8776]⟩ .f32) (i : Fin 2048) (f : Fin 8776) : EReal :=
  proj (fun k => x (ix2 i k)) (fun k => g (ix1 k)) (fun k => w (ix2 k f))

/-- Entry `d` of key `h` of row `i`: normed, then rotated by the angles of the row's position. -/
def keyOf (x : FVec Ideal ⟨2, ![2048, 1024]⟩ .f32) (g : FVec Ideal ⟨1, ![1024]⟩ .f32) (w : FVec Ideal ⟨2, ![1024, 8776]⟩ .f32) (kg : FVec Ideal ⟨1, ![128]⟩ .f32)
    (pos : IVec ⟨1, ![64]⟩ 32) (i : Fin 2048) (h : Fin 4) (d : Fin 128) : EReal :=
  rot (n := 64) (fun e => nrm (Ideal.ofBits .f32 0x43000000#32) (fun e : Fin 128 => zAt x g w i ⟨5120 + (h.val * 128 + e.val), by omega⟩) (fun k => kg (ix1 k)) e)
    (fun e => ang64 pos (ix2 ⟨i.val % 64, by omega⟩ e)) d

/-- Entry `d` of value `h` of row `i`. -/
def valOf (x : FVec Ideal ⟨2, ![2048, 1024]⟩ .f32) (g : FVec Ideal ⟨1, ![1024]⟩ .f32) (w : FVec Ideal ⟨2, ![1024, 8776]⟩ .f32) (i : Fin 2048) (h : Fin 4) (d : Fin 128) : EReal :=
  zAt x g w i ⟨5632 + (h.val * 128 + d.val), by omega⟩

/-- Entry `d` of the indexer's key of row `i`. -/
def idxOf (x : FVec Ideal ⟨2, ![2048, 1024]⟩ .f32) (g : FVec Ideal ⟨1, ![1024]⟩ .f32) (w : FVec Ideal ⟨2, ![1024, 8776]⟩ .f32)
    (pos : IVec ⟨1, ![64]⟩ 32) (i : Fin 2048) (d : Fin 64) : EReal :=
  rot (n := 32) (fun e => zAt x g w i ⟨6656 + e.val, by omega⟩) (fun e => ang32 pos (ix2 ⟨i.val % 64, by omega⟩ e)) d

end Cert.Prj

/-! ## The reference's entries -/

namespace Cert.ProjectReferenceIdeal.Value

open Idealize.ShloMosaic Idealize.ShloMosaic.TcCoe Idealize.ShloMosaic.Tactic Idealize.ShloMosaic.ValueKit
open Cert.Prj (zAt keyOf valOf idxOf)

theorem refZ_row (x : FVec Ideal S2048x1024 .f32) (g : FVec Ideal S1024 .f32) (w : FVec Ideal S1024x8776 .f32) (i : Fin 2048) (b : Fin 32) (p : Fin 64) (f : Fin 8776)
    (hb : b.val = i.val / 64) (hp : p.val = i.val % 64) : refZ x g w (ix3 b p f) = zAt x g w i f := by
  rw [refZ_apply]
  exact congrArg (fun i => zAt x g w i f) (Fin.ext (by show b.val * 64 + p.val = i.val; omega))

theorem refK_entry (x : FVec Ideal S2048x1024 .f32) (g : FVec Ideal S1024 .f32) (w : FVec Ideal S1024x8776 .f32) (kg : FVec Ideal S128 .f32) (pos : IVec S64 32) (r : Fin 8192) (d : Fin 128) :
    refK (refKn (refZ x g w) kg) (ang64 pos) (ix2 r d) = keyOf x g w kg pos ⟨r.val / 4, by omega⟩ ⟨r.val % 4, by omega⟩ d := by
  rw [refK_apply]
  simp only [refKn_apply]
  simp only [refZ_row x g w (⟨r.val / 4, by omega⟩ : Fin 2048) ⟨r.val / 256, by omega⟩ ⟨r.val / 4 % 64, by omega⟩ _ (by show r.val / 256 = r.val / 4 / 64; omega) rfl]
  rfl

theorem refV_entry (x : FVec Ideal S2048x1024 .f32) (g : FVec Ideal S1024 .f32) (w : FVec Ideal S1024x8776 .f32) (r : Fin 8192) (d : Fin 128) :
    refV (refZ x g w) (ix2 r d) = valOf x g w ⟨r.val / 4, by omega⟩ ⟨r.val % 4, by omega⟩ d := by
  rw [refV_apply, refZ_row x g w (⟨r.val / 4, by omega⟩ : Fin 2048) _ _ _ (by show r.val / 256 = r.val / 4 / 64; omega) rfl]
  rfl

theorem refI_entry (x : FVec Ideal S2048x1024 .f32) (g : FVec Ideal S1024 .f32) (w : FVec Ideal S1024x8776 .f32) (pos : IVec S64 32) (r : Fin 2048) (d : Fin 64) :
    refI (refZ x g w) (ang32 pos) (ix2 r d) = idxOf x g w pos r d := by
  rw [refI_apply]
  simp only [refZ_row x g w r ⟨r.val / 64, by omega⟩ ⟨r.val % 64, by omega⟩ _ rfl rfl]
  rfl

end Cert.ProjectReferenceIdeal.Value

/-! ## The kernel's entries -/

namespace Cert.Prj

open Cert.ProjectIdeal Cert.ProjectIdeal.Gen
open Idealize.ShloMosaic Idealize.ShloMosaic.TcCoe Idealize.ShloMosaic.Tactic Idealize.ShloMosaic.ValueKit
open Idealize.SL Idealize.SL.Sem
open Cert.ProjectReferenceIdeal.Value (ang64 ang32)
open Idealize.ShloMosaic.Pipeline (Dat Cfg Window)

section
variable (m : (ℓ : Loc nD τ sig) → Buf (Elt Ideal) ℓ)

theorem coords_eq (t : Fin cfg0.N) : ((cfg0.grid.coords t) 0).val = t.val := by
  have h := Pipeline.Grid.coords_val (G := grid0) t 0 (S := 1) (B := 8) (by decide) rfl
  have ht : t.val < 8 := lt_of_lt_of_eq t.isLt N_0
  have h' : ((cfg0.grid.coords t) 0).val = t.val / 1 % 8 := h
  rw [h', Nat.div_one, Nat.mod_eq_of_lt ht]

theorem B0_apply (c : Dev nD) (t : Fin cfg0.N) (y : S256x1024.Idx) (z : S2048x1024.Idx)
    (h0 : (z 0).val = t.val * 256 + (y 0).val) (h1 : (z 1).val = (y 1).val) : B0 m c t y = V m c main_arg0 z := by
  refine congrArg (V m c main_arg0) (funext fun (a : Fin 2) => Fin.ext ?_)
  refine (Window.rect_emb_val (cfg0.win 0) t y a rfl).trans ?_
  have ht : t.val < 8 := lt_of_lt_of_eq t.isLt N_0
  match a with
  | ⟨0, _⟩ =>
    show (BitVec.ofNat 32 ((cfg0.grid.coords t) 0).val).toNat * 256 + (y 0).val = (z 0).val
    rw [h0, coords_eq t, BitVec.toNat_ofNat, Nat.mod_eq_of_lt (by omega)]
  | ⟨1, _⟩ =>
    show 0 * 1024 + (y 1).val = (z 1).val
    omega

theorem B1_apply (c : Dev nD) (t : Fin cfg0.N) (y : S1x1024.Idx) (z : S1x1024.Idx)
    (h0 : (z 0).val = (y 0).val) (h1 : (z 1).val = (y 1).val) : B1 m c t y = V m c main_v65 z := by
  refine congrArg (V m c main_v65) (funext fun (a : Fin 2) => Fin.ext ?_)
  refine (Window.rect_emb_val (cfg0.win 1) t y a rfl).trans ?_
  have ht : t.val < 8 := lt_of_lt_of_eq t.isLt N_0
  match a with
  | ⟨0, _⟩ =>
    show 0 * 1 + (y 0).val = (z 0).val
    omega
  | ⟨1, _⟩ =>
    show 0 * 1024 + (y 1).val = (z 1).val
    omega

theorem B2_apply (c : Dev nD) (t : Fin cfg0.N) (y : S1024x6656.Idx) (z : S1024x6656.Idx)
    (h0 : (z 0).val = (y 0).val) (h1 : (z 1).val = (y 1).val) : B2 m c t y = V m c main_v1 z := by
  refine congrArg (V m c main_v1) (funext fun (a : Fin 2) => Fin.ext ?_)
  refine (Window.rect_emb_val (cfg0.win 2) t y a rfl).trans ?_
  have ht : t.val < 8 := lt_of_lt_of_eq t.isLt N_0
  match a with
  | ⟨0, _⟩ =>
    show 0 * 1024 + (y 0).val = (z 0).val
    omega
  | ⟨1, _⟩ =>
    show 0 * 6656 + (y 1).val = (z 1).val
    omega

theorem B3_apply (c : Dev nD) (t : Fin cfg0.N) (y : S1024x256.Idx) (z : S1024x256.Idx)
    (h0 : (z 0).val = (y 0).val) (h1 : (z 1).val = (y 1).val) : B3 m c t y = V m c main_v6 z := by
  refine congrArg (V m c main_v6) (funext fun (a : Fin 2) => Fin.ext ?_)
  refine (Window.rect_emb_val (cfg0.win 3) t y a rfl).trans ?_
  have ht : t.val < 8 := lt_of_lt_of_eq t.isLt N_0
  match a with
  | ⟨0, _⟩ =>
    show 0 * 1024 + (y 0).val = (z 0).val
    omega
  | ⟨1, _⟩ =>
    show 0 * 256 + (y 1).val = (z 1).val
    omega

theorem B6_apply (c : Dev nD) (t : Fin cfg0.N) (y : S1x128.Idx) (z : S1x128.Idx)
    (h0 : (z 0).val = (y 0).val) (h1 : (z 1).val = (y 1).val) : B6 m c t y = V m c main_v67 z := by
  refine congrArg (V m c main_v67) (funext fun (a : Fin 2) => Fin.ext ?_)
  refine (Window.rect_emb_val (cfg0.win 6) t y a rfl).trans ?_
  have ht : t.val < 8 := lt_of_lt_of_eq t.isLt N_0
  match a with
  | ⟨0, _⟩ =>
    show 0 * 1 + (y 0).val = (z 0).val
    omega
  | ⟨1, _⟩ =>
    show 0 * 128 + (y 1).val = (z 1).val
    omega

theorem B7_apply (c : Dev nD) (t : Fin cfg0.N) (y : S256x128.Idx) (z : S256x128.Idx)
    (h0 : (z 0).val = (y 0).val) (h1 : (z 1).val = (y 1).val) : B7 m c t y = V m c main_v55 z := by
  refine congrArg (V m c main_v55) (funext fun (a : Fin 2) => Fin.ext ?_)
  refine (Window.rect_emb_val (cfg0.win 7) t y a rfl).trans ?_
  have ht : t.val < 8 := lt_of_lt_of_eq t.isLt N_0
  match a with
  | ⟨0, _⟩ =>
    show 0 * 256 + (y 0).val = (z 0).val
    omega
  | ⟨1, _⟩ =>
    show 0 * 128 + (y 1).val = (z 1).val
    omega

theorem B8_apply (c : Dev nD) (t : Fin cfg0.N) (y : S256x128.Idx) (z : S256x128.Idx)
    (h0 : (z 0).val = (y 0).val) (h1 : (z 1).val = (y 1).val) : B8 m c t y = V m c main_v58 z := by
  refine congrArg (V m c main_v58) (funext fun (a : Fin 2) => Fin.ext ?_)
  refine (Window.rect_emb_val (cfg0.win 8) t y a rfl).trans ?_
  have ht : t.val < 8 := lt_of_lt_of_eq t.isLt N_0
  match a with
  | ⟨0, _⟩ =>
    show 0 * 256 + (y 0).val = (z 0).val
    omega
  | ⟨1, _⟩ =>
    show 0 * 128 + (y 1).val = (z 1).val
    omega

theorem B9_apply (c : Dev nD) (t : Fin cfg0.N) (y : S256x128.Idx) (z : S256x128.Idx)
    (h0 : (z 0).val = (y 0).val) (h1 : (z 1).val = (y 1).val) : B9 m c t y = V m c main_v61 z := by
  refine congrArg (V m c main_v61) (funext fun (a : Fin 2) => Fin.ext ?_)
  refine (Window.rect_emb_val (cfg0.win 9) t y a rfl).trans ?_
  have ht : t.val < 8 := lt_of_lt_of_eq t.isLt N_0
  match a with
  | ⟨0, _⟩ =>
    show 0 * 256 + (y 0).val = (z 0).val
    omega
  | ⟨1, _⟩ =>
    show 0 * 128 + (y 1).val = (z 1).val
    omega

theorem B10_apply (c : Dev nD) (t : Fin cfg0.N) (y : S256x128.Idx) (z : S256x128.Idx)
    (h0 : (z 0).val = (y 0).val) (h1 : (z 1).val = (y 1).val) : B10 m c t y = V m c main_v64 z := by
  refine congrArg (V m c main_v64) (funext fun (a : Fin 2) => Fin.ext ?_)
  refine (Window.rect_emb_val (cfg0.win 10) t y a rfl).trans ?_
  have ht : t.val < 8 := lt_of_lt_of_eq t.isLt N_0
  match a with
  | ⟨0, _⟩ =>
    show 0 * 256 + (y 0).val = (z 0).val
    omega
  | ⟨1, _⟩ =>
    show 0 * 128 + (y 1).val = (z 1).val
    omega

theorem ld1_eq (X : FVec Ideal S256x1024 .f32) : ld1 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld2_eq (X : FVec Ideal S1x1024 .f32) : ld2 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld7_eq (X : FVec Ideal S1x128 .f32) : ld7 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld8_eq (X : FVec Ideal S256x128 .f32) : ld8 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld9_eq (X : FVec Ideal S256x128 .f32) : ld9 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld10_eq (X : FVec Ideal S256x128 .f32) : ld10 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld11_eq (X : FVec Ideal S256x128 .f32) : ld11 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld4_eq (X : FVec Ideal S1024x256 .bf16) : ld4 (F := Ideal) X = X := funext fun j => congrArg X (funext fun (a : Fin 2) => Fin.ext (by
  match a with
  | ⟨0, _⟩ => show 0 + 1 * (j 0).val = (j 0).val; omega
  | ⟨1, _⟩ => show 0 + 1 * (j 1).val = (j 1).val; omega))
theorem ld3_5120_apply (X : FVec Ideal S1024x6656 .bf16) (k : Fin 1024) (f : Fin 512) : ld3_5120 (F := Ideal) X (ix2 k f) = X (ix2 k ⟨5120 + f.val, by omega⟩) :=
  congrArg X (funext fun (a : Fin 2) => Fin.ext (by
    match a with
    | ⟨0, _⟩ => show 0 + 1 * k.val = k.val; omega
    | ⟨1, _⟩ => show 5120 + 1 * f.val = 5120 + f.val; omega))
theorem ld3_5632_apply (X : FVec Ideal S1024x6656 .bf16) (k : Fin 1024) (f : Fin 512) : ld3_5632 (F := Ideal) X (ix2 k f) = X (ix2 k ⟨5632 + f.val, by omega⟩) :=
  congrArg X (funext fun (a : Fin 2) => Fin.ext (by
    match a with
    | ⟨0, _⟩ => show 0 + 1 * k.val = k.val; omega
    | ⟨1, _⟩ => show 5632 + 1 * f.val = 5632 + f.val; omega))

/-- The row of the input that row `r` of block `t` is. -/
def rowOf (t : Fin cfg0.N) (r : Fin 256) : Fin 2048 := ⟨t.val * 256 + r.val, by have ht : t.val < 8 := lt_of_lt_of_eq t.isLt N_0; omega⟩

abbrev aX (c : Dev nD) : FVec Ideal ⟨2, ![2048, 1024]⟩ .f32 := m ((c.tc : Thread nD τ).loc main_arg0)
abbrev aG (c : Dev nD) : FVec Ideal ⟨1, ![1024]⟩ .f32 := m ((c.tc : Thread nD τ).loc main_arg1)
abbrev aW (c : Dev nD) : FVec Ideal ⟨2, ![1024, 8776]⟩ .f32 := m ((c.tc : Thread nD τ).loc main_arg2)
abbrev aK (c : Dev nD) : FVec Ideal ⟨1, ![128]⟩ .f32 := m ((c.tc : Thread nD τ).loc main_arg4)
abbrev aP (c : Dev nD) : IVec ⟨1, ![64]⟩ 32 := m ((c.tc : Thread nD τ).loc main_arg5)

/-- The normed rows of a block. -/
theorem hn_row (c : Dev nD) (t : Fin cfg0.N) (r : Fin 256) (k : Fin 1024) :
    hn (F := Ideal) (B0 m c t) (B1 m c t) (ix2 r k) = nrm (Ideal.ofBits .f32 0x44800000#32) (fun k => aX m c (ix2 (rowOf t r) k)) (fun k => aG m c (ix1 k)) k := by
  unfold hn
  rw [ld1_eq, ld2_eq]
  refine (hn_apply (B0 m c t) (B1 m c t) r k).trans ?_
  have hx : (fun k : Fin 1024 => B0 m c t (ix2 r k)) = fun k => aX m c (ix2 (rowOf t r) k) := funext fun k =>
    (B0_apply m c t (ix2 r k) (ix2 (rowOf t r) k) rfl rfl).trans (congrFun (V_main_arg0 m c) _)
  have hg : (fun k : Fin 1024 => B1 m c t (ix2 0 k)) = fun k => aG m c (ix1 k) := funext fun k =>
    (B1_apply m c t (ix2 0 k) (ix2 0 k) rfl rfl).trans (V_v65 m c k)
  rw [hx, hg]

theorem prod_5120 (c : Dev nD) (t : Fin cfg0.N) (r : Fin 256) (f : Fin 512) (g : Fin 8776) (hg : g.val = 5120 + f.val) :
    ∑ k, hn (F := Ideal) (B0 m c t) (B1 m c t) (ix2 r k) * ld3_5120 (F := Ideal) (B2 m c t) (ix2 k f) = zAt (aX m c) (aG m c) (aW m c) (rowOf t r) g := by
  unfold zAt proj
  refine Fintype.sum_congr _ _ fun k => ?_
  refine congrArg₂ (fun a b : EReal => a * b) (hn_row m c t r k) ((ld3_5120_apply (B2 m c t) k f).trans ?_)
  refine (B2_apply m c t (ix2 k ⟨5120 + f.val, by omega⟩) (ix2 k ⟨5120 + f.val, by omega⟩) rfl rfl).trans ?_
  refine (congrFun (V_v1 m c) _).trans ((tabW_apply _ k _).trans ?_)
  exact congrArg (fun g => aW m c (ix2 k g)) (Fin.ext hg.symm)

theorem prod_5632 (c : Dev nD) (t : Fin cfg0.N) (r : Fin 256) (f : Fin 512) (g : Fin 8776) (hg : g.val = 5632 + f.val) :
    ∑ k, hn (F := Ideal) (B0 m c t) (B1 m c t) (ix2 r k) * ld3_5632 (F := Ideal) (B2 m c t) (ix2 k f) = zAt (aX m c) (aG m c) (aW m c) (rowOf t r) g := by
  unfold zAt proj
  refine Fintype.sum_congr _ _ fun k => ?_
  refine congrArg₂ (fun a b : EReal => a * b) (hn_row m c t r k) ((ld3_5632_apply (B2 m c t) k f).trans ?_)
  refine (B2_apply m c t (ix2 k ⟨5632 + f.val, by omega⟩) (ix2 k ⟨5632 + f.val, by omega⟩) rfl rfl).trans ?_
  refine (congrFun (V_v1 m c) _).trans ((tabW_apply _ k _).trans ?_)
  exact congrArg (fun g => aW m c (ix2 k g)) (Fin.ext hg.symm)

theorem prod_idx (c : Dev nD) (t : Fin cfg0.N) (r : Fin 256) (e : Fin 128) :
    ∑ k, hn (F := Ideal) (B0 m c t) (B1 m c t) (ix2 r k) * B3 m c t (ix2 k ⟨e.val, by omega⟩) = zAt (aX m c) (aG m c) (aW m c) (rowOf t r) ⟨6656 + e.val % 64, by omega⟩ := by
  unfold zAt proj
  refine Fintype.sum_congr _ _ fun k => ?_
  refine congrArg₂ (fun a b : EReal => a * b) (hn_row m c t r k) ?_
  refine (B3_apply m c t (ix2 k ⟨e.val, by omega⟩) (ix2 k ⟨e.val, by omega⟩) rfl rfl).trans ?_
  exact (congrFun (V_v6 m c) _).trans (tabI_apply _ k e)

theorem table7 (c : Dev nD) (t : Fin cfg0.N) (r : Fin 256) (d : Fin 128) : B7 m c t (ix2 r d) = Ideal.cos (ang64 (aP m c) (ix2 ⟨(rowOf t r).val % 64, by omega⟩ ⟨d.val % 64, by omega⟩)) := by
  refine (B7_apply m c t (ix2 r d) (ix2 r d) rfl rfl).trans ?_
  refine (congrFun (V_v55 m c) _).trans ((til_apply _ r _).trans ((tabC_apply _ _ d).trans ?_))
  have hr : (⟨r.val % 64, by omega⟩ : Fin 64) = ⟨(rowOf t r).val % 64, by omega⟩ :=
    Fin.ext (by show r.val % 64 = (t.val * 256 + r.val) % 64; omega)
  rw [hr]

theorem table8 (c : Dev nD) (t : Fin cfg0.N) (r : Fin 256) (d : Fin 128) : B8 m c t (ix2 r d) = if d.val < 64 then -Ideal.sin (ang64 (aP m c) (ix2 ⟨(rowOf t r).val % 64, by omega⟩ ⟨d.val % 64, by omega⟩)) else Ideal.sin (ang64 (aP m c) (ix2 ⟨(rowOf t r).val % 64, by omega⟩ ⟨d.val % 64, by omega⟩)) := by
  refine (B8_apply m c t (ix2 r d) (ix2 r d) rfl rfl).trans ?_
  refine (congrFun (V_v58 m c) _).trans ((til_apply _ r _).trans ((tabS_apply _ _ d).trans ?_))
  have hr : (⟨r.val % 64, by omega⟩ : Fin 64) = ⟨(rowOf t r).val % 64, by omega⟩ :=
    Fin.ext (by show r.val % 64 = (t.val * 256 + r.val) % 64; omega)
  rw [hr]

theorem table9 (c : Dev nD) (t : Fin cfg0.N) (r : Fin 256) (d : Fin 64) : B9 m c t (ix2 r ⟨d.val, by omega⟩) = Ideal.cos (ang32 (aP m c) (ix2 ⟨(rowOf t r).val % 64, by omega⟩ ⟨d.val % 32, by omega⟩)) := by
  refine (B9_apply m c t (ix2 r ⟨d.val, by omega⟩) (ix2 r ⟨d.val, by omega⟩) rfl rfl).trans ?_
  refine (congrFun (V_v61 m c) _).trans ((til_apply _ r _).trans ((tabC4_apply _ _ d).trans ?_))
  have hr : (⟨r.val % 64, by omega⟩ : Fin 64) = ⟨(rowOf t r).val % 64, by omega⟩ :=
    Fin.ext (by show r.val % 64 = (t.val * 256 + r.val) % 64; omega)
  rw [hr]

theorem table10 (c : Dev nD) (t : Fin cfg0.N) (r : Fin 256) (d : Fin 64) : B10 m c t (ix2 r ⟨d.val, by omega⟩) = if d.val < 32 then -Ideal.sin (ang32 (aP m c) (ix2 ⟨(rowOf t r).val % 64, by omega⟩ ⟨d.val % 32, by omega⟩)) else Ideal.sin (ang32 (aP m c) (ix2 ⟨(rowOf t r).val % 64, by omega⟩ ⟨d.val % 32, by omega⟩)) := by
  refine (B10_apply m c t (ix2 r ⟨d.val, by omega⟩) (ix2 r ⟨d.val, by omega⟩) rfl rfl).trans ?_
  refine (congrFun (V_v64 m c) _).trans ((til_apply _ r _).trans ((tabS4_apply _ _ d).trans ?_))
  have hr : (⟨r.val % 64, by omega⟩ : Fin 64) = ⟨(rowOf t r).val % 64, by omega⟩ :=
    Fin.ext (by show r.val % 64 = (t.val * 256 + r.val) % 64; omega)
  rw [hr]

/-- A head normed, scaled and turned as the body does is the rotated key. -/
theorem key_case (c : Dev nD) (t : Fin cfg0.N) (r : Fin 256) (h : Fin 4) (d : Fin 128) (y G : Fin 128 → EReal) (C S : EReal)
    (hy : ∀ e : Fin 128, y e = zAt (aX m c) (aG m c) (aW m c) (rowOf t r) ⟨5120 + (h.val * 128 + e.val), by omega⟩) (hG : ∀ e, G e = aK m c (ix1 e))
    (hC : C = B7 m c t (ix2 r d)) (hS : S = B8 m c t (ix2 r d)) :
    keyAt y G C S d = keyOf (aX m c) (aG m c) (aW m c) (aK m c) (aP m c) (rowOf t r) h d := by
  obtain rfl := funext hy
  obtain rfl := funext hG
  unfold keyAt keyOf
  exact rot_of_turn (fun e => nrm (Ideal.ofBits .f32 0x43000000#32) _ _ e) (fun e => aK m c (ix1 e)) _ C S d _ rfl (hC.trans (table7 m c t r d)) (hS.trans (table8 m c t r d))

theorem gain_row (c : Dev nD) (t : Fin cfg0.N) (e : Fin 128) : ld7 (F := Ideal) (B6 m c t) (ix2 0 e) = aK m c (ix1 e) :=
  (congrFun (ld7_eq (B6 m c t)) _).trans ((B6_apply m c t (ix2 0 e) (ix2 0 e) rfl rfl).trans (V_v67 m c e))

/-- An entry of four interleaved pieces. -/
theorem four_of (p0 p1 p2 p3 : FVec Ideal S256x128 .f32) (R : Fin 1024) (d : Fin 128) (v : EReal)
    (h0 : R.val % 4 = 0 → p0 (ix2 ⟨R.val / 4, by omega⟩ d) = v) (h1 : R.val % 4 = 1 → p1 (ix2 ⟨R.val / 4, by omega⟩ d) = v)
    (h2 : R.val % 4 = 2 → p2 (ix2 ⟨R.val / 4, by omega⟩ d) = v) (h3 : R.val % 4 = 3 → p3 (ix2 ⟨R.val / 4, by omega⟩ d) = v) :
    four (F := Ideal) p0 p1 p2 p3 (ix2 R d) = v := by
  show (if R.val % 4 = 0 then p0 (ix2 ⟨R.val / 4, by omega⟩ d) else if R.val % 4 = 1 then p1 (ix2 ⟨R.val / 4, by omega⟩ d)
    else if R.val % 4 = 2 then p2 (ix2 ⟨R.val / 4, by omega⟩ d) else p3 (ix2 ⟨R.val / 4, by omega⟩ d)) = v
  by_cases e0 : R.val % 4 = 0
  · rw [if_pos e0]; exact h0 e0
  · rw [if_neg e0]
    by_cases e1 : R.val % 4 = 1
    · rw [if_pos e1]; exact h1 e1
    · rw [if_neg e1]
      by_cases e2 : R.val % 4 = 2
      · rw [if_pos e2]; exact h2 e2
      · rw [if_neg e2]; exact h3 (by omega)

/-- An entry of a block of keys. -/
theorem KAt_entry (c : Dev nD) (t : Fin cfg0.N) (R : Fin 1024) (d : Fin 128) :
    KAt m c t (ix2 R d) = keyOf (aX m c) (aG m c) (aW m c) (aK m c) (aP m c) (rowOf t ⟨R.val / 4, by omega⟩) ⟨R.val % 4, by omega⟩ d := by
  have z : ∀ (r : Fin 256) (f : Fin 512) (g : Fin 8776), g.val = 5120 + f.val →
      k0_pay24 (F := Ideal) (hn (B0 m c t) (B1 m c t)) (ld3_5120 (B2 m c t)) (ix2 r f) = zAt (aX m c) (aG m c) (aW m c) (rowOf t r) g :=
    fun r f g hg => (pay24_apply _ _ r f).trans (prod_5120 m c t r f g hg)
  have hC : ∀ r : Fin 256, ld8 (F := Ideal) (B7 m c t) (ix2 r d) = B7 m c t (ix2 r d) := fun r => congrFun (ld8_eq (B7 m c t)) _
  have hS : ∀ r : Fin 256, ld9 (F := Ideal) (B8 m c t) (ix2 r d) = B8 m c t (ix2 r d) := fun r => congrFun (ld9_eq (B8 m c t)) _
  refine four_of _ _ _ _ R d _ (fun h => ?_) (fun h => ?_) (fun h => ?_) (fun h => ?_)
  · refine (pay27_apply _ _ _ _ _ _ _).trans (key_case m c t _ _ d _ _ _ _ (fun e => z _ _ _ ?_) (gain_row m c t) (hC _) (hS _))
    show 5120 + (R.val % 4 * 128 + e.val) = 5120 + e.val
    omega
  · refine (pay29_apply _ _ _ _ _ _).trans (key_case m c t _ _ d _ _ _ _ (fun e => z _ _ _ ?_) (gain_row m c t) (hC _) (hS _))
    show 5120 + (R.val % 4 * 128 + e.val) = 5120 + (128 + e.val)
    omega
  · refine (pay32_apply _ _ _ _ _ _).trans (key_case m c t _ _ d _ _ _ _ (fun e => z _ _ _ ?_) (gain_row m c t) (hC _) (hS _))
    show 5120 + (R.val % 4 * 128 + e.val) = 5120 + (256 + e.val)
    omega
  · refine (pay34_apply _ _ _ _ _ _).trans (key_case m c t _ _ d _ _ _ _ (fun e => z _ _ _ ?_) (gain_row m c t) (hC _) (hS _))
    show 5120 + (R.val % 4 * 128 + e.val) = 5120 + (384 + e.val)
    omega

/-- An entry of a block of values. -/
theorem VAt_entry (c : Dev nD) (t : Fin cfg0.N) (R : Fin 1024) (d : Fin 128) :
    VAt m c t (ix2 R d) = valOf (aX m c) (aG m c) (aW m c) (rowOf t ⟨R.val / 4, by omega⟩) ⟨R.val % 4, by omega⟩ d := by
  refine four_of _ _ _ _ R d _ (fun h => ?_) (fun h => ?_) (fun h => ?_) (fun h => ?_)
  · refine (pay37_apply _ _ _ d).trans (prod_5632 m c t _ _ _ ?_)
    show 5632 + (R.val % 4 * 128 + d.val) = 5632 + d.val
    omega
  · refine (pay38_apply _ _ _ d).trans (prod_5632 m c t _ _ _ ?_)
    show 5632 + (R.val % 4 * 128 + d.val) = 5632 + (128 + d.val)
    omega
  · refine (pay39_apply _ _ _ d).trans (prod_5632 m c t _ _ _ ?_)
    show 5632 + (R.val % 4 * 128 + d.val) = 5632 + (256 + d.val)
    omega
  · refine (pay40_apply _ _ _ d).trans (prod_5632 m c t _ _ _ ?_)
    show 5632 + (R.val % 4 * 128 + d.val) = 5632 + (384 + d.val)
    omega

/-- An entry of a block of the indexer's keys. -/
theorem IAt_entry (c : Dev nD) (t : Fin cfg0.N) (r : Fin 256) (d : Fin 64) :
    IAt m c t (ix2 r d) = idxOf (aX m c) (aG m c) (aW m c) (aP m c) (rowOf t r) d := by
  unfold IAt outI
  rw [ld10_eq, ld11_eq, ld4_eq]
  exact pay63_apply _ _ _ _ r d _ _ (fun e => prod_idx m c t r e) (table9 m c t r d) (table10 m c t r d)

/-! ## The results after the run -/

def resK (c : Dev nD) : S8192x128.Idx → EReal := fun j =>
  keyOf (aX m c) (aG m c) (aW m c) (aK m c) (aP m c) ⟨(j 0).val / 4, by have h : (j 0).val < 8192 := (j 0).isLt; omega⟩ ⟨(j 0).val % 4, by omega⟩ (j 1)
def resV (c : Dev nD) : S8192x128.Idx → EReal := fun j =>
  valOf (aX m c) (aG m c) (aW m c) ⟨(j 0).val / 4, by have h : (j 0).val < 8192 := (j 0).isLt; omega⟩ ⟨(j 0).val % 4, by omega⟩ (j 1)
def resI (c : Dev nD) : S2048x64.Idx → EReal := fun j => idxOf (aX m c) (aG m c) (aW m c) (aP m c) (j 0) (j 1)

theorem emb16 (t : Fin cfg0.N) (y : S1024x128.Idx) (z : S8192x128.Idx)
    (h0 : (z 0).val = t.val * 1024 + (y 0).val) (h1 : (z 1).val = (y 1).val) : ((cfg0.win 16).blk t).view.emb y = z := by
  refine funext fun (a : Fin 2) => Fin.ext ?_
  refine (Window.rect_emb_val (cfg0.win 16) t y a rfl).trans ?_
  have ht : t.val < 8 := lt_of_lt_of_eq t.isLt N_0
  match a with
  | ⟨0, _⟩ =>
    show (BitVec.ofNat 32 ((cfg0.grid.coords t) 0).val).toNat * 1024 + (y 0).val = (z 0).val
    rw [h0, coords_eq t, BitVec.toNat_ofNat, Nat.mod_eq_of_lt (by omega)]
  | ⟨1, _⟩ =>
    show 0 * 128 + (y 1).val = (z 1).val
    omega

theorem block16 (c : Dev nD) (t : Fin cfg0.N) (y : S1024x128.Idx) : KAt m c t y = resK m c (((cfg0.win 16).blk t).view.emb y) := by
  have ht : t.val < 8 := lt_of_lt_of_eq t.isLt N_0
  have hy0 : (y 0).val < 1024 := (y 0).isLt
  have he := emb16 t y (ix2 (⟨t.val * 1024 + (y 0).val, by omega⟩ : Fin 8192) (y 1)) rfl rfl
  refine Eq.trans ?_ (congrArg (resK m c) he).symm
  refine (congrArg (KAt m c t) (eq_ix2 y)).trans ?_
  refine (KAt_entry m c t (y 0) (y 1)).trans ?_
  refine congrArg₂ (fun i h => keyOf (aX m c) (aG m c) (aW m c) (aK m c) (aP m c) i h (y 1)) (Fin.ext ?_) (Fin.ext ?_)
  · show t.val * 256 + (y 0).val / 4 = (t.val * 1024 + (y 0).val) / 4
    omega
  · show (y 0).val % 4 = (t.val * 1024 + (y 0).val) % 4
    omega

theorem cover16 (i : S8192x128.Idx) : ∃ t : Fin cfg0.N, (cfg0.win 16).flush t = true ∧ i ∈ ((cfg0.win 16).blk t).view.set := by
  have hi0 : (i 0).val < 8192 := (i 0).isLt
  have hN : (i 0).val / 1024 < cfg0.N := lt_of_lt_of_eq (by omega : (i 0).val / 1024 < 8) N_0.symm
  refine ⟨⟨(i 0).val / 1024, hN⟩, flush0_16 _, ?_⟩
  have he := emb16 ⟨(i 0).val / 1024, hN⟩ (ix2 (⟨(i 0).val % 1024, by omega⟩ : Fin 1024) (i 1)) i
    (by show (i 0).val = (i 0).val / 1024 * 1024 + (i 0).val % 1024; omega) rfl
  have hm := View.emb_mem_set ((cfg0.win 16).blk ⟨(i 0).val / 1024, hN⟩).view (ix2 (⟨(i 0).val % 1024, by omega⟩ : Fin 1024) (i 1))
  exact Eq.subst (motive := fun j => j ∈ ((cfg0.win 16).blk ⟨(i 0).val / 1024, hN⟩).view.set) he hm

theorem final16 (c : Dev nD) : (dats m 0 c).arrAt 16 cfg0.N = resK m c :=
  (dats m 0 c).arrAt_eq_of_emb 16 (resK m c) (fun t _ y =>
    (cast_eq _ _).trans ((congrFun (after0_16 m c t) _).trans (block16 m c t y))) cover16

theorem emb18 (t : Fin cfg0.N) (y : S1024x128.Idx) (z : S8192x128.Idx)
    (h0 : (z 0).val = t.val * 1024 + (y 0).val) (h1 : (z 1).val = (y 1).val) : ((cfg0.win 18).blk t).view.emb y = z := by
  refine funext fun (a : Fin 2) => Fin.ext ?_
  refine (Window.rect_emb_val (cfg0.win 18) t y a rfl).trans ?_
  have ht : t.val < 8 := lt_of_lt_of_eq t.isLt N_0
  match a with
  | ⟨0, _⟩ =>
    show (BitVec.ofNat 32 ((cfg0.grid.coords t) 0).val).toNat * 1024 + (y 0).val = (z 0).val
    rw [h0, coords_eq t, BitVec.toNat_ofNat, Nat.mod_eq_of_lt (by omega)]
  | ⟨1, _⟩ =>
    show 0 * 128 + (y 1).val = (z 1).val
    omega

theorem block18 (c : Dev nD) (t : Fin cfg0.N) (y : S1024x128.Idx) : VAt m c t y = resV m c (((cfg0.win 18).blk t).view.emb y) := by
  have ht : t.val < 8 := lt_of_lt_of_eq t.isLt N_0
  have hy0 : (y 0).val < 1024 := (y 0).isLt
  have he := emb18 t y (ix2 (⟨t.val * 1024 + (y 0).val, by omega⟩ : Fin 8192) (y 1)) rfl rfl
  refine Eq.trans ?_ (congrArg (resV m c) he).symm
  refine (congrArg (VAt m c t) (eq_ix2 y)).trans ?_
  refine (VAt_entry m c t (y 0) (y 1)).trans ?_
  refine congrArg₂ (fun i h => valOf (aX m c) (aG m c) (aW m c) i h (y 1)) (Fin.ext ?_) (Fin.ext ?_)
  · show t.val * 256 + (y 0).val / 4 = (t.val * 1024 + (y 0).val) / 4
    omega
  · show (y 0).val % 4 = (t.val * 1024 + (y 0).val) % 4
    omega

theorem cover18 (i : S8192x128.Idx) : ∃ t : Fin cfg0.N, (cfg0.win 18).flush t = true ∧ i ∈ ((cfg0.win 18).blk t).view.set := by
  have hi0 : (i 0).val < 8192 := (i 0).isLt
  have hN : (i 0).val / 1024 < cfg0.N := lt_of_lt_of_eq (by omega : (i 0).val / 1024 < 8) N_0.symm
  refine ⟨⟨(i 0).val / 1024, hN⟩, flush0_18 _, ?_⟩
  have he := emb18 ⟨(i 0).val / 1024, hN⟩ (ix2 (⟨(i 0).val % 1024, by omega⟩ : Fin 1024) (i 1)) i
    (by show (i 0).val = (i 0).val / 1024 * 1024 + (i 0).val % 1024; omega) rfl
  have hm := View.emb_mem_set ((cfg0.win 18).blk ⟨(i 0).val / 1024, hN⟩).view (ix2 (⟨(i 0).val % 1024, by omega⟩ : Fin 1024) (i 1))
  exact Eq.subst (motive := fun j => j ∈ ((cfg0.win 18).blk ⟨(i 0).val / 1024, hN⟩).view.set) he hm

theorem final18 (c : Dev nD) : (dats m 0 c).arrAt 18 cfg0.N = resV m c :=
  (dats m 0 c).arrAt_eq_of_emb 18 (resV m c) (fun t _ y =>
    (cast_eq _ _).trans ((congrFun (after0_18 m c t) _).trans (block18 m c t y))) cover18

theorem emb21 (t : Fin cfg0.N) (y : S256x64.Idx) (z : S2048x64.Idx)
    (h0 : (z 0).val = t.val * 256 + (y 0).val) (h1 : (z 1).val = (y 1).val) : ((cfg0.win 21).blk t).view.emb y = z := by
  refine funext fun (a : Fin 2) => Fin.ext ?_
  refine (Window.rect_emb_val (cfg0.win 21) t y a rfl).trans ?_
  have ht : t.val < 8 := lt_of_lt_of_eq t.isLt N_0
  match a with
  | ⟨0, _⟩ =>
    show (BitVec.ofNat 32 ((cfg0.grid.coords t) 0).val).toNat * 256 + (y 0).val = (z 0).val
    rw [h0, coords_eq t, BitVec.toNat_ofNat, Nat.mod_eq_of_lt (by omega)]
  | ⟨1, _⟩ =>
    show 0 * 64 + (y 1).val = (z 1).val
    omega

theorem block21 (c : Dev nD) (t : Fin cfg0.N) (y : S256x64.Idx) : IAt m c t y = resI m c (((cfg0.win 21).blk t).view.emb y) := by
  have ht : t.val < 8 := lt_of_lt_of_eq t.isLt N_0
  have hy0 : (y 0).val < 256 := (y 0).isLt
  have he := emb21 t y (ix2 (⟨t.val * 256 + (y 0).val, by omega⟩ : Fin 2048) (y 1)) rfl rfl
  refine Eq.trans ?_ (congrArg (resI m c) he).symm
  refine (congrArg (IAt m c t) (eq_ix2 y)).trans ?_
  refine (IAt_entry m c t (y 0) (y 1)).trans ?_
  rfl

theorem cover21 (i : S2048x64.Idx) : ∃ t : Fin cfg0.N, (cfg0.win 21).flush t = true ∧ i ∈ ((cfg0.win 21).blk t).view.set := by
  have hi0 : (i 0).val < 2048 := (i 0).isLt
  have hN : (i 0).val / 256 < cfg0.N := lt_of_lt_of_eq (by omega : (i 0).val / 256 < 8) N_0.symm
  refine ⟨⟨(i 0).val / 256, hN⟩, flush0_21 _, ?_⟩
  have he := emb21 ⟨(i 0).val / 256, hN⟩ (ix2 (⟨(i 0).val % 256, by omega⟩ : Fin 256) (i 1)) i
    (by show (i 0).val = (i 0).val / 256 * 256 + (i 0).val % 256; omega) rfl
  have hm := View.emb_mem_set ((cfg0.win 21).blk ⟨(i 0).val / 256, hN⟩).view (ix2 (⟨(i 0).val % 256, by omega⟩ : Fin 256) (i 1))
  exact Eq.subst (motive := fun j => j ∈ ((cfg0.win 21).blk ⟨(i 0).val / 256, hN⟩).view.set) he hm

theorem final21 (c : Dev nD) : (dats m 0 c).arrAt 21 cfg0.N = resI m c :=
  (dats m 0 c).arrAt_eq_of_emb 21 (resI m c) (fun t _ y =>
    (cast_eq _ _).trans ((congrFun (after0_21 m c t) _).trans (block21 m c t y))) cover21

end

end Cert.Prj

end
-- ==== Proof.ProjectWords.lean ====
/- The frame of the input projection's call on words, derived from the run that is proved once over any element type. -/
module

public import proofs.«01_k».proof.Defs
public import proofs.«01_k».proof.Proof.Gen.Project
public import proofs.«01_k».proof.Proof.Gen.ProjectIdeal
public import proofs.«01_k».proof.Proof.ProjectRun
public import Idealize.ShloMosaic.Lib.Tactic

@[expose] public section

set_option maxRecDepth 16384

namespace Cert.Prj.Words
open Idealize.ShloMosaic Idealize.ShloMosaic.TcCoe Idealize.SL.Sem Idealize.ShloMosaic.Tactic

/-- The frame of the call over the reals, taken at words. -/
def FrameWords : Prop :=
  ∀ (m : (ℓ : Loc Cert.ProjectIdeal.nD Cert.ProjectIdeal.τ Cert.ProjectIdeal.sig) → Buf (Elt Bits) ℓ) (g : Dev Cert.ProjectIdeal.nD → PrngReg), Cert.Pre_Project m →
    θ_run (Cert.ProjectIdeal.defs (F := Bits)) (onTc (τ := Cert.ProjectIdeal.τ) (Cert.ProjectIdeal.main (F := Bits))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

/-- It is the frame of the call on words. -/
theorem frame_eq : FrameWords = Cert.quiescent_Project := by sl_kernel_rfl

/-- The frame of the call over the reals, at words. -/
theorem frame_words : FrameWords := fun m ρ _ =>
  (θ_run Cert.ProjectIdeal.defs _ _).mono (fun _ h => ⟨fun c => (h.1 c).1, h.2⟩) (Cert.Prj.run (F := Bits) m ρ)

/-- The frame of the call on words: it runs and gives back its arguments and counters. -/
theorem frame : Cert.quiescent_Project := frame_eq ▸ frame_words

end Cert.Prj.Words
-- ==== Proof.lean ====
module

public import proofs.«01_k».proof.Defs
public import proofs.«01_k».proof.Proof.Gen.Kernel
public import proofs.«01_k».proof.Proof.Gen.Experts
public import proofs.«01_k».proof.Proof.Gen.ExpertsIdeal
public import proofs.«01_k».proof.Proof.Gen.ExpertsReferenceIdeal
public import proofs.«01_k».proof.Proof.Gen.ExpertsReferenceIdeal.Run
public import proofs.«01_k».proof.Proof.Gen.Pre_experts_in_range
public import proofs.«01_k».proof.Proof.SampleFrame
public import proofs.«01_k».proof.Proof.ExpertsValue
public import proofs.«01_k».proof.Proof.ExpertsWords
public import proofs.«01_k».proof.Proof.Gen.Inproj
public import proofs.«01_k».proof.Proof.Gen.InprojIdeal
public import proofs.«01_k».proof.Proof.Gen.InprojReferenceIdeal
public import proofs.«01_k».proof.Proof.Gen.InprojReferenceIdeal.Run
public import proofs.«01_k».proof.Proof.InprojValue
public import proofs.«01_k».proof.Proof.InprojWords
public import proofs.«01_k».proof.Proof.Gen.Project
public import proofs.«01_k».proof.Proof.Gen.ProjectIdeal
public import proofs.«01_k».proof.Proof.Gen.ProjectReferenceIdeal
public import proofs.«01_k».proof.Proof.Gen.ProjectReferenceIdeal.Run
public import proofs.«01_k».proof.Proof.ProjectValue
public import proofs.«01_k».proof.Proof.ProjectWords
public import Idealize.ShloMosaic.Lib.Quiescent

@[expose] public section

set_option maxRecDepth 16384

namespace Cert.Proof

open Idealize.ShloMosaic Idealize.ShloMosaic.TcCoe Idealize.SL.Sem

/-- The experts' call as launched, on words, runs and gives back its arguments and counters. -/
theorem frame_experts : Cert.quiescent_Experts := Cert.Exp.Words.frame

/-- Its table of experts is in range over the reals too. -/
theorem ok_ideal (m : (ℓ : Loc Cert.ExpertsIdeal.nD Cert.ExpertsIdeal.τ Cert.ExpertsIdeal.sig) → Buf (Elt Ideal) ℓ) (hp : Cert.Pre_ExpertsIdeal m) :
    Cert.Exp.Ok (F := Ideal) m := Cert.Exp.ok_of m fun j => by
  rw [Cert.Exp.te_eq]
  exact Cert.Exp.range_of _ _ _ _ _ _ _ (hp 0) j

/-- The experts' call over the reals runs and gives back its arguments and counters. -/
theorem frame_experts_ideal : Cert.quiescent_ExpertsIdeal := fun m ρ hp =>
  (θ_run Cert.ExpertsIdeal.defs _ _).mono (fun _ h => ⟨fun c => (h.1 c).1, h.2⟩) (Cert.Exp.run (F := Ideal) m ρ (ok_ideal m hp))

set_option maxHeartbeats 1600000 in
/-- So does the experts' reference. -/
theorem frame_reference : Cert.quiescent_ExpertsReferenceIdeal := by
  intro m ρ _
  hlo_run
  · exact fun _ => ⟨trivial, trivial, trivial, trivial, trivial, trivial, trivial⟩
  · exact sem_eq_zero_of_no_sems (by decide : Cert.ExpertsReferenceIdeal.sig.nSem + Cert.ExpertsReferenceIdeal.sig.nDmaSem = 0) _

/-- The experts' call and its reference end with equal results. -/
theorem algebraic : Cert.algebraic_ExpertsIdeal_ExpertsReferenceIdeal := fun m ρ m' ρ' hp hm => by
  have hO := ok_ideal m hp
  refine ⟨fun c => Cert.Exp.result m c, ?_, ?_⟩
  · exact (θ_run Cert.ExpertsIdeal.defs _ _).mono (fun _ h c => ⟨(h.1 c).2.trans (Cert.Exp.final m hO c), (h.1 c).1⟩) (Cert.Exp.run (F := Ideal) m ρ hO)
  · refine (θ_run Cert.ExpertsReferenceIdeal.defs _ _).mono (fun r h c => ⟨(h c).1.trans ?_, (h c).2⟩) (Cert.ExpertsReferenceIdeal.Value.run (F := Ideal) m' ρ')
    obtain ⟨h0, h1, h2, h3, h4, h5, h6⟩ := hm c
    obtain rfl : c = 0 := Subsingleton.elim _ _
    funext (j : (⟨2, ![81920, 1024]⟩ : Shape).Idx)
    refine (congrArg (Cert.ExpertsReferenceIdeal.Value.res_main_v36 (F := Ideal) m' 0) (eq_ix2 j)).trans ?_
    refine (Cert.ExpertsReferenceIdeal.Value.reference_entry m' 0 (j 0) (j 1) (Cert.Exp.tileOf (j 0)) rfl).trans ?_
    unfold Cert.Exp.result
    rw [h0, h1, h2, h3, h4, h5, h6, Cert.Exp.te_eq, Cert.Exp.na_eq]

/-- The input projection's call on words runs and gives back its arguments and counters; -/
theorem frame_inproj : Cert.quiescent_Inproj := Cert.Inp.Words.frame

/-- so it does over the reals; -/
theorem frame_inproj_ideal : Cert.quiescent_InprojIdeal := fun m ρ _ =>
  (θ_run Cert.InprojIdeal.defs _ _).mono (fun _ h => ⟨fun c => (h.1 c).1, h.2⟩) (Cert.Inp.run (F := Ideal) m ρ)

set_option maxHeartbeats 4000000 in
/-- and its reference. -/
theorem frame_inproj_reference : Cert.quiescent_InprojReferenceIdeal := by
  intro m ρ _
  hlo_run
  · exact fun _ => ⟨trivial, trivial, trivial, trivial, trivial, trivial⟩
  · exact sem_eq_zero_of_no_sems (by decide : Cert.InprojReferenceIdeal.sig.nSem + Cert.InprojReferenceIdeal.sig.nDmaSem = 0) _

open Cert.InprojReferenceIdeal.Value in
/-- The input projection's call and its reference end with equal keys, values and indexer keys. -/
theorem algebraic_inproj : Cert.algebraic_InprojIdeal_InprojReferenceIdeal := fun m ρ m' ρ' _ hm => by
  refine ⟨fun c => Cert.Inp.resK m c, fun c => Cert.Inp.resV m c, fun c => Cert.Inp.resI m c, ?_, ?_⟩
  · exact (θ_run Cert.InprojIdeal.defs _ _).mono (fun _ h c => ⟨(h.1 c).2.1.trans (Cert.Inp.final16 m c), (h.1 c).2.2.1.trans (Cert.Inp.final18 m c),
      (h.1 c).2.2.2.trans (Cert.Inp.final21 m c), (h.1 c).1⟩) (Cert.Inp.run (F := Ideal) m ρ)
  · refine (θ_run Cert.InprojReferenceIdeal.defs _ _).mono (fun r h c => ⟨(h c).1.trans ?_, (h c).2.1.trans ?_, (h c).2.2.1.trans ?_, (h c).2.2.2⟩)
      (Cert.InprojReferenceIdeal.Value.run (F := Ideal) m' ρ')
    all_goals
      obtain ⟨h0, h1, h2, h3, h4, h5⟩ := hm c
      obtain rfl : c = 0 := Subsingleton.elim _ _
    · have e : res_main_v110 (F := Ideal) m' 0 = refK (refKn (refZ (m' (((0 : Dev Cert.InprojReferenceIdeal.nD).tc : Thread Cert.InprojReferenceIdeal.nD Cert.InprojReferenceIdeal.τ).loc Cert.InprojReferenceIdeal.main_arg0)) (m' (((0 : Dev Cert.InprojReferenceIdeal.nD).tc : Thread Cert.InprojReferenceIdeal.nD Cert.InprojReferenceIdeal.τ).loc Cert.InprojReferenceIdeal.main_arg1)) (m' (((0 : Dev Cert.InprojReferenceIdeal.nD).tc : Thread Cert.InprojReferenceIdeal.nD Cert.InprojReferenceIdeal.τ).loc Cert.InprojReferenceIdeal.main_arg2))) (m' (((0 : Dev Cert.InprojReferenceIdeal.nD).tc : Thread Cert.InprojReferenceIdeal.nD Cert.InprojReferenceIdeal.τ).loc Cert.InprojReferenceIdeal.main_arg4))) (ang64 (m' (((0 : Dev Cert.InprojReferenceIdeal.nD).tc : Thread Cert.InprojReferenceIdeal.nD Cert.InprojReferenceIdeal.τ).loc Cert.InprojReferenceIdeal.main_arg5))) := rfl
      rw [e, h0, h1, h2, h4, h5]
      funext (j : (⟨2, ![65536, 128]⟩ : Shape).Idx)
      exact (congrArg (refK (refKn (refZ (Cert.Inp.aX m 0) (Cert.Inp.aG m 0) (Cert.Inp.aW m 0)) (Cert.Inp.aK m 0)) (ang64 (Cert.Inp.aP m 0))) (eq_ix2 j)).trans
        (refK_entry _ _ _ _ _ (j 0) (j 1))
    · rw [h0, h1, h2]
      funext (j : (⟨2, ![65536, 128]⟩ : Shape).Idx)
      exact (congrArg (refV (refZ (Cert.Inp.aX m 0) (Cert.Inp.aG m 0) (Cert.Inp.aW m 0))) (eq_ix2 j)).trans (refV_entry _ _ _ (j 0) (j 1))
    · have e : res_main_v112 (F := Ideal) m' 0 = refI (refZ (m' (((0 : Dev Cert.InprojReferenceIdeal.nD).tc : Thread Cert.InprojReferenceIdeal.nD Cert.InprojReferenceIdeal.τ).loc Cert.InprojReferenceIdeal.main_arg0)) (m' (((0 : Dev Cert.InprojReferenceIdeal.nD).tc : Thread Cert.InprojReferenceIdeal.nD Cert.InprojReferenceIdeal.τ).loc Cert.InprojReferenceIdeal.main_arg1)) (m' (((0 : Dev Cert.InprojReferenceIdeal.nD).tc : Thread Cert.InprojReferenceIdeal.nD Cert.InprojReferenceIdeal.τ).loc Cert.InprojReferenceIdeal.main_arg2))) (ang32 (m' (((0 : Dev Cert.InprojReferenceIdeal.nD).tc : Thread Cert.InprojReferenceIdeal.nD Cert.InprojReferenceIdeal.τ).loc Cert.InprojReferenceIdeal.main_arg5))) := rfl
      rw [e, h0, h1, h2, h5]
      funext (j : (⟨2, ![16384, 64]⟩ : Shape).Idx)
      exact (congrArg (refI (refZ (Cert.Inp.aX m 0) (Cert.Inp.aG m 0) (Cert.Inp.aW m 0)) (ang32 (Cert.Inp.aP m 0))) (eq_ix2 j)).trans
        (refI_entry _ _ _ _ (j 0) (j 1))

/-- The input projection's call with the sample's shapes, on words, runs and gives back its arguments and counters; -/
theorem frame_project : Cert.quiescent_Project := Cert.Prj.Words.frame

/-- so it does over the reals; -/
theorem frame_project_ideal : Cert.quiescent_ProjectIdeal := fun m ρ _ =>
  (θ_run Cert.ProjectIdeal.defs _ _).mono (fun _ h => ⟨fun c => (h.1 c).1, h.2⟩) (Cert.Prj.run (F := Ideal) m ρ)

set_option maxHeartbeats 4000000 in
/-- and its reference. -/
theorem frame_project_reference : Cert.quiescent_ProjectReferenceIdeal := by
  intro m ρ _
  hlo_run
  · exact fun _ => ⟨trivial, trivial, trivial, trivial, trivial, trivial⟩
  · exact sem_eq_zero_of_no_sems (by decide : Cert.ProjectReferenceIdeal.sig.nSem + Cert.ProjectReferenceIdeal.sig.nDmaSem = 0) _

open Cert.ProjectReferenceIdeal.Value in
/-- With the sample's shapes too the call and its reference end with equal keys, values and indexer keys. -/
theorem algebraic_project : Cert.algebraic_ProjectIdeal_ProjectReferenceIdeal := fun m ρ m' ρ' _ hm => by
  refine ⟨fun c => Cert.Prj.resK m c, fun c => Cert.Prj.resV m c, fun c => Cert.Prj.resI m c, ?_, ?_⟩
  · exact (θ_run Cert.ProjectIdeal.defs _ _).mono (fun _ h c => ⟨(h.1 c).2.1.trans (Cert.Prj.final16 m c), (h.1 c).2.2.1.trans (Cert.Prj.final18 m c),
      (h.1 c).2.2.2.trans (Cert.Prj.final21 m c), (h.1 c).1⟩) (Cert.Prj.run (F := Ideal) m ρ)
  · refine (θ_run Cert.ProjectReferenceIdeal.defs _ _).mono (fun r h c => ⟨(h c).1.trans ?_, (h c).2.1.trans ?_, (h c).2.2.1.trans ?_, (h c).2.2.2⟩)
      (Cert.ProjectReferenceIdeal.Value.run (F := Ideal) m' ρ')
    all_goals
      obtain ⟨h0, h1, h2, h3, h4, h5⟩ := hm c
      obtain rfl : c = 0 := Subsingleton.elim _ _
    · have e : res_main_v110 (F := Ideal) m' 0 = refK (refKn (refZ (m' (((0 : Dev Cert.ProjectReferenceIdeal.nD).tc : Thread Cert.ProjectReferenceIdeal.nD Cert.ProjectReferenceIdeal.τ).loc Cert.ProjectReferenceIdeal.main_arg0)) (m' (((0 : Dev Cert.ProjectReferenceIdeal.nD).tc : Thread Cert.ProjectReferenceIdeal.nD Cert.ProjectReferenceIdeal.τ).loc Cert.ProjectReferenceIdeal.main_arg1)) (m' (((0 : Dev Cert.ProjectReferenceIdeal.nD).tc : Thread Cert.ProjectReferenceIdeal.nD Cert.ProjectReferenceIdeal.τ).loc Cert.ProjectReferenceIdeal.main_arg2))) (m' (((0 : Dev Cert.ProjectReferenceIdeal.nD).tc : Thread Cert.ProjectReferenceIdeal.nD Cert.ProjectReferenceIdeal.τ).loc Cert.ProjectReferenceIdeal.main_arg4))) (ang64 (m' (((0 : Dev Cert.ProjectReferenceIdeal.nD).tc : Thread Cert.ProjectReferenceIdeal.nD Cert.ProjectReferenceIdeal.τ).loc Cert.ProjectReferenceIdeal.main_arg5))) := rfl
      rw [e, h0, h1, h2, h4, h5]
      funext (j : (⟨2, ![8192, 128]⟩ : Shape).Idx)
      exact (congrArg (refK (refKn (refZ (Cert.Prj.aX m 0) (Cert.Prj.aG m 0) (Cert.Prj.aW m 0)) (Cert.Prj.aK m 0)) (ang64 (Cert.Prj.aP m 0))) (eq_ix2 j)).trans
        (refK_entry _ _ _ _ _ (j 0) (j 1))
    · rw [h0, h1, h2]
      funext (j : (⟨2, ![8192, 128]⟩ : Shape).Idx)
      exact (congrArg (refV (refZ (Cert.Prj.aX m 0) (Cert.Prj.aG m 0) (Cert.Prj.aW m 0))) (eq_ix2 j)).trans (refV_entry _ _ _ (j 0) (j 1))
    · have e : res_main_v112 (F := Ideal) m' 0 = refI (refZ (m' (((0 : Dev Cert.ProjectReferenceIdeal.nD).tc : Thread Cert.ProjectReferenceIdeal.nD Cert.ProjectReferenceIdeal.τ).loc Cert.ProjectReferenceIdeal.main_arg0)) (m' (((0 : Dev Cert.ProjectReferenceIdeal.nD).tc : Thread Cert.ProjectReferenceIdeal.nD Cert.ProjectReferenceIdeal.τ).loc Cert.ProjectReferenceIdeal.main_arg1)) (m' (((0 : Dev Cert.ProjectReferenceIdeal.nD).tc : Thread Cert.ProjectReferenceIdeal.nD Cert.ProjectReferenceIdeal.τ).loc Cert.ProjectReferenceIdeal.main_arg2))) (ang32 (m' (((0 : Dev Cert.ProjectReferenceIdeal.nD).tc : Thread Cert.ProjectReferenceIdeal.nD Cert.ProjectReferenceIdeal.τ).loc Cert.ProjectReferenceIdeal.main_arg5))) := rfl
      rw [e, h0, h1, h2, h5]
      funext (j : (⟨2, ![2048, 64]⟩ : Shape).Idx)
      exact (congrArg (refI (refZ (Cert.Prj.aX m 0) (Cert.Prj.aG m 0) (Cert.Prj.aW m 0)) (ang32 (Cert.Prj.aP m 0))) (eq_ix2 j)).trans
        (refI_entry _ _ _ _ (j 0) (j 1))

theorem claim : Cert.Claim :=
  ⟨Cert.Kernel.Gen.facts, Cert.Experts.Gen.facts, Cert.ExpertsIdeal.Gen.facts, Cert.ExpertsReferenceIdeal.Gen.facts,
    Cert.Inproj.Gen.facts, Cert.InprojIdeal.Gen.facts, Cert.InprojReferenceIdeal.Gen.facts,
    Cert.Project.Gen.facts, Cert.ProjectIdeal.Gen.facts, Cert.ProjectReferenceIdeal.Gen.facts, Cert.Pre_experts_in_range.Gen.facts,
    fun m ρ _ => Cert.Sample.frame m ρ, frame_experts, frame_experts_ideal, frame_reference, fun m ρ _ => frame_reference m ρ trivial,
    frame_inproj, frame_inproj_ideal, frame_inproj_reference, frame_project, frame_project_ideal, frame_project_reference,
    trivial, algebraic, trivial, algebraic_inproj, trivial, algebraic_project⟩

end Cert.Proof
